-- ==== Defs.lean ====
def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Unmerge (m : (ℓ : Loc Cert.Unmerge.nD Cert.Unmerge.τ Cert.Unmerge.sig) → Buf (Elt Bits) ℓ) : Prop :=
  True

def Pre_UnmergeIdeal (m : (ℓ : Loc Cert.UnmergeIdeal.nD Cert.UnmergeIdeal.τ Cert.UnmergeIdeal.sig) → Buf (Elt Ideal) ℓ) : Prop :=
  True

def Pre_UnmergeIdeal_unmerge_finite [hPre_unmerge_finite : Cert.Pre_unmerge_finite.Facts] (m : (ℓ : Loc Cert.UnmergeIdeal.nD Cert.UnmergeIdeal.τ Cert.UnmergeIdeal.sig) → Buf (Elt Ideal) ℓ) : Prop :=
  ∀ c : Dev Cert.UnmergeIdeal.nD,
    (Cert.Pre_unmerge_finite.fn (F := Ideal) (m ((c.tc : Thread Cert.UnmergeIdeal.nD Cert.UnmergeIdeal.τ).loc Cert.UnmergeIdeal.main_arg0)) (m ((c.tc : Thread Cert.UnmergeIdeal.nD Cert.UnmergeIdeal.τ).loc Cert.UnmergeIdeal.main_arg1)) (m ((c.tc : Thread Cert.UnmergeIdeal.nD Cert.UnmergeIdeal.τ).loc Cert.UnmergeIdeal.main_arg2)) (m ((c.tc : Thread Cert.UnmergeIdeal.nD Cert.UnmergeIdeal.τ).loc Cert.UnmergeIdeal.main_arg3)) (m ((c.tc : Thread Cert.UnmergeIdeal.nD Cert.UnmergeIdeal.τ).loc Cert.UnmergeIdeal.main_arg4)) (m ((c.tc : Thread Cert.UnmergeIdeal.nD Cert.UnmergeIdeal.τ).loc Cert.UnmergeIdeal.main_arg5)) (m ((c.tc : Thread Cert.UnmergeIdeal.nD Cert.UnmergeIdeal.τ).loc Cert.UnmergeIdeal.main_arg6)) (m ((c.tc : Thread Cert.UnmergeIdeal.nD Cert.UnmergeIdeal.τ).loc Cert.UnmergeIdeal.main_arg7)) (m ((c.tc : Thread Cert.UnmergeIdeal.nD Cert.UnmergeIdeal.τ).loc Cert.UnmergeIdeal.main_arg8)) (m ((c.tc : Thread Cert.UnmergeIdeal.nD Cert.UnmergeIdeal.τ).loc Cert.UnmergeIdeal.main_arg9)) (m ((c.tc : Thread Cert.UnmergeIdeal.nD Cert.UnmergeIdeal.τ).loc Cert.UnmergeIdeal.main_arg10))) = (fun _ => 1#1)

def Pre_UnmergeRefIdeal (m : (ℓ : Loc Cert.UnmergeRefIdeal.nD Cert.UnmergeRefIdeal.τ Cert.UnmergeRefIdeal.sig) → Buf (Elt Ideal) ℓ) : Prop :=
  True

def Pre_UnmergeRefIdeal_unmerge_finite [hPre_unmerge_finite : Cert.Pre_unmerge_finite.Facts] (m : (ℓ : Loc Cert.UnmergeRefIdeal.nD Cert.UnmergeRefIdeal.τ Cert.UnmergeRefIdeal.sig) → Buf (Elt Ideal) ℓ) : Prop :=
  ∀ c : Dev Cert.UnmergeRefIdeal.nD,
    (Cert.Pre_unmerge_finite.fn (F := Ideal) (m ((c.tc : Thread Cert.UnmergeRefIdeal.nD Cert.UnmergeRefIdeal.τ).loc Cert.UnmergeRefIdeal.main_arg0)) (m ((c.tc : Thread Cert.UnmergeRefIdeal.nD Cert.UnmergeRefIdeal.τ).loc Cert.UnmergeRefIdeal.main_arg1)) (m ((c.tc : Thread Cert.UnmergeRefIdeal.nD Cert.UnmergeRefIdeal.τ).loc Cert.UnmergeRefIdeal.main_arg2)) (m ((c.tc : Thread Cert.UnmergeRefIdeal.nD Cert.UnmergeRefIdeal.τ).loc Cert.UnmergeRefIdeal.main_arg3)) (m ((c.tc : Thread Cert.UnmergeRefIdeal.nD Cert.UnmergeRefIdeal.τ).loc Cert.UnmergeRefIdeal.main_arg4)) (m ((c.tc : Thread Cert.UnmergeRefIdeal.nD Cert.UnmergeRefIdeal.τ).loc Cert.UnmergeRefIdeal.main_arg5)) (m ((c.tc : Thread Cert.UnmergeRefIdeal.nD Cert.UnmergeRefIdeal.τ).loc Cert.UnmergeRefIdeal.main_arg6)) (m ((c.tc : Thread Cert.UnmergeRefIdeal.nD Cert.UnmergeRefIdeal.τ).loc Cert.UnmergeRefIdeal.main_arg7)) (m ((c.tc : Thread Cert.UnmergeRefIdeal.nD Cert.UnmergeRefIdeal.τ).loc Cert.UnmergeRefIdeal.main_arg8)) (m ((c.tc : Thread Cert.UnmergeRefIdeal.nD Cert.UnmergeRefIdeal.τ).loc Cert.UnmergeRefIdeal.main_arg9)) (m ((c.tc : Thread Cert.UnmergeRefIdeal.nD Cert.UnmergeRefIdeal.τ).loc Cert.UnmergeRefIdeal.main_arg10))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3)
      ∧ r.2.mem ((c.tc : Thread Cert.FfnGrad.nD Cert.FfnGrad.τ).loc Cert.FfnGrad.main_arg4) = m ((c.tc : Thread Cert.FfnGrad.nD Cert.FfnGrad.τ).loc Cert.FfnGrad.main_arg4))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4)
      ∧ r.2.mem ((c.tc : Thread Cert.MixGrad.nD Cert.MixGrad.τ).loc Cert.MixGrad.main_arg5) = m ((c.tc : Thread Cert.MixGrad.nD Cert.MixGrad.τ).loc Cert.MixGrad.main_arg5)
      ∧ r.2.mem ((c.tc : Thread Cert.MixGrad.nD Cert.MixGrad.τ).loc Cert.MixGrad.main_arg6) = m ((c.tc : Thread Cert.MixGrad.nD Cert.MixGrad.τ).loc Cert.MixGrad.main_arg6)
      ∧ r.2.mem ((c.tc : Thread Cert.MixGrad.nD Cert.MixGrad.τ).loc Cert.MixGrad.main_arg7) = m ((c.tc : Thread Cert.MixGrad.nD Cert.MixGrad.τ).loc Cert.MixGrad.main_arg7)
      ∧ r.2.mem ((c.tc : Thread Cert.MixGrad.nD Cert.MixGrad.τ).loc Cert.MixGrad.main_arg8) = m ((c.tc : Thread Cert.MixGrad.nD Cert.MixGrad.τ).loc Cert.MixGrad.main_arg8)
      ∧ r.2.mem ((c.tc : Thread Cert.MixGrad.nD Cert.MixGrad.τ).loc Cert.MixGrad.main_arg9) = m ((c.tc : Thread Cert.MixGrad.nD Cert.MixGrad.τ).loc Cert.MixGrad.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Unmerge [hUnmerge : Cert.Unmerge.Facts] : Prop :=
  ∀ (m : (ℓ : Loc Cert.Unmerge.nD Cert.Unmerge.τ Cert.Unmerge.sig) → Buf (Elt Bits) ℓ) (g : Dev Cert.Unmerge.nD → PrngReg), Pre_Unmerge m →
    θ_run (Cert.Unmerge.defs (F := Bits)) (onTc (τ := Cert.Unmerge.τ) (Cert.Unmerge.main (F := Bits))) ⟨m, fun _ => 0, g⟩ (fun r => (∀ c : Dev Cert.Unmerge.nD,
      r.2.mem ((c.tc : Thread Cert.Unmerge.nD Cert.Unmerge.τ).loc Cert.Unmerge.main_arg0) = m ((c.tc : Thread Cert.Unmerge.nD Cert.Unmerge.τ).loc Cert.Unmerge.main_arg0)
      ∧ r.2.mem ((c.tc : Thread Cert.Unmerge.nD Cert.Unmerge.τ).loc Cert.Unmerge.main_arg1) = m ((c.tc : Thread Cert.Unmerge.nD Cert.Unmerge.τ).loc Cert.Unmerge.main_arg1)
      ∧ r.2.mem ((c.tc : Thread Cert.Unmerge.nD Cert.Unmerge.τ).loc Cert.Unmerge.main_arg2) = m ((c.tc : Thread Cert.Unmerge.nD Cert.Unmerge.τ).loc Cert.Unmerge.main_arg2)
      ∧ r.2.mem ((c.tc : Thread Cert.Unmerge.nD Cert.Unmerge.τ).loc Cert.Unmerge.main_arg3) = m ((c.tc : Thread Cert.Unmerge.nD Cert.Unmerge.τ).loc Cert.Unmerge.main_arg3)
      ∧ r.2.mem ((c.tc : Thread Cert.Unmerge.nD Cert.Unmerge.τ).loc Cert.Unmerge.main_arg4) = m ((c.tc : Thread Cert.Unmerge.nD Cert.Unmerge.τ).loc Cert.Unmerge.main_arg4)
      ∧ r.2.mem ((c.tc : Thread Cert.Unmerge.nD Cert.Unmerge.τ).loc Cert.Unmerge.main_arg5) = m ((c.tc : Thread Cert.Unmerge.nD Cert.Unmerge.τ).loc Cert.Unmerge.main_arg5)
      ∧ r.2.mem ((c.tc : Thread Cert.Unmerge.nD Cert.Unmerge.τ).loc Cert.Unmerge.main_arg6) = m ((c.tc : Thread Cert.Unmerge.nD Cert.Unmerge.τ).loc Cert.Unmerge.main_arg6)
      ∧ r.2.mem ((c.tc : Thread Cert.Unmerge.nD Cert.Unmerge.τ).loc Cert.Unmerge.main_arg7) = m ((c.tc : Thread Cert.Unmerge.nD Cert.Unmerge.τ).loc Cert.Unmerge.main_arg7)
      ∧ r.2.mem ((c.tc : Thread Cert.Unmerge.nD Cert.Unmerge.τ).loc Cert.Unmerge.main_arg8) = m ((c.tc : Thread Cert.Unmerge.nD Cert.Unmerge.τ).loc Cert.Unmerge.main_arg8)
      ∧ r.2.mem ((c.tc : Thread Cert.Unmerge.nD Cert.Unmerge.τ).loc Cert.Unmerge.main_arg9) = m ((c.tc : Thread Cert.Unmerge.nD Cert.Unmerge.τ).loc Cert.Unmerge.main_arg9)
      ∧ r.2.mem ((c.tc : Thread Cert.Unmerge.nD Cert.Unmerge.τ).loc Cert.Unmerge.main_arg10) = m ((c.tc : Thread Cert.Unmerge.nD Cert.Unmerge.τ).loc Cert.Unmerge.main_arg10))
      ∧ r.2.sem = fun _ => 0)

def quiescent_UnmergeIdeal [hUnmergeIdeal : Cert.UnmergeIdeal.Facts] : Prop :=
  ∀ (m : (ℓ : Loc Cert.UnmergeIdeal.nD Cert.UnmergeIdeal.τ Cert.UnmergeIdeal.sig) → Buf (Elt Ideal) ℓ) (g : Dev Cert.UnmergeIdeal.nD → PrngReg), Pre_UnmergeIdeal m →
    θ_run (Cert.UnmergeIdeal.defs (F := Ideal)) (onTc (τ := Cert.UnmergeIdeal.τ) (Cert.UnmergeIdeal.main (F := Ideal))) ⟨m, fun _ => 0, g⟩ (fun r => (∀ c : Dev Cert.UnmergeIdeal.nD,
      r.2.mem ((c.tc : Thread Cert.UnmergeIdeal.nD Cert.UnmergeIdeal.τ).loc Cert.UnmergeIdeal.main_arg0) = m ((c.tc : Thread Cert.UnmergeIdeal.nD Cert.UnmergeIdeal.τ).loc Cert.UnmergeIdeal.main_arg0)
      ∧ r.2.mem ((c.tc : Thread Cert.UnmergeIdeal.nD Cert.UnmergeIdeal.τ).loc Cert.UnmergeIdeal.main_arg1) = m ((c.tc : Thread Cert.UnmergeIdeal.nD Cert.UnmergeIdeal.τ).loc Cert.UnmergeIdeal.main_arg1)
      ∧ r.2.mem ((c.tc : Thread Cert.UnmergeIdeal.nD Cert.UnmergeIdeal.τ).loc Cert.UnmergeIdeal.main_arg2) = m ((c.tc : Thread Cert.UnmergeIdeal.nD Cert.UnmergeIdeal.τ).loc Cert.UnmergeIdeal.main_arg2)
      ∧ r.2.mem ((c.tc : Thread Cert.UnmergeIdeal.nD Cert.UnmergeIdeal.τ).loc Cert.UnmergeIdeal.main_arg3) = m ((c.tc : Thread Cert.UnmergeIdeal.nD Cert.UnmergeIdeal.τ).loc Cert.UnmergeIdeal.main_arg3)
      ∧ r.2.mem ((c.tc : Thread Cert.UnmergeIdeal.nD Cert.UnmergeIdeal.τ).loc Cert.UnmergeIdeal.main_arg4) = m ((c.tc : Thread Cert.UnmergeIdeal.nD Cert.UnmergeIdeal.τ).loc Cert.UnmergeIdeal.main_arg4)
      ∧ r.2.mem ((c.tc : Thread Cert.UnmergeIdeal.nD Cert.UnmergeIdeal.τ).loc Cert.UnmergeIdeal.main_arg5) = m ((c.tc : Thread Cert.UnmergeIdeal.nD Cert.UnmergeIdeal.τ).loc Cert.UnmergeIdeal.main_arg5)
      ∧ r.2.mem ((c.tc : Thread Cert.UnmergeIdeal.nD Cert.UnmergeIdeal.τ).loc Cert.UnmergeIdeal.main_arg6) = m ((c.tc : Thread Cert.UnmergeIdeal.nD Cert.UnmergeIdeal.τ).loc Cert.UnmergeIdeal.main_arg6)
      ∧ r.2.mem ((c.tc : Thread Cert.UnmergeIdeal.nD Cert.UnmergeIdeal.τ).loc Cert.UnmergeIdeal.main_arg7) = m ((c.tc : Thread Cert.UnmergeIdeal.nD Cert.UnmergeIdeal.τ).loc Cert.UnmergeIdeal.main_arg7)
      ∧ r.2.mem ((c.tc : Thread Cert.UnmergeIdeal.nD Cert.UnmergeIdeal.τ).loc Cert.UnmergeIdeal.main_arg8) = m ((c.tc : Thread Cert.UnmergeIdeal.nD Cert.UnmergeIdeal.τ).loc Cert.UnmergeIdeal.main_arg8)
      ∧ r.2.mem ((c.tc : Thread Cert.UnmergeIdeal.nD Cert.UnmergeIdeal.τ).loc Cert.UnmergeIdeal.main_arg9) = m ((c.tc : Thread Cert.UnmergeIdeal.nD Cert.UnmergeIdeal.τ).loc Cert.UnmergeIdeal.main_arg9)
      ∧ r.2.mem ((c.tc : Thread Cert.UnmergeIdeal.nD Cert.UnmergeIdeal.τ).loc Cert.UnmergeIdeal.main_arg10) = m ((c.tc : Thread Cert.UnmergeIdeal.nD Cert.UnmergeIdeal.τ).loc Cert.UnmergeIdeal.main_arg10))
      ∧ r.2.sem = fun _ => 0)

def quiescent_UnmergeIdeal_pre_unmerge_finite [hUnmergeIdeal : Cert.UnmergeIdeal.Facts] [hPre_unmerge_finite : Cert.Pre_unmerge_finite.Facts] : Prop :=
  ∀ (m : (ℓ : Loc Cert.UnmergeIdeal.nD Cert.UnmergeIdeal.τ Cert.UnmergeIdeal.sig) → Buf (Elt Ideal) ℓ) (g : Dev Cert.UnmergeIdeal.nD → PrngReg), Pre_UnmergeIdeal_unmerge_finite m →
    θ_run (Cert.UnmergeIdeal.defs (F := Ideal)) (onTc (τ := Cert.UnmergeIdeal.τ) (Cert.UnmergeIdeal.main (F := Ideal))) ⟨m, fun _ => 0, g⟩ (fun r => (∀ c : Dev Cert.UnmergeIdeal.nD,
      r.2.mem ((c.tc : Thread Cert.UnmergeIdeal.nD Cert.UnmergeIdeal.τ).loc Cert.UnmergeIdeal.main_arg0) = m ((c.tc : Thread Cert.UnmergeIdeal.nD Cert.UnmergeIdeal.τ).loc Cert.UnmergeIdeal.main_arg0)
      ∧ r.2.mem ((c.tc : Thread Cert.UnmergeIdeal.nD Cert.UnmergeIdeal.τ).loc Cert.UnmergeIdeal.main_arg1) = m ((c.tc : Thread Cert.UnmergeIdeal.nD Cert.UnmergeIdeal.τ).loc Cert.UnmergeIdeal.main_arg1)
      ∧ r.2.mem ((c.tc : Thread Cert.UnmergeIdeal.nD Cert.UnmergeIdeal.τ).loc Cert.UnmergeIdeal.main_arg2) = m ((c.tc : Thread Cert.UnmergeIdeal.nD Cert.UnmergeIdeal.τ).loc Cert.UnmergeIdeal.main_arg2)
      ∧ r.2.mem ((c.tc : Thread Cert.UnmergeIdeal.nD Cert.UnmergeIdeal.τ).loc Cert.UnmergeIdeal.main_arg3) = m ((c.tc : Thread Cert.UnmergeIdeal.nD Cert.UnmergeIdeal.τ).loc Cert.UnmergeIdeal.main_arg3)
      ∧ r.2.mem ((c.tc : Thread Cert.UnmergeIdeal.nD Cert.UnmergeIdeal.τ).loc Cert.UnmergeIdeal.main_arg4) = m ((c.tc : Thread Cert.UnmergeIdeal.nD Cert.UnmergeIdeal.τ).loc Cert.UnmergeIdeal.main_arg4)
      ∧ r.2.mem ((c.tc : Thread Cert.UnmergeIdeal.nD Cert.UnmergeIdeal.τ).loc Cert.UnmergeIdeal.main_arg5) = m ((c.tc : Thread Cert.UnmergeIdeal.nD Cert.UnmergeIdeal.τ).loc Cert.UnmergeIdeal.main_arg5)
      ∧ r.2.mem ((c.tc : Thread Cert.UnmergeIdeal.nD Cert.UnmergeIdeal.τ).loc Cert.UnmergeIdeal.main_arg6) = m ((c.tc : Thread Cert.UnmergeIdeal.nD Cert.UnmergeIdeal.τ).loc Cert.UnmergeIdeal.main_arg6)
      ∧ r.2.mem ((c.tc : Thread Cert.UnmergeIdeal.nD Cert.UnmergeIdeal.τ).loc Cert.UnmergeIdeal.main_arg7) = m ((c.tc : Thread Cert.UnmergeIdeal.nD Cert.UnmergeIdeal.τ).loc Cert.UnmergeIdeal.main_arg7)
      ∧ r.2.mem ((c.tc : Thread Cert.UnmergeIdeal.nD Cert.UnmergeIdeal.τ).loc Cert.UnmergeIdeal.main_arg8) = m ((c.tc : Thread Cert.UnmergeIdeal.nD Cert.UnmergeIdeal.τ).loc Cert.UnmergeIdeal.main_arg8)
      ∧ r.2.mem ((c.tc : Thread Cert.UnmergeIdeal.nD Cert.UnmergeIdeal.τ).loc Cert.UnmergeIdeal.main_arg9) = m ((c.tc : Thread Cert.UnmergeIdeal.nD Cert.UnmergeIdeal.τ).loc Cert.UnmergeIdeal.main_arg9)
      ∧ r.2.mem ((c.tc : Thread Cert.UnmergeIdeal.nD Cert.UnmergeIdeal.τ).loc Cert.UnmergeIdeal.main_arg10) = m ((c.tc : Thread Cert.UnmergeIdeal.nD Cert.UnmergeIdeal.τ).loc Cert.UnmergeIdeal.main_arg10))
      ∧ r.2.sem = fun _ => 0)

def quiescent_UnmergeRefIdeal [hUnmergeRefIdeal : Cert.UnmergeRefIdeal.Facts] : Prop :=
  ∀ (m : (ℓ : Loc Cert.UnmergeRefIdeal.nD Cert.UnmergeRefIdeal.τ Cert.UnmergeRefIdeal.sig) → Buf (Elt Ideal) ℓ) (g : Dev Cert.UnmergeRefIdeal.nD → PrngReg), Pre_UnmergeRefIdeal m →
    θ_run (Cert.UnmergeRefIdeal.defs (F := Ideal)) (onTc (τ := Cert.UnmergeRefIdeal.τ) (Cert.UnmergeRefIdeal.main (F := Ideal))) ⟨m, fun _ => 0, g⟩ (fun r => (∀ c : Dev Cert.UnmergeRefIdeal.nD,
      r.2.mem ((c.tc : Thread Cert.UnmergeRefIdeal.nD Cert.UnmergeRefIdeal.τ).loc Cert.UnmergeRefIdeal.main_arg0) = m ((c.tc : Thread Cert.UnmergeRefIdeal.nD Cert.UnmergeRefIdeal.τ).loc Cert.UnmergeRefIdeal.main_arg0)
      ∧ r.2.mem ((c.tc : Thread Cert.UnmergeRefIdeal.nD Cert.UnmergeRefIdeal.τ).loc Cert.UnmergeRefIdeal.main_arg1) = m ((c.tc : Thread Cert.UnmergeRefIdeal.nD Cert.UnmergeRefIdeal.τ).loc Cert.UnmergeRefIdeal.main_arg1)
      ∧ r.2.mem ((c.tc : Thread Cert.UnmergeRefIdeal.nD Cert.UnmergeRefIdeal.τ).loc Cert.UnmergeRefIdeal.main_arg2) = m ((c.tc : Thread Cert.UnmergeRefIdeal.nD Cert.UnmergeRefIdeal.τ).loc Cert.UnmergeRefIdeal.main_arg2)
      ∧ r.2.mem ((c.tc : Thread Cert.UnmergeRefIdeal.nD Cert.UnmergeRefIdeal.τ).loc Cert.UnmergeRefIdeal.main_arg3) = m ((c.tc : Thread Cert.UnmergeRefIdeal.nD Cert.UnmergeRefIdeal.τ).loc Cert.UnmergeRefIdeal.main_arg3)
      ∧ r.2.mem ((c.tc : Thread Cert.UnmergeRefIdeal.nD Cert.UnmergeRefIdeal.τ).loc Cert.UnmergeRefIdeal.main_arg4) = m ((c.tc : Thread Cert.UnmergeRefIdeal.nD Cert.UnmergeRefIdeal.τ).loc Cert.UnmergeRefIdeal.main_arg4)
      ∧ r.2.mem ((c.tc : Thread Cert.UnmergeRefIdeal.nD Cert.UnmergeRefIdeal.τ).loc Cert.UnmergeRefIdeal.main_arg5) = m ((c.tc : Thread Cert.UnmergeRefIdeal.nD Cert.UnmergeRefIdeal.τ).loc Cert.UnmergeRefIdeal.main_arg5)
      ∧ r.2.mem ((c.tc : Thread Cert.UnmergeRefIdeal.nD Cert.UnmergeRefIdeal.τ).loc Cert.UnmergeRefIdeal.main_arg6) = m ((c.tc : Thread Cert.UnmergeRefIdeal.nD Cert.UnmergeRefIdeal.τ).loc Cert.UnmergeRefIdeal.main_arg6)
      ∧ r.2.mem ((c.tc : Thread Cert.UnmergeRefIdeal.nD Cert.UnmergeRefIdeal.τ).loc Cert.UnmergeRefIdeal.main_arg7) = m ((c.tc : Thread Cert.UnmergeRefIdeal.nD Cert.UnmergeRefIdeal.τ).loc Cert.UnmergeRefIdeal.main_arg7)
      ∧ r.2.mem ((c.tc : Thread Cert.UnmergeRefIdeal.nD Cert.UnmergeRefIdeal.τ).loc Cert.UnmergeRefIdeal.main_arg8) = m ((c.tc : Thread Cert.UnmergeRefIdeal.nD Cert.UnmergeRefIdeal.τ).loc Cert.UnmergeRefIdeal.main_arg8)
      ∧ r.2.mem ((c.tc : Thread Cert.UnmergeRefIdeal.nD Cert.UnmergeRefIdeal.τ).loc Cert.UnmergeRefIdeal.main_arg9) = m ((c.tc : Thread Cert.UnmergeRefIdeal.nD Cert.UnmergeRefIdeal.τ).loc Cert.UnmergeRefIdeal.main_arg9)
      ∧ r.2.mem ((c.tc : Thread Cert.UnmergeRefIdeal.nD Cert.UnmergeRefIdeal.τ).loc Cert.UnmergeRefIdeal.main_arg10) = m ((c.tc : Thread Cert.UnmergeRefIdeal.nD Cert.UnmergeRefIdeal.τ).loc Cert.UnmergeRefIdeal.main_arg10))
      ∧ r.2.sem = fun _ => 0)

def quiescent_UnmergeRefIdeal_pre_unmerge_finite [hUnmergeRefIdeal : Cert.UnmergeRefIdeal.Facts] [hPre_unmerge_finite : Cert.Pre_unmerge_finite.Facts] : Prop :=
  ∀ (m : (ℓ : Loc Cert.UnmergeRefIdeal.nD Cert.UnmergeRefIdeal.τ Cert.UnmergeRefIdeal.sig) → Buf (Elt Ideal) ℓ) (g : Dev Cert.UnmergeRefIdeal.nD → PrngReg), Pre_UnmergeRefIdeal_unmerge_finite m →
    θ_run (Cert.UnmergeRefIdeal.defs (F := Ideal)) (onTc (τ := Cert.UnmergeRefIdeal.τ) (Cert.UnmergeRefIdeal.main (F := Ideal))) ⟨m, fun _ => 0, g⟩ (fun r => (∀ c : Dev Cert.UnmergeRefIdeal.nD,
      r.2.mem ((c.tc : Thread Cert.UnmergeRefIdeal.nD Cert.UnmergeRefIdeal.τ).loc Cert.UnmergeRefIdeal.main_arg0) = m ((c.tc : Thread Cert.UnmergeRefIdeal.nD Cert.UnmergeRefIdeal.τ).loc Cert.UnmergeRefIdeal.main_arg0)
      ∧ r.2.mem ((c.tc : Thread Cert.UnmergeRefIdeal.nD Cert.UnmergeRefIdeal.τ).loc Cert.UnmergeRefIdeal.main_arg1) = m ((c.tc : Thread Cert.UnmergeRefIdeal.nD Cert.UnmergeRefIdeal.τ).loc Cert.UnmergeRefIdeal.main_arg1)
      ∧ r.2.mem ((c.tc : Thread Cert.UnmergeRefIdeal.nD Cert.UnmergeRefIdeal.τ).loc Cert.UnmergeRefIdeal.main_arg2) = m ((c.tc : Thread Cert.UnmergeRefIdeal.nD Cert.UnmergeRefIdeal.τ).loc Cert.UnmergeRefIdeal.main_arg2)
      ∧ r.2.mem ((c.tc : Thread Cert.UnmergeRefIdeal.nD Cert.UnmergeRefIdeal.τ).loc Cert.UnmergeRefIdeal.main_arg3) = m ((c.tc : Thread Cert.UnmergeRefIdeal.nD Cert.UnmergeRefIdeal.τ).loc Cert.UnmergeRefIdeal.main_arg3)
      ∧ r.2.mem ((c.tc : Thread Cert.UnmergeRefIdeal.nD Cert.UnmergeRefIdeal.τ).loc Cert.UnmergeRefIdeal.main_arg4) = m ((c.tc : Thread Cert.UnmergeRefIdeal.nD Cert.UnmergeRefIdeal.τ).loc Cert.UnmergeRefIdeal.main_arg4)
      ∧ r.2.mem ((c.tc : Thread Cert.UnmergeRefIdeal.nD Cert.UnmergeRefIdeal.τ).loc Cert.UnmergeRefIdeal.main_arg5) = m ((c.tc : Thread Cert.UnmergeRefIdeal.nD Cert.UnmergeRefIdeal.τ).loc Cert.UnmergeRefIdeal.main_arg5)
      ∧ r.2.mem ((c.tc : Thread Cert.UnmergeRefIdeal.nD Cert.UnmergeRefIdeal.τ).loc Cert.UnmergeRefIdeal.main_arg6) = m ((c.tc : Thread Cert.UnmergeRefIdeal.nD Cert.UnmergeRefIdeal.τ).loc Cert.UnmergeRefIdeal.main_arg6)
      ∧ r.2.mem ((c.tc : Thread Cert.UnmergeRefIdeal.nD Cert.UnmergeRefIdeal.τ).loc Cert.UnmergeRefIdeal.main_arg7) = m ((c.tc : Thread Cert.UnmergeRefIdeal.nD Cert.UnmergeRefIdeal.τ).loc Cert.UnmergeRefIdeal.main_arg7)
      ∧ r.2.mem ((c.tc : Thread Cert.UnmergeRefIdeal.nD Cert.UnmergeRefIdeal.τ).loc Cert.UnmergeRefIdeal.main_arg8) = m ((c.tc : Thread Cert.UnmergeRefIdeal.nD Cert.UnmergeRefIdeal.τ).loc Cert.UnmergeRefIdeal.main_arg8)
      ∧ r.2.mem ((c.tc : Thread Cert.UnmergeRefIdeal.nD Cert.UnmergeRefIdeal.τ).loc Cert.UnmergeRefIdeal.main_arg9) = m ((c.tc : Thread Cert.UnmergeRefIdeal.nD Cert.UnmergeRefIdeal.τ).loc Cert.UnmergeRefIdeal.main_arg9)
      ∧ r.2.mem ((c.tc : Thread Cert.UnmergeRefIdeal.nD Cert.UnmergeRefIdeal.τ).loc Cert.UnmergeRefIdeal.main_arg10) = m ((c.tc : Thread Cert.UnmergeRefIdeal.nD Cert.UnmergeRefIdeal.τ).loc Cert.UnmergeRefIdeal.main_arg10))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4)
      ∧ r.2.mem ((c.tc : Thread Cert.AdamFf.nD Cert.AdamFf.τ).loc Cert.AdamFf.main_arg5) = m ((c.tc : Thread Cert.AdamFf.nD Cert.AdamFf.τ).loc Cert.AdamFf.main_arg5))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
      ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3)
      ∧ r.2.mem ((c.tc : Thread Cert.AdamBr.nD Cert.AdamBr.τ).loc Cert.AdamBr.main_arg4) = m ((c.tc : Thread Cert.AdamBr.nD Cert.AdamBr.τ).loc Cert.AdamBr.main_arg4)
      ∧ r.2.mem ((c.tc : Thread Cert.AdamBr.nD Cert.AdamBr.τ).loc Cert.AdamBr.main_arg5) = m ((c.tc : Thread Cert.AdamBr.nD Cert.AdamBr.τ).loc Cert.AdamBr.main_arg5))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
      ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4)
      ∧ r.2.mem ((c.tc : Thread Cert.AdamBrIdeal.nD Cert.AdamBrIdeal.τ).loc Cert.AdamBrIdeal.main_arg5) = m ((c.tc : Thread Cert.AdamBrIdeal.nD Cert.AdamBrIdeal.τ).loc Cert.AdamBrIdeal.main_arg5))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3)
      ∧ r.2.mem ((c.tc : Thread Cert.AdamBrRefIdeal.nD Cert.AdamBrRefIdeal.τ).loc Cert.AdamBrRefIdeal.main_arg4) = m ((c.tc : Thread Cert.AdamBrRefIdeal.nD Cert.AdamBrRefIdeal.τ).loc Cert.AdamBrRefIdeal.main_arg4)
      ∧ r.2.mem ((c.tc : Thread Cert.AdamBrRefIdeal.nD Cert.AdamBrRefIdeal.τ).loc Cert.AdamBrRefIdeal.main_arg5) = m ((c.tc : Thread Cert.AdamBrRefIdeal.nD Cert.AdamBrRefIdeal.τ).loc Cert.AdamBrRefIdeal.main_arg5))
      ∧ r.2.sem = fun _ => 0)

def preserves_FfnGrad_FfnGradIdeal : Prop :=
  True

def algebraic_FfnGradIdeal_FfnRefIdeal_pre_ffn_finite [hFfnGradIdeal : Cert.FfnGradIdeal.Facts] [hFfnRefIdeal : Cert.FfnRefIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnGradIdeal_ffn_finite m →
    (∀ c : Dev Cert.FfnGradIdeal.nD,
      m' ((c.tc : Thread Cert.FfnRefIdeal.nD Cert.FfnRefIdeal.τ).loc Cert.FfnRefIdeal.main_arg0) = m ((c.tc : Thread Cert.FfnGradIdeal.nD Cert.FfnGradIdeal.τ).loc Cert.FfnGradIdeal.main_arg0)
      ∧ m' ((c.tc : Thread Cert.FfnRefIdeal.nD Cert.FfnRefIdeal.τ).loc Cert.FfnRefIdeal.main_arg1) = m ((c.tc : Thread Cert.FfnGradIdeal.nD Cert.FfnGradIdeal.τ).loc Cert.FfnGradIdeal.main_arg1)
      ∧ m' ((c.tc : Thread Cert.FfnRefIdeal.nD Cert.FfnRefIdeal.τ).loc Cert.FfnRefIdeal.main_arg2) = m ((c.tc : Thread Cert.FfnGradIdeal.nD Cert.FfnGradIdeal.τ).loc Cert.FfnGradIdeal.main_arg2)
      ∧ m' ((c.tc : Thread Cert.FfnRefIdeal.nD Cert.FfnRefIdeal.τ).loc Cert.FfnRefIdeal.main_arg3) = m ((c.tc : Thread Cert.FfnGradIdeal.nD Cert.FfnGradIdeal.τ).loc Cert.FfnGradIdeal.main_arg3)
      ∧ m' ((c.tc : Thread Cert.FfnRefIdeal.nD Cert.FfnRefIdeal.τ).loc Cert.FfnRefIdeal.main_arg4) = m ((c.tc : Thread Cert.FfnGradIdeal.nD Cert.FfnGradIdeal.τ).loc Cert.FfnGradIdeal.main_arg4)) →
    ∃ (v0 : (c : Dev Cert.FfnGradIdeal.nD) → Buf (Elt Ideal) ((c.tc : Thread Cert.FfnGradIdeal.nD Cert.FfnGradIdeal.τ).loc Cert.FfnGradIdeal.main_v3)) (v1 : (c : Dev Cert.FfnGradIdeal.nD) → Buf (Elt Ideal) ((c.tc : Thread Cert.FfnGradIdeal.nD Cert.FfnGradIdeal.τ).loc Cert.FfnGradIdeal.main_v4)) (v2 : (c : Dev Cert.FfnGradIdeal.nD) → Buf (Elt Ideal) ((c.tc : Thread Cert.FfnGradIdeal.nD Cert.FfnGradIdeal.τ).loc Cert.FfnGradIdeal.main_v2)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v3) = v0 c
          ∧ r.2.mem ((c.tc : Thread Cert.FfnGradIdeal.nD Cert.FfnGradIdeal.τ).loc Cert.FfnGradIdeal.main_v4) = v1 c
          ∧ r.2.mem ((c.tc : Thread Cert.FfnGradIdeal.nD Cert.FfnGradIdeal.τ).loc Cert.FfnGradIdeal.main_v2) = v2 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_v25) = v1 c
          ∧ r.2.mem ((c.tc : Thread Cert.FfnRefIdeal.nD Cert.FfnRefIdeal.τ).loc Cert.FfnRefIdeal.main_v24) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v13) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_MixGrad_MixGradIdeal : Prop :=
  True

def algebraic_MixGradIdeal_MixRefIdeal [hMixGradIdeal : Cert.MixGradIdeal.Facts] [hMixRefIdeal : Cert.MixRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixGradIdeal m →
    (∀ c : Dev Cert.MixGradIdeal.nD,
      m' ((c.tc : Thread Cert.MixRefIdeal.nD Cert.MixRefIdeal.τ).loc Cert.MixRefIdeal.main_arg0) = m ((c.tc : Thread Cert.MixGradIdeal.nD Cert.MixGradIdeal.τ).loc Cert.MixGradIdeal.main_arg0)
      ∧ m' ((c.tc : Thread Cert.MixRefIdeal.nD Cert.MixRefIdeal.τ).loc Cert.MixRefIdeal.main_arg1) = m ((c.tc : Thread Cert.MixGradIdeal.nD Cert.MixGradIdeal.τ).loc Cert.MixGradIdeal.main_arg1)
      ∧ m' ((c.tc : Thread Cert.MixRefIdeal.nD Cert.MixRefIdeal.τ).loc Cert.MixRefIdeal.main_arg2) = m ((c.tc : Thread Cert.MixGradIdeal.nD Cert.MixGradIdeal.τ).loc Cert.MixGradIdeal.main_arg2)
      ∧ m' ((c.tc : Thread Cert.MixRefIdeal.nD Cert.MixRefIdeal.τ).loc Cert.MixRefIdeal.main_arg3) = m ((c.tc : Thread Cert.MixGradIdeal.nD Cert.MixGradIdeal.τ).loc Cert.MixGradIdeal.main_arg3)
      ∧ m' ((c.tc : Thread Cert.MixRefIdeal.nD Cert.MixRefIdeal.τ).loc Cert.MixRefIdeal.main_arg4) = m ((c.tc : Thread Cert.MixGradIdeal.nD Cert.MixGradIdeal.τ).loc Cert.MixGradIdeal.main_arg4)
      ∧ m' ((c.tc : Thread Cert.MixRefIdeal.nD Cert.MixRefIdeal.τ).loc Cert.MixRefIdeal.main_arg5) = m ((c.tc : Thread Cert.MixGradIdeal.nD Cert.MixGradIdeal.τ).loc Cert.MixGradIdeal.main_arg5)
      ∧ m' ((c.tc : Thread Cert.MixRefIdeal.nD Cert.MixRefIdeal.τ).loc Cert.MixRefIdeal.main_arg6) = m ((c.tc : Thread Cert.MixGradIdeal.nD Cert.MixGradIdeal.τ).loc Cert.MixGradIdeal.main_arg6)
      ∧ m' ((c.tc : Thread Cert.MixRefIdeal.nD Cert.MixRefIdeal.τ).loc Cert.MixRefIdeal.main_arg7) = m ((c.tc : Thread Cert.MixGradIdeal.nD Cert.MixGradIdeal.τ).loc Cert.MixGradIdeal.main_arg7)
      ∧ m' ((c.tc : Thread Cert.MixRefIdeal.nD Cert.MixRefIdeal.τ).loc Cert.MixRefIdeal.main_arg8) = m ((c.tc : Thread Cert.MixGradIdeal.nD Cert.MixGradIdeal.τ).loc Cert.MixGradIdeal.main_arg8)
      ∧ m' ((c.tc : Thread Cert.MixRefIdeal.nD Cert.MixRefIdeal.τ).loc Cert.MixRefIdeal.main_arg9) = m ((c.tc : Thread Cert.MixGradIdeal.nD Cert.MixGradIdeal.τ).loc Cert.MixGradIdeal.main_arg9)) →
    ∃ (v0 : (c : Dev Cert.MixGradIdeal.nD) → Buf (Elt Ideal) ((c.tc : Thread Cert.MixGradIdeal.nD Cert.MixGradIdeal.τ).loc Cert.MixGradIdeal.main_v4)) (v1 : (c : Dev Cert.MixGradIdeal.nD) → Buf (Elt Ideal) ((c.tc : Thread Cert.MixGradIdeal.nD Cert.MixGradIdeal.τ).loc Cert.MixGradIdeal.main_v3)) (v2 : (c : Dev Cert.MixGradIdeal.nD) → Buf (Elt Ideal) ((c.tc : Thread Cert.MixGradIdeal.nD Cert.MixGradIdeal.τ).loc Cert.MixGradIdeal.main_v1)) (v3 : (c : Dev Cert.MixGradIdeal.nD) → Buf (Elt Ideal) ((c.tc : Thread Cert.MixGradIdeal.nD Cert.MixGradIdeal.τ).loc Cert.MixGradIdeal.main_v2)) (v4 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v4) = v0 c
          ∧ r.2.mem ((c.tc : Thread Cert.MixGradIdeal.nD Cert.MixGradIdeal.τ).loc Cert.MixGradIdeal.main_v3) = v1 c
          ∧ r.2.mem ((c.tc : Thread Cert.MixGradIdeal.nD Cert.MixGradIdeal.τ).loc Cert.MixGradIdeal.main_v1) = v2 c
          ∧ r.2.mem ((c.tc : Thread Cert.MixGradIdeal.nD Cert.MixGradIdeal.τ).loc Cert.MixGradIdeal.main_v2) = v3 c
          ∧ r.2.mem ((c.tc : Thread Cert.MixGradIdeal.nD Cert.MixGradIdeal.τ).loc Cert.MixGradIdeal.main_v0) = v4 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v7) = v0 c
          ∧ r.2.mem ((c.tc : Thread Cert.MixRefIdeal.nD Cert.MixRefIdeal.τ).loc Cert.MixRefIdeal.main_v15) = v1 c
          ∧ r.2.mem ((c.tc : Thread Cert.MixRefIdeal.nD Cert.MixRefIdeal.τ).loc Cert.MixRefIdeal.main_v24) = v2 c
          ∧ r.2.mem ((c.tc : Thread Cert.MixRefIdeal.nD Cert.MixRefIdeal.τ).loc Cert.MixRefIdeal.main_v33) = v3 c
          ∧ r.2.mem ((c.tc : Thread Cert.MixRefIdeal.nD Cert.MixRefIdeal.τ).loc Cert.MixRefIdeal.main_v41) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v17) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v3) = v0 c
          ∧ r.2.mem ((c.tc : Thread Cert.MergeRefIdeal.nD Cert.MergeRefIdeal.τ).loc Cert.MergeRefIdeal.main_v7) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_v37) = v3 c
          ∧ r.2.mem ((c.tc : Thread Cert.MergeRefIdeal.nD Cert.MergeRefIdeal.τ).loc Cert.MergeRefIdeal.main_v60) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Unmerge_UnmergeIdeal : Prop :=
  True

def algebraic_UnmergeIdeal_UnmergeRefIdeal_pre_unmerge_finite [hUnmergeIdeal : Cert.UnmergeIdeal.Facts] [hUnmergeRefIdeal : Cert.UnmergeRefIdeal.Facts] [hPre_unmerge_finite : Cert.Pre_unmerge_finite.Facts] : Prop :=
  ∀ (m : (ℓ : Loc Cert.UnmergeIdeal.nD Cert.UnmergeIdeal.τ Cert.UnmergeIdeal.sig) → Buf (Elt Ideal) ℓ) (g : Dev Cert.UnmergeIdeal.nD → PrngReg)
    (m' : (ℓ : Loc Cert.UnmergeRefIdeal.nD Cert.UnmergeRefIdeal.τ Cert.UnmergeRefIdeal.sig) → Buf (Elt Ideal) ℓ) (g' : Dev Cert.UnmergeRefIdeal.nD → PrngReg), Pre_UnmergeIdeal_unmerge_finite m →
    (∀ c : Dev Cert.UnmergeIdeal.nD,
      m' ((c.tc : Thread Cert.UnmergeRefIdeal.nD Cert.UnmergeRefIdeal.τ).loc Cert.UnmergeRefIdeal.main_arg0) = m ((c.tc : Thread Cert.UnmergeIdeal.nD Cert.UnmergeIdeal.τ).loc Cert.UnmergeIdeal.main_arg0)
      ∧ m' ((c.tc : Thread Cert.UnmergeRefIdeal.nD Cert.UnmergeRefIdeal.τ).loc Cert.UnmergeRefIdeal.main_arg1) = m ((c.tc : Thread Cert.UnmergeIdeal.nD Cert.UnmergeIdeal.τ).loc Cert.UnmergeIdeal.main_arg1)
      ∧ m' ((c.tc : Thread Cert.UnmergeRefIdeal.nD Cert.UnmergeRefIdeal.τ).loc Cert.UnmergeRefIdeal.main_arg2) = m ((c.tc : Thread Cert.UnmergeIdeal.nD Cert.UnmergeIdeal.τ).loc Cert.UnmergeIdeal.main_arg2)
      ∧ m' ((c.tc : Thread Cert.UnmergeRefIdeal.nD Cert.UnmergeRefIdeal.τ).loc Cert.UnmergeRefIdeal.main_arg3) = m ((c.tc : Thread Cert.UnmergeIdeal.nD Cert.UnmergeIdeal.τ).loc Cert.UnmergeIdeal.main_arg3)
      ∧ m' ((c.tc : Thread Cert.UnmergeRefIdeal.nD Cert.UnmergeRefIdeal.τ).loc Cert.UnmergeRefIdeal.main_arg4) = m ((c.tc : Thread Cert.UnmergeIdeal.nD Cert.UnmergeIdeal.τ).loc Cert.UnmergeIdeal.main_arg4)
      ∧ m' ((c.tc : Thread Cert.UnmergeRefIdeal.nD Cert.UnmergeRefIdeal.τ).loc Cert.UnmergeRefIdeal.main_arg5) = m ((c.tc : Thread Cert.UnmergeIdeal.nD Cert.UnmergeIdeal.τ).loc Cert.UnmergeIdeal.main_arg5)
      ∧ m' ((c.tc : Thread Cert.UnmergeRefIdeal.nD Cert.UnmergeRefIdeal.τ).loc Cert.UnmergeRefIdeal.main_arg6) = m ((c.tc : Thread Cert.UnmergeIdeal.nD Cert.UnmergeIdeal.τ).loc Cert.UnmergeIdeal.main_arg6)
      ∧ m' ((c.tc : Thread Cert.UnmergeRefIdeal.nD Cert.UnmergeRefIdeal.τ).loc Cert.UnmergeRefIdeal.main_arg7) = m ((c.tc : Thread Cert.UnmergeIdeal.nD Cert.UnmergeIdeal.τ).loc Cert.UnmergeIdeal.main_arg7)
      ∧ m' ((c.tc : Thread Cert.UnmergeRefIdeal.nD Cert.UnmergeRefIdeal.τ).loc Cert.UnmergeRefIdeal.main_arg8) = m ((c.tc : Thread Cert.UnmergeIdeal.nD Cert.UnmergeIdeal.τ).loc Cert.UnmergeIdeal.main_arg8)
      ∧ m' ((c.tc : Thread Cert.UnmergeRefIdeal.nD Cert.UnmergeRefIdeal.τ).loc Cert.UnmergeRefIdeal.main_arg9) = m ((c.tc : Thread Cert.UnmergeIdeal.nD Cert.UnmergeIdeal.τ).loc Cert.UnmergeIdeal.main_arg9)
      ∧ m' ((c.tc : Thread Cert.UnmergeRefIdeal.nD Cert.UnmergeRefIdeal.τ).loc Cert.UnmergeRefIdeal.main_arg10) = m ((c.tc : Thread Cert.UnmergeIdeal.nD Cert.UnmergeIdeal.τ).loc Cert.UnmergeIdeal.main_arg10)) →
    ∃ (v0 : (c : Dev Cert.UnmergeIdeal.nD) → Buf (Elt Ideal) ((c.tc : Thread Cert.UnmergeIdeal.nD Cert.UnmergeIdeal.τ).loc Cert.UnmergeIdeal.main_v1_0)) (v1 : (c : Dev Cert.UnmergeIdeal.nD) → Buf (Elt Ideal) ((c.tc : Thread Cert.UnmergeIdeal.nD Cert.UnmergeIdeal.τ).loc Cert.UnmergeIdeal.main_v1_1)) (v2 : (c : Dev Cert.UnmergeIdeal.nD) → Buf (Elt Ideal) ((c.tc : Thread Cert.UnmergeIdeal.nD Cert.UnmergeIdeal.τ).loc Cert.UnmergeIdeal.main_v1_2)) (v3 : (c : Dev Cert.UnmergeIdeal.nD) → Buf (Elt Ideal) ((c.tc : Thread Cert.UnmergeIdeal.nD Cert.UnmergeIdeal.τ).loc Cert.UnmergeIdeal.main_v1_3)) (v4 : (c : Dev Cert.UnmergeIdeal.nD) → Buf (Elt Ideal) ((c.tc : Thread Cert.UnmergeIdeal.nD Cert.UnmergeIdeal.τ).loc Cert.UnmergeIdeal.main_v1_4)) (v5 : (c : Dev Cert.UnmergeIdeal.nD) → Buf (Elt Ideal) ((c.tc : Thread Cert.UnmergeIdeal.nD Cert.UnmergeIdeal.τ).loc Cert.UnmergeIdeal.main_v1_5)) (v6 : (c : Dev Cert.UnmergeIdeal.nD) → Buf (Elt Ideal) ((c.tc : Thread Cert.UnmergeIdeal.nD Cert.UnmergeIdeal.τ).loc Cert.UnmergeIdeal.main_v1_6)) (v7 : (c : Dev Cert.UnmergeIdeal.nD) → Buf (Elt Ideal) ((c.tc : Thread Cert.UnmergeIdeal.nD Cert.UnmergeIdeal.τ).loc Cert.UnmergeIdeal.main_v1_7)) (v8 : (c : Dev Cert.UnmergeIdeal.nD) → Buf (Elt Ideal) ((c.tc : Thread Cert.UnmergeIdeal.nD Cert.UnmergeIdeal.τ).loc Cert.UnmergeIdeal.main_v1_8)) (v9 : (c : Dev Cert.UnmergeIdeal.nD) → Buf (Elt Ideal) ((c.tc : Thread Cert.UnmergeIdeal.nD Cert.UnmergeIdeal.τ).loc Cert.UnmergeIdeal.main_v1_9)),
      θ_run (Cert.UnmergeIdeal.defs (F := Ideal)) (onTc (τ := Cert.UnmergeIdeal.τ) (Cert.UnmergeIdeal.main (F := Ideal))) ⟨m, fun _ => 0, g⟩ (fun r => ∀ c : Dev Cert.UnmergeIdeal.nD,
          r.2.mem ((c.tc : Thread Cert.UnmergeIdeal.nD Cert.UnmergeIdeal.τ).loc Cert.UnmergeIdeal.main_v1_0) = v0 c
          ∧ r.2.mem ((c.tc : Thread Cert.UnmergeIdeal.nD Cert.UnmergeIdeal.τ).loc Cert.UnmergeIdeal.main_v1_1) = v1 c
          ∧ r.2.mem ((c.tc : Thread Cert.UnmergeIdeal.nD Cert.UnmergeIdeal.τ).loc Cert.UnmergeIdeal.main_v1_2) = v2 c
          ∧ r.2.mem ((c.tc : Thread Cert.UnmergeIdeal.nD Cert.UnmergeIdeal.τ).loc Cert.UnmergeIdeal.main_v1_3) = v3 c
          ∧ r.2.mem ((c.tc : Thread Cert.UnmergeIdeal.nD Cert.UnmergeIdeal.τ).loc Cert.UnmergeIdeal.main_v1_4) = v4 c
          ∧ r.2.mem ((c.tc : Thread Cert.UnmergeIdeal.nD Cert.UnmergeIdeal.τ).loc Cert.UnmergeIdeal.main_v1_5) = v5 c
          ∧ r.2.mem ((c.tc : Thread Cert.UnmergeIdeal.nD Cert.UnmergeIdeal.τ).loc Cert.UnmergeIdeal.main_v1_6) = v6 c
          ∧ r.2.mem ((c.tc : Thread Cert.UnmergeIdeal.nD Cert.UnmergeIdeal.τ).loc Cert.UnmergeIdeal.main_v1_7) = v7 c
          ∧ r.2.mem ((c.tc : Thread Cert.UnmergeIdeal.nD Cert.UnmergeIdeal.τ).loc Cert.UnmergeIdeal.main_v1_8) = v8 c
          ∧ r.2.mem ((c.tc : Thread Cert.UnmergeIdeal.nD Cert.UnmergeIdeal.τ).loc Cert.UnmergeIdeal.main_v1_9) = v9 c
          ∧ r.2.mem ((c.tc : Thread Cert.UnmergeIdeal.nD Cert.UnmergeIdeal.τ).loc Cert.UnmergeIdeal.main_arg0) = m ((c.tc : Thread Cert.UnmergeIdeal.nD Cert.UnmergeIdeal.τ).loc Cert.UnmergeIdeal.main_arg0)
          ∧ r.2.mem ((c.tc : Thread Cert.UnmergeIdeal.nD Cert.UnmergeIdeal.τ).loc Cert.UnmergeIdeal.main_arg1) = m ((c.tc : Thread Cert.UnmergeIdeal.nD Cert.UnmergeIdeal.τ).loc Cert.UnmergeIdeal.main_arg1)
          ∧ r.2.mem ((c.tc : Thread Cert.UnmergeIdeal.nD Cert.UnmergeIdeal.τ).loc Cert.UnmergeIdeal.main_arg2) = m ((c.tc : Thread Cert.UnmergeIdeal.nD Cert.UnmergeIdeal.τ).loc Cert.UnmergeIdeal.main_arg2)
          ∧ r.2.mem ((c.tc : Thread Cert.UnmergeIdeal.nD Cert.UnmergeIdeal.τ).loc Cert.UnmergeIdeal.main_arg3) = m ((c.tc : Thread Cert.UnmergeIdeal.nD Cert.UnmergeIdeal.τ).loc Cert.UnmergeIdeal.main_arg3)
          ∧ r.2.mem ((c.tc : Thread Cert.UnmergeIdeal.nD Cert.UnmergeIdeal.τ).loc Cert.UnmergeIdeal.main_arg4) = m ((c.tc : Thread Cert.UnmergeIdeal.nD Cert.UnmergeIdeal.τ).loc Cert.UnmergeIdeal.main_arg4)
          ∧ r.2.mem ((c.tc : Thread Cert.UnmergeIdeal.nD Cert.UnmergeIdeal.τ).loc Cert.UnmergeIdeal.main_arg5) = m ((c.tc : Thread Cert.UnmergeIdeal.nD Cert.UnmergeIdeal.τ).loc Cert.UnmergeIdeal.main_arg5)
          ∧ r.2.mem ((c.tc : Thread Cert.UnmergeIdeal.nD Cert.UnmergeIdeal.τ).loc Cert.UnmergeIdeal.main_arg6) = m ((c.tc : Thread Cert.UnmergeIdeal.nD Cert.UnmergeIdeal.τ).loc Cert.UnmergeIdeal.main_arg6)
          ∧ r.2.mem ((c.tc : Thread Cert.UnmergeIdeal.nD Cert.UnmergeIdeal.τ).loc Cert.UnmergeIdeal.main_arg7) = m ((c.tc : Thread Cert.UnmergeIdeal.nD Cert.UnmergeIdeal.τ).loc Cert.UnmergeIdeal.main_arg7)
          ∧ r.2.mem ((c.tc : Thread Cert.UnmergeIdeal.nD Cert.UnmergeIdeal.τ).loc Cert.UnmergeIdeal.main_arg8) = m ((c.tc : Thread Cert.UnmergeIdeal.nD Cert.UnmergeIdeal.τ).loc Cert.UnmergeIdeal.main_arg8)
          ∧ r.2.mem ((c.tc : Thread Cert.UnmergeIdeal.nD Cert.UnmergeIdeal.τ).loc Cert.UnmergeIdeal.main_arg9) = m ((c.tc : Thread Cert.UnmergeIdeal.nD Cert.UnmergeIdeal.τ).loc Cert.UnmergeIdeal.main_arg9)
          ∧ r.2.mem ((c.tc : Thread Cert.UnmergeIdeal.nD Cert.UnmergeIdeal.τ).loc Cert.UnmergeIdeal.main_arg10) = m ((c.tc : Thread Cert.UnmergeIdeal.nD Cert.UnmergeIdeal.τ).loc Cert.UnmergeIdeal.main_arg10))
      ∧ θ_run (Cert.UnmergeRefIdeal.defs (F := Ideal)) (onTc (τ := Cert.UnmergeRefIdeal.τ) (Cert.UnmergeRefIdeal.main (F := Ideal))) ⟨m', fun _ => 0, g'⟩ (fun r => ∀ c : Dev Cert.UnmergeRefIdeal.nD,
          r.2.mem ((c.tc : Thread Cert.UnmergeRefIdeal.nD Cert.UnmergeRefIdeal.τ).loc Cert.UnmergeRefIdeal.main_v61) = v0 c
          ∧ r.2.mem ((c.tc : Thread Cert.UnmergeRefIdeal.nD Cert.UnmergeRefIdeal.τ).loc Cert.UnmergeRefIdeal.main_v125) = v1 c
          ∧ r.2.mem ((c.tc : Thread Cert.UnmergeRefIdeal.nD Cert.UnmergeRefIdeal.τ).loc Cert.UnmergeRefIdeal.main_v126) = v2 c
          ∧ r.2.mem ((c.tc : Thread Cert.UnmergeRefIdeal.nD Cert.UnmergeRefIdeal.τ).loc Cert.UnmergeRefIdeal.main_v127) = v3 c
          ∧ r.2.mem ((c.tc : Thread Cert.UnmergeRefIdeal.nD Cert.UnmergeRefIdeal.τ).loc Cert.UnmergeRefIdeal.main_v118) = v4 c
          ∧ r.2.mem ((c.tc : Thread Cert.UnmergeRefIdeal.nD Cert.UnmergeRefIdeal.τ).loc Cert.UnmergeRefIdeal.main_v124) = v5 c
          ∧ r.2.mem ((c.tc : Thread Cert.UnmergeRefIdeal.nD Cert.UnmergeRefIdeal.τ).loc Cert.UnmergeRefIdeal.main_v35) = v6 c
          ∧ r.2.mem ((c.tc : Thread Cert.UnmergeRefIdeal.nD Cert.UnmergeRefIdeal.τ).loc Cert.UnmergeRefIdeal.main_v32) = v7 c
          ∧ r.2.mem ((c.tc : Thread Cert.UnmergeRefIdeal.nD Cert.UnmergeRefIdeal.τ).loc Cert.UnmergeRefIdeal.main_v128) = v8 c
          ∧ r.2.mem ((c.tc : Thread Cert.UnmergeRefIdeal.nD Cert.UnmergeRefIdeal.τ).loc Cert.UnmergeRefIdeal.main_v129) = v9 c
          ∧ r.2.mem ((c.tc : Thread Cert.UnmergeRefIdeal.nD Cert.UnmergeRefIdeal.τ).loc Cert.UnmergeRefIdeal.main_arg0) = m' ((c.tc : Thread Cert.UnmergeRefIdeal.nD Cert.UnmergeRefIdeal.τ).loc Cert.UnmergeRefIdeal.main_arg0)
          ∧ r.2.mem ((c.tc : Thread Cert.UnmergeRefIdeal.nD Cert.UnmergeRefIdeal.τ).loc Cert.UnmergeRefIdeal.main_arg1) = m' ((c.tc : Thread Cert.UnmergeRefIdeal.nD Cert.UnmergeRefIdeal.τ).loc Cert.UnmergeRefIdeal.main_arg1)
          ∧ r.2.mem ((c.tc : Thread Cert.UnmergeRefIdeal.nD Cert.UnmergeRefIdeal.τ).loc Cert.UnmergeRefIdeal.main_arg2) = m' ((c.tc : Thread Cert.UnmergeRefIdeal.nD Cert.UnmergeRefIdeal.τ).loc Cert.UnmergeRefIdeal.main_arg2)
          ∧ r.2.mem ((c.tc : Thread Cert.UnmergeRefIdeal.nD Cert.UnmergeRefIdeal.τ).loc Cert.UnmergeRefIdeal.main_arg3) = m' ((c.tc : Thread Cert.UnmergeRefIdeal.nD Cert.UnmergeRefIdeal.τ).loc Cert.UnmergeRefIdeal.main_arg3)
          ∧ r.2.mem ((c.tc : Thread Cert.UnmergeRefIdeal.nD Cert.UnmergeRefIdeal.τ).loc Cert.UnmergeRefIdeal.main_arg4) = m' ((c.tc : Thread Cert.UnmergeRefIdeal.nD Cert.UnmergeRefIdeal.τ).loc Cert.UnmergeRefIdeal.main_arg4)
          ∧ r.2.mem ((c.tc : Thread Cert.UnmergeRefIdeal.nD Cert.UnmergeRefIdeal.τ).loc Cert.UnmergeRefIdeal.main_arg5) = m' ((c.tc : Thread Cert.UnmergeRefIdeal.nD Cert.UnmergeRefIdeal.τ).loc Cert.UnmergeRefIdeal.main_arg5)
          ∧ r.2.mem ((c.tc : Thread Cert.UnmergeRefIdeal.nD Cert.UnmergeRefIdeal.τ).loc Cert.UnmergeRefIdeal.main_arg6) = m' ((c.tc : Thread Cert.UnmergeRefIdeal.nD Cert.UnmergeRefIdeal.τ).loc Cert.UnmergeRefIdeal.main_arg6)
          ∧ r.2.mem ((c.tc : Thread Cert.UnmergeRefIdeal.nD Cert.UnmergeRefIdeal.τ).loc Cert.UnmergeRefIdeal.main_arg7) = m' ((c.tc : Thread Cert.UnmergeRefIdeal.nD Cert.UnmergeRefIdeal.τ).loc Cert.UnmergeRefIdeal.main_arg7)
          ∧ r.2.mem ((c.tc : Thread Cert.UnmergeRefIdeal.nD Cert.UnmergeRefIdeal.τ).loc Cert.UnmergeRefIdeal.main_arg8) = m' ((c.tc : Thread Cert.UnmergeRefIdeal.nD Cert.UnmergeRefIdeal.τ).loc Cert.UnmergeRefIdeal.main_arg8)
          ∧ r.2.mem ((c.tc : Thread Cert.UnmergeRefIdeal.nD Cert.UnmergeRefIdeal.τ).loc Cert.UnmergeRefIdeal.main_arg9) = m' ((c.tc : Thread Cert.UnmergeRefIdeal.nD Cert.UnmergeRefIdeal.τ).loc Cert.UnmergeRefIdeal.main_arg9)
          ∧ r.2.mem ((c.tc : Thread Cert.UnmergeRefIdeal.nD Cert.UnmergeRefIdeal.τ).loc Cert.UnmergeRefIdeal.main_arg10) = m' ((c.tc : Thread Cert.UnmergeRefIdeal.nD Cert.UnmergeRefIdeal.τ).loc Cert.UnmergeRefIdeal.main_arg10))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v78) = v0 c
          ∧ r.2.mem ((c.tc : Thread Cert.LossRefIdeal.nD Cert.LossRefIdeal.τ).loc Cert.LossRefIdeal.main_v79) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v49) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v7) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)
      ∧ m' ((c.tc : Thread Cert.AdamFfRefIdeal.nD Cert.AdamFfRefIdeal.τ).loc Cert.AdamFfRefIdeal.main_arg4) = m ((c.tc : Thread Cert.AdamFfIdeal.nD Cert.AdamFfIdeal.τ).loc Cert.AdamFfIdeal.main_arg4)
      ∧ m' ((c.tc : Thread Cert.AdamFfRefIdeal.nD Cert.AdamFfRefIdeal.τ).loc Cert.AdamFfRefIdeal.main_arg5) = m ((c.tc : Thread Cert.AdamFfIdeal.nD Cert.AdamFfIdeal.τ).loc Cert.AdamFfIdeal.main_arg5)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)) (v3 : (c : Dev Cert.AdamFfIdeal.nD) → Buf (Elt Ideal) ((c.tc : Thread Cert.AdamFfIdeal.nD Cert.AdamFfIdeal.τ).loc Cert.AdamFfIdeal.main_v0_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_v0_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
          ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v7) = v0 c
          ∧ r.2.mem ((c.tc : Thread Cert.AdamFfRefIdeal.nD Cert.AdamFfRefIdeal.τ).loc Cert.AdamFfRefIdeal.main_v31) = v1 c
          ∧ r.2.mem ((c.tc : Thread Cert.AdamFfRefIdeal.nD Cert.AdamFfRefIdeal.τ).loc Cert.AdamFfRefIdeal.main_v12) = v2 c
          ∧ r.2.mem ((c.tc : Thread Cert.AdamFfRefIdeal.nD Cert.AdamFfRefIdeal.τ).loc Cert.AdamFfRefIdeal.main_v18) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3)
          ∧ r.2.mem ((c.tc : Thread Cert.AdamFfRefIdeal.nD Cert.AdamFfRefIdeal.τ).loc Cert.AdamFfRefIdeal.main_arg4) = m' ((c.tc : Thread Cert.AdamFfRefIdeal.nD Cert.AdamFfRefIdeal.τ).loc Cert.AdamFfRefIdeal.main_arg4)
          ∧ r.2.mem ((c.tc : Thread Cert.AdamFfRefIdeal.nD Cert.AdamFfRefIdeal.τ).loc Cert.AdamFfRefIdeal.main_arg5) = m' ((c.tc : Thread Cert.AdamFfRefIdeal.nD Cert.AdamFfRefIdeal.τ).loc Cert.AdamFfRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)
      ∧ m' ((c.tc : Thread Cert.AdamBrRefIdeal.nD Cert.AdamBrRefIdeal.τ).loc Cert.AdamBrRefIdeal.main_arg4) = m ((c.tc : Thread Cert.AdamBrIdeal.nD Cert.AdamBrIdeal.τ).loc Cert.AdamBrIdeal.main_arg4)
      ∧ m' ((c.tc : Thread Cert.AdamBrRefIdeal.nD Cert.AdamBrRefIdeal.τ).loc Cert.AdamBrRefIdeal.main_arg5) = m ((c.tc : Thread Cert.AdamBrIdeal.nD Cert.AdamBrIdeal.τ).loc Cert.AdamBrIdeal.main_arg5)) →
    ∃ (v0 : (c : Dev Cert.AdamBrIdeal.nD) → Buf (Elt Ideal) ((c.tc : Thread Cert.AdamBrIdeal.nD Cert.AdamBrIdeal.τ).loc Cert.AdamBrIdeal.main_v0_0)) (v1 : (c : Dev Cert.AdamBrIdeal.nD) → Buf (Elt Ideal) ((c.tc : Thread Cert.AdamBrIdeal.nD Cert.AdamBrIdeal.τ).loc Cert.AdamBrIdeal.main_v0_1)) (v2 : (c : Dev Cert.AdamBrIdeal.nD) → Buf (Elt Ideal) ((c.tc : Thread Cert.AdamBrIdeal.nD Cert.AdamBrIdeal.τ).loc Cert.AdamBrIdeal.main_v0_2)) (v3 : (c : Dev Cert.AdamBrIdeal.nD) → Buf (Elt Ideal) ((c.tc : Thread Cert.AdamBrIdeal.nD Cert.AdamBrIdeal.τ).loc Cert.AdamBrIdeal.main_v0_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v0_0) = v0 c
          ∧ r.2.mem ((c.tc : Thread Cert.AdamBrIdeal.nD Cert.AdamBrIdeal.τ).loc Cert.AdamBrIdeal.main_v0_1) = v1 c
          ∧ r.2.mem ((c.tc : Thread Cert.AdamBrIdeal.nD Cert.AdamBrIdeal.τ).loc Cert.AdamBrIdeal.main_v0_2) = v2 c
          ∧ r.2.mem ((c.tc : Thread Cert.AdamBrIdeal.nD Cert.AdamBrIdeal.τ).loc Cert.AdamBrIdeal.main_v0_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
          ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4)
          ∧ r.2.mem ((c.tc : Thread Cert.AdamBrIdeal.nD Cert.AdamBrIdeal.τ).loc Cert.AdamBrIdeal.main_arg5) = m ((c.tc : Thread Cert.AdamBrIdeal.nD Cert.AdamBrIdeal.τ).loc Cert.AdamBrIdeal.main_arg5))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_v7) = v0 c
          ∧ r.2.mem ((c.tc : Thread Cert.AdamBrRefIdeal.nD Cert.AdamBrRefIdeal.τ).loc Cert.AdamBrRefIdeal.main_v31) = v1 c
          ∧ r.2.mem ((c.tc : Thread Cert.AdamBrRefIdeal.nD Cert.AdamBrRefIdeal.τ).loc Cert.AdamBrRefIdeal.main_v12) = v2 c
          ∧ r.2.mem ((c.tc : Thread Cert.AdamBrRefIdeal.nD Cert.AdamBrRefIdeal.τ).loc Cert.AdamBrRefIdeal.main_v18) = v3 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3)
          ∧ r.2.mem ((c.tc : Thread Cert.AdamBrRefIdeal.nD Cert.AdamBrRefIdeal.τ).loc Cert.AdamBrRefIdeal.main_arg4) = m' ((c.tc : Thread Cert.AdamBrRefIdeal.nD Cert.AdamBrRefIdeal.τ).loc Cert.AdamBrRefIdeal.main_arg4)
          ∧ r.2.mem ((c.tc : Thread Cert.AdamBrRefIdeal.nD Cert.AdamBrRefIdeal.τ).loc Cert.AdamBrRefIdeal.main_arg5) = m' ((c.tc : Thread Cert.AdamBrRefIdeal.nD Cert.AdamBrRefIdeal.τ).loc Cert.AdamBrRefIdeal.main_arg5))

def Claim : Prop :=
  ∃ (hFfnGrad : Cert.FfnGrad.Facts) (hFfnGradIdeal : Cert.FfnGradIdeal.Facts) (hFfnRefIdeal : Cert.FfnRefIdeal.Facts) (hFfnDh : Cert.FfnDh.Facts) (hFfnDhIdeal : Cert.FfnDhIdeal.Facts) (hFfnDhRefIdeal : Cert.FfnDhRefIdeal.Facts) (hMixGrad : Cert.MixGrad.Facts) (hMixGradIdeal : Cert.MixGradIdeal.Facts) (hMixRefIdeal : Cert.MixRefIdeal.Facts) (hDx : Cert.Dx.Facts) (hDxIdeal : Cert.DxIdeal.Facts) (hDxRefIdeal : Cert.DxRefIdeal.Facts) (hMerge : Cert.Merge.Facts) (hMergeIdeal : Cert.MergeIdeal.Facts) (hMergeRefIdeal : Cert.MergeRefIdeal.Facts) (hUnmerge : Cert.Unmerge.Facts) (hUnmergeIdeal : Cert.UnmergeIdeal.Facts) (hUnmergeRefIdeal : Cert.UnmergeRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamFf : Cert.AdamFf.Facts) (hAdamFfIdeal : Cert.AdamFfIdeal.Facts) (hAdamFfRefIdeal : Cert.AdamFfRefIdeal.Facts) (hAdamOut : Cert.AdamOut.Facts) (hAdamOutIdeal : Cert.AdamOutIdeal.Facts) (hAdamOutRefIdeal : Cert.AdamOutRefIdeal.Facts) (hAdamBr : Cert.AdamBr.Facts) (hAdamBrIdeal : Cert.AdamBrIdeal.Facts) (hAdamBrRefIdeal : Cert.AdamBrRefIdeal.Facts) (hPre_ffn_finite : Cert.Pre_ffn_finite.Facts) (hPre_unmerge_finite : Cert.Pre_unmerge_finite.Facts) (hPre_loss_finite : Cert.Pre_loss_finite.Facts),
    quiescent_FfnGrad (hFfnGrad := hFfnGrad)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_MixGrad (hMixGrad := hMixGrad)
    ∧ quiescent_MixGradIdeal (hMixGradIdeal := hMixGradIdeal)
    ∧ quiescent_MixRefIdeal (hMixRefIdeal := hMixRefIdeal)
    ∧ quiescent_Dx (hDx := hDx)
    ∧ quiescent_DxIdeal (hDxIdeal := hDxIdeal)
    ∧ quiescent_DxRefIdeal (hDxRefIdeal := hDxRefIdeal)
    ∧ quiescent_Merge (hMerge := hMerge)
    ∧ quiescent_MergeIdeal (hMergeIdeal := hMergeIdeal)
    ∧ quiescent_MergeRefIdeal (hMergeRefIdeal := hMergeRefIdeal)
    ∧ quiescent_Unmerge (hUnmerge := hUnmerge)
    ∧ quiescent_UnmergeIdeal (hUnmergeIdeal := hUnmergeIdeal)
    ∧ quiescent_UnmergeIdeal_pre_unmerge_finite (hUnmergeIdeal := hUnmergeIdeal) (hPre_unmerge_finite := hPre_unmerge_finite)
    ∧ quiescent_UnmergeRefIdeal (hUnmergeRefIdeal := hUnmergeRefIdeal)
    ∧ quiescent_UnmergeRefIdeal_pre_unmerge_finite (hUnmergeRefIdeal := hUnmergeRefIdeal) (hPre_unmerge_finite := hPre_unmerge_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ preserves_FfnGrad_FfnGradIdeal
    ∧ algebraic_FfnGradIdeal_FfnRefIdeal_pre_ffn_finite (hFfnGradIdeal := hFfnGradIdeal) (hFfnRefIdeal := hFfnRefIdeal) (hPre_ffn_finite := hPre_ffn_finite)
    ∧ preserves_FfnDh_FfnDhIdeal
    ∧ algebraic_FfnDhIdeal_FfnDhRefIdeal (hFfnDhIdeal := hFfnDhIdeal) (hFfnDhRefIdeal := hFfnDhRefIdeal)
    ∧ preserves_MixGrad_MixGradIdeal
    ∧ algebraic_MixGradIdeal_MixRefIdeal (hMixGradIdeal := hMixGradIdeal) (hMixRefIdeal := hMixRefIdeal)
    ∧ preserves_Dx_DxIdeal
    ∧ algebraic_DxIdeal_DxRefIdeal (hDxIdeal := hDxIdeal) (hDxRefIdeal := hDxRefIdeal)
    ∧ preserves_Merge_MergeIdeal
    ∧ algebraic_MergeIdeal_MergeRefIdeal (hMergeIdeal := hMergeIdeal) (hMergeRefIdeal := hMergeRefIdeal)
    ∧ preserves_Unmerge_UnmergeIdeal
    ∧ algebraic_UnmergeIdeal_UnmergeRefIdeal_pre_unmerge_finite (hUnmergeIdeal := hUnmergeIdeal) (hUnmergeRefIdeal := hUnmergeRefIdeal) (hPre_unmerge_finite := hPre_unmerge_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_AdamIn_AdamInIdeal
    ∧ algebraic_AdamInIdeal_AdamInRefIdeal (hAdamInIdeal := hAdamInIdeal) (hAdamInRefIdeal := hAdamInRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamBr_AdamBrIdeal
    ∧ algebraic_AdamBrIdeal_AdamBrRefIdeal (hAdamBrIdeal := hAdamBrIdeal) (hAdamBrRefIdeal := hAdamBrRefIdeal)
-- ==== Pre_ffn_finite.lean ====
abbrev S2048x1024 : Shape := ⟨2, ![2048, 1024]⟩
abbrev S4x704x1024 : Shape := ⟨3, ![4, 704, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg4 : FVec F S2048x1024 .f32) (main_v3 : IVec S_ 1) (main_v8 : IVec S_ 1) (main_v13 : IVec S_ 1) (main_v15 : FVec F S4x704x1024 .f32) (main_v16 : FVec F S4x704x1024 .f32) : IVec S_ 1 :=
  let main_v17 : IVec S4x704x1024 1 := cmpf .olt main_v15 main_v16
  let main_c_5 : IVec S_ 1 := constantI S_ 1 1#1
  let main_v18 : IVec S_ 1 := (fun x v => Host.reduce IntOp.andi x v reducesTo_S4x704x1024_S_d0_1_2 h_S_) main_v17 main_c_5
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v3 main_v8
  let main_v24 : IVec S_ 1 := andi main_v23 main_v13
  let main_v25 : IVec S_ 1 := andi main_v24 main_v18
  let main_v26 : IVec S_ 1 := andi main_v25 main_v22
  main_v26

def fn {F : FTy → Type} [FloatOps F] (main_arg0 : FVec F S2048x1024 .f32) (main_arg1 : FVec F S4x704x1024 .bf16) (main_arg2 : FVec F S4x704x1024 .bf16) (main_arg3 : FVec F S4x704x1024 .bf16) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_c_1 : IVec S_ 1 := constantI S_ 1 1#1
  let main_v8 : IVec S_ 1 := (fun x v => Host.reduce IntOp.andi x v reducesTo_S4x704x1024_S_d0_1_2 h_S_) main_v7 main_c_1
  let main_v9 : FVec F S4x704x1024 .f32 := (extf .f32 · bitsLt_bf16_f32) main_arg2
  let main_v10 : FVec F S4x704x1024 .f32 := Host.absf main_v9
  let main_cst_2 : FVec F S_ .f32 := constant S_ .f32 0x7F800000#32
  let main_v11 : FVec F S4x704x1024 .f32 := broadcastInDim S4x704x1024 ![] bcast_S_S4x704x1024 main_cst_2
  let main_v12 : IVec S4x704x1024 1 := cmpf .olt main_v10 main_v11
  let main_c_3 : IVec S_ 1 := constantI S_ 1 1#1
  let main_v13 : IVec S_ 1 := (fun x v => Host.reduce IntOp.andi x v reducesTo_S4x704x1024_S_d0_1_2 h_S_) main_v12 main_c_3
  let main_v14 : FVec F S4x704x1024 .f32 := (extf .f32 · bitsLt_bf16_f32) main_arg3
  let main_v15 : FVec F S4x704x1024 .f32 := Host.absf main_v14
  let main_cst_4 : FVec F S_ .f32 := constant S_ .f32 0x7F800000#32
  let main_v16 : FVec F S4x704x1024 .f32 := broadcastInDim S4x704x1024 ![] bcast_S_S4x704x1024 main_cst_4
  fn_part1 (F := F) main_arg4 main_v3 main_v8 main_v13 main_v15 main_v16
-- ==== Pre_loss_finite.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S4x2048x704 : S_.BroadcastsInDim S4x2048x704 (![] : Fin 0 → Fin S4x2048x704.rank)
  reducesTo_S4x2048x704_S_d0_1_2 : S4x2048x704.ReducesTo [0, 1, 2] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4x2048x704 .bf16) (main_arg1 : FVec F S4x704x1024 .bf16) (main_arg2 : FVec F S2048x1024 .f32) (main_arg3 : FVec F S2048x1024 .f32) (main_arg4 : FVec F S1x1024 .f32) (main_arg5 : FVec F S1x1024 .f32) : IVec S_ 1 :=
  let main_v0 : FVec F S4x2048x704 .f32 := (extf .f32 · bitsLt_bf16_f32) main_arg0
  let main_v1 : FVec F S4x2048x704 .f32 := Host.absf main_v0
  let main_cst : FVec F S_ .f32 := constant S_ .f32 0x7F800000#32
  let main_v2 : FVec F S4x2048x704 .f32 := broadcastInDim S4x2048x704 ![] bcast_S_S4x2048x704 main_cst
  let main_v3 : IVec S4x2048x704 1 := cmpf .olt main_v1 main_v2
  let main_c : IVec S_ 1 := constantI S_ 1 1#1
  let main_v4 : IVec S_ 1 := (fun x v => Host.reduce IntOp.andi x v reducesTo_S4x2048x704_S_d0_1_2 h_S_) main_v3 main_c
  let main_v5 : FVec F S4x704x1024 .f32 := (extf .f32 · bitsLt_bf16_f32) main_arg1
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v4 main_v9 main_v13 main_v16
-- ==== Pre_unmerge_finite.lean ====
abbrev S2048x1024 : Shape := ⟨2, ![2048, 1024]⟩
abbrev S2048x7168 : Shape := ⟨2, ![2048, 7168]⟩
abbrev S1x1024 : Shape := ⟨2, ![1, 1024]⟩
abbrev S2x1024 : Shape := ⟨2, ![2, 1024]⟩
abbrev S4x256x1024 : Shape := ⟨3, ![4, 256, 1024]⟩
abbrev S4x512x256 : Shape := ⟨3, ![4, 512, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S2048x1024 .f32) (main_arg2 : FVec F S2048x1024 .f32) (main_arg3 : FVec F S2048x7168 .f32) (main_arg4 : FVec F S2048x1024 .f32) (main_arg5 : FVec F S2048x1024 .f32) (main_arg6 : FVec F S1x1024 .f32) (main_arg7 : FVec F S2x1024 .f32) (main_arg8 : FVec F S4x256x1024 .bf16) (main_arg9 : FVec F S4x512x256 .bf16) (main_arg10 : FVec F S4x512x256 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1x1024 .f32 := Host.absf main_arg6
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== FfnGrad.lean ====
abbrev S2048x1024 : Shape := ⟨2, ![2048, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S1x2048x704 : Shape := ⟨3, ![1, 2048, 704]⟩
abbrev S2048x704 : Shape := ⟨2, ![2048, 704]⟩

abbrev nBuf : Space → Nat
  | .hbm => 13
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S2048x1024, .f32⟩
  | .hbm, ⟨5, _⟩ => ⟨S4x2048x704, .f32⟩
  | .hbm, ⟨6, _⟩ => ⟨S4x2048x704, .f32⟩
  | .hbm, ⟨7, _⟩ => ⟨S4x2048x704, .bf16⟩
  | .hbm, ⟨8, _⟩ => ⟨S4x2048x704, .bf16⟩
  | .hbm, ⟨9, _⟩ => ⟨S4x2048x704, .bf16⟩
  | .hbm, ⟨10, _⟩ => ⟨S4x704x1024, .bf16⟩
  | .hbm, ⟨11, _⟩ => ⟨S4x704x1024, .bf16⟩
  | .hbm, ⟨12, _⟩ => ⟨S4x704x1024, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .f32⟩
  | .local _ .vmem, ⟨13, _⟩ => ⟨S1024x1024, .f32⟩
  | .local _ .vmem, ⟨14, _⟩ => ⟨S1x704x1024, .bf16⟩
  | .local _ .vmem, ⟨15, _⟩ => ⟨S1x704x1024, .bf16⟩
  | .local _ .vmem, ⟨16, _⟩ => ⟨S1x1024x704, .f32⟩
  | .local _ .vmem, ⟨17, _⟩ => ⟨S1x1024x704, .f32⟩
  | .local _ .vmem, ⟨18, _⟩ => ⟨S1x1024x704, .f32⟩
  | .local _ .vmem, ⟨19, _⟩ => ⟨S1x1024x704, .f32⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x2048x704, .bf16⟩
  | .local _ .vmem, ⟨25, _⟩ => ⟨S1x2048x704, .bf16⟩
  | .local _ .vmem, ⟨26, _⟩ => ⟨S2048x1024, .f32⟩
  | .local _ .vmem, ⟨27, _⟩ => ⟨S1x704x1024, .bf16⟩
  | .local _ .vmem, ⟨28, _⟩ => ⟨S1x704x1024, .bf16⟩
  | .local _ .vmem, ⟨29, _⟩ => ⟨S1x2048x704, .bf16⟩
  | .local _ .vmem, ⟨30, _⟩ => ⟨S1x2048x704, .bf16⟩
  | .local _ .vmem, ⟨31, _⟩ => ⟨S2048x1024, .f32⟩
  | .local _ .vmem, ⟨32, _⟩ => ⟨S1x704x1024, .bf16⟩
  | .local _ .vmem, ⟨33, _⟩ => ⟨S1x704x1024, .bf16⟩
  | .local _ .vmem, ⟨34, _⟩ => ⟨S1x2048x704, .bf16⟩
  | .local _ .vmem, ⟨35, _⟩ => ⟨S1x2048x704, .bf16⟩
  | .local _ .vmem, ⟨36, _⟩ => ⟨S2048x1024, .f32⟩
  | .local _ .vmem, ⟨37, _⟩ => ⟨S1x704x1024, .bf16⟩
  | .local _ .vmem, ⟨38, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x704x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x704x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnRefIdeal.lean ====
abbrev S2048x1024 : Shape := ⟨2, ![2048, 1024]⟩
abbrev S4x704x1024 : Shape := ⟨3, ![4, 704, 1024]⟩
abbrev S4x704x2048 : Shape := ⟨3, ![4, 704, 2048]⟩
abbrev S4x2048x704 : Shape := ⟨3, ![4, 2048, 704]⟩
abbrev S_ : Shape := ⟨0, ![]⟩
abbrev S1024x4x704 : Shape := ⟨3, ![1024, 4, 704]⟩
abbrev S2048x4x704 : Shape := ⟨3, ![2048, 4, 704]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S2048x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x2048, .f32⟩
  | .hbm, ⟨9, _⟩ => ⟨S4x2048x704, .f32⟩
  | .hbm, ⟨10, _⟩ => ⟨S4x704x2048, .f32⟩
  | .hbm, ⟨11, _⟩ => ⟨S4x2048x704, .f32⟩
  | .hbm, ⟨12, _⟩ => ⟨S4x2048x704, .f32⟩
  | .hbm, ⟨13, _⟩ => ⟨S4x2048x704, .f32⟩
  | .hbm, ⟨14, _⟩ => ⟨S_, .f32⟩
  | .hbm, ⟨15, _⟩ => ⟨S4x2048x704, .f32⟩
  | .hbm, ⟨16, _⟩ => ⟨S4x2048x704, .f32⟩
  | .hbm, ⟨17, _⟩ => ⟨S_, .f32⟩
  | .hbm, ⟨18, _⟩ => ⟨S4x2048x704, .f32⟩
  | .hbm, ⟨19, _⟩ => ⟨S4x2048x704, .f32⟩
  | .hbm, ⟨20, _⟩ => ⟨S_, .f32⟩
  | .hbm, ⟨21, _⟩ => ⟨S4x2048x704, .f32⟩
  | .hbm, ⟨22, _⟩ => ⟨S4x2048x704, .f32⟩
  | .hbm, ⟨23, _⟩ => ⟨S4x2048x704, .f32⟩
  | .hbm, ⟨24, _⟩ => ⟨S4x2048x704, .f32⟩
  | .hbm, ⟨25, _⟩ => ⟨S4x2048x704, .f32⟩
  | .hbm, ⟨26, _⟩ => ⟨S2048x1024, .f32⟩
  | .hbm, ⟨27, _⟩ => ⟨S1024x4x704, .f32⟩
  | .hbm, ⟨28, _⟩ => ⟨S4x704x1024, .f32⟩
  | .hbm, ⟨29, _⟩ => ⟨S2048x4x704, .f32⟩
  | .hbm, ⟨30, _⟩ => ⟨S4x2048x704, .f32⟩
  | .hbm, ⟨31, _⟩ => ⟨S4x2048x704, .f32⟩
  | .hbm, ⟨32, _⟩ => ⟨S4x2048x704, .f32⟩
  | .hbm, ⟨33, _⟩ => ⟨S4x2048x704, .f32⟩
  | .hbm, ⟨34, _⟩ => ⟨S4x2048x704, .f32⟩
  | .hbm, ⟨35, _⟩ => ⟨S4x2048x704, .f32⟩
  | .hbm, ⟨36, _⟩ => ⟨S4x2048x704, .f32⟩
  | .hbm, ⟨37, _⟩ => ⟨S4x704x2048, .f32⟩
  | .hbm, ⟨38, _⟩ => ⟨S2048x1024, .f32⟩
  | .hbm, ⟨39, _⟩ => ⟨S4x704x1024, .f32⟩
  | .hbm, ⟨40, _⟩ => ⟨S4x704x2048, .f32⟩
  | .hbm, ⟨41, _⟩ => ⟨S2048x1024, .f32⟩
  | .hbm, ⟨42, _⟩ => ⟨S2048x1024, .f32⟩
  | .hbm, ⟨43, _⟩ => ⟨S4x704x1024, .f32⟩
  | .hbm, ⟨44, _⟩ => ⟨S4x704x1024, .bf16⟩
  | .hbm, ⟨45, _⟩ => ⟨S4x704x1024, .bf16⟩
  | .hbm, ⟨46, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== FfnDh.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x704x1024, .bf16⟩
  | .hbm, ⟨3, _⟩ => ⟨S4x704x1024, .bf16⟩
  | .hbm, ⟨4, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDhRefIdeal.lean ====
abbrev S4x2048x704 : Shape := ⟨3, ![4, 2048, 704]⟩
abbrev S4x704x1024 : Shape := ⟨3, ![4, 704, 1024]⟩
abbrev S_ : Shape := ⟨0, ![]⟩
abbrev S2048x1024 : Shape := ⟨2, ![2048, 1024]⟩
abbrev S4x704x2048 : Shape := ⟨3, ![4, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x704x1024, .bf16⟩
  | .hbm, ⟨3, _⟩ => ⟨S4x704x1024, .bf16⟩
  | .hbm, ⟨4, _⟩ => ⟨S4x2048x704, .f32⟩
  | .hbm, ⟨5, _⟩ => ⟨S4x2048x704, .f32⟩
  | .hbm, ⟨6, _⟩ => ⟨S4x704x1024, .f32⟩
  | .hbm, ⟨7, _⟩ => ⟨S4x704x1024, .f32⟩
  | .hbm, ⟨8, _⟩ => ⟨S_, .f32⟩
  | .hbm, ⟨9, _⟩ => ⟨S2048x1024, .f32⟩
  | .hbm, ⟨10, _⟩ => ⟨S4x704x2048, .f32⟩
  | .hbm, ⟨11, _⟩ => ⟨S4x2048x704, .f32⟩
  | .hbm, ⟨12, _⟩ => ⟨S4x704x2048, .f32⟩
  | .hbm, ⟨13, _⟩ => ⟨S4x2048x704, .f32⟩
  | .hbm, ⟨14, _⟩ => ⟨S4x704x2048, .f32⟩
  | .hbm, ⟨15, _⟩ => ⟨S2048x1024, .f32⟩
  | .hbm, ⟨16, _⟩ => ⟨S4x704x2048, .f32⟩
  | .hbm, ⟨17, _⟩ => ⟨S2048x1024, .f32⟩
  | .hbm, ⟨18, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixGrad.lean ====
abbrev S2048x1024 : Shape := ⟨2, ![2048, 1024]⟩
abbrev S2048x7168 : Shape := ⟨2, ![2048, 7168]⟩
abbrev S2048x512 : Shape := ⟨2, ![2048, 512]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩
abbrev S4x512x256 : Shape := ⟨3, ![4, 512, 256]⟩
abbrev S1x512x256 : Shape := ⟨3, ![1, 512, 256]⟩
abbrev S512x256 : Shape := ⟨2, ![512, 256]⟩
abbrev S4x1024x1792 : Shape := ⟨3, ![4, 1024, 1792]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 15
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x7168, .bf16⟩
  | .hbm, ⟨2, _⟩ => ⟨S2048x1024, .bf16⟩
  | .hbm, ⟨3, _⟩ => ⟨S2048x1024, .f32⟩
  | .hbm, ⟨4, _⟩ => ⟨S2048x512, .bf16⟩
  | .hbm, ⟨5, _⟩ => ⟨S2048x1024, .bf16⟩
  | .hbm, ⟨6, _⟩ => ⟨S2048x512, .bf16⟩
  | .hbm, ⟨7, _⟩ => ⟨S2048x1024, .bf16⟩
  | .hbm, ⟨8, _⟩ => ⟨S2048x512, .f32⟩
  | .hbm, ⟨9, _⟩ => ⟨S2048x1024, .bf16⟩
  | .hbm, ⟨10, _⟩ => ⟨S4x256x1024, .bf16⟩
  | .hbm, ⟨11, _⟩ => ⟨S4x512x256, .bf16⟩
  | .hbm, ⟨12, _⟩ => ⟨S4x512x256, .bf16⟩
  | .hbm, ⟨13, _⟩ => ⟨S4x512x256, .bf16⟩
  | .hbm, ⟨14, _⟩ => ⟨S4x1024x1792, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S2048x512, .bf16⟩
  | .local _ .vmem, ⟨6, _⟩ => ⟨S2048x256, .bf16⟩
  | .local _ .vmem, ⟨7, _⟩ => ⟨S2048x256, .bf16⟩
  | .local _ .vmem, ⟨8, _⟩ => ⟨S1x512x256, .bf16⟩
  | .local _ .vmem, ⟨9, _⟩ => ⟨S1x512x256, .bf16⟩
  | .local _ .vmem, ⟨10, _⟩ => ⟨S2048x512, .bf16⟩
  | .local _ .vmem, ⟨11, _⟩ => ⟨S2048x256, .bf16⟩
  | .local _ .vmem, ⟨12, _⟩ => ⟨S2048x256, .bf16⟩
  | .local _ .vmem, ⟨13, _⟩ => ⟨S1x512x256, .bf16⟩
  | .local _ .vmem, ⟨14, _⟩ => ⟨S1x512x256, .bf16⟩
  | .local _ .vmem, ⟨15, _⟩ => ⟨S2048x512, .f32⟩
  | .local _ .vmem, ⟨16, _⟩ => ⟨S2048x256, .bf16⟩
  | .local _ .vmem, ⟨17, _⟩ => ⟨S2048x256, .bf16⟩
  | .local _ .vmem, ⟨18, _⟩ => ⟨S1x512x256, .bf16⟩
  | .local _ .vmem, ⟨19, _⟩ => ⟨S1x512x256, .bf16⟩
  | .local _ .vmem, ⟨20, _⟩ => ⟨S2048x1024, .f32⟩
  | .local _ .vmem, ⟨21, _⟩ => ⟨S2048x1792, .bf16⟩
  | .local _ .vmem, ⟨22, _⟩ => ⟨S2048x1792, .bf16⟩
  | .local _ .vmem, ⟨23, _⟩ => ⟨S1x1024x1792, .bf16⟩
  | .local _ .vmem, ⟨24, _⟩ => ⟨S1x1024x1792, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S2048x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x1792 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1024x1792 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== MixRefIdeal.lean ====
abbrev S2048x1024 : Shape := ⟨2, ![2048, 1024]⟩
abbrev S2048x7168 : Shape := ⟨2, ![2048, 7168]⟩
abbrev S2048x512 : Shape := ⟨2, ![2048, 512]⟩
abbrev S_ : Shape := ⟨0, ![]⟩
abbrev S4x1024x1792 : Shape := ⟨3, ![4, 1024, 1792]⟩
abbrev S2048x4x1792 : Shape := ⟨3, ![2048, 4, 1792]⟩
abbrev S4x1792x1024 : Shape := ⟨3, ![4, 1792, 1024]⟩
abbrev S4x512x256 : Shape := ⟨3, ![4, 512, 256]⟩
abbrev S2048x4x256 : Shape := ⟨3, ![2048, 4, 256]⟩
abbrev S4x256x512 : Shape := ⟨3, ![4, 256, 512]⟩
abbrev S4x256x1024 : Shape := ⟨3, ![4, 256, 1024]⟩
abbrev S1024x1024 : Shape := ⟨2, ![1024, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x7168, .bf16⟩
  | .hbm, ⟨2, _⟩ => ⟨S2048x1024, .bf16⟩
  | .hbm, ⟨3, _⟩ => ⟨S2048x1024, .f32⟩
  | .hbm, ⟨4, _⟩ => ⟨S2048x512, .bf16⟩
  | .hbm, ⟨5, _⟩ => ⟨S2048x1024, .bf16⟩
  | .hbm, ⟨6, _⟩ => ⟨S2048x512, .bf16⟩
  | .hbm, ⟨7, _⟩ => ⟨S2048x1024, .bf16⟩
  | .hbm, ⟨8, _⟩ => ⟨S2048x512, .f32⟩
  | .hbm, ⟨9, _⟩ => ⟨S2048x1024, .bf16⟩
  | .hbm, ⟨10, _⟩ => ⟨S2048x7168, .f32⟩
  | .hbm, ⟨11, _⟩ => ⟨S_, .f32⟩
  | .hbm, ⟨12, _⟩ => ⟨S4x1024x1792, .f32⟩
  | .hbm, ⟨13, _⟩ => ⟨S2048x4x1792, .f32⟩
  | .hbm, ⟨14, _⟩ => ⟨S2048x7168, .f32⟩
  | .hbm, ⟨15, _⟩ => ⟨S2048x4x1792, .f32⟩
  | .hbm, ⟨16, _⟩ => ⟨S4x1792x1024, .f32⟩
  | .hbm, ⟨17, _⟩ => ⟨S4x1024x1792, .f32⟩
  | .hbm, ⟨18, _⟩ => ⟨S4x1024x1792, .bf16⟩
  | .hbm, ⟨19, _⟩ => ⟨S2048x1024, .f32⟩
  | .hbm, ⟨20, _⟩ => ⟨S_, .f32⟩
  | .hbm, ⟨21, _⟩ => ⟨S4x512x256, .f32⟩
  | .hbm, ⟨22, _⟩ => ⟨S2048x4x256, .f32⟩
  | .hbm, ⟨23, _⟩ => ⟨S2048x1024, .f32⟩
  | .hbm, ⟨24, _⟩ => ⟨S2048x4x256, .f32⟩
  | .hbm, ⟨25, _⟩ => ⟨S4x256x512, .f32⟩
  | .hbm, ⟨26, _⟩ => ⟨S4x512x256, .f32⟩
  | .hbm, ⟨27, _⟩ => ⟨S4x512x256, .bf16⟩
  | .hbm, ⟨28, _⟩ => ⟨S2048x512, .f32⟩
  | .hbm, ⟨29, _⟩ => ⟨S2048x1024, .f32⟩
  | .hbm, ⟨30, _⟩ => ⟨S_, .f32⟩
  | .hbm, ⟨31, _⟩ => ⟨S4x512x256, .f32⟩
  | .hbm, ⟨32, _⟩ => ⟨S2048x4x256, .f32⟩
  | .hbm, ⟨33, _⟩ => ⟨S2048x1024, .f32⟩
  | .hbm, ⟨34, _⟩ => ⟨S2048x4x256, .f32⟩
  | .hbm, ⟨35, _⟩ => ⟨S4x256x512, .f32⟩
  | .hbm, ⟨36, _⟩ => ⟨S4x512x256, .f32⟩
  | .hbm, ⟨37, _⟩ => ⟨S4x512x256, .bf16⟩
  | .hbm, ⟨38, _⟩ => ⟨S2048x512, .f32⟩
  | .hbm, ⟨39, _⟩ => ⟨S2048x1024, .f32⟩
  | .hbm, ⟨40, _⟩ => ⟨S_, .f32⟩
  | .hbm, ⟨41, _⟩ => ⟨S4x512x256, .f32⟩
  | .hbm, ⟨42, _⟩ => ⟨S2048x4x256, .f32⟩
  | .hbm, ⟨43, _⟩ => ⟨S2048x1024, .f32⟩
  | .hbm, ⟨44, _⟩ => ⟨S2048x4x256, .f32⟩
  | .hbm, ⟨45, _⟩ => ⟨S4x256x512, .f32⟩
  | .hbm, ⟨46, _⟩ => ⟨S4x512x256, .f32⟩
  | .hbm, ⟨47, _⟩ => ⟨S4x512x256, .bf16⟩
  | .hbm, ⟨48, _⟩ => ⟨S2048x1024, .f32⟩
  | .hbm, ⟨49, _⟩ => ⟨S_, .f32⟩
  | .hbm, ⟨50, _⟩ => ⟨S4x256x1024, .f32⟩
  | .hbm, ⟨51, _⟩ => ⟨S1024x1024, .f32⟩
  | .hbm, ⟨52, _⟩ => ⟨S2048x1024, .f32⟩
  | .hbm, ⟨53, _⟩ => ⟨S1024x1024, .f32⟩
  | .hbm, ⟨54, _⟩ => ⟨S1024x1024, .f32⟩
  | .hbm, ⟨55, _⟩ => ⟨S4x256x1024, .f32⟩
  | .hbm, ⟨56, _⟩ => ⟨S4x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Dx.lean ====
abbrev S1 : Shape := ⟨1, ![1]⟩
abbrev S2048x7168 : Shape := ⟨2, ![2048, 7168]⟩
abbrev S4x1024x1792 : Shape := ⟨3, ![4, 1024, 1792]⟩
abbrev S1024x1792 : Shape := ⟨2, ![1024, 1792]⟩
abbrev S2048x1024 : Shape := ⟨2, ![2048, 1024]⟩
abbrev S1x1024x1792 : Shape := ⟨3, ![1, 1024, 1792]⟩
abbrev S1024x1024 : Shape := ⟨2, ![1024, 1024]⟩

abbrev nBuf : Space → Nat
  | .hbm => 5
  | .vmem => 10
  | .smem => 1
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S1024x1792, .bf16⟩
  | .hbm, ⟨3, _⟩ => ⟨S2048x1024, .f32⟩
  | .hbm, ⟨4, _⟩ => ⟨S2048x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1792, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .smem, ⟨0, _⟩ => ⟨S1, .i32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg1 c3_i32
  let c1_i32 : BitVec 32 := 1#32
  let v1 : BitVec 32 := Scalar.subi arg1 c1_i32
  let c1_i32_0 : BitVec 32 := 1#32
  let v2 : BitVec 32 := Scalar.addi arg1 c1_i32_0
  let v3 : BitVec 32 := Scalar.select v0 v1 v2
  let c0 : Index := 0#32
  let v4 : BitVec 32 := pf.at 0 (Rect.unit (s := S1) ![0] S1.size inb_S1_S1_0) numel1_S1
  let v5 : BitVec 1 := Scalar.cmpi .eq arg1 v4
  let v6 : BitVec 32 := Scalar.select v5 v3 arg1
  let c0_i32 : BitVec 32 := 0#32
  let c0_i32_1 : BitVec 32 := 0#32
  let c0_i32_2 : BitVec 32 := 0#32
  ![v6.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DxRefIdeal.lean ====
abbrev S1 : Shape := ⟨1, ![1]⟩
abbrev S2048x7168 : Shape := ⟨2, ![2048, 7168]⟩
abbrev S4x1024x1792 : Shape := ⟨3, ![4, 1024, 1792]⟩
abbrev S1024x1792 : Shape := ⟨2, ![1024, 1792]⟩
abbrev S2048x1024 : Shape := ⟨2, ![2048, 1024]⟩
abbrev S_ : Shape := ⟨0, ![]⟩
abbrev S1x1024x1792 : Shape := ⟨3, ![1, 1024, 1792]⟩
abbrev S2048x4x1792 : Shape := ⟨3, ![2048, 4, 1792]⟩
abbrev S4x2048x1792 : Shape := ⟨3, ![4, 2048, 1792]⟩
abbrev S4x1792x2048 : Shape := ⟨3, ![4, 1792, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x7168, .bf16⟩
  | .hbm, ⟨2, _⟩ => ⟨S4x1024x1792, .bf16⟩
  | .hbm, ⟨3, _⟩ => ⟨S1024x1792, .bf16⟩
  | .hbm, ⟨4, _⟩ => ⟨S2048x1024, .f32⟩
  | .hbm, ⟨5, _⟩ => ⟨S4x1024x1792, .i32⟩
  | .hbm, ⟨6, _⟩ => ⟨S_, .i32⟩
  | .hbm, ⟨7, _⟩ => ⟨S4x1024x1792, .i32⟩
  | .hbm, ⟨8, _⟩ => ⟨S4x1024x1792, .i1⟩
  | .hbm, ⟨9, _⟩ => ⟨S1x1024x1792, .bf16⟩
  | .hbm, ⟨10, _⟩ => ⟨S4x1024x1792, .bf16⟩
  | .hbm, ⟨11, _⟩ => ⟨S4x1024x1792, .bf16⟩
  | .hbm, ⟨12, _⟩ => ⟨S4x1024x1792, .f32⟩
  | .hbm, ⟨13, _⟩ => ⟨S2048x7168, .f32⟩
  | .hbm, ⟨14, _⟩ => ⟨S2048x4x1792, .f32⟩
  | .hbm, ⟨15, _⟩ => ⟨S4x2048x1792, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S4x1792x2048, .f32⟩
  | .hbm, ⟨22, _⟩ => ⟨S4x2048x1792, .f32⟩
  | .hbm, ⟨23, _⟩ => ⟨S4x1792x2048, .f32⟩
  | .hbm, ⟨24, _⟩ => ⟨S2048x1024, .f32⟩
  | .hbm, ⟨25, _⟩ => ⟨S2048x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Merge.lean ====
abbrev S2048x7168 : Shape := ⟨2, ![2048, 7168]⟩
abbrev S2048x512 : Shape := ⟨2, ![2048, 512]⟩
abbrev S2048x1024 : Shape := ⟨2, ![2048, 1024]⟩
abbrev S2x1024 : Shape := ⟨2, ![2, 1024]⟩
abbrev S4x512x256 : Shape := ⟨3, ![4, 512, 256]⟩
abbrev S4x256x1024 : Shape := ⟨3, ![4, 256, 1024]⟩
abbrev S1x1024 : Shape := ⟨2, ![1, 1024]⟩
abbrev S1024x1024 : Shape := ⟨2, ![1024, 1024]⟩
abbrev S256x1024 : Shape := ⟨2, ![256, 1024]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 16
  | .vmem => 26
  | .smem => 0
  | _ => 0

abbrev bufTy : (tb : Table) → Fin (tcTables nBuf tb) → BufTy
  | .hbm, ⟨0, _⟩ => ⟨S2048x7168, .f32⟩
  | .hbm, ⟨1, _⟩ => ⟨S2048x512, .bf16⟩
  | .hbm, ⟨2, _⟩ => ⟨S2048x512, .bf16⟩
  | .hbm, ⟨3, _⟩ => ⟨S2048x1024, .f32⟩
  | .hbm, ⟨4, _⟩ => ⟨S2x1024, .f32⟩
  | .hbm, ⟨5, _⟩ => ⟨S4x512x256, .bf16⟩
  | .hbm, ⟨6, _⟩ => ⟨S4x512x256, .bf16⟩
  | .hbm, ⟨7, _⟩ => ⟨S4x256x1024, .bf16⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S2048x1024, .f32⟩
  | .hbm, ⟨15, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S2x1024, .f32⟩
  | .local _ .vmem, ⟨11, _⟩ => ⟨S4x512x256, .bf16⟩
  | .local _ .vmem, ⟨12, _⟩ => ⟨S4x512x256, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S2048x7168 : Shape := ⟨2, ![2048, 7168]⟩
abbrev S2048x512 : Shape := ⟨2, ![2048, 512]⟩
abbrev S2048x1024 : Shape := ⟨2, ![2048, 1024]⟩
abbrev S2x1024 : Shape := ⟨2, ![2, 1024]⟩
abbrev S4x512x256 : Shape := ⟨3, ![4, 512, 256]⟩
abbrev S4x256x1024 : Shape := ⟨3, ![4, 256, 1024]⟩
abbrev S1x1024 : Shape := ⟨2, ![1, 1024]⟩
abbrev S2048x4x256 : Shape := ⟨3, ![2048, 4, 256]⟩
abbrev S2048x2048 : Shape := ⟨2, ![2048, 2048]⟩
abbrev S_ : Shape := ⟨0, ![]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x512, .bf16⟩
  | .hbm, ⟨2, _⟩ => ⟨S2048x512, .bf16⟩
  | .hbm, ⟨3, _⟩ => ⟨S2048x1024, .f32⟩
  | .hbm, ⟨4, _⟩ => ⟨S2x1024, .f32⟩
  | .hbm, ⟨5, _⟩ => ⟨S4x512x256, .bf16⟩
  | .hbm, ⟨6, _⟩ => ⟨S4x512x256, .bf16⟩
  | .hbm, ⟨7, _⟩ => ⟨S4x256x1024, .bf16⟩
  | .hbm, ⟨8, _⟩ => ⟨S1x1024, .f32⟩
  | .hbm, ⟨9, _⟩ => ⟨S1x1024, .f32⟩
  | .hbm, ⟨10, _⟩ => ⟨S2048x512, .f32⟩
  | .hbm, ⟨11, _⟩ => ⟨S4x512x256, .f32⟩
  | .hbm, ⟨12, _⟩ => ⟨S2048x4x256, .f32⟩
  | .hbm, ⟨13, _⟩ => ⟨S2048x1024, .f32⟩
  | .hbm, ⟨14, _⟩ => ⟨S2048x512, .f32⟩
  | .hbm, ⟨15, _⟩ => ⟨S4x512x256, .f32⟩
  | .hbm, ⟨16, _⟩ => ⟨S2048x4x256, .f32⟩
  | .hbm, ⟨17, _⟩ => ⟨S2048x1024, .f32⟩
  | .hbm, ⟨18, _⟩ => ⟨S2048x2048, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S4x256x1024, .f32⟩
  | .hbm, ⟨50, _⟩ => ⟨S1024x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x1, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Unmerge.lean ====
abbrev S2048x1024 : Shape := ⟨2, ![2048, 1024]⟩
abbrev S2048x7168 : Shape := ⟨2, ![2048, 7168]⟩
abbrev S1x1024 : Shape := ⟨2, ![1, 1024]⟩
abbrev S2x1024 : Shape := ⟨2, ![2, 1024]⟩
abbrev S4x256x1024 : Shape := ⟨3, ![4, 256, 1024]⟩
abbrev S4x512x256 : Shape := ⟨3, ![4, 512, 256]⟩
abbrev S1024x1024 : Shape := ⟨2, ![1024, 1024]⟩
abbrev S2048x2048 : Shape := ⟨2, ![2048, 2048]⟩
abbrev S2048x512 : Shape := ⟨2, ![2048, 512]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x512x256 : Shape := ⟨3, ![1, 512, 256]⟩
abbrev S512x256 : Shape := ⟨2, ![512, 256]⟩
abbrev S1024 : Shape := ⟨1, ![1024]⟩

abbrev nBuf : Space → Nat
  | .hbm => 22
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x7168, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2x1024, .f32⟩
  | .hbm, ⟨8, _⟩ => ⟨S4x256x1024, .bf16⟩
  | .hbm, ⟨9, _⟩ => ⟨S4x512x256, .bf16⟩
  | .hbm, ⟨10, _⟩ => ⟨S4x512x256, .bf16⟩
  | .hbm, ⟨11, _⟩ => ⟨S1024x1024, .bf16⟩
  | .hbm, ⟨12, _⟩ => ⟨S2048x1024, .f32⟩
  | .hbm, ⟨13, _⟩ => ⟨S2048x1024, .bf16⟩
  | .hbm, ⟨14, _⟩ => ⟨S2048x1024, .bf16⟩
  | .hbm, ⟨15, _⟩ => ⟨S2048x2048, .bf16⟩
  | .hbm, ⟨16, _⟩ => ⟨S2048x512, .f32⟩
  | .hbm, ⟨17, _⟩ => ⟨S2048x512, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S2x1024, .f32⟩
  | .local _ .vmem, ⟨16, _⟩ => ⟨S1024x1024, .bf16⟩
  | .local _ .vmem, ⟨17, _⟩ => ⟨S4x512x256, .bf16⟩
  | .local _ .vmem, ⟨18, _⟩ => ⟨S4x512x256, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x2048, .bf16⟩
  | .local _ .vmem, ⟨26, _⟩ => ⟨S256x2048, .bf16⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33
abbrev cc0_sem21_0 : DmaSem sig := 34

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v133 : BitVec 1 := Scalar.cmpi .eq arg0 c0_i32
  let v134 : BitVec 32 := Scalar.extui v133
  let c0_i32_63 : BitVec 32 := 0#32
  let v135 : BitVec 1 := Scalar.cmpi .ne v134 c0_i32_63
  v135

def k0_cond2 (i : grid0.Coords) : BitVec 1 :=
  let arg0 : BitVec 32 := BitVec.ofNat 32 (i 0).val
  let c0_i32_64 : BitVec 32 := 0#32
  let v136 : BitVec 1 := Scalar.cmpi .sgt arg0 c0_i32_64
  let v137 : BitVec 32 := Scalar.extui v136
  let c0_i32_65 : BitVec 32 := 0#32
  let v138 : BitVec 1 := Scalar.cmpi .ne v137 c0_i32_65
  v138

def k0_cond3 (i : grid0.Coords) : BitVec 1 :=
  let arg0 : BitVec 32 := BitVec.ofNat 32 (i 0).val
  let c0_i32_66 : BitVec 32 := 0#32
  let v139 : BitVec 1 := Scalar.cmpi .eq arg0 c0_i32_66
  let v140 : BitVec 32 := Scalar.extui v139
  let c0_i32_67 : BitVec 32 := 0#32
  let v141 : BitVec 1 := Scalar.cmpi .ne v140 c0_i32_67
  v141

def k0_cond4 (i : grid0.Coords) : BitVec 1 :=
  let arg0 : BitVec 32 := BitVec.ofNat 32 (i 0).val
  let c0_i32_68 : BitVec 32 := 0#32
  let v142 : BitVec 1 := Scalar.cmpi .sgt arg0 c0_i32_68
  let v143 : BitVec 32 := Scalar.extui v142
  let c0_i32_69 : BitVec 32 := 0#32
  let v144 : BitVec 1 := Scalar.cmpi .ne v143 c0_i32_69
  v144

def k0_cond5 (i : grid0.Coords) : BitVec 1 :=
  let arg0 : BitVec 32 := BitVec.ofNat 32 (i 0).val
  let c0_i32_70 : BitVec 32 := 0#32
  let v145 : BitVec 1 := Scalar.cmpi .eq arg0 c0_i32_70
  let v146 : BitVec 32 := Scalar.extui v145
  let c0_i32_71 : BitVec 32 := 0#32
  let v147 : BitVec 1 := Scalar.cmpi .ne v146 c0_i32_71
  v147

def k0_cond6 (i : grid0.Coords) : BitVec 1 :=
  let arg0 : BitVec 32 := BitVec.ofNat 32 (i 0).val
  let c0_i32_72 : BitVec 32 := 0#32
  let v148 : BitVec 1 := Scalar.cmpi .sgt arg0 c0_i32_72
  let v149 : BitVec 32 := Scalar.extui v148
  let c0_i32_73 : BitVec 32 := 0#32
  let v150 : BitVec 1 := Scalar.cmpi .ne v149 c0_i32_73
  v150

def k0_cond7 (i : grid0.Coords) : BitVec 1 :=
  let arg0 : BitVec 32 := BitVec.ofNat 32 (i 0).val
  let c0_i32_74 : BitVec 32 := 0#32
  let v151 : BitVec 1 := Scalar.cmpi .eq arg0 c0_i32_74
  let v152 : BitVec 32 := Scalar.extui v151
  let c0_i32_75 : BitVec 32 := 0#32
  let v153 : BitVec 1 := Scalar.cmpi .ne v152 c0_i32_75
  v153

def k0_cond8 (i : grid0.Coords) : BitVec 1 :=
  let arg0 : BitVec 32 := BitVec.ofNat 32 (i 0).val
  let c0_i32_76 : BitVec 32 := 0#32
  let v154 : BitVec 1 := Scalar.cmpi .sgt arg0 c0_i32_76
  let v155 : BitVec 32 := Scalar.extui v154
  let c0_i32_77 : BitVec 32 := 0#32
  let v156 : BitVec 1 := Scalar.cmpi .ne v155 c0_i32_77
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== UnmergeRefIdeal.lean ====
abbrev S2048x1024 : Shape := ⟨2, ![2048, 1024]⟩
abbrev S2048x7168 : Shape := ⟨2, ![2048, 7168]⟩
abbrev S1x1024 : Shape := ⟨2, ![1, 1024]⟩
abbrev S2x1024 : Shape := ⟨2, ![2, 1024]⟩
abbrev S4x256x1024 : Shape := ⟨3, ![4, 256, 1024]⟩
abbrev S4x512x256 : Shape := ⟨3, ![4, 512, 256]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1024x1024 : Shape := ⟨2, ![1024, 1024]⟩
abbrev S2048x2048 : Shape := ⟨2, ![2048, 2048]⟩
abbrev S2048x512 : Shape := ⟨2, ![2048, 512]⟩
abbrev S2048x4x256 : Shape := ⟨3, ![2048, 4, 256]⟩

abbrev nBuf : Space → Nat
  | .hbm => 174
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x7168, .f32⟩
  | 4 => ⟨S2048x1024, .f32⟩
  | 5 => ⟨S2048x1024, .f32⟩
  | 6 => ⟨S1x1024, .f32⟩
  | 7 => ⟨S2x1024, .f32⟩
  | 8 => ⟨S4x256x1024, .bf16⟩
  | 9 => ⟨S4x512x256, .bf16⟩
  | 10 => ⟨S4x512x256, .bf16⟩
  | 11 => ⟨S_, .f32⟩
  | 12 => ⟨S2048x1024, .f32⟩
  | 13 => ⟨S2048x1024, .f32⟩
  | 14 => ⟨S2048x1024, .f32⟩
  | 15 => ⟨S_, .f32⟩
  | 16 => ⟨S1x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S2048x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S2048x1024, .f32⟩
  | 36 => ⟨S2048x1024, .f32⟩
  | 37 => ⟨S_, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S1024, .f32⟩
  | 53 => ⟨S1x1024, .f32⟩
  | 54 => ⟨S2048x1024, .f32⟩
  | 55 => ⟨S_, .f32⟩
  | 56 => ⟨S1024, .f32⟩
  | 57 => ⟨S1x1024, .f32⟩
  | 58 => ⟨S2048x1024, .f32⟩
  | 59 => ⟨S2048x1024, .f32⟩
  | 60 => ⟨S2048x1024, .f32⟩
  | 61 => ⟨S_, .f32⟩
  | 62 => ⟨S2048, .f32⟩
  | 63 => ⟨S2048x1, .f32⟩
  | 64 => ⟨S2048x1024, .f32⟩
  | 65 => ⟨S2048x1024, .f32⟩
  | 66 => ⟨S2048x1, .f32⟩
  | 67 => ⟨S2048x1024, .f32⟩
  | 68 => ⟨S_, .f32⟩
  | 69 => ⟨S2048, .f32⟩
  | 70 => ⟨S2048x1, .f32⟩
  | 71 => ⟨S_, .f32⟩
  | 72 => ⟨S2048x1, .f32⟩
  | 73 => ⟨S2048x1, .f32⟩
  | 74 => ⟨S_, .f32⟩
  | 75 => ⟨S2048, .f32⟩
  | 76 => ⟨S2048x1024, .f32⟩
  | 77 => ⟨S2048x1024, .f32⟩
  | 78 => ⟨S2048x1024, .f32⟩
  | 79 => ⟨S_, .f32⟩
  | 80 => ⟨S2048, .f32⟩
  | 81 => ⟨S2048x1, .f32⟩
  | 82 => ⟨S2048x1024, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048, .f32⟩
  | 89 => ⟨S2048x1024, .f32⟩
  | 90 => ⟨S2048x1024, .f32⟩
  | 91 => ⟨S4x256x1024, .f32⟩
  | 92 => ⟨S1024x1024, .f32⟩
  | 93 => ⟨S2048x2048, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S_, .f32⟩
  | 111 => ⟨S2048x1024, .f32⟩
  | 112 => ⟨S2048x1024, .f32⟩
  | 113 => ⟨S2048x1024, .f32⟩
  | 114 => ⟨S2048x1024, .f32⟩
  | 115 => ⟨S1x1024, .f32⟩
  | 116 => ⟨S2048x1024, .f32⟩
  | 117 => ⟨S2048x1024, .f32⟩
  | 118 => ⟨S2048x1024, .f32⟩
  | 119 => ⟨S2048x1024, .f32⟩
  | 120 => ⟨S_, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S_, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S_, .f32⟩
  | 11 => ⟨S1024, .f32⟩
  | 12 => ⟨S1x1024, .f32⟩
  | 13 => ⟨S_, .f32⟩
  | 14 => ⟨S2x1024, .f32⟩
  | 15 => ⟨S_, .f32⟩
  | 16 => ⟨S2048x2048, .f32⟩
  | 17 => ⟨S2048x1024, .f32⟩
  | 18 => ⟨S_, .f32⟩
  | 19 => ⟨S1024, .f32⟩
  | 20 => ⟨S1x1024, .f32⟩
  | 21 => ⟨S_, .f32⟩
  | 22 => ⟨S2x1024, .f32⟩
  | 23 => ⟨S2x1024, .f32⟩
  | 24 => ⟨S_, .f32⟩
  | 25 => ⟨S2048x2048, .f32⟩
  | 26 => ⟨S2048x2048, .f32⟩
  | 27 => ⟨S_, .f32⟩
  | 28 => ⟨S2048x512, .f32⟩
  | 29 => ⟨S4x512x256, .f32⟩
  | 30 => ⟨S2048x4x256, .f32⟩
  | 31 => ⟨S2048x1024, .f32⟩
  | 32 => ⟨S2048x4x256, .f32⟩
  | 33 => ⟨S2048x512, .f32⟩
  | 34 => ⟨S_, .f32⟩
  | 35 => ⟨S2048x512, .f32⟩
  | 36 => ⟨S4x512x256, .f32⟩
  | 37 => ⟨S2048x4x256, .f32⟩
  | 38 => ⟨S2048x1024, .f32⟩
  | 39 => ⟨S2048x4x256, .f32⟩
  | 40 => ⟨S2048x512, .f32⟩
  | 41 => ⟨S2048x1024, .bf16⟩
  | 42 => ⟨S2048x1024, .bf16⟩
  | 43 => ⟨S2048x2048, .bf16⟩
  | 44 => ⟨S1x1024, .f32⟩
  | 45 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_18 : Ref sig .tc := ⟨.hbm, 104, rfl⟩
abbrev main_v74 : Ref sig .tc := ⟨.hbm, 105, rfl⟩
abbrev main_v75 : Ref sig .tc := ⟨.hbm, 106, rfl⟩
abbrev main_cst_19 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_cst_22 : Ref sig .tc := ⟨.hbm, 123, rfl⟩
abbrev main_v89 : Ref sig .tc := ⟨.hbm, 124, rfl⟩
abbrev main_v90 : Ref sig .tc := ⟨.hbm, 125, rfl⟩
abbrev main_cst_23 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_cst_26 : Ref sig .tc := ⟨.hbm, 143, rfl⟩
abbrev main_v105 : Ref sig .tc := ⟨.hbm, 144, rfl⟩
abbrev main_v106 : Ref sig .tc := ⟨.hbm, 145, rfl⟩
abbrev main_cst_27 : Ref sig .tc := ⟨.hbm, 146, rfl⟩
abbrev main_v107 : Ref sig .tc := ⟨.hbm, 147, rfl⟩
abbrev main_v108 : Ref sig .tc := ⟨.hbm, 148, rfl⟩
abbrev main_cst_28 : Ref sig .tc := ⟨.hbm, 149, rfl⟩
abbrev main_v109 : Ref sig .tc := ⟨.hbm, 150, rfl⟩
abbrev main_v110 : Ref sig .tc := ⟨.hbm, 151, rfl⟩
abbrev main_cst_29 : Ref sig .tc := ⟨.hbm, 152, rfl⟩
abbrev main_v111 : Ref sig .tc := ⟨.hbm, 153, rfl⟩
abbrev main_v112 : Ref sig .tc := ⟨.hbm, 154, rfl⟩
abbrev main_cst_30 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩

abbrev nD : Nat := 1
abbrev τ : Topo := Topo.v7x

variable {F : FTy → Type} [FloatOps F]
-- ==== Loss.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S1x128 : Shape := ⟨2, ![1, 128]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_37 : BitVec 32 := 0#32
  let v78 : BitVec 1 := Scalar.cmpi .eq arg0 c0_i32_37
  let v79 : BitVec 32 := Scalar.extui v78
  let c0_i32_38 : BitVec 32 := 0#32
  let v80 : BitVec 1 := Scalar.cmpi .ne v79 c0_i32_38
  v80

def k0_cond5 (i : grid0.Coords) : BitVec 1 :=
  let arg0 : BitVec 32 := BitVec.ofNat 32 (i 0).val
  let c0_i32_39 : BitVec 32 := 0#32
  let v81 : BitVec 1 := Scalar.cmpi .sgt arg0 c0_i32_39
  let v82 : BitVec 32 := Scalar.extui v81
  let c0_i32_40 : BitVec 32 := 0#32
  let v83 : BitVec 1 := Scalar.cmpi .ne v82 c0_i32_40
  v83

def k0_cond6 (i : grid0.Coords) : BitVec 1 :=
  let arg0 : BitVec 32 := BitVec.ofNat 32 (i 0).val
  let c0_i32_41 : BitVec 32 := 0#32
  let v84 : BitVec 1 := Scalar.cmpi .eq arg0 c0_i32_41
  let v85 : BitVec 32 := Scalar.extui v84
  let c0_i32_42 : BitVec 32 := 0#32
  let v86 : BitVec 1 := Scalar.cmpi .ne v85 c0_i32_42
  v86

def k0_cond7 (i : grid0.Coords) : BitVec 1 :=
  let arg0 : BitVec 32 := BitVec.ofNat 32 (i 0).val
  let c0_i32_43 : BitVec 32 := 0#32
  let v87 : BitVec 1 := Scalar.cmpi .sgt arg0 c0_i32_43
  let v88 : BitVec 32 := Scalar.extui v87
  let c0_i32_44 : BitVec 32 := 0#32
  let v89 : BitVec 1 := Scalar.cmpi .ne v88 c0_i32_44
  v89

def k0_cond8 (i : grid0.Coords) : BitVec 1 :=
  let arg0 : BitVec 32 := BitVec.ofNat 32 (i 0).val
  let c0_i32_45 : BitVec 32 := 0#32
  let v90 : BitVec 1 := Scalar.cmpi .eq arg0 c0_i32_45
  let v91 : BitVec 32 := Scalar.extui v90
  let c0_i32_46 : BitVec 32 := 0#32
  let v92 : BitVec 1 := Scalar.cmpi .ne v91 c0_i32_46
  v92

def k0_cond9 (i : grid0.Coords) : BitVec 1 :=
  let arg0 : BitVec 32 := BitVec.ofNat 32 (i 0).val
  let c0_i32_47 : BitVec 32 := 0#32
  let v93 : BitVec 1 := Scalar.cmpi .sgt arg0 c0_i32_47
  let v94 : BitVec 32 := Scalar.extui v93
  let c0_i32_48 : BitVec 32 := 0#32
  let v95 : BitVec 1 := Scalar.cmpi .ne v94 c0_i32_48
  v95

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== LossRefIdeal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S4x2048x704, .f32⟩
  | .hbm, ⟨10, _⟩ => ⟨S4x704x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048x1, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1024, .f32⟩
  | .hbm, ⟨102, _⟩ => ⟨S2048x1, .f32⟩
  | .hbm, ⟨103, _⟩ => ⟨S_, .f32⟩
  | .hbm, ⟨104, _⟩ => ⟨S2048x1, .f32⟩
  | .hbm, ⟨105, _⟩ => ⟨S2048x1, .f32⟩
  | .hbm, ⟨106, _⟩ => ⟨S_, .f32⟩
  | .hbm, ⟨107, _⟩ => ⟨S2048, .f32⟩
  | .hbm, ⟨108, _⟩ => ⟨S2048x1024, .f32⟩
  | .hbm, ⟨109, _⟩ => ⟨S2048x1024, .f32⟩
  | .hbm, ⟨110, _⟩ => ⟨S1x128, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_cst_23 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== AdamIn.lean ====
abbrev S1 : Shape := ⟨1, ![1]⟩
abbrev S1024x1792 : Shape := ⟨2, ![1024, 1792]⟩
abbrev S512x1792 : Shape := ⟨2, ![512, 1792]⟩
abbrev S128x1792 : Shape := ⟨2, ![128, 1792]⟩

abbrev nBuf : Space → Nat
  | .hbm => 9
  | .vmem => 18
  | .smem => 1
  | _ => 0

abbrev bufTy : (tb : Table) → Fin (tcTables nBuf tb) → BufTy
  | .hbm, ⟨0, _⟩ => ⟨S1024x1792, .f32⟩
  | .hbm, ⟨1, _⟩ => ⟨S512x1792, .f32⟩
  | .hbm, ⟨2, _⟩ => ⟨S512x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | .local _ .vmem, ⟨16, _⟩ => ⟨S128x1792, .f32⟩
  | .local _ .vmem, ⟨17, _⟩ => ⟨S128x1792, .f32⟩
  | .local _ .smem, ⟨0, _⟩ => ⟨S1, .i32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1 : Shape := ⟨1, ![1]⟩
abbrev S1024x1792 : Shape := ⟨2, ![1024, 1792]⟩
abbrev S512x1792 : Shape := ⟨2, ![512, 1792]⟩
abbrev S128x1792 : Shape := ⟨2, ![128, 1792]⟩

abbrev nBuf : Space → Nat
  | .hbm => 9
  | .vmem => 18
  | .smem => 1
  | _ => 0

abbrev bufTy : (tb : Table) → Fin (tcTables nBuf tb) → BufTy
  | .hbm, ⟨0, _⟩ => ⟨S1024x1792, .f32⟩
  | .hbm, ⟨1, _⟩ => ⟨S512x1792, .f32⟩
  | .hbm, ⟨2, _⟩ => ⟨S512x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | .local _ .vmem, ⟨16, _⟩ => ⟨S128x1792, .f32⟩
  | .local _ .vmem, ⟨17, _⟩ => ⟨S128x1792, .f32⟩
  | .local _ .smem, ⟨0, _⟩ => ⟨S1, .i32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1 : Shape := ⟨1, ![1]⟩
abbrev S1024x1792 : Shape := ⟨2, ![1024, 1792]⟩
abbrev S512x1792 : Shape := ⟨2, ![512, 1792]⟩
abbrev S2x512x1792 : Shape := ⟨3, ![2, 512, 1792]⟩
abbrev S_ : Shape := ⟨0, ![]⟩
abbrev S1x512x1792 : Shape := ⟨3, ![1, 512, 1792]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1792, .f32⟩
  | .hbm, ⟨2, _⟩ => ⟨S512x1792, .f32⟩
  | .hbm, ⟨3, _⟩ => ⟨S512x1792, .f32⟩
  | .hbm, ⟨4, _⟩ => ⟨S1024x1792, .f32⟩
  | .hbm, ⟨5, _⟩ => ⟨S1024x1792, .f32⟩
  | .hbm, ⟨6, _⟩ => ⟨S2x512x1792, .i32⟩
  | .hbm, ⟨7, _⟩ => ⟨S_, .i32⟩
  | .hbm, ⟨8, _⟩ => ⟨S2x512x1792, .i32⟩
  | .hbm, ⟨9, _⟩ => ⟨S2x512x1792, .i1⟩
  | .hbm, ⟨10, _⟩ => ⟨S1x512x1792, .f32⟩
  | .hbm, ⟨11, _⟩ => ⟨S1x512x1792, .f32⟩
  | .hbm, ⟨12, _⟩ => ⟨S2x512x1792, .f32⟩
  | .hbm, ⟨13, _⟩ => ⟨S2x512x1792, .f32⟩
  | .hbm, ⟨14, _⟩ => ⟨S2x512x1792, .f32⟩
  | .hbm, ⟨15, _⟩ => ⟨S1024x1792, .f32⟩
  | .hbm, ⟨16, _⟩ => ⟨S_, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S1024x1792, .f32⟩
  | .hbm, ⟨23, _⟩ => ⟨S_, .f32⟩
  | .hbm, ⟨24, _⟩ => ⟨S1024x1792, .f32⟩
  | .hbm, ⟨25, _⟩ => ⟨S1024x1792, .f32⟩
  | .hbm, ⟨26, _⟩ => ⟨S1024x1792, .f32⟩
  | .hbm, ⟨27, _⟩ => ⟨S_, .f32⟩
  | .hbm, ⟨28, _⟩ => ⟨S1024x1792, .f32⟩
  | .hbm, ⟨29, _⟩ => ⟨S1024x1792, .f32⟩
  | .hbm, ⟨30, _⟩ => ⟨S1024x1792, .f32⟩
  | .hbm, ⟨31, _⟩ => ⟨S_, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | .hbm, ⟨37, _⟩ => ⟨S1024x1792, .f32⟩
  | .hbm, ⟨38, _⟩ => ⟨S_, .f32⟩
  | .hbm, ⟨39, _⟩ => ⟨S1024x1792, .f32⟩
  | .hbm, ⟨40, _⟩ => ⟨S1024x1792, .f32⟩
  | .hbm, ⟨41, _⟩ => ⟨S1024x1792, .f32⟩
  | .hbm, ⟨42, _⟩ => ⟨S_, .f32⟩
  | .hbm, ⟨43, _⟩ => ⟨S1024x1792, .f32⟩
  | .hbm, ⟨44, _⟩ => ⟨S1024x1792, .f32⟩
  | .hbm, ⟨45, _⟩ => ⟨S1024x1792, .f32⟩
  | .hbm, ⟨46, _⟩ => ⟨S_, .f32⟩
  | .hbm, ⟨47, _⟩ => ⟨S1024x1792, .f32⟩
  | .hbm, ⟨48, _⟩ => ⟨S1024x1792, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamFf.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfIdeal.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfRefIdeal.lean ====
abbrev S1 : Shape := ⟨1, ![1]⟩
abbrev S704x1024 : Shape := ⟨2, ![704, 1024]⟩
abbrev S352x1024 : Shape := ⟨2, ![352, 1024]⟩
abbrev S2x352x1024 : Shape := ⟨3, ![2, 352, 1024]⟩
abbrev S_ : Shape := ⟨0, ![]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S2x352x1024, .i32⟩
  | .hbm, ⟨7, _⟩ => ⟨S_, .i32⟩
  | .hbm, ⟨8, _⟩ => ⟨S2x352x1024, .i32⟩
  | .hbm, ⟨9, _⟩ => ⟨S2x352x1024, .i1⟩
  | .hbm, ⟨10, _⟩ => ⟨S1x352x1024, .f32⟩
  | .hbm, ⟨11, _⟩ => ⟨S1x352x1024, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamOut.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1 : Shape := ⟨1, ![1]⟩
abbrev S256x1024 : Shape := ⟨2, ![256, 1024]⟩
abbrev S128x1024 : Shape := ⟨2, ![128, 1024]⟩
abbrev S2x128x1024 : Shape := ⟨3, ![2, 128, 1024]⟩
abbrev S_ : Shape := ⟨0, ![]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S2x128x1024, .i32⟩
  | .hbm, ⟨7, _⟩ => ⟨S_, .i32⟩
  | .hbm, ⟨8, _⟩ => ⟨S2x128x1024, .i32⟩
  | .hbm, ⟨9, _⟩ => ⟨S2x128x1024, .i1⟩
  | .hbm, ⟨10, _⟩ => ⟨S1x128x1024, .f32⟩
  | .hbm, ⟨11, _⟩ => ⟨S1x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamBr.lean ====
abbrev S1 : Shape := ⟨1, ![1]⟩
abbrev S512x256 : Shape := ⟨2, ![512, 256]⟩
abbrev S256x256 : Shape := ⟨2, ![256, 256]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBrRefIdeal.lean ====
abbrev S1 : Shape := ⟨1, ![1]⟩
abbrev S512x256 : Shape := ⟨2, ![512, 256]⟩
abbrev S256x256 : Shape := ⟨2, ![256, 256]⟩
abbrev S2x256x256 : Shape := ⟨3, ![2, 256, 256]⟩
abbrev S_ : Shape := ⟨0, ![]⟩
abbrev S1x256x256 : Shape := ⟨3, ![1, 256, 256]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S2x256x256, .i32⟩
  | .hbm, ⟨7, _⟩ => ⟨S_, .i32⟩
  | .hbm, ⟨8, _⟩ => ⟨S2x256x256, .i32⟩
  | .hbm, ⟨9, _⟩ => ⟨S2x256x256, .i1⟩
  | .hbm, ⟨10, _⟩ => ⟨S1x256x256, .f32⟩
  | .hbm, ⟨11, _⟩ => ⟨S1x256x256, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S_, .f32⟩
  | .hbm, ⟨47, _⟩ => ⟨S512x256, .f32⟩
  | .hbm, ⟨48, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Sums.lean ====
/-
  Products of matrices on the extended reals, read at an index: a contraction over one axis re-indexed by that axis's
  coordinate, with both operands' indices named.
-/
module

public import Idealize.ShloMosaic.Lib.ValueIdxCore
public import Idealize.ShloMosaic.PureOps.Ideal.Laws

@[expose] public section

noncomputable section

open scoped BigOperators

namespace Cert.Sums

open Idealize.ShloMosaic Idealize.ShloMosaic.ValueIdx

/-- A contraction over ONE axis of extent `n`: the sum over the contraction index is the sum over the coordinate, once
    the two operands' indices at a coordinate are known (`hl`, `hg`). -/
theorem sum_contr {sl sr so : Shape} (d : DotDims sl sr so) (n : Nat) (hr : d.contr.rank = 1)
    (hs : d.contr.size ⟨0, by omega⟩ = n) (L : sl.Idx → EReal) (R : sr.Idx → EReal) (j : so.Idx)
    (l : Fin n → sl.Idx) (g : Fin n → sr.Idx)
    (hl : ∀ k, d.lhsIdx j ((contrEquiv1 d n hr hs).symm k) = l k)
    (hg : ∀ k, d.rhsIdx j ((contrEquiv1 d n hr hs).symm k) = g k) :
    ∑ q : d.contr.Idx, L (d.lhsIdx j q) * R (d.rhsIdx j q) = ∑ k : Fin n, L (l k) * R (g k) := by
  rw [← Equiv.sum_comp (contrEquiv1 d n hr hs).symm]
  exact Finset.sum_congr rfl fun k _ => by rw [hl k, hg k]

/-- A kernel's product into the zero splat, read at an index: the sum over the contracted coordinate. -/
theorem matmul_at {sl sr so : Shape} {φ₁ φ₂ : FTy} (d : DotDims sl sr so) (n : Nat) (hr : d.contr.rank = 1)
    (hs : d.contr.size ⟨0, by omega⟩ = n) (prec : Option ContractPrecision)
    (L : FVec Ideal sl φ₁) (R : FVec Ideal sr φ₂) (j : so.Idx)
    (l : Fin n → sl.Idx) (g : Fin n → sr.Idx)
    (hl : ∀ k, d.lhsIdx j ((contrEquiv1 d n hr hs).symm k) = l k)
    (hg : ∀ k, d.rhsIdx j ((contrEquiv1 d n hr hs).symm k) = g k) :
    matmul d prec L R (constant so .f32 0x00000000#32) j = ∑ k : Fin n, L (l k) * R (g k) := by
  rw [show matmul d prec L R (constant so .f32 0x00000000#32) j
      = FloatOps.matmul d prec L R (constant so .f32 0x00000000#32) j from rfl, Ideal.matmul_constant_zero_apply]
  exact sum_contr d n hr hs L R j l g hl hg

theorem at2_0 {n m : Nat} (a : Fin n) (b : Fin m) : ix2 a b 0 = a := rfl
theorem at2_1 {n m : Nat} (a : Fin n) (b : Fin m) : ix2 a b 1 = b := rfl
theorem at3_0 {n m l : Nat} (a : Fin n) (b : Fin m) (c : Fin l) : ix3 a b c 0 = a := rfl
theorem at3_1 {n m l : Nat} (a : Fin n) (b : Fin m) (c : Fin l) : ix3 a b c 1 = b := rfl
theorem at3_2 {n m l : Nat} (a : Fin n) (b : Fin m) (c : Fin l) : ix3 a b c 2 = c := rfl

end Cert.Sums

end
-- ==== Proof.Ffn.Up.lean ====
/-
  The first region of the feed-forward gradient (`ffn_up`): its three result arrays as whole-array functions of the
  region's arguments — the two products of the rows with the gate and up weights, and the gated product.
-/
module

public import proofs.«01_k».proof.Proof.Sums
public import proofs.«01_k».proof.Proof.Gen.FfnGradIdeal.Frame
public import Idealize.ShloMosaic.Lib.Pipeline.Value
public import Idealize.ShloMosaic.Lib.Pipeline.ValueKit
public import Idealize.ShloMosaic.Lib.ValueLayout
public import Idealize.ShloMosaic.Lib.ValueIdx

@[expose] public section

noncomputable section

open scoped BigOperators

namespace Cert.Proof.Ffn

open Idealize.ShloMosaic hiding ix1 ix2 ix3 eq_ix1 eq_ix2 eq_ix3
open Idealize.ShloMosaic.TcCoe Idealize.ShloMosaic.ValueIdx Idealize.SL.Sem
open Cert.FfnGradIdeal Cert.FfnGradIdeal.Gen Cert.Sums

/-- The product of the rows `H` with the weights `W`, one slab `k` of the hidden units at a time. -/
def slabs (H : S2048x1024.Idx → EReal) (W : S4x704x1024.Idx → EReal) : S4x2048x704.Idx → EReal :=
  fun i => ∑ d : Fin 1024, H (ix2 ⟨(i 1).val, (i 1).isLt⟩ d) * W (ix3 ⟨(i 0).val, (i 0).isLt⟩ ⟨(i 2).val, (i 2).isLt⟩ d)

/-- The gated product of two such arrays. -/
def gated (A B : S4x2048x704.Idx → EReal) : S4x2048x704.Idx → EReal :=
  fun i => A i * Ideal.logistic (A i) * B i

/-- Row `r` of a block of rows against hidden unit `f` of one slab of weights. -/
def rowDot (x0 : S1024x1024.Idx → EReal) (w : S1x704x1024.Idx → EReal) (r : Fin 1024) (f : Fin 704) : EReal :=
  ∑ d : Fin 1024, x0 (ix2 r d) * w (ix3 0 f d)

/-- A block of rows times one slab of weights, read at an index. -/
theorem rows_slab {φ : FTy} (x0 : FVec Ideal S1024x1024 φ) (w : FVec Ideal S1x704x1024 .bf16) (r : Fin 1024) (f : Fin 704) :
    matmul (F := Ideal) dot_S1024x1024_S704x1024_S1024x704_1_1_0_0_n_n none x0
        (shapeCast S704x1024 w shapeCasts_S1x704x1024_S704x1024) (constant S1024x704 .f32 0x00000000#32) (ix2 r f)
      = rowDot x0 w r f := by
  rw [matmul_at dot_S1024x1024_S704x1024_S1024x704_1_1_0_0_n_n 1024 rfl rfl none _ _ _ (fun d => ix2 r d) (fun d => ix2 f d)
    (fun k => funext fun a => Fin.ext (match a with | ⟨0, _⟩ => rfl | ⟨1, _⟩ => rfl))
    (fun k => funext fun a => Fin.ext (match a with | ⟨0, _⟩ => rfl | ⟨1, _⟩ => rfl))]
  exact Finset.sum_congr rfl fun d _ => by rw [shapeCast_1ab_ab_apply]

theorem pay2_at (x0 : Vec Ideal S1024x1024 .f32) (w : Vec Ideal S1x704x1024 .bf16) (r : Fin 1024) (f : Fin 704) :
    k0_pay2 x0 w (ix2 r f) = rowDot x0 w r f := rows_slab _ _ _ _
theorem pay3_at (x0 : Vec Ideal S1024x1024 .f32) (w : Vec Ideal S1x704x1024 .bf16) (r : Fin 1024) (f : Fin 704) :
    k0_pay3 x0 w (ix2 r f) = rowDot x0 w r f := rows_slab _ _ _ _

theorem pay4_at (x0 : Vec Ideal S1024x1024 .f32) (w : Vec Ideal S1x704x1024 .bf16) (u : Fin 1) (r : Fin 1024) (f : Fin 704) :
    k0_pay4 x0 w (ix3 u r f) = rowDot x0 w r f := by
  unfold k0_pay4
  exact (shapeCast_ab_1ab_apply _ _ _ _ _).trans (pay2_at _ _ _ _)

theorem pay5_at (x0 : Vec Ideal S1024x1024 .f32) (w : Vec Ideal S1x704x1024 .bf16) (u : Fin 1) (r : Fin 1024) (f : Fin 704) :
    k0_pay5 x0 w (ix3 u r f) = rowDot x0 w r f := by
  unfold k0_pay5
  exact (shapeCast_ab_1ab_apply _ _ _ _ _).trans (pay3_at _ _ _ _)

theorem pay6_at (x0 : Vec Ideal S1024x1024 .f32) (w w' : Vec Ideal S1x704x1024 .bf16) (u : Fin 1) (r : Fin 1024)
    (f : Fin 704) :
    k0_pay6 x0 w w' (ix3 u r f)
      = rowDot x0 w r f * Ideal.logistic (rowDot x0 w r f)
          * rowDot x0 w' r f := by
  unfold k0_pay6
  refine (shapeCast_ab_1ab_apply _ _ _ _ _).trans ?_
  rw [← pay2_at, ← pay3_at]
  rfl

variable (V : (c : Dev nD) → (b : Ref sig .tc) → Buf (Elt Ideal) ((c : Thread nD τ).loc b))

theorem idx0_0 : ∀ t : Fin cfg0.N, win0_0.index t = ![t.val / 4, 0] := (by decide +kernel : ∀ t : Fin grid0.N, _)
theorem idx0_1 : ∀ t : Fin cfg0.N, win0_1.index t = ![t.val % 4, 0, 0] := (by decide +kernel : ∀ t : Fin grid0.N, _)
theorem idx0_2 : ∀ t : Fin cfg0.N, win0_2.index t = ![t.val % 4, 0, 0] := (by decide +kernel : ∀ t : Fin grid0.N, _)
theorem idx0_3 : ∀ t : Fin cfg0.N, win0_3.index t = ![t.val % 4, t.val / 4, 0] := (by decide +kernel : ∀ t : Fin grid0.N, _)
theorem idx0_4 : ∀ t : Fin cfg0.N, win0_4.index t = ![t.val % 4, t.val / 4, 0] := (by decide +kernel : ∀ t : Fin grid0.N, _)
theorem idx0_5 : ∀ t : Fin cfg0.N, win0_5.index t = ![t.val % 4, t.val / 4, 0] := (by decide +kernel : ∀ t : Fin grid0.N, _)

/-- One slab of one block of rows is the slab of the whole product at the block's place. -/
theorem slab3_1 (c : Dev nD) (t : Fin cfg0.N) (u : Fin 1) (r : Fin 1024) (f : Fin 704) :
    rowDot (iblk0 V c 0 t) (iblk0 V c 1 t) r f
      = slabs (V c main_arg0) (V c main_arg1) (((View.whole main_v0_0).slice (win0_3.rect t)).emb (ix3 u r f)) := by
  unfold rowDot slabs
  refine Finset.sum_congr rfl fun d _ => ?_
  blk_simp [iblk0, idx0_0, idx0_1, idx0_3]
  congr 2
  · blk_ext [idx0_0, idx0_3, at2_0, at2_1, at3_0, at3_1, at3_2]
  · blk_ext [idx0_1, idx0_3, at2_0, at2_1, at3_0, at3_1, at3_2]

/-- One slab of one block of rows is the slab of the whole product at the block's place. -/
theorem slab4_2 (c : Dev nD) (t : Fin cfg0.N) (u : Fin 1) (r : Fin 1024) (f : Fin 704) :
    rowDot (iblk0 V c 0 t) (iblk0 V c 2 t) r f
      = slabs (V c main_arg0) (V c main_arg2) (((View.whole main_v0_1).slice (win0_4.rect t)).emb (ix3 u r f)) := by
  unfold rowDot slabs
  refine Finset.sum_congr rfl fun d _ => ?_
  blk_simp [iblk0, idx0_0, idx0_2, idx0_4]
  congr 2
  · blk_ext [idx0_0, idx0_4, at2_0, at2_1, at3_0, at3_1, at3_2]
  · blk_ext [idx0_2, idx0_4, at2_0, at2_1, at3_0, at3_1, at3_2]

/-- One slab of one block of rows is the slab of the whole product at the block's place. -/
theorem slab5_1 (c : Dev nD) (t : Fin cfg0.N) (u : Fin 1) (r : Fin 1024) (f : Fin 704) :
    rowDot (iblk0 V c 0 t) (iblk0 V c 1 t) r f
      = slabs (V c main_arg0) (V c main_arg1) (((View.whole main_v0_2).slice (win0_5.rect t)).emb (ix3 u r f)) := by
  unfold rowDot slabs
  refine Finset.sum_congr rfl fun d _ => ?_
  blk_simp [iblk0, idx0_0, idx0_1, idx0_5]
  congr 2
  · blk_ext [idx0_0, idx0_5, at2_0, at2_1, at3_0, at3_1, at3_2]
  · blk_ext [idx0_1, idx0_5, at2_0, at2_1, at3_0, at3_1, at3_2]

/-- One slab of one block of rows is the slab of the whole product at the block's place. -/
theorem slab5_2 (c : Dev nD) (t : Fin cfg0.N) (u : Fin 1) (r : Fin 1024) (f : Fin 704) :
    rowDot (iblk0 V c 0 t) (iblk0 V c 2 t) r f
      = slabs (V c main_arg0) (V c main_arg2) (((View.whole main_v0_2).slice (win0_5.rect t)).emb (ix3 u r f)) := by
  unfold rowDot slabs
  refine Finset.sum_congr rfl fun d _ => ?_
  blk_simp [iblk0, idx0_0, idx0_2, idx0_5]
  congr 2
  · blk_ext [idx0_0, idx0_5, at2_0, at2_1, at3_0, at3_1, at3_2]
  · blk_ext [idx0_2, idx0_5, at2_0, at2_1, at3_0, at3_1, at3_2]

/-- The gate product's array after the region. -/
theorem final0_3 (c : Dev nD) : (dat0 V c).arrAt 3 cfg0.N = slabs (V c main_arg0) (V c main_arg1) := by
  refine (dat0 V c).arrAt_eq_of_covers 3 _ (by decide +kernel) fun t hf y => ?_
  blk_simp
  rw [after0_3]
  frame_out
  obtain ⟨u, r, f, rfl⟩ : ∃ (u : Fin 1) (r : Fin 1024) (f : Fin 704), y = ix3 u r f := ⟨y 0, y 1, y 2, eq_ix3 y⟩
  rw [pay4_at]
  exact slab3_1 V c t u r f

/-- The up product's array after the region. -/
theorem final0_4 (c : Dev nD) : (dat0 V c).arrAt 4 cfg0.N = slabs (V c main_arg0) (V c main_arg2) := by
  refine (dat0 V c).arrAt_eq_of_covers 4 _ (by decide +kernel) fun t hf y => ?_
  blk_simp
  rw [after0_4]
  frame_out
  obtain ⟨u, r, f, rfl⟩ : ∃ (u : Fin 1) (r : Fin 1024) (f : Fin 704), y = ix3 u r f := ⟨y 0, y 1, y 2, eq_ix3 y⟩
  rw [pay5_at]
  exact slab4_2 V c t u r f

/-- The gated product's array after the region. -/
theorem final0_5 (c : Dev nD) : (dat0 V c).arrAt 5 cfg0.N = gated (slabs (V c main_arg0) (V c main_arg1)) (slabs (V c main_arg0) (V c main_arg2)) := by
  refine (dat0 V c).arrAt_eq_of_covers 5 _ (by decide +kernel) fun t hf y => ?_
  blk_simp
  rw [after0_5]
  frame_out
  obtain ⟨u, r, f, rfl⟩ : ∃ (u : Fin 1) (r : Fin 1024) (f : Fin 704), y = ix3 u r f := ⟨y 0, y 1, y 2, eq_ix3 y⟩
  rw [pay6_at]
  rw [slab5_1 V c t u r f, slab5_2 V c t u r f]
  rfl

end Cert.Proof.Ffn

end
-- ==== Proof.Ffn.Down.lean ====
/-
  The second region of the feed-forward gradient (`ffn_down_bwd`): from the output gradient, the down weights and the two
  saved products, the gradients of the two products, as whole arrays.
-/
module

public import proofs.«01_k».proof.Proof.Ffn.Up

@[expose] public section

noncomputable section

open scoped BigOperators

namespace Cert.Proof.Ffn

open Idealize.ShloMosaic hiding ix1 ix2 ix3 eq_ix1 eq_ix2 eq_ix3
open Idealize.ShloMosaic.TcCoe Idealize.ShloMosaic.ValueIdx Idealize.SL.Sem
open Cert.FfnGradIdeal Cert.FfnGradIdeal.Gen Cert.Sums

/-- The float word of one. -/
abbrev one : EReal := (Scalar.ofBits (F := Ideal) .f32 0x3F800000#32 : Ideal .f32)

/-- One element of the gate product's gradient: `g` the gradient of the gated product, `a` and `b` the two products. -/
def gateGrad (g a b : EReal) : EReal := g * b * Ideal.logistic a * (one + a * (one - Ideal.logistic a))

/-- One element of the up product's gradient. -/
def upGrad (g a : EReal) : EReal := g * a * Ideal.logistic a

theorem down_at (x0 : Vec Ideal S1024x1024 .f32) (w : Vec Ideal S1x704x1024 .bf16) (r : Fin 1024) (f : Fin 704) :
    k1_pay1 x0 w (ix2 r f) = rowDot x0 w r f := rows_slab _ _ _ _

theorem saved_at (a : Vec Ideal S1x1024x704 .f32) (r : Fin 1024) (f : Fin 704) :
    k1_pay2 a (ix2 r f) = a (ix3 0 r f) := shapeCast_1ab_ab_apply _ _ _ _

theorem gate_at (x0 : Vec Ideal S1024x1024 .f32) (w : Vec Ideal S1x704x1024 .bf16) (a b : Vec Ideal S1x1024x704 .f32)
    (u : Fin 1) (r : Fin 1024) (f : Fin 704) :
    k1_pay4 x0 w a b (ix3 u r f) = gateGrad (rowDot x0 w r f) (a (ix3 0 r f)) (b (ix3 0 r f)) := by
  unfold k1_pay4
  refine (shapeCast_ab_1ab_apply _ _ _ _ _).trans ?_
  unfold gateGrad
  rw [← down_at, ← saved_at a, ← shapeCast_1ab_ab_apply b shapeCasts_S1x1024x704_S1024x704]
  rfl

theorem up_at (x0 : Vec Ideal S1024x1024 .f32) (w : Vec Ideal S1x704x1024 .bf16) (a : Vec Ideal S1x1024x704 .f32)
    (u : Fin 1) (r : Fin 1024) (f : Fin 704) :
    k1_pay5 x0 w a (ix3 u r f) = upGrad (rowDot x0 w r f) (a (ix3 0 r f)) := by
  unfold k1_pay5
  refine (shapeCast_ab_1ab_apply _ _ _ _ _).trans ?_
  unfold upGrad
  rw [← down_at, ← saved_at a]
  rfl

variable (V : (c : Dev nD) → (b : Ref sig .tc) → Buf (Elt Ideal) ((c : Thread nD τ).loc b))

theorem idx1_0 : ∀ t : Fin cfg1.N, win1_0.index t = ![t.val / 4, 0] := (by decide +kernel : ∀ t : Fin grid1.N, _)
theorem idx1_1 : ∀ t : Fin cfg1.N, win1_1.index t = ![t.val % 4, 0, 0] := (by decide +kernel : ∀ t : Fin grid1.N, _)
theorem idx1_2 : ∀ t : Fin cfg1.N, win1_2.index t = ![t.val % 4, t.val / 4, 0] := (by decide +kernel : ∀ t : Fin grid1.N, _)
theorem idx1_3 : ∀ t : Fin cfg1.N, win1_3.index t = ![t.val % 4, t.val / 4, 0] := (by decide +kernel : ∀ t : Fin grid1.N, _)
theorem idx1_4 : ∀ t : Fin cfg1.N, win1_4.index t = ![t.val % 4, t.val / 4, 0] := (by decide +kernel : ∀ t : Fin grid1.N, _)
theorem idx1_5 : ∀ t : Fin cfg1.N, win1_5.index t = ![t.val % 4, t.val / 4, 0] := (by decide +kernel : ∀ t : Fin grid1.N, _)

/-- One slab of one block of the gated product's gradient, at the gate gradient's place. -/
theorem dslab4 (c : Dev nD) (t : Fin cfg1.N) (u : Fin 1) (r : Fin 1024) (f : Fin 704) :
    rowDot (iblk1 V c 0 t) (iblk1 V c 1 t) r f
      = slabs (V c main_arg4) (V c main_arg3) (((View.whole main_v1_0).slice (win1_4.rect t)).emb (ix3 u r f)) := by
  unfold rowDot slabs
  refine Finset.sum_congr rfl fun d _ => ?_
  blk_simp [iblk1, idx1_0, idx1_1, idx1_4]
  congr 2
  · blk_ext [idx1_0, idx1_4, at2_0, at2_1, at3_0, at3_1, at3_2]
  · blk_ext [idx1_1, idx1_4, at2_0, at2_1, at3_0, at3_1, at3_2]

/-- The same at the up gradient's place. -/
theorem dslab5 (c : Dev nD) (t : Fin cfg1.N) (u : Fin 1) (r : Fin 1024) (f : Fin 704) :
    rowDot (iblk1 V c 0 t) (iblk1 V c 1 t) r f
      = slabs (V c main_arg4) (V c main_arg3) (((View.whole main_v1_1).slice (win1_5.rect t)).emb (ix3 u r f)) := by
  unfold rowDot slabs
  refine Finset.sum_congr rfl fun d _ => ?_
  blk_simp [iblk1, idx1_0, idx1_1, idx1_5]
  congr 2
  · blk_ext [idx1_0, idx1_5, at2_0, at2_1, at3_0, at3_1, at3_2]
  · blk_ext [idx1_1, idx1_5, at2_0, at2_1, at3_0, at3_1, at3_2]

/-- The gate product's gradient after the region. -/
theorem final1_4 (c : Dev nD) : (dat1 V c).arrAt 4 cfg1.N
    = fun i => gateGrad (slabs (V c main_arg4) (V c main_arg3) i) (V c main_v0_0 i) (V c main_v0_1 i) := by
  refine (dat1 V c).arrAt_eq_of_covers 4 _ (by decide +kernel) fun t hf y => ?_
  blk_simp
  rw [after1_4]
  frame_out
  obtain ⟨u, r, f, rfl⟩ : ∃ (u : Fin 1) (r : Fin 1024) (f : Fin 704), y = ix3 u r f := ⟨y 0, y 1, y 2, eq_ix3 y⟩
  rw [gate_at, dslab4 V c t u r f]
  congr 1
  · blk_simp [iblk1, idx1_2, idx1_4]
    blk_ext [idx1_2, idx1_4, at2_0, at2_1, at3_0, at3_1, at3_2]
  · blk_simp [iblk1, idx1_3, idx1_4]
    blk_ext [idx1_3, idx1_4, at2_0, at2_1, at3_0, at3_1, at3_2]

/-- The up product's gradient after the region. -/
theorem final1_5 (c : Dev nD) : (dat1 V c).arrAt 5 cfg1.N
    = fun i => upGrad (slabs (V c main_arg4) (V c main_arg3) i) (V c main_v0_0 i) := by
  refine (dat1 V c).arrAt_eq_of_covers 5 _ (by decide +kernel) fun t hf y => ?_
  blk_simp
  rw [after1_5]
  frame_out
  obtain ⟨u, r, f, rfl⟩ : ∃ (u : Fin 1) (r : Fin 1024) (f : Fin 704), y = ix3 u r f := ⟨y 0, y 1, y 2, eq_ix3 y⟩
  rw [up_at, dslab5 V c t u r f]
  congr 1
  blk_simp [iblk1, idx1_2, idx1_5]
  blk_ext [idx1_2, idx1_5, at2_0, at2_1, at3_0, at3_1, at3_2]

end Cert.Proof.Ffn

end
-- ==== Proof.Ffn.Grads.lean ====
/-
  The three weight gradients of the feed-forward gradient: each region contracts one saved array with rows over the
  tokens, one slab of hidden units at a point.
-/
module

public import proofs.«01_k».proof.Proof.Ffn.Up

@[expose] public section

noncomputable section

open scoped BigOperators

namespace Cert.Proof.Ffn

open Idealize.ShloMosaic hiding ix1 ix2 ix3 eq_ix1 eq_ix2 eq_ix3
open Idealize.ShloMosaic.TcCoe Idealize.ShloMosaic.ValueIdx Idealize.SL.Sem
open Cert.FfnGradIdeal Cert.FfnGradIdeal.Gen Cert.Sums

/-- The contraction over the tokens of a saved array `A` with rows `X`. -/
def overTokens (A : S4x2048x704.Idx → EReal) (X : S2048x1024.Idx → EReal) : S4x704x1024.Idx → EReal :=
  fun i => ∑ n : Fin 2048, A (ix3 ⟨(i 0).val, (i 0).isLt⟩ n ⟨(i 1).val, (i 1).isLt⟩) * X (ix2 n ⟨(i 2).val, (i 2).isLt⟩)

/-- One slab's contraction over the tokens. -/
def tokenDot (a : S1x2048x704.Idx → EReal) (x : S2048x1024.Idx → EReal) (f : Fin 704) (d : Fin 1024) : EReal :=
  ∑ n : Fin 2048, a (ix3 0 n f) * x (ix2 n d)

/-- A slab's transpose times the rows, read at an index. -/
theorem slab_rows {φ : FTy} (x : FVec Ideal S2048x1024 φ) (a : FVec Ideal S1x2048x704 .bf16) (f : Fin 704) (d : Fin 1024) :
    matmul (F := Ideal) dot_S2048x704_S2048x1024_S704x1024_0_0_1_1_n_n none
        (shapeCast S2048x704 a shapeCasts_S1x2048x704_S2048x704) x (constant S704x1024 .f32 0x00000000#32) (ix2 f d)
      = tokenDot a x f d := by
  rw [matmul_at dot_S2048x704_S2048x1024_S704x1024_0_0_1_1_n_n 2048 rfl rfl none _ _ _ (fun n => ix2 n f) (fun n => ix2 n d)
    (fun k => funext fun a => Fin.ext (match a with | ⟨0, _⟩ => rfl | ⟨1, _⟩ => rfl))
    (fun k => funext fun a => Fin.ext (match a with | ⟨0, _⟩ => rfl | ⟨1, _⟩ => rfl))]
  exact Finset.sum_congr rfl fun n _ => by rw [shapeCast_1ab_ab_apply]

variable (V : (c : Dev nD) → (b : Ref sig .tc) → Buf (Elt Ideal) ((c : Thread nD τ).loc b))

theorem pay2_tok (a : Vec Ideal S1x2048x704 .bf16) (x : Vec Ideal S2048x1024 .f32) (u : Fin 1) (f : Fin 704) (d : Fin 1024) :
    k2_pay1 a x (ix3 u f d) = tokenDot a x f d := by
  unfold k2_pay1
  exact (shapeCast_ab_1ab_apply _ _ _ _ _).trans (slab_rows (φ := .bf16) x a f d)

theorem idx2_0 : ∀ t : Fin cfg2.N, win2_0.index t = ![t.val, 0, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val, 0, 0] := (by decide +kernel : ∀ t : Fin grid2.N, _)

/-- One point's contraction is the whole one's slab at the block's place. -/
theorem tok2 (c : Dev nD) (t : Fin cfg2.N) (u : Fin 1) (f : Fin 704) (d : Fin 1024) :
    tokenDot (iblk2 V c 0 t) (iblk2 V c 1 t) f d
      = overTokens (V c main_v0_2) (V c main_arg4) (((View.whole main_v2).slice (win2_2.rect t)).emb (ix3 u f d)) := by
  unfold tokenDot overTokens
  refine Finset.sum_congr rfl fun n _ => ?_
  blk_simp [iblk2, idx2_0, idx2_1, idx2_2]
  congr 2
  · blk_ext [idx2_0, idx2_2, at2_0, at2_1, at3_0, at3_1, at3_2]
  · blk_ext [idx2_1, idx2_2, at2_0, at2_1, at3_0, at3_1, at3_2]

/-- The down weights' gradient after its region. -/
theorem final2_2 (c : Dev nD) : (dat2 V c).arrAt 2 cfg2.N = overTokens (V c main_v0_2) (V c main_arg4) := by
  refine (dat2 V c).arrAt_eq_of_covers 2 _ (by decide +kernel) fun t hf y => ?_
  blk_simp
  rw [after2_2]
  frame_out
  obtain ⟨u, f, d, rfl⟩ : ∃ (u : Fin 1) (f : Fin 704) (d : Fin 1024), y = ix3 u f d := ⟨y 0, y 1, y 2, eq_ix3 y⟩
  rw [pay2_tok]
  exact tok2 V c t u f d

theorem pay3_tok (a : Vec Ideal S1x2048x704 .bf16) (x : Vec Ideal S2048x1024 .f32) (u : Fin 1) (f : Fin 704) (d : Fin 1024) :
    k3_pay1 a x (ix3 u f d) = tokenDot a x f d := by
  unfold k3_pay1
  exact (shapeCast_ab_1ab_apply _ _ _ _ _).trans (slab_rows (φ := .bf16) x a f d)

theorem idx3_0 : ∀ t : Fin cfg3.N, win3_0.index t = ![t.val, 0, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![t.val, 0, 0] := (by decide +kernel : ∀ t : Fin grid3.N, _)

/-- One point's contraction is the whole one's slab at the block's place. -/
theorem tok3 (c : Dev nD) (t : Fin cfg3.N) (u : Fin 1) (f : Fin 704) (d : Fin 1024) :
    tokenDot (iblk3 V c 0 t) (iblk3 V c 1 t) f d
      = overTokens (V c main_v1_0) (V c main_arg0) (((View.whole main_v3).slice (win3_2.rect t)).emb (ix3 u f d)) := by
  unfold tokenDot overTokens
  refine Finset.sum_congr rfl fun n _ => ?_
  blk_simp [iblk3, idx3_0, idx3_1, idx3_2]
  congr 2
  · blk_ext [idx3_0, idx3_2, at2_0, at2_1, at3_0, at3_1, at3_2]
  · blk_ext [idx3_1, idx3_2, at2_0, at2_1, at3_0, at3_1, at3_2]

/-- The gate weights' gradient after its region. -/
theorem final3_2 (c : Dev nD) : (dat3 V c).arrAt 2 cfg3.N = overTokens (V c main_v1_0) (V c main_arg0) := by
  refine (dat3 V c).arrAt_eq_of_covers 2 _ (by decide +kernel) fun t hf y => ?_
  blk_simp
  rw [after3_2]
  frame_out
  obtain ⟨u, f, d, rfl⟩ : ∃ (u : Fin 1) (f : Fin 704) (d : Fin 1024), y = ix3 u f d := ⟨y 0, y 1, y 2, eq_ix3 y⟩
  rw [pay3_tok]
  exact tok3 V c t u f d

theorem pay4_tok (a : Vec Ideal S1x2048x704 .bf16) (x : Vec Ideal S2048x1024 .f32) (u : Fin 1) (f : Fin 704) (d : Fin 1024) :
    k4_pay1 a x (ix3 u f d) = tokenDot a x f d := by
  unfold k4_pay1
  exact (shapeCast_ab_1ab_apply _ _ _ _ _).trans (slab_rows (φ := .bf16) x a f d)

theorem idx4_0 : ∀ t : Fin cfg4.N, win4_0.index t = ![t.val, 0, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![t.val, 0, 0] := (by decide +kernel : ∀ t : Fin grid4.N, _)

/-- One point's contraction is the whole one's slab at the block's place. -/
theorem tok4 (c : Dev nD) (t : Fin cfg4.N) (u : Fin 1) (f : Fin 704) (d : Fin 1024) :
    tokenDot (iblk4 V c 0 t) (iblk4 V c 1 t) f d
      = overTokens (V c main_v1_1) (V c main_arg0) (((View.whole main_v4).slice (win4_2.rect t)).emb (ix3 u f d)) := by
  unfold tokenDot overTokens
  refine Finset.sum_congr rfl fun n _ => ?_
  blk_simp [iblk4, idx4_0, idx4_1, idx4_2]
  congr 2
  · blk_ext [idx4_0, idx4_2, at2_0, at2_1, at3_0, at3_1, at3_2]
  · blk_ext [idx4_1, idx4_2, at2_0, at2_1, at3_0, at3_1, at3_2]

/-- The up weights' gradient after its region. -/
theorem final4_2 (c : Dev nD) : (dat4 V c).arrAt 2 cfg4.N = overTokens (V c main_v1_1) (V c main_arg0) := by
  refine (dat4 V c).arrAt_eq_of_covers 2 _ (by decide +kernel) fun t hf y => ?_
  blk_simp
  rw [after4_2]
  frame_out
  obtain ⟨u, f, d, rfl⟩ : ∃ (u : Fin 1) (f : Fin 704) (d : Fin 1024), y = ix3 u f d := ⟨y 0, y 1, y 2, eq_ix3 y⟩
  rw [pay4_tok]
  exact tok4 V c t u f d

end Cert.Proof.Ffn

end
-- ==== Proof.Ffn.Run.lean ====
/-
  The run of the feed-forward gradient: every buffer a device holds ends at the last region's exit contents, and from
  there the three weight gradients as functions of the arguments.
-/
module

public import proofs.«01_k».proof.Proof.Ffn.Down
public import proofs.«01_k».proof.Proof.Ffn.Grads

@[expose] public section

set_option maxRecDepth 16384

noncomputable section

namespace Cert.Proof.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnGradIdeal Cert.FfnGradIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the program runs to a state whose every device buffer is the last region's exit contents, with every
    counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

section Value

variable (m : (ℓ : Loc nD τ sig) → Buf (Elt Ideal) ℓ) (ρ : Dev nD → PrngReg) (c : Dev nD)

/-- The arguments as launched, and the two saved products. -/
abbrev argH : S2048x1024.Idx → EReal := m ((c.tc : Thread nD τ).loc main_arg0)
abbrev argDz : S2048x1024.Idx → EReal := m ((c.tc : Thread nD τ).loc main_arg4)
abbrev gateP : S4x2048x704.Idx → EReal := slabs (argH m c) (m ((c.tc : Thread nD τ).loc main_arg1))
abbrev upP : S4x2048x704.Idx → EReal := slabs (argH m c) (m ((c.tc : Thread nD τ).loc main_arg2))
abbrev gatedG : S4x2048x704.Idx → EReal := slabs (argDz m c) (m ((c.tc : Thread nD τ).loc main_arg3))

theorem V1_a : V1 m ρ c main_v0_0 = gateP m c := (W1_arr m ρ c 3).trans (final0_3 (V0 m ρ) c)
theorem V1_b : V1 m ρ c main_v0_1 = upP m c := (W1_arr m ρ c 4).trans (final0_4 (V0 m ρ) c)
theorem V1_act : V1 m ρ c main_v0_2 = gated (gateP m c) (upP m c) := (W1_arr m ρ c 5).trans (final0_5 (V0 m ρ) c)

theorem V2_da : V2 m ρ c main_v1_0 = fun i => gateGrad (gatedG m c i) (gateP m c i) (upP m c i) := by
  refine (W2_arr m ρ c 4).trans ((final1_4 (V1 m ρ) c).trans ?_)
  rw [V1_a m ρ c, V1_b m ρ c, show V1 m ρ c main_arg4 = _ from W1_args m ρ c main_arg4 (by decide),
    show V1 m ρ c main_arg3 = _ from W1_args m ρ c main_arg3 (by decide)]

theorem V2_db : V2 m ρ c main_v1_1 = fun i => upGrad (gatedG m c i) (gateP m c i) := by
  refine (W2_arr m ρ c 5).trans ((final1_5 (V1 m ρ) c).trans ?_)
  rw [V1_a m ρ c, show V1 m ρ c main_arg4 = _ from W1_args m ρ c main_arg4 (by decide),
    show V1 m ρ c main_arg3 = _ from W1_args m ρ c main_arg3 (by decide)]

theorem V2_act : V2 m ρ c main_v0_2 = gated (gateP m c) (upP m c) :=
  (W2_of m ρ c main_v0_2 (by decide +kernel)).trans (V1_act m ρ c)

/-- The down weights' gradient. -/
theorem W5_down : W5 m ρ c main_v2 = overTokens (gated (gateP m c) (upP m c)) (argDz m c) := by
  refine (W5_of m ρ c main_v2 (by decide +kernel)).trans ((W4_of m ρ c main_v2 (by decide +kernel)).trans
    ((W3_arr m ρ c 2).trans ((final2_2 (V2 m ρ) c).trans ?_)))
  rw [V2_act m ρ c, show V2 m ρ c main_arg4 = _ from W2_args m ρ c main_arg4 (by decide)]

/-- The gate weights' gradient. -/
theorem W5_gate : W5 m ρ c main_v3
    = overTokens (fun i => gateGrad (gatedG m c i) (gateP m c i) (upP m c i)) (argH m c) := by
  refine (W5_of m ρ c main_v3 (by decide +kernel)).trans ((W4_arr m ρ c 2).trans ((final3_2 (V3 m ρ) c).trans ?_))
  rw [show V3 m ρ c main_v1_0 = _ from (W3_of m ρ c main_v1_0 (by decide +kernel)).trans (V2_da m ρ c),
    show V3 m ρ c main_arg0 = _ from W3_args m ρ c main_arg0 (by decide)]

/-- The up weights' gradient. -/
theorem W5_up : W5 m ρ c main_v4 = overTokens (fun i => upGrad (gatedG m c i) (gateP m c i)) (argH m c) := by
  refine (W5_arr m ρ c 2).trans ((final4_2 (V4 m ρ) c).trans ?_)
  rw [show V4 m ρ c main_v1_1 = _ from (W4_of m ρ c main_v1_1 (by decide +kernel)).trans
      ((W3_of m ρ c main_v1_1 (by decide +kernel)).trans (V2_db m ρ c)),
    show V4 m ρ c main_arg0 = _ from W4_args m ρ c main_arg0 (by decide)]

end Value

end Cert.Proof.Ffn

end
-- ==== Proof.Finite.lean ====
/-
  Finite extended reals: an array whose absolute values are all below infinity holds real numbers, and finite sums,
  products and logistic values of reals are reals.
-/
module

public import proofs.«01_k».proof.Proof.Sums
public import Idealize.ShloMosaic.Lib.ReduceAll

@[expose] public section

noncomputable section

open scoped BigOperators

namespace Cert.Finite

open Idealize.ShloMosaic

/-- `x` is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by push_cast; rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The float word of infinity. -/
theorem ofBits_inf : (FloatOps.ofBits (F := Ideal) .f32 0x7F800000#32 : Ideal .f32) = (⊤ : EReal) := by
  show Ideal.ofBits .f32 _ = _
  simp [Ideal.ofBits, Ideal.ieee]

/-- The float word of one. -/
theorem ofBits_one : (FloatOps.ofBits (F := Ideal) .f32 0x3F800000#32 : Ideal .f32) = ((1 : ℝ) : EReal) := by
  show Ideal.ofBits .f32 _ = _
  simp [Ideal.ofBits, Ideal.ieee, -EReal.coe_mul]
  try norm_num

/-- An extended real whose absolute value is below infinity is real. -/
theorem real_of_abs_lt {x : EReal} (h : max x (-x) < ⊤) : IsReal x := by
  induction x using EReal.rec with
  | bot => simp at h
  | coe r => exact ⟨r, rfl⟩
  | top => simp at h

/-- An array of which every absolute value compares below infinity holds reals. -/
theorem real_of_all {s t u : Shape} {axes : List (Fin s.rank)} [Subsingleton t.Idx] (X : FVec Ideal s .f32) (d : Fin (0 : Nat) → Fin s.rank)
    (hb) (init : u.Idx → BitVec 1) (h : s.ReducesTo axes t) (hu : 0 < u.numel) (j : t.Idx)
    (e : Host.reduce IntOp.andi (cmpf .olt (Host.absf X)
      (broadcastInDim s d hb (constant (⟨0, ![]⟩ : Shape) .f32 0x7F800000#32 : FVec Ideal ⟨0, ![]⟩ .f32))) init h hu j = 1#1) (i : s.Idx) :
    IsReal (X i) := by
  have h1 := Host.reduce_andi_all _ init h hu j e i
  have h2 : Ideal.cmp .olt (max (X i) (-(X i)) : EReal) (FloatOps.ofBits (F := Ideal) .f32 0x7F800000#32 : Ideal .f32) = 1#1 := h1
  rw [ofBits_inf] at h2
  refine real_of_abs_lt ?_
  by_contra hn
  simp [Ideal.cmp, hn] at h2

end Cert.Finite

end
-- ==== Proof.Ffn.Reference.lean ====
/-
  The feed-forward reference at an index: its three weight gradients as contractions over the tokens, in the same
  whole-array functions as the kernel's, and the one identity of real numbers between the two gate gradients.
-/
module

public import proofs.«01_k».proof.Proof.Ffn.Run
public import proofs.«01_k».proof.Proof.Finite
public import proofs.«01_k».proof.Proof.Gen.FfnRefIdeal.Read

@[expose] public section

noncomputable section

open scoped BigOperators

namespace Cert.Proof.Ffn

open Idealize.ShloMosaic hiding ix1 ix2 ix3 eq_ix1 eq_ix2 eq_ix3
open Idealize.ShloMosaic.TcCoe Idealize.ShloMosaic.ValueIdx Idealize.SL.Sem
open Cert.FfnRefIdeal Cert.FfnRefIdeal.Read Cert.Sums Cert.Finite

variable (h : S2048x1024.Idx → EReal) (wg wu wd : S4x704x1024.Idx → EReal) (dz : S2048x1024.Idx → EReal)

/-! The reference's operand indices, as coordinates. -/

theorem l3 (i : S4x2048x704.Idx) (d : Fin 1024) : lidx_main_v3 (idx_main_v4 i) d = ix3 ⟨(i 0).val, (i 0).isLt⟩ ⟨(i 2).val, (i 2).isLt⟩ d :=
  funext fun a => match a with | ⟨0, _⟩ => rfl | ⟨1, _⟩ => rfl | ⟨2, _⟩ => rfl
theorem r3 (i : S4x2048x704.Idx) (d : Fin 1024) : ridx_main_v3 (idx_main_v4 i) d = ix2 ⟨(i 1).val, (i 1).isLt⟩ d :=
  funext fun a => match a with | ⟨0, _⟩ => rfl | ⟨1, _⟩ => rfl
theorem l5 (i : S4x2048x704.Idx) (d : Fin 1024) : lidx_main_v5 (idx_main_v6 i) d = ix3 ⟨(i 0).val, (i 0).isLt⟩ ⟨(i 2).val, (i 2).isLt⟩ d :=
  funext fun a => match a with | ⟨0, _⟩ => rfl | ⟨1, _⟩ => rfl | ⟨2, _⟩ => rfl
theorem r5 (i : S4x2048x704.Idx) (d : Fin 1024) : ridx_main_v5 (idx_main_v6 i) d = ix2 ⟨(i 1).val, (i 1).isLt⟩ d :=
  funext fun a => match a with | ⟨0, _⟩ => rfl | ⟨1, _⟩ => rfl
theorem l12 (i : S4x2048x704.Idx) (d : Fin 1024) : lidx_main_v12 (idx_main_v13 i) d = ix2 ⟨(i 1).val, (i 1).isLt⟩ d :=
  funext fun a => match a with | ⟨0, _⟩ => rfl | ⟨1, _⟩ => rfl
theorem r12 (i : S4x2048x704.Idx) (d : Fin 1024) : ridx_main_v12 (idx_main_v13 i) d = ix3 ⟨(i 0).val, (i 0).isLt⟩ ⟨(i 2).val, (i 2).isLt⟩ d :=
  funext fun a => match a with | ⟨0, _⟩ => rfl | ⟨1, _⟩ => rfl | ⟨2, _⟩ => rfl
theorem l10 (i : S4x704x1024.Idx) (d : Fin 2048) : lidx_main_v10 (idx_main_v11 i) d = ix2 d ⟨(i 2).val, (i 2).isLt⟩ :=
  funext fun a => match a with | ⟨0, _⟩ => rfl | ⟨1, _⟩ => rfl
theorem r10 (i : S4x704x1024.Idx) (d : Fin 2048) : ridx_main_v10 (idx_main_v11 i) d = ix3 ⟨(i 0).val, (i 0).isLt⟩ d ⟨(i 1).val, (i 1).isLt⟩ :=
  funext fun a => match a with | ⟨0, _⟩ => rfl | ⟨1, _⟩ => rfl | ⟨2, _⟩ => rfl
theorem l19 (i : S4x704x1024.Idx) (d : Fin 2048) : idx_main_v17 (lidx_main_v19 i d) = ix3 ⟨(i 0).val, (i 0).isLt⟩ d ⟨(i 1).val, (i 1).isLt⟩ :=
  funext fun a => match a with | ⟨0, _⟩ => rfl | ⟨1, _⟩ => rfl | ⟨2, _⟩ => rfl
theorem r19 (i : S4x704x1024.Idx) (d : Fin 2048) : ridx_main_v19 i d = ix2 d ⟨(i 2).val, (i 2).isLt⟩ :=
  funext fun a => match a with | ⟨0, _⟩ => rfl | ⟨1, _⟩ => rfl
theorem l23 (i : S4x704x1024.Idx) (d : Fin 2048) : idx_main_v20 (lidx_main_v23 i d) = ix3 ⟨(i 0).val, (i 0).isLt⟩ d ⟨(i 1).val, (i 1).isLt⟩ :=
  funext fun a => match a with | ⟨0, _⟩ => rfl | ⟨1, _⟩ => rfl | ⟨2, _⟩ => rfl
theorem r23 (i : S4x704x1024.Idx) (d : Fin 2048) : ridx_main_v23 i d = ix2 d ⟨(i 2).val, (i 2).isLt⟩ :=
  funext fun a => match a with | ⟨0, _⟩ => rfl | ⟨1, _⟩ => rfl

theorem ref_a : val_main_v4 (F := Ideal) h wg = slabs h wg := by
  funext i
  rw [val_main_v4_apply, val_main_v3_apply]
  exact Finset.sum_congr rfl fun d _ => by rw [l3, r3]; exact mul_comm _ _

theorem ref_b : val_main_v6 (F := Ideal) h wu = slabs h wu := by
  funext i
  rw [val_main_v6_apply, val_main_v5_apply]
  exact Finset.sum_congr rfl fun d _ => by rw [l5, r5]; exact mul_comm _ _

theorem ref_g : val_main_v13 (F := Ideal) wd dz = slabs dz wd := by
  funext i
  rw [val_main_v13_apply, val_main_v12_apply]
  exact Finset.sum_congr rfl fun d _ => by rw [l12, r12]; rfl

theorem ref_sg (i : S4x2048x704.Idx) : val_main_v7_2 (F := Ideal) h wg i = Ideal.logistic (slabs h wg i) := by
  rw [val_main_v7_2_apply, val_main_call0_v4_apply, val_main_call0_v3_apply, val_main_call0_v2_apply,
    val_main_call0_v1_apply, val_main_call0_v0_apply, val_main_call0_cst_0_apply, val_main_call0_cst_apply, ref_a, ofBits_one]
  simp [Ideal.logistic]

theorem ref_silu (i : S4x2048x704.Idx) :
    val_main_v7_0 (F := Ideal) h wg i = slabs h wg i * Ideal.logistic (slabs h wg i) := by
  rw [val_main_v7_0_apply, ref_sg, ref_a]; rfl

theorem ref_act : val_main_v8 (F := Ideal) h wg wu = gated (slabs h wg) (slabs h wu) := by
  funext i
  rw [val_main_v8_apply, ref_silu, ref_b]; rfl

/-- The reference's down gradient. -/
theorem ref_down : val_main_v24 (F := Ideal) h wg wu dz = overTokens (gated (slabs h wg) (slabs h wu)) dz := by
  funext i
  rw [val_main_v24_apply, val_main_v11_apply, val_main_v10_apply, ref_act]
  exact Finset.sum_congr rfl fun d _ => by rw [l10, r10]; exact mul_comm _ _

theorem ref_db (i : S4x2048x704.Idx) :
    val_main_v14 (F := Ideal) h wg wd dz i = upGrad (slabs dz wd i) (slabs h wg i) := by
  rw [val_main_v14_apply, ref_silu, ref_g]
  show slabs h wg i * Ideal.logistic (slabs h wg i) * slabs dz wd i = _
  unfold upGrad
  rw [mul_comm, ← mul_assoc]

/-- The reference's up gradient. -/
theorem ref_up : val_main_v25 (F := Ideal) h wg wd dz
    = overTokens (fun i => upGrad (slabs dz wd i) (slabs h wg i)) h := by
  funext i
  rw [val_main_v25_apply, val_main_v19_apply]
  refine Finset.sum_congr rfl fun d _ => ?_
  rw [val_main_v17_apply, ref_db, l19, r19]
  rfl

/-- The two spellings of the gate product's gradient agree on real numbers. -/
theorem gate_identity {g a b : EReal} (hg : IsReal g) (ha : IsReal a) (hb : IsReal b) :
    g * b * Ideal.logistic a
        + a * (g * b) * (Ideal.logistic a * ((FloatOps.ofBits (F := Ideal) .f32 0x3F800000#32 : Ideal .f32) - Ideal.logistic a))
      = gateGrad g a b := by
  obtain ⟨g, rfl⟩ := hg; obtain ⟨a, rfl⟩ := ha; obtain ⟨b, rfl⟩ := hb
  unfold gateGrad
  rw [show one = ((1 : ℝ) : EReal) from ofBits_one, ofBits_one, Ideal.logistic_coe]
  generalize (1 + Real.exp (-a))⁻¹ = s
  norm_cast
  ring

theorem slabs_real {H : S2048x1024.Idx → EReal} {W : S4x704x1024.Idx → EReal} (hH : ∀ i, IsReal (H i)) (hW : ∀ i, IsReal (W i))
    (i : S4x2048x704.Idx) : IsReal (slabs H W i) :=
  IsReal.sum _ _ fun d => (hH _).mul (hW _)

theorem ref_da (hh : ∀ i, IsReal (h i)) (hg : ∀ i, IsReal (wg i)) (hu : ∀ i, IsReal (wu i)) (hd : ∀ i, IsReal (wd i))
    (hz : ∀ i, IsReal (dz i)) (i : S4x2048x704.Idx) :
    val_main_v16 (F := Ideal) h wg wu wd dz i = gateGrad (slabs dz wd i) (slabs h wg i) (slabs h wu i) := by
  rw [val_main_v16_apply, val_main_call1_v1_apply, val_main_call1_v2_apply, val_main_call1_v0_apply, val_main_v15_apply,
    val_main_v7_1_apply, val_main_call0_v7_apply, val_main_call0_v6_apply, val_main_call0_cst_1_apply, ref_sg, ref_a, ref_b, ref_g]
  exact gate_identity (slabs_real hz hd i) (slabs_real hh hg i) (slabs_real hh hu i)

/-- The reference's gate gradient, where every argument is finite. -/
theorem ref_gate (hh : ∀ i, IsReal (h i)) (hg : ∀ i, IsReal (wg i)) (hu : ∀ i, IsReal (wu i)) (hd : ∀ i, IsReal (wd i))
    (hz : ∀ i, IsReal (dz i)) : val_main_v26 (F := Ideal) h wg wu wd dz
    = overTokens (fun i => gateGrad (slabs dz wd i) (slabs h wg i) (slabs h wu i)) h := by
  funext i
  rw [val_main_v26_apply, val_main_v23_apply]
  refine Finset.sum_congr rfl fun d _ => ?_
  rw [val_main_v20_apply, ref_da h wg wu wd dz hh hg hu hd hz, l23, r23]
  rfl

end Cert.Proof.Ffn

end
-- ==== Proof.Ffn.Claims.lean ====
/-
  The claims about the feed-forward gradient: the reference's frame, and that kernel and reference end with the same three
  weight gradients wherever the arguments are finite.
-/
module

public import proofs.«01_k».proof.Defs
public import proofs.«01_k».proof.Proof.Ffn.Run
public import proofs.«01_k».proof.Proof.Ffn.Reference
public import proofs.«01_k».proof.Proof.Finite
public import proofs.«01_k».proof.Proof.Gen.FfnGrad.Frame
public import proofs.«01_k».proof.Proof.Gen.Pre_ffn_finite

@[expose] public section

set_option maxRecDepth 16384

noncomputable section

namespace Cert.Proof.Ffn

open Idealize.ShloMosaic Idealize.ShloMosaic.TcCoe Idealize.SL.Sem Cert.Finite

/-- A shape of rank nought has one index. -/
instance : Subsingleton (⟨0, ![]⟩ : Shape).Idx := ⟨fun a b => funext fun i => i.elim0⟩

/-- The precondition read off: every element of every argument is a real number. -/
theorem finite_args (h : FVec Ideal ⟨2, ![2048, 1024]⟩ .f32) (wg wu wd : FVec Ideal ⟨3, ![4, 704, 1024]⟩ .bf16)
    (dz : FVec Ideal ⟨2, ![2048, 1024]⟩ .f32)
    (e : Cert.Pre_ffn_finite.fn (F := Ideal) h wg wu wd dz = fun _ => 1#1) :
    (∀ i, IsReal (h i)) ∧ (∀ i, IsReal (wg i)) ∧ (∀ i, IsReal (wu i)) ∧ (∀ i, IsReal (wd i)) ∧ (∀ i, IsReal (dz i)) := by
  have e0 := congrFun e (fun i => i.elim0)
  unfold Cert.Pre_ffn_finite.fn Cert.Pre_ffn_finite.fn_part1 at e0
  obtain ⟨e1, h5⟩ := IntOp.andi_eq_one.mp e0
  obtain ⟨e2, h4⟩ := IntOp.andi_eq_one.mp e1
  obtain ⟨e3, h3⟩ := IntOp.andi_eq_one.mp e2
  obtain ⟨h1, h2⟩ := IntOp.andi_eq_one.mp e3
  exact ⟨real_of_all _ _ _ _ _ _ _ h1, real_of_all _ _ _ _ _ _ _ h2, real_of_all _ _ _ _ _ _ _ h3,
    real_of_all _ _ _ _ _ _ _ h4, real_of_all _ _ _ _ _ _ _ h5⟩

/-- The reference leaves its arguments alone, and having no semaphore ends with none raised. -/
theorem ref_frame : Cert.quiescent_FfnRefIdeal := fun m ρ _ =>
  (θ_run _ _ _).mono (fun r h => ⟨fun c => (h c).2.2.2, sem_eq_zero_of_no_sems (by decide) r.2⟩)
    (Cert.FfnRefIdeal.Value.run m ρ)

/-- The three weight gradients of the kernel are those of the reference. -/
theorem equal : Cert.algebraic_FfnGradIdeal_FfnRefIdeal_pre_ffn_finite := fun m ρ m' ρ' hpre harg =>
  ⟨fun c => Cert.FfnGradIdeal.Gen.W5 m ρ c Cert.FfnGradIdeal.main_v3, fun c => Cert.FfnGradIdeal.Gen.W5 m ρ c Cert.FfnGradIdeal.main_v4,
    fun c => Cert.FfnGradIdeal.Gen.W5 m ρ c Cert.FfnGradIdeal.main_v2,
    (θ_run _ _ _).mono (fun r h c =>
      ⟨h.1 c _ (Cert.FfnGradIdeal.Gen.mem_uc Cert.FfnGradIdeal.main_v3 (by decide)),
        h.1 c _ (Cert.FfnGradIdeal.Gen.mem_uc Cert.FfnGradIdeal.main_v4 (by decide)),
        h.1 c _ (Cert.FfnGradIdeal.Gen.mem_uc Cert.FfnGradIdeal.main_v2 (by decide)),
        (h.1 c _ (Cert.FfnGradIdeal.Gen.mem_uc Cert.FfnGradIdeal.main_arg0 (by decide))).trans (Cert.FfnGradIdeal.Gen.W5_main_arg0 m ρ c),
        (h.1 c _ (Cert.FfnGradIdeal.Gen.mem_uc Cert.FfnGradIdeal.main_arg1 (by decide))).trans (Cert.FfnGradIdeal.Gen.W5_main_arg1 m ρ c),
        (h.1 c _ (Cert.FfnGradIdeal.Gen.mem_uc Cert.FfnGradIdeal.main_arg2 (by decide))).trans (Cert.FfnGradIdeal.Gen.W5_main_arg2 m ρ c),
        (h.1 c _ (Cert.FfnGradIdeal.Gen.mem_uc Cert.FfnGradIdeal.main_arg3 (by decide))).trans (Cert.FfnGradIdeal.Gen.W5_main_arg3 m ρ c),
        (h.1 c _ (Cert.FfnGradIdeal.Gen.mem_uc Cert.FfnGradIdeal.main_arg4 (by decide))).trans (Cert.FfnGradIdeal.Gen.W5_main_arg4 m ρ c)⟩)
      (run m ρ),
    (θ_run _ _ _).mono (fun r h c => by
      obtain ⟨a0, a1, a2, a3, a4⟩ := harg c
      obtain ⟨hh, hg, hu, hd, hz⟩ := finite_args _ _ _ _ _ (hpre c)
      obtain ⟨r26, r25, r24, args⟩ := h c
      refine ⟨r26.trans ?_, r25.trans ?_, r24.trans ?_, args⟩
      · refine (Cert.FfnRefIdeal.Read.val_main_v26_eq _ _ _ _ _).trans ?_
        rw [a0, a1, a2, a3, a4]
        exact (ref_gate _ _ _ _ _ hh hg hu hd hz).trans (W5_gate m ρ c).symm
      · refine (Cert.FfnRefIdeal.Read.val_main_v25_eq _ _ _ _).trans ?_
        rw [a0, a1, a3, a4]
        exact (ref_up _ _ _ _).trans (W5_up m ρ c).symm
      · refine (Cert.FfnRefIdeal.Read.val_main_v24_eq _ _ _ _).trans ?_
        rw [a0, a1, a2, a4]
        exact (ref_down _ _ _ _).trans (W5_down m ρ c).symm)
      (Cert.FfnRefIdeal.Value.run m' ρ')⟩

end Cert.Proof.Ffn

end
-- ==== Proof.Dh.Products.lean ====
/-
  The gradient of the feed-forward half's input rows: over the four slabs of hidden units a point adds one slab's two
  products to the running sum it carries, and the fourth writes the sum out.
-/
module

public import proofs.«01_k».proof.Proof.Sums
public import proofs.«01_k».proof.Proof.Gen.FfnDhIdeal.Value
public import Idealize.ShloMosaic.Lib.Pipeline.Value
public import Idealize.ShloMosaic.Lib.Pipeline.ValueKit
public import Idealize.ShloMosaic.Lib.ValueLayout
public import Idealize.ShloMosaic.Lib.ValueIdx

@[expose] public section

noncomputable section

open scoped BigOperators

namespace Cert.Proof.Dh

open Idealize.ShloMosaic hiding ix1 ix2 ix3 eq_ix1 eq_ix2 eq_ix3
open Idealize.ShloMosaic.TcCoe Idealize.ShloMosaic.ValueIdx Idealize.SL.Sem
open Cert.FfnDhIdeal Cert.FfnDhIdeal.Gen Cert.Sums

/-- One slab's product of saved hidden rows with a transposed weight, at row `n` and column `d`. -/
def slabAt (A : S4x2048x704.Idx → EReal) (W : S4x704x1024.Idx → EReal) (s : Fin 4) (n : Fin 2048) (d : Fin 1024) : EReal :=
  ∑ f : Fin 704, A (ix3 s n f) * W (ix3 s f d)

/-- The gradient of the rows: both products summed over the four slabs. -/
def rowsGrad (A B : S4x2048x704.Idx → EReal) (WG WU : S4x704x1024.Idx → EReal) : S2048x1024.Idx → EReal :=
  fun i => ∑ s : Fin 4, (slabAt A WG s ⟨(i 0).val, (i 0).isLt⟩ ⟨(i 1).val, (i 1).isLt⟩
    + slabAt B WU s ⟨(i 0).val, (i 0).isLt⟩ ⟨(i 1).val, (i 1).isLt⟩)

/-- One block's product. -/
def blockDot (a : S1x1024x704.Idx → EReal) (w : S1x704x1024.Idx → EReal) (n d : Fin 1024) : EReal :=
  ∑ f : Fin 704, a (ix3 0 n f) * w (ix3 0 f d)

theorem blockDot_at (a : FVec Ideal S1x1024x704 .bf16) (w : FVec Ideal S1x704x1024 .bf16) (n d : Fin 1024) :
    matmul (F := Ideal) dot_S1024x704_S704x1024_S1024x1024_1_0_0_1_n_n none
        (shapeCast S1024x704 a shapeCasts_S1x1024x704_S1024x704) (shapeCast S704x1024 w shapeCasts_S1x704x1024_S704x1024)
        (constant S1024x1024 .f32 0x00000000#32) (ix2 n d) = blockDot a w n d := by
  rw [matmul_at dot_S1024x704_S704x1024_S1024x1024_1_0_0_1_n_n 704 rfl rfl none _ _ _ (fun f => ix2 n f) (fun f => ix2 f d)
    (fun k => funext fun a => Fin.ext (match a with | ⟨0, _⟩ => rfl | ⟨1, _⟩ => rfl))
    (fun k => funext fun a => Fin.ext (match a with | ⟨0, _⟩ => rfl | ⟨1, _⟩ => rfl))]
  exact Finset.sum_congr rfl fun f _ => by rw [shapeCast_1ab_ab_apply, shapeCast_1ab_ab_apply]

/-- What a point adds. -/
theorem pay1_at (a : Vec Ideal S1x1024x704 .bf16) (wg : Vec Ideal S1x704x1024 .bf16) (b : Vec Ideal S1x1024x704 .bf16)
    (wu : Vec Ideal S1x704x1024 .bf16) (n d : Fin 1024) :
    k0_pay1 a wg b wu (ix2 n d) = blockDot a wg n d + blockDot b wu n d := by
  unfold k0_pay1
  exact congrArg₂ (· + ·) (blockDot_at a wg n d) (blockDot_at b wu n d)

theorem pay2_at (a : Vec Ideal S1x1024x704 .bf16) (wg : Vec Ideal S1x704x1024 .bf16) (b : Vec Ideal S1x1024x704 .bf16)
    (wu : Vec Ideal S1x704x1024 .bf16) (n d : Fin 1024) :
    k0_pay2 a wg b wu (ix2 n d) = blockDot a wg n d + blockDot b wu n d := by
  unfold k0_pay2
  exact (congrFun (shapeCast_self (k0_pay1 a wg b wu) shapeCasts_S1024x1024_S1024x1024) _).trans (pay1_at a wg b wu n d)

theorem pay3_at (a : Vec Ideal S1x1024x704 .bf16) (wg : Vec Ideal S1x704x1024 .bf16) (b : Vec Ideal S1x1024x704 .bf16)
    (wu : Vec Ideal S1x704x1024 .bf16) (acc : Vec Ideal S1024x1024 .f32) (n d : Fin 1024) :
    k0_pay3 a wg b wu acc (ix2 n d) = acc (ix2 n d) + (blockDot a wg n d + blockDot b wu n d) := by
  unfold k0_pay3
  exact (congrFun (shapeCast_self (addf acc (k0_pay1 a wg b wu)) shapeCasts_S1024x1024_S1024x1024) _).trans
    (congrArg (acc (ix2 n d) + ·) (pay1_at a wg b wu n d))

variable (m : (ℓ : Loc nD τ sig) → Buf (Elt Ideal) ℓ) (c : Dev nD)

/-! What the carried sum holds after a point, and what the fourth point of a run writes out. -/

theorem carried_first (t : Fin cfg0.N) (h0 : t.val % 4 = 0) :
    (outsAt0 m c t.val t.isLt).2 = k0_pay2 (iblk m c 0 t) (iblk m c 2 t) (iblk m c 1 t) (iblk m c 3 t) := by
  rw [outsAt0_A m c t h0 (by omega) (by omega)]
  dsimp only
  frame_out

theorem carried_next (t : Fin cfg0.N) (h1 : 1 ≤ t.val % 4) (h2 : ¬t.val % 4 = 3) :
    (outsAt0 m c t.val t.isLt).2 = k0_pay3 (iblk m c 0 t) (iblk m c 2 t) (iblk m c 1 t) (iblk m c 3 t)
      (outsAt0 m c (t.val - 1) (Nat.lt_of_le_of_lt (Nat.sub_le _ _) t.isLt)).2 := by
  rw [outsAt0_B m c t (by omega) h1 h2]
  dsimp only
  frame_out
  exact congrArg _ (Memref.IsWhole.read_unread (Memref.isWhole_whole cc0_scratch0) _)

theorem written_last (t : Fin cfg0.N) (h2 : t.val % 4 = 3) :
    (outsAt0 m c t.val t.isLt).1 = k0_pay3 (iblk m c 0 t) (iblk m c 2 t) (iblk m c 1 t) (iblk m c 3 t)
      (outsAt0 m c (t.val - 1) (Nat.lt_of_le_of_lt (Nat.sub_le _ _) t.isLt)).2 := by
  rw [outsAt0_C m c t (by omega) (by omega) h2]
  dsimp only
  frame_out
  exact congrArg _ (Memref.IsWhole.read_unread (Memref.isWhole_whole cc0_scratch0) _)

/-! The windows' blocks, and one point's products as the whole ones' slab at the block's rows. -/

theorem idx_0 : ∀ t : Fin cfg0.N, win0_0.index t = ![t.val % 4, t.val / 4, 0] := (by decide +kernel : ∀ t : Fin grid0.N, _)
theorem idx_1 : ∀ t : Fin cfg0.N, win0_1.index t = ![t.val % 4, t.val / 4, 0] := (by decide +kernel : ∀ t : Fin grid0.N, _)
theorem idx_2 : ∀ t : Fin cfg0.N, win0_2.index t = ![t.val % 4, 0, 0] := (by decide +kernel : ∀ t : Fin grid0.N, _)
theorem idx_3 : ∀ t : Fin cfg0.N, win0_3.index t = ![t.val % 4, 0, 0] := (by decide +kernel : ∀ t : Fin grid0.N, _)
theorem idx_4 : ∀ t : Fin cfg0.N, win0_4.index t = ![t.val / 4, 0] := (by decide +kernel : ∀ t : Fin grid0.N, _)

/-- The arguments as launched. -/
abbrev argA : S4x2048x704.Idx → EReal := m ((c.tc : Thread nD τ).loc main_arg0)
abbrev argB : S4x2048x704.Idx → EReal := m ((c.tc : Thread nD τ).loc main_arg1)
abbrev argG : S4x704x1024.Idx → EReal := m ((c.tc : Thread nD τ).loc main_arg2)
abbrev argU : S4x704x1024.Idx → EReal := m ((c.tc : Thread nD τ).loc main_arg3)

/-- The row of the array that row `n` of the run `q`'s block is. -/
abbrev rowOf (q : Nat) (hq : q < 2) (n : Fin 1024) : Fin 2048 := ⟨q * 1024 + n.val, by omega⟩

theorem gate_place (t : Fin cfg0.N) (s : Fin 4) (q : Nat) (hq : q < 2) (hs : t.val % 4 = s.val) (ht : t.val / 4 = q)
    (n d : Fin 1024) : blockDot (iblk m c 0 t) (iblk m c 2 t) n d = slabAt (argA m c) (argG m c) s (rowOf q hq n) d := by
  unfold blockDot slabAt
  refine Finset.sum_congr rfl fun f _ => ?_
  blk_simp [iblk, V_main_arg0, V_main_arg2]
  congr 2
  · blk_ext [idx_0, at3_0, at3_1, at3_2, hs, ht]
  · blk_ext [idx_2, at3_0, at3_1, at3_2, hs, ht]

theorem up_place (t : Fin cfg0.N) (s : Fin 4) (q : Nat) (hq : q < 2) (hs : t.val % 4 = s.val) (ht : t.val / 4 = q)
    (n d : Fin 1024) : blockDot (iblk m c 1 t) (iblk m c 3 t) n d = slabAt (argB m c) (argU m c) s (rowOf q hq n) d := by
  unfold blockDot slabAt
  refine Finset.sum_congr rfl fun f _ => ?_
  blk_simp [iblk, V_main_arg1, V_main_arg3]
  congr 2
  · blk_ext [idx_1, at3_0, at3_1, at3_2, hs, ht]
  · blk_ext [idx_3, at3_0, at3_1, at3_2, hs, ht]

/-- One slab's share of the gradient. -/
def share (s : Fin 4) (n : Fin 2048) (d : Fin 1024) : EReal :=
  slabAt (argA m c) (argG m c) s n d + slabAt (argB m c) (argU m c) s n d

variable (q : Nat) (hq : q < 2) (n d : Fin 1024)

theorem carried_0 (h : 4 * q < cfg0.N) : (outsAt0 m c (4 * q) h).2 (ix2 n d) = share m c 0 (rowOf q hq n) d := by
  rw [show (outsAt0 m c (4 * q) h).2 = _ from carried_first m c ⟨4 * q, h⟩ (by show 4 * q % 4 = 0; omega), pay2_at,
    gate_place m c ⟨4 * q, h⟩ 0 q hq (by show 4 * q % 4 = 0; omega) (by show 4 * q / 4 = q; omega),
    up_place m c ⟨4 * q, h⟩ 0 q hq (by show 4 * q % 4 = 0; omega) (by show 4 * q / 4 = q; omega)]
  rfl

theorem carried_1 (h : 4 * q + 1 < cfg0.N) : (outsAt0 m c (4 * q + 1) h).2 (ix2 n d)
    = share m c 0 (rowOf q hq n) d + share m c 1 (rowOf q hq n) d := by
  rw [show (outsAt0 m c (4 * q + 1) h).2 = _ from carried_next m c ⟨4 * q + 1, h⟩ (by show 1 ≤ (4 * q + 1) % 4; omega)
      (by show ¬(4 * q + 1) % 4 = 3; omega), pay3_at,
    gate_place m c ⟨4 * q + 1, h⟩ 1 q hq (by show (4 * q + 1) % 4 = 1; omega) (by show (4 * q + 1) / 4 = q; omega),
    up_place m c ⟨4 * q + 1, h⟩ 1 q hq (by show (4 * q + 1) % 4 = 1; omega) (by show (4 * q + 1) / 4 = q; omega)]
  exact congrArg (· + _) (carried_0 m c q hq n d _)

theorem carried_2 (h : 4 * q + 2 < cfg0.N) : (outsAt0 m c (4 * q + 2) h).2 (ix2 n d)
    = share m c 0 (rowOf q hq n) d + share m c 1 (rowOf q hq n) d + share m c 2 (rowOf q hq n) d := by
  rw [show (outsAt0 m c (4 * q + 2) h).2 = _ from carried_next m c ⟨4 * q + 2, h⟩ (by show 1 ≤ (4 * q + 2) % 4; omega)
      (by show ¬(4 * q + 2) % 4 = 3; omega), pay3_at,
    gate_place m c ⟨4 * q + 2, h⟩ 2 q hq (by show (4 * q + 2) % 4 = 2; omega) (by show (4 * q + 2) / 4 = q; omega),
    up_place m c ⟨4 * q + 2, h⟩ 2 q hq (by show (4 * q + 2) % 4 = 2; omega) (by show (4 * q + 2) / 4 = q; omega)]
  exact congrArg (· + _) (carried_1 m c q hq n d _)

theorem written_3 (h : 4 * q + 3 < cfg0.N) : (outsAt0 m c (4 * q + 3) h).1 (ix2 n d)
    = ∑ s : Fin 4, share m c s (rowOf q hq n) d := by
  rw [show (outsAt0 m c (4 * q + 3) h).1 = _ from written_last m c ⟨4 * q + 3, h⟩ (by show (4 * q + 3) % 4 = 3; omega), pay3_at,
    gate_place m c ⟨4 * q + 3, h⟩ 3 q hq (by show (4 * q + 3) % 4 = 3; omega) (by show (4 * q + 3) / 4 = q; omega),
    up_place m c ⟨4 * q + 3, h⟩ 3 q hq (by show (4 * q + 3) % 4 = 3; omega) (by show (4 * q + 3) / 4 = q; omega)]
  rw [Fin.sum_univ_four]
  exact congrArg (· + _) (carried_2 m c q hq n d _)

/-- The rows' gradient after the region. -/
theorem final : (dats m 0 c).arrAt 4 cfg0.N = rowsGrad (argA m c) (argB m c) (argG m c) (argU m c) := by
  refine (dats m 0 c).arrAt_eq_of_covers 4 _ (by decide +kernel) fun t hf y => ?_
  have h3 : t.val % 4 = 3 := (flush0_4 t).mp hf
  have hN : t.val < 8 := lt_of_lt_of_eq t.isLt N_0
  obtain ⟨q, hq, hv⟩ : ∃ q, q < 2 ∧ t.val = 4 * q + 3 := ⟨t.val / 4, by omega, by omega⟩
  blk_simp
  rw [after0_4]
  obtain ⟨n, d, rfl⟩ : ∃ (n d : Fin 1024), y = ix2 n d := ⟨y 0, y 1, eq_ix2 y⟩
  obtain ⟨tv, tl⟩ := t
  obtain rfl : tv = 4 * q + 3 := hv
  refine (written_3 m c q hq n d tl).trans ?_
  unfold rowsGrad share
  refine Finset.sum_congr rfl fun s _ => ?_
  have e0 : rowOf q hq n = ⟨((((View.whole main_v0).slice (win0_4.rect ⟨4 * q + 3, tl⟩)).emb (ix2 n d)) 0).val, Fin.isLt _⟩ :=
    Fin.ext (by
      show q * 1024 + n.val = win0_4.index ⟨4 * q + 3, tl⟩ 0 * 1024 + 1 * n.val
      rw [idx_4]
      show q * 1024 + n.val = (4 * q + 3) / 4 * 1024 + 1 * n.val
      omega)
  have e1 : d = ⟨((((View.whole main_v0).slice (win0_4.rect ⟨4 * q + 3, tl⟩)).emb (ix2 n d)) 1).val, Fin.isLt _⟩ :=
    Fin.ext (by
      show d.val = win0_4.index ⟨4 * q + 3, tl⟩ 1 * 1024 + 1 * d.val
      rw [idx_4]
      show d.val = 0 * 1024 + 1 * d.val
      omega)
  exact congrArg₂ (fun a b => slabAt (argA m c) (argG m c) s a b + slabAt (argB m c) (argU m c) s a b) e0 e1

end Cert.Proof.Dh

end
-- ==== Proof.Dh.Reference.lean ====
/-
  The reference's gradient of the feed-forward half's input rows at an index: two products contracted over the slabs and
  the hidden units of a slab at once, as the kernel's sum over the slabs.
-/
module

public import proofs.«01_k».proof.Proof.Dh.Products
public import proofs.«01_k».proof.Proof.Gen.FfnDhRefIdeal.Run
public import proofs.«01_k».proof.Proof.Gen.FfnDhRefIdeal.Read

@[expose] public section

noncomputable section

open scoped BigOperators

namespace Cert.Proof.Dh

open Idealize.ShloMosaic hiding ix1 ix2 ix3 eq_ix1 eq_ix2 eq_ix3
open Idealize.ShloMosaic.TcCoe Idealize.ShloMosaic.ValueIdx Idealize.SL.Sem Cert.Sums
open Cert.FfnDhRefIdeal Cert.FfnDhRefIdeal.Read

/-- An index of a two-axis contraction is its two coordinates. -/
def contrPair {sl sr so : Shape} (D : DotDims sl sr so) (p q : Nat) (hr : D.contr.rank = 2)
    (h0 : D.contr.size ⟨0, by omega⟩ = p) (h1 : D.contr.size ⟨1, by omega⟩ = q) : D.contr.Idx ≃ Fin p × Fin q where
  toFun i := ((i ⟨0, by omega⟩).cast h0, (i ⟨1, by omega⟩).cast h1)
  invFun x := fun a => if h : a.val = 0
    then x.1.cast (h0.symm.trans (congrArg D.contr.size (Fin.ext h.symm)))
    else x.2.cast (h1.symm.trans (congrArg D.contr.size (Fin.ext (by have := a.isLt; dsimp only; omega))))
  left_inv i := by
    have p0 : 0 < D.contr.rank := by omega
    have p1 : 1 < D.contr.rank := by omega
    funext a
    by_cases h : a.val = 0
    · have e : a = ⟨0, p0⟩ := Fin.ext h
      subst e
      rfl
    · have hv : a.val = 1 := by have := a.isLt; omega
      have e : a = ⟨1, p1⟩ := Fin.ext hv
      subst e
      rfl
  right_inv x := rfl

/-- A host product contracted over two axes, read at an index: the double sum, once the operands' indices are known. -/
theorem dotGeneral_pair {sl sr so : Shape} {φl φr : FTy} (D : DotDims sl sr so) (p q : Nat) (hr : D.contr.rank = 2)
    (h0 : D.contr.size ⟨0, by omega⟩ = p) (h1 : D.contr.size ⟨1, by omega⟩ = q) (prec : Option ContractPrecision)
    (L : FVec Ideal sl φl) (R : FVec Ideal sr φr) (j : so.Idx) (l : Fin p → Fin q → sl.Idx) (g : Fin p → Fin q → sr.Idx)
    (hl : ∀ a b, D.lhsIdx j ((contrPair D p q hr h0 h1).symm (a, b)) = l a b)
    (hg : ∀ a b, D.rhsIdx j ((contrPair D p q hr h0 h1).symm (a, b)) = g a b) :
    (Host.dotGeneral (F := Ideal) D prec L R j : EReal) = ∑ a : Fin p, ∑ b : Fin q, (L (l a b) : EReal) * R (g a b) := by
  refine (Ideal.dotGeneral_apply D prec _ L R j).trans ?_
  rw [← Equiv.sum_comp (contrPair D p q hr h0 h1).symm, Fintype.sum_prod_type]
  exact Finset.sum_congr rfl fun a _ => Finset.sum_congr rfl fun b _ => by rw [hl, hg]

/-- The reference's product, over slabs and hidden units at once, is the sum over the slabs of one slab's product. -/
theorem contract_slabs (A : S4x2048x704.Idx → EReal) (W : S4x704x1024.Idx → EReal) (T : S4x704x2048.Idx → EReal)
    (hT : ∀ i, T i = A (idx_main_v9 i)) (i : S2048x1024.Idx) :
    (Host.dotGeneral (F := Ideal) (φ₁ := .f32) (φ₂ := .f32) dot_S4x704x2048_S4x704x1024_S2048x1024_01_01_2_2_n_n none T W i : EReal)
      = ∑ s : Fin 4, slabAt A W s ⟨(i 0).val, (i 0).isLt⟩ ⟨(i 1).val, (i 1).isLt⟩ := by
  refine (dotGeneral_pair dot_S4x704x2048_S4x704x1024_S2048x1024_01_01_2_2_n_n 4 704 rfl rfl rfl none T W i
    (fun s f => ix3 s f ⟨(i 0).val, (i 0).isLt⟩) (fun s f => ix3 s f ⟨(i 1).val, (i 1).isLt⟩)
    (fun s f => funext fun a => Fin.ext (match a with | ⟨0, _⟩ => rfl | ⟨1, _⟩ => rfl | ⟨2, _⟩ => rfl))
    (fun s f => funext fun a => Fin.ext (match a with | ⟨0, _⟩ => rfl | ⟨1, _⟩ => rfl | ⟨2, _⟩ => rfl))).trans ?_
  refine Finset.sum_congr rfl fun s _ => Finset.sum_congr rfl fun f _ => ?_
  rw [hT]
  exact congrArg (A · * _) (funext fun a => match a with | ⟨0, _⟩ => rfl | ⟨1, _⟩ => rfl | ⟨2, _⟩ => rfl)

/-- The reference's gradient. -/
theorem ref_rows (A B : S4x2048x704.Idx → EReal) (WG WU : S4x704x1024.Idx → EReal) :
    val_main_v13 (F := Ideal) A B WG WU = rowsGrad A B WG WU := by
  funext i
  rw [val_main_v13_apply]
  unfold rowsGrad
  rw [Finset.sum_add_distrib]
  refine (add_comm _ _).trans ?_
  exact congrArg₂ (· + ·)
    (contract_slabs A WG (val_main_v11 (F := Ideal) A) (fun i => (val_main_v11_apply (F := Ideal) A i).trans rfl) i)
    (contract_slabs B WU (val_main_v9 (F := Ideal) B) (fun i => (val_main_v9_apply (F := Ideal) B i).trans rfl) i)

end Cert.Proof.Dh

end
-- ==== Proof.Dh.Claims.lean ====
/-
  The claims about the gradient of the feed-forward half's input rows: the reference's frame, and that kernel and reference
  end with the same gradient.
-/
module

public import proofs.«01_k».proof.Defs
public import proofs.«01_k».proof.Proof.Dh.Reference

@[expose] public section

set_option maxRecDepth 16384

noncomputable section

namespace Cert.Proof.Dh

open Idealize.ShloMosaic Idealize.ShloMosaic.TcCoe Idealize.SL.Sem

/-- The reference leaves its arguments alone, and having no semaphore ends with none raised. -/
theorem ref_frame : Cert.quiescent_FfnDhRefIdeal := fun m ρ _ =>
  (θ_run _ _ _).mono (fun r h => ⟨fun c => (h c).2, sem_eq_zero_of_no_sems (by decide) r.2⟩)
    (Cert.FfnDhRefIdeal.Value.run m ρ)

/-- The rows' gradient of the kernel is that of the reference. -/
theorem equal : Cert.algebraic_FfnDhIdeal_FfnDhRefIdeal := fun m ρ m' ρ' _ harg =>
  ⟨fun c => (Cert.FfnDhIdeal.Gen.dats m 0 c).arrAt 4 Cert.FfnDhIdeal.cfg0.N,
    Cert.FfnDhIdeal.Value.run_blocks m ρ,
    (θ_run _ _ _).mono (fun r h c => by
      obtain ⟨a0, a1, a2, a3⟩ := harg c
      obtain ⟨r13, args⟩ := h c
      refine ⟨r13.trans ?_, args⟩
      refine (Cert.FfnDhRefIdeal.Read.val_main_v13_eq _ _ _ _).trans ?_
      rw [a0, a1, a2, a3]
      exact (ref_rows _ _ _ _).trans (final m c).symm)
      (Cert.FfnDhRefIdeal.Value.run m' ρ')⟩

end Cert.Proof.Dh

end
-- ==== Proof.Mix.Products.lean ====
/-
  The five weight gradients of the mixing half: each region contracts the tokens of two arrays of rows, one chip's slice of
  the rows' (the output projection) or of the columns' (the other four) units at a point.
-/
module

public import proofs.«01_k».proof.Proof.Sums
public import proofs.«01_k».proof.Proof.Gen.MixGradIdeal.Frame
public import Idealize.ShloMosaic.Lib.Pipeline.Value
public import Idealize.ShloMosaic.Lib.Pipeline.ValueKit
public import Idealize.ShloMosaic.Lib.ValueLayout
public import Idealize.ShloMosaic.Lib.ValueIdx

@[expose] public section

noncomputable section

open scoped BigOperators

namespace Cert.Proof.Mix

open Idealize.ShloMosaic hiding ix1 ix2 ix3 eq_ix1 eq_ix2 eq_ix3
open Idealize.ShloMosaic.TcCoe Idealize.ShloMosaic.ValueIdx Idealize.SL.Sem
open Cert.MixGradIdeal Cert.MixGradIdeal.Gen Cert.Sums

/-- The rows of a weight's gradient, slice by slice: slice `s` holds the rows of the units `s * 256 …`. -/
def rowSlices (A : S2048x1024.Idx → EReal) (B : S2048x1024.Idx → EReal) : S4x256x1024.Idx → EReal :=
  fun i => ∑ n : Fin 2048, A (ix2 n ⟨(i 0).val * 256 + (i 1).val, by have := (i 0).isLt; have := (i 1).isLt; dsimp at *; omega⟩)
    * B (ix2 n ⟨(i 2).val, (i 2).isLt⟩)

/-- The columns of a branch weight's gradient, slice by slice: slice `s` holds the columns `s * 256 …`. -/
def colSlices (A : S2048x512.Idx → EReal) (B : S2048x1024.Idx → EReal) : S4x512x256.Idx → EReal :=
  fun i => ∑ n : Fin 2048, A (ix2 n ⟨(i 1).val, (i 1).isLt⟩)
    * B (ix2 n ⟨(i 0).val * 256 + (i 2).val, by have := (i 0).isLt; have := (i 2).isLt; dsimp at *; omega⟩)

/-- The columns of the input projection's gradient, slice by slice: slice `s` holds the columns `s * 1792 …`. -/
def inSlices (A : S2048x1024.Idx → EReal) (B : S2048x7168.Idx → EReal) : S4x1024x1792.Idx → EReal :=
  fun i => ∑ n : Fin 2048, A (ix2 n ⟨(i 1).val, (i 1).isLt⟩)
    * B (ix2 n ⟨(i 0).val * 1792 + (i 2).val, by have := (i 0).isLt; have := (i 2).isLt; dsimp at *; omega⟩)

/-! One point's contraction over the tokens, at the three shapes. -/

def rowDot (a : S2048x256.Idx → EReal) (b : S2048x1024.Idx → EReal) (f : Fin 256) (d : Fin 1024) : EReal :=
  ∑ n : Fin 2048, a (ix2 n f) * b (ix2 n d)
def colDot (a : S2048x512.Idx → EReal) (b : S2048x256.Idx → EReal) (f : Fin 512) (d : Fin 256) : EReal :=
  ∑ n : Fin 2048, a (ix2 n f) * b (ix2 n d)
def inDot (a : S2048x1024.Idx → EReal) (b : S2048x1792.Idx → EReal) (f : Fin 1024) (d : Fin 1792) : EReal :=
  ∑ n : Fin 2048, a (ix2 n f) * b (ix2 n d)

theorem rowDot_at {φ ψ : FTy} (a : FVec Ideal S2048x256 φ) (b : FVec Ideal S2048x1024 ψ) (f : Fin 256) (d : Fin 1024) :
    matmul (F := Ideal) dot_S2048x256_S2048x1024_S256x1024_0_0_1_1_n_n none a b (constant S256x1024 .f32 0x00000000#32) (ix2 f d) = rowDot a b f d := by
  rw [matmul_at dot_S2048x256_S2048x1024_S256x1024_0_0_1_1_n_n 2048 rfl rfl none _ _ _ (fun n => ix2 n f) (fun n => ix2 n d)
    (fun k => funext fun a => Fin.ext (match a with | ⟨0, _⟩ => rfl | ⟨1, _⟩ => rfl))
    (fun k => funext fun a => Fin.ext (match a with | ⟨0, _⟩ => rfl | ⟨1, _⟩ => rfl))]
  rfl

theorem colDot_at {φ ψ : FTy} (a : FVec Ideal S2048x512 φ) (b : FVec Ideal S2048x256 ψ) (f : Fin 512) (d : Fin 256) :
    matmul (F := Ideal) dot_S2048x512_S2048x256_S512x256_0_0_1_1_n_n none a b (constant S512x256 .f32 0x00000000#32) (ix2 f d) = colDot a b f d := by
  rw [matmul_at dot_S2048x512_S2048x256_S512x256_0_0_1_1_n_n 2048 rfl rfl none _ _ _ (fun n => ix2 n f) (fun n => ix2 n d)
    (fun k => funext fun a => Fin.ext (match a with | ⟨0, _⟩ => rfl | ⟨1, _⟩ => rfl))
    (fun k => funext fun a => Fin.ext (match a with | ⟨0, _⟩ => rfl | ⟨1, _⟩ => rfl))]
  rfl

theorem inDot_at {φ ψ : FTy} (a : FVec Ideal S2048x1024 φ) (b : FVec Ideal S2048x1792 ψ) (f : Fin 1024) (d : Fin 1792) :
    matmul (F := Ideal) dot_S2048x1024_S2048x1792_S1024x1792_0_0_1_1_n_n none a b (constant S1024x1792 .f32 0x00000000#32) (ix2 f d) = inDot a b f d := by
  rw [matmul_at dot_S2048x1024_S2048x1792_S1024x1792_0_0_1_1_n_n 2048 rfl rfl none _ _ _ (fun n => ix2 n f) (fun n => ix2 n d)
    (fun k => funext fun a => Fin.ext (match a with | ⟨0, _⟩ => rfl | ⟨1, _⟩ => rfl))
    (fun k => funext fun a => Fin.ext (match a with | ⟨0, _⟩ => rfl | ⟨1, _⟩ => rfl))]
  rfl

variable (V : (c : Dev nD) → (b : Ref sig .tc) → Buf (Elt Ideal) ((c : Thread nD τ).loc b))

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0, 0] := (by decide +kernel : ∀ t : Fin grid0.N, _)

theorem pay0_dot (a : Vec Ideal S2048x256 .bf16) (b : Vec Ideal S2048x1024 .f32) (u : Fin 1) (f : Fin 256) (d : Fin 1024) :
    k0_pay1 a b (ix3 u f d) = rowDot a b f d := by
  unfold k0_pay1
  exact (shapeCast_ab_1ab_apply _ _ _ _ _).trans (rowDot_at (φ := .bf16) (ψ := .bf16) a b f d)

/-- One point's contraction is the whole one's slice at the block's place. -/
theorem tok0 (c : Dev nD) (t : Fin cfg0.N) (u : Fin 1) (f : Fin 256) (d : Fin 1024) :
    rowDot (iblk0 V c 0 t) (iblk0 V c 1 t) f d
      = rowSlices (V c main_arg2) (V c main_arg3) (((View.whole main_v0).slice (win0_2.rect t)).emb (ix3 u f d)) := by
  unfold rowDot rowSlices
  refine Finset.sum_congr rfl fun n _ => ?_
  blk_simp [iblk0, idx0_0, idx0_1, idx0_2]
  congr 2
  · blk_ext [idx0_0, idx0_2, at2_0, at2_1, at3_0, at3_1, at3_2]
  · blk_ext [idx0_1, idx0_2, at2_0, at2_1, at3_0, at3_1, at3_2]

/-- The output projection's gradient after its region. -/
theorem final0_2 (c : Dev nD) : (dat0 V c).arrAt 2 cfg0.N = rowSlices (V c main_arg2) (V c main_arg3) := by
  refine (dat0 V c).arrAt_eq_of_covers 2 _ (by decide +kernel) fun t hf y => ?_
  blk_simp
  rw [after0_2]
  frame_out
  obtain ⟨u, f, d, rfl⟩ : ∃ (u : Fin 1) (f : Fin 256) (d : Fin 1024), y = ix3 u f d := ⟨y 0, y 1, y 2, eq_ix3 y⟩
  rw [pay0_dot]
  exact tok0 V c t u f d

theorem idx1_0 : ∀ t : Fin cfg1.N, win1_0.index t = ![0, 0] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![t.val, 0, 0] := (by decide +kernel : ∀ t : Fin grid1.N, _)

theorem pay1_dot (a : Vec Ideal S2048x512 .bf16) (b : Vec Ideal S2048x256 .bf16) (u : Fin 1) (f : Fin 512) (d : Fin 256) :
    k1_pay1 a b (ix3 u f d) = colDot a b f d := by
  unfold k1_pay1
  exact (shapeCast_ab_1ab_apply _ _ _ _ _).trans (colDot_at (φ := .bf16) (ψ := .bf16) a b f d)

/-- One point's contraction is the whole one's slice at the block's place. -/
theorem tok1 (c : Dev nD) (t : Fin cfg1.N) (u : Fin 1) (f : Fin 512) (d : Fin 256) :
    colDot (iblk1 V c 0 t) (iblk1 V c 1 t) f d
      = colSlices (V c main_arg4) (V c main_arg5) (((View.whole main_v1).slice (win1_2.rect t)).emb (ix3 u f d)) := by
  unfold colDot colSlices
  refine Finset.sum_congr rfl fun n _ => ?_
  blk_simp [iblk1, idx1_0, idx1_1, idx1_2]
  congr 2
  · blk_ext [idx1_0, idx1_2, at2_0, at2_1, at3_0, at3_1, at3_2]
  · blk_ext [idx1_1, idx1_2, at2_0, at2_1, at3_0, at3_1, at3_2]

/-- The state-space branch weight's gradient after its region. -/
theorem final1_2 (c : Dev nD) : (dat1 V c).arrAt 2 cfg1.N = colSlices (V c main_arg4) (V c main_arg5) := by
  refine (dat1 V c).arrAt_eq_of_covers 2 _ (by decide +kernel) fun t hf y => ?_
  blk_simp
  rw [after1_2]
  frame_out
  obtain ⟨u, f, d, rfl⟩ : ∃ (u : Fin 1) (f : Fin 512) (d : Fin 256), y = ix3 u f d := ⟨y 0, y 1, y 2, eq_ix3 y⟩
  rw [pay1_dot]
  exact tok1 V c t u f d

theorem idx2_0 : ∀ t : Fin cfg2.N, win2_0.index t = ![0, 0] := (by decide +kernel : ∀ t : Fin grid2.N, _)
theorem idx2_1 : ∀ t : Fin cfg2.N, win2_1.index t = ![0, t.val] := (by decide +kernel : ∀ t : Fin grid2.N, _)
theorem idx2_2 : ∀ t : Fin cfg2.N, win2_2.index t = ![t.val, 0, 0] := (by decide +kernel : ∀ t : Fin grid2.N, _)

theorem pay2_dot (a : Vec Ideal S2048x512 .bf16) (b : Vec Ideal S2048x256 .bf16) (u : Fin 1) (f : Fin 512) (d : Fin 256) :
    k2_pay1 a b (ix3 u f d) = colDot a b f d := by
  unfold k2_pay1
  exact (shapeCast_ab_1ab_apply _ _ _ _ _).trans (colDot_at (φ := .bf16) (ψ := .bf16) a b f d)

/-- One point's contraction is the whole one's slice at the block's place. -/
theorem tok2 (c : Dev nD) (t : Fin cfg2.N) (u : Fin 1) (f : Fin 512) (d : Fin 256) :
    colDot (iblk2 V c 0 t) (iblk2 V c 1 t) f d
      = colSlices (V c main_arg6) (V c main_arg7) (((View.whole main_v2).slice (win2_2.rect t)).emb (ix3 u f d)) := by
  unfold colDot colSlices
  refine Finset.sum_congr rfl fun n _ => ?_
  blk_simp [iblk2, idx2_0, idx2_1, idx2_2]
  congr 2
  · blk_ext [idx2_0, idx2_2, at2_0, at2_1, at3_0, at3_1, at3_2]
  · blk_ext [idx2_1, idx2_2, at2_0, at2_1, at3_0, at3_1, at3_2]

/-- The gated linear unit weight's gradient after its region. -/
theorem final2_2 (c : Dev nD) : (dat2 V c).arrAt 2 cfg2.N = colSlices (V c main_arg6) (V c main_arg7) := by
  refine (dat2 V c).arrAt_eq_of_covers 2 _ (by decide +kernel) fun t hf y => ?_
  blk_simp
  rw [after2_2]
  frame_out
  obtain ⟨u, f, d, rfl⟩ : ∃ (u : Fin 1) (f : Fin 512) (d : Fin 256), y = ix3 u f d := ⟨y 0, y 1, y 2, eq_ix3 y⟩
  rw [pay2_dot]
  exact tok2 V c t u f d

theorem idx3_0 : ∀ t : Fin cfg3.N, win3_0.index t = ![0, 0] := (by decide +kernel : ∀ t : Fin grid3.N, _)
theorem idx3_1 : ∀ t : Fin cfg3.N, win3_1.index t = ![0, t.val] := (by decide +kernel : ∀ t : Fin grid3.N, _)
theorem idx3_2 : ∀ t : Fin cfg3.N, win3_2.index t = ![t.val, 0, 0] := (by decide +kernel : ∀ t : Fin grid3.N, _)

theorem pay3_dot (a : Vec Ideal S2048x512 .f32) (b : Vec Ideal S2048x256 .bf16) (u : Fin 1) (f : Fin 512) (d : Fin 256) :
    k3_pay1 a b (ix3 u f d) = colDot a b f d := by
  unfold k3_pay1
  exact (shapeCast_ab_1ab_apply _ _ _ _ _).trans (colDot_at (φ := .bf16) (ψ := .bf16) a b f d)

/-- One point's contraction is the whole one's slice at the block's place. -/
theorem tok3 (c : Dev nD) (t : Fin cfg3.N) (u : Fin 1) (f : Fin 512) (d : Fin 256) :
    colDot (iblk3 V c 0 t) (iblk3 V c 1 t) f d
      = colSlices (V c main_arg8) (V c main_arg9) (((View.whole main_v3).slice (win3_2.rect t)).emb (ix3 u f d)) := by
  unfold colDot colSlices
  refine Finset.sum_congr rfl fun n _ => ?_
  blk_simp [iblk3, idx3_0, idx3_1, idx3_2]
  congr 2
  · blk_ext [idx3_0, idx3_2, at2_0, at2_1, at3_0, at3_1, at3_2]
  · blk_ext [idx3_1, idx3_2, at2_0, at2_1, at3_0, at3_1, at3_2]

/-- The attention branch weight's gradient after its region. -/
theorem final3_2 (c : Dev nD) : (dat3 V c).arrAt 2 cfg3.N = colSlices (V c main_arg8) (V c main_arg9) := by
  refine (dat3 V c).arrAt_eq_of_covers 2 _ (by decide +kernel) fun t hf y => ?_
  blk_simp
  rw [after3_2]
  frame_out
  obtain ⟨u, f, d, rfl⟩ : ∃ (u : Fin 1) (f : Fin 512) (d : Fin 256), y = ix3 u f d := ⟨y 0, y 1, y 2, eq_ix3 y⟩
  rw [pay3_dot]
  exact tok3 V c t u f d

theorem idx4_0 : ∀ t : Fin cfg4.N, win4_0.index t = ![0, 0] := (by decide +kernel : ∀ t : Fin grid4.N, _)
theorem idx4_1 : ∀ t : Fin cfg4.N, win4_1.index t = ![0, t.val] := (by decide +kernel : ∀ t : Fin grid4.N, _)
theorem idx4_2 : ∀ t : Fin cfg4.N, win4_2.index t = ![t.val, 0, 0] := (by decide +kernel : ∀ t : Fin grid4.N, _)

theorem pay4_dot (a : Vec Ideal S2048x1024 .f32) (b : Vec Ideal S2048x1792 .bf16) (u : Fin 1) (f : Fin 1024) (d : Fin 1792) :
    k4_pay1 a b (ix3 u f d) = inDot a b f d := by
  unfold k4_pay1
  exact (shapeCast_ab_1ab_apply _ _ _ _ _).trans (inDot_at (φ := .bf16) (ψ := .bf16) a b f d)

/-- One point's contraction is the whole one's slice at the block's place. -/
theorem tok4 (c : Dev nD) (t : Fin cfg4.N) (u : Fin 1) (f : Fin 1024) (d : Fin 1792) :
    inDot (iblk4 V c 0 t) (iblk4 V c 1 t) f d
      = inSlices (V c main_arg0) (V c main_arg1) (((View.whole main_v4).slice (win4_2.rect t)).emb (ix3 u f d)) := by
  unfold inDot inSlices
  refine Finset.sum_congr rfl fun n _ => ?_
  blk_simp [iblk4, idx4_0, idx4_1, idx4_2]
  congr 2
  · blk_ext [idx4_0, idx4_2, at2_0, at2_1, at3_0, at3_1, at3_2]
  · blk_ext [idx4_1, idx4_2, at2_0, at2_1, at3_0, at3_1, at3_2]

/-- The input projection's gradient after its region. -/
theorem final4_2 (c : Dev nD) : (dat4 V c).arrAt 2 cfg4.N = inSlices (V c main_arg0) (V c main_arg1) := by
  refine (dat4 V c).arrAt_eq_of_covers 2 _ (by decide +kernel) fun t hf y => ?_
  blk_simp
  rw [after4_2]
  frame_out
  obtain ⟨u, f, d, rfl⟩ : ∃ (u : Fin 1) (f : Fin 1024) (d : Fin 1792), y = ix3 u f d := ⟨y 0, y 1, y 2, eq_ix3 y⟩
  rw [pay4_dot]
  exact tok4 V c t u f d

end Cert.Proof.Mix

end
-- ==== Proof.Mix.Run.lean ====
/-
  The run of the mixing half's weight gradients: every buffer a device holds ends at the last region's exit contents, and
  from there the five gradients as functions of the arguments.
-/
module

public import proofs.«01_k».proof.Proof.Mix.Products

@[expose] public section

set_option maxRecDepth 16384

noncomputable section

namespace Cert.Proof.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixGradIdeal Cert.MixGradIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the program runs to a state whose every device buffer is the last region's exit contents, with every
    counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

section Value

variable (m : (ℓ : Loc nD τ sig) → Buf (Elt Ideal) ℓ) (ρ : Dev nD → PrngReg) (c : Dev nD)

/-- The arguments as launched. -/
abbrev arg0 : S2048x1024.Idx → EReal := m ((c.tc : Thread nD τ).loc main_arg0)
abbrev arg1 : S2048x7168.Idx → EReal := m ((c.tc : Thread nD τ).loc main_arg1)
abbrev arg2 : S2048x1024.Idx → EReal := m ((c.tc : Thread nD τ).loc main_arg2)
abbrev arg3 : S2048x1024.Idx → EReal := m ((c.tc : Thread nD τ).loc main_arg3)
abbrev arg4 : S2048x512.Idx → EReal := m ((c.tc : Thread nD τ).loc main_arg4)
abbrev arg5 : S2048x1024.Idx → EReal := m ((c.tc : Thread nD τ).loc main_arg5)
abbrev arg6 : S2048x512.Idx → EReal := m ((c.tc : Thread nD τ).loc main_arg6)
abbrev arg7 : S2048x1024.Idx → EReal := m ((c.tc : Thread nD τ).loc main_arg7)
abbrev arg8 : S2048x512.Idx → EReal := m ((c.tc : Thread nD τ).loc main_arg8)
abbrev arg9 : S2048x1024.Idx → EReal := m ((c.tc : Thread nD τ).loc main_arg9)

/-- The output projection's gradient. -/
theorem W5_out : W5 m ρ c main_v0 = rowSlices (arg2 m c) (arg3 m c) := by
  refine (W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((final0_2 (V0 m ρ) c).trans ?_)))))
  rw [show V0 m ρ c main_arg2 = _ from W0_args m ρ c main_arg2 (by decide),
    show V0 m ρ c main_arg3 = _ from W0_args m ρ c main_arg3 (by decide)]

/-- The state-space branch weight's gradient. -/
theorem W5_ssm : W5 m ρ c main_v1 = colSlices (arg4 m c) (arg5 m c) := by
  refine (W5_of m ρ c main_v1 (by decide +kernel)).trans ((W4_of m ρ c main_v1 (by decide +kernel)).trans ((W3_of m ρ c main_v1 (by decide +kernel)).trans ((W2_arr m ρ c 2).trans ((final1_2 (V1 m ρ) c).trans ?_))))
  rw [show V1 m ρ c main_arg4 = _ from W1_args m ρ c main_arg4 (by decide),
    show V1 m ρ c main_arg5 = _ from W1_args m ρ c main_arg5 (by decide)]

/-- The gated linear unit weight's gradient. -/
theorem W5_glu : W5 m ρ c main_v2 = colSlices (arg6 m c) (arg7 m c) := by
  refine (W5_of m ρ c main_v2 (by decide +kernel)).trans ((W4_of m ρ c main_v2 (by decide +kernel)).trans ((W3_arr m ρ c 2).trans ((final2_2 (V2 m ρ) c).trans ?_)))
  rw [show V2 m ρ c main_arg6 = _ from W2_args m ρ c main_arg6 (by decide),
    show V2 m ρ c main_arg7 = _ from W2_args m ρ c main_arg7 (by decide)]

/-- The attention branch weight's gradient. -/
theorem W5_attn : W5 m ρ c main_v3 = colSlices (arg8 m c) (arg9 m c) := by
  refine (W5_of m ρ c main_v3 (by decide +kernel)).trans ((W4_arr m ρ c 2).trans ((final3_2 (V3 m ρ) c).trans ?_))
  rw [show V3 m ρ c main_arg8 = _ from W3_args m ρ c main_arg8 (by decide),
    show V3 m ρ c main_arg9 = _ from W3_args m ρ c main_arg9 (by decide)]

/-- The input projection's gradient. -/
theorem W5_in : W5 m ρ c main_v4 = inSlices (arg0 m c) (arg1 m c) := by
  refine (W5_arr m ρ c 2).trans ((final4_2 (V4 m ρ) c).trans ?_)
  rw [show V4 m ρ c main_arg0 = _ from W4_args m ρ c main_arg0 (by decide),
    show V4 m ρ c main_arg1 = _ from W4_args m ρ c main_arg1 (by decide)]

end Value

end Cert.Proof.Mix

end
-- ==== Proof.Mix.Reference.lean ====
/-
  The reference's weight gradients of the mixing half at an index, as the kernel's whole-array functions.
-/
module

public import proofs.«01_k».proof.Proof.Mix.Run
public import proofs.«01_k».proof.Proof.Gen.MixRefIdeal.Read

@[expose] public section

noncomputable section

open scoped BigOperators

namespace Cert.Proof.Mix

open Idealize.ShloMosaic hiding ix1 ix2 ix3 eq_ix1 eq_ix2 eq_ix3
open Idealize.ShloMosaic.TcCoe Idealize.ShloMosaic.ValueIdx Idealize.SL.Sem
open Cert.MixRefIdeal Cert.MixRefIdeal.Read Cert.Sums

/-! The input projection: the reference's operand indices as coordinates, and its gradient. -/

theorem l5 (i : S4x1024x1792.Idx) (n : Fin 2048) : idx_main_v4 (lidx_main_v5 (idx_main_v6 i) n)
    = ix2 n ⟨(i 0).val * 1792 + (i 2).val, by have := (i 0).isLt; have := (i 2).isLt; dsimp at *; omega⟩ := by
  have h0 := (i 0).isLt; have h2 := (i 2).isLt
  dsimp at h0 h2
  exact funext fun a => match a with
    | ⟨0, _⟩ => Fin.ext (by show ((n.val * 4 + (i 0).val) * 1792 + (i 2).val) / 7168 = n.val; omega)
    | ⟨1, _⟩ => Fin.ext (by show ((n.val * 4 + (i 0).val) * 1792 + (i 2).val) % 7168 = (i 0).val * 1792 + (i 2).val; omega)
theorem r5 (i : S4x1024x1792.Idx) (n : Fin 2048) : ridx_main_v5 (idx_main_v6 i) n = ix2 n ⟨(i 1).val, (i 1).isLt⟩ :=
  funext fun a => match a with | ⟨0, _⟩ => rfl | ⟨1, _⟩ => rfl

theorem ref_in (A : S2048x1024.Idx → EReal) (B : S2048x7168.Idx → EReal) : val_main_v7 (F := Ideal) A B = inSlices A B := by
  funext i
  rw [val_main_v7_apply, val_main_v6_apply, val_main_v5_apply]
  refine Finset.sum_congr rfl fun n _ => ?_
  rw [val_main_v4_apply, l5, r5]
  exact mul_comm _ _

/-! The attention branch weight: the reference's operand indices as coordinates, and its gradient. -/

theorem l13 (i : S4x512x256.Idx) (n : Fin 2048) : idx_main_v12 (lidx_main_v13 (idx_main_v14 i) n)
    = ix2 n ⟨(i 0).val * 256 + (i 2).val, by have := (i 0).isLt; have := (i 2).isLt; dsimp at *; omega⟩ := by
  have h0 := (i 0).isLt; have h2 := (i 2).isLt
  dsimp at h0 h2
  exact funext fun a => match a with
    | ⟨0, _⟩ => Fin.ext (by show ((n.val * 4 + (i 0).val) * 256 + (i 2).val) / 1024 = n.val; omega)
    | ⟨1, _⟩ => Fin.ext (by show ((n.val * 4 + (i 0).val) * 256 + (i 2).val) % 1024 = (i 0).val * 256 + (i 2).val; omega)
theorem r13 (i : S4x512x256.Idx) (n : Fin 2048) : ridx_main_v13 (idx_main_v14 i) n = ix2 n ⟨(i 1).val, (i 1).isLt⟩ :=
  funext fun a => match a with | ⟨0, _⟩ => rfl | ⟨1, _⟩ => rfl

theorem ref_attn (A : S2048x512.Idx → EReal) (B : S2048x1024.Idx → EReal) : val_main_v15 (F := Ideal) A B = colSlices A B := by
  funext i
  rw [val_main_v15_apply, val_main_v14_apply, val_main_v13_apply]
  refine Finset.sum_congr rfl fun n _ => ?_
  rw [val_main_v12_apply, l13, r13]
  exact mul_comm _ _

/-! The state-space branch weight: the reference's operand indices as coordinates, and its gradient. -/

theorem l22 (i : S4x512x256.Idx) (n : Fin 2048) : idx_main_v21 (lidx_main_v22 (idx_main_v23 i) n)
    = ix2 n ⟨(i 0).val * 256 + (i 2).val, by have := (i 0).isLt; have := (i 2).isLt; dsimp at *; omega⟩ := by
  have h0 := (i 0).isLt; have h2 := (i 2).isLt
  dsimp at h0 h2
  exact funext fun a => match a with
    | ⟨0, _⟩ => Fin.ext (by show ((n.val * 4 + (i 0).val) * 256 + (i 2).val) / 1024 = n.val; omega)
    | ⟨1, _⟩ => Fin.ext (by show ((n.val * 4 + (i 0).val) * 256 + (i 2).val) % 1024 = (i 0).val * 256 + (i 2).val; omega)
theorem r22 (i : S4x512x256.Idx) (n : Fin 2048) : ridx_main_v22 (idx_main_v23 i) n = ix2 n ⟨(i 1).val, (i 1).isLt⟩ :=
  funext fun a => match a with | ⟨0, _⟩ => rfl | ⟨1, _⟩ => rfl

theorem ref_ssm (A : S2048x512.Idx → EReal) (B : S2048x1024.Idx → EReal) : val_main_v24 (F := Ideal) A B = colSlices A B := by
  funext i
  rw [val_main_v24_apply, val_main_v23_apply, val_main_v22_apply]
  refine Finset.sum_congr rfl fun n _ => ?_
  rw [val_main_v21_apply, l22, r22]
  exact mul_comm _ _

/-! The gated linear unit weight: the reference's operand indices as coordinates, and its gradient. -/

theorem l31 (i : S4x512x256.Idx) (n : Fin 2048) : idx_main_v30 (lidx_main_v31 (idx_main_v32 i) n)
    = ix2 n ⟨(i 0).val * 256 + (i 2).val, by have := (i 0).isLt; have := (i 2).isLt; dsimp at *; omega⟩ := by
  have h0 := (i 0).isLt; have h2 := (i 2).isLt
  dsimp at h0 h2
  exact funext fun a => match a with
    | ⟨0, _⟩ => Fin.ext (by show ((n.val * 4 + (i 0).val) * 256 + (i 2).val) / 1024 = n.val; omega)
    | ⟨1, _⟩ => Fin.ext (by show ((n.val * 4 + (i 0).val) * 256 + (i 2).val) % 1024 = (i 0).val * 256 + (i 2).val; omega)
theorem r31 (i : S4x512x256.Idx) (n : Fin 2048) : ridx_main_v31 (idx_main_v32 i) n = ix2 n ⟨(i 1).val, (i 1).isLt⟩ :=
  funext fun a => match a with | ⟨0, _⟩ => rfl | ⟨1, _⟩ => rfl

theorem ref_glu (A : S2048x512.Idx → EReal) (B : S2048x1024.Idx → EReal) : val_main_v33 (F := Ideal) A B = colSlices A B := by
  funext i
  rw [val_main_v33_apply, val_main_v32_apply, val_main_v31_apply]
  refine Finset.sum_congr rfl fun n _ => ?_
  rw [val_main_v30_apply, l31, r31]
  exact mul_comm _ _

/-! The output projection, whose gradient's rows are the reshaped rows of one product. -/

theorem l38 (i : S4x256x1024.Idx) (n : Fin 2048) : lidx_main_v38 (idx_main_v39 (idx_main_v40 i)) n = ix2 n ⟨(i 2).val, (i 2).isLt⟩ := by
  have h0 := (i 0).isLt; have h1 := (i 1).isLt; have h2 := (i 2).isLt
  dsimp at h0 h1 h2
  exact funext fun a => match a with
    | ⟨0, _⟩ => rfl
    | ⟨1, _⟩ => Fin.ext (by show (((i 0).val * 256 + (i 1).val) * 1024 + (i 2).val) % 1024 = (i 2).val; omega)
theorem r38 (i : S4x256x1024.Idx) (n : Fin 2048) : ridx_main_v38 (idx_main_v39 (idx_main_v40 i)) n
    = ix2 n ⟨(i 0).val * 256 + (i 1).val, by have := (i 0).isLt; have := (i 1).isLt; dsimp at *; omega⟩ := by
  have h0 := (i 0).isLt; have h1 := (i 1).isLt; have h2 := (i 2).isLt
  dsimp at h0 h1 h2
  exact funext fun a => match a with
    | ⟨0, _⟩ => rfl
    | ⟨1, _⟩ => Fin.ext (by show (((i 0).val * 256 + (i 1).val) * 1024 + (i 2).val) / 1024 = (i 0).val * 256 + (i 1).val; omega)

theorem ref_out (A B : S2048x1024.Idx → EReal) : val_main_v41 (F := Ideal) A B = rowSlices A B := by
  funext i
  rw [val_main_v41_apply, val_main_v40_apply, val_main_v39_apply, val_main_v38_apply]
  refine Finset.sum_congr rfl fun n _ => ?_
  rw [l38, r38]
  exact mul_comm _ _

end Cert.Proof.Mix

end
-- ==== Proof.Mix.Claims.lean ====
/-
  The claims about the mixing half's weight gradients: the reference's frame, and that kernel and reference end with the
  same five gradients.
-/
module

public import proofs.«01_k».proof.Defs
public import proofs.«01_k».proof.Proof.Mix.Run
public import proofs.«01_k».proof.Proof.Mix.Reference

@[expose] public section

set_option maxRecDepth 16384

noncomputable section

namespace Cert.Proof.Mix

open Idealize.ShloMosaic Idealize.ShloMosaic.TcCoe Idealize.SL.Sem

/-- The reference leaves its arguments alone, and having no semaphore ends with none raised. -/
theorem ref_frame : Cert.quiescent_MixRefIdeal := fun m ρ _ =>
  (θ_run _ _ _).mono (fun r h => ⟨fun c => (h c).2.2.2.2.2, sem_eq_zero_of_no_sems (by decide) r.2⟩)
    (Cert.MixRefIdeal.Value.run m ρ)

/-- The five weight gradients of the kernel are those of the reference. -/
theorem equal : Cert.algebraic_MixGradIdeal_MixRefIdeal := fun m ρ m' ρ' _ harg =>
  ⟨fun c => Cert.MixGradIdeal.Gen.W5 m ρ c Cert.MixGradIdeal.main_v4,
    fun c => Cert.MixGradIdeal.Gen.W5 m ρ c Cert.MixGradIdeal.main_v3,
    fun c => Cert.MixGradIdeal.Gen.W5 m ρ c Cert.MixGradIdeal.main_v1,
    fun c => Cert.MixGradIdeal.Gen.W5 m ρ c Cert.MixGradIdeal.main_v2,
    fun c => Cert.MixGradIdeal.Gen.W5 m ρ c Cert.MixGradIdeal.main_v0,
    (θ_run _ _ _).mono (fun r h c =>
      ⟨h.1 c _ (Cert.MixGradIdeal.Gen.mem_uc Cert.MixGradIdeal.main_v4 (by decide)),
        h.1 c _ (Cert.MixGradIdeal.Gen.mem_uc Cert.MixGradIdeal.main_v3 (by decide)),
        h.1 c _ (Cert.MixGradIdeal.Gen.mem_uc Cert.MixGradIdeal.main_v1 (by decide)),
        h.1 c _ (Cert.MixGradIdeal.Gen.mem_uc Cert.MixGradIdeal.main_v2 (by decide)),
        h.1 c _ (Cert.MixGradIdeal.Gen.mem_uc Cert.MixGradIdeal.main_v0 (by decide)),
        (h.1 c _ (Cert.MixGradIdeal.Gen.mem_uc Cert.MixGradIdeal.main_arg0 (by decide))).trans (Cert.MixGradIdeal.Gen.W5_main_arg0 m ρ c),
        (h.1 c _ (Cert.MixGradIdeal.Gen.mem_uc Cert.MixGradIdeal.main_arg1 (by decide))).trans (Cert.MixGradIdeal.Gen.W5_main_arg1 m ρ c),
        (h.1 c _ (Cert.MixGradIdeal.Gen.mem_uc Cert.MixGradIdeal.main_arg2 (by decide))).trans (Cert.MixGradIdeal.Gen.W5_main_arg2 m ρ c),
        (h.1 c _ (Cert.MixGradIdeal.Gen.mem_uc Cert.MixGradIdeal.main_arg3 (by decide))).trans (Cert.MixGradIdeal.Gen.W5_main_arg3 m ρ c),
        (h.1 c _ (Cert.MixGradIdeal.Gen.mem_uc Cert.MixGradIdeal.main_arg4 (by decide))).trans (Cert.MixGradIdeal.Gen.W5_main_arg4 m ρ c),
        (h.1 c _ (Cert.MixGradIdeal.Gen.mem_uc Cert.MixGradIdeal.main_arg5 (by decide))).trans (Cert.MixGradIdeal.Gen.W5_main_arg5 m ρ c),
        (h.1 c _ (Cert.MixGradIdeal.Gen.mem_uc Cert.MixGradIdeal.main_arg6 (by decide))).trans (Cert.MixGradIdeal.Gen.W5_main_arg6 m ρ c),
        (h.1 c _ (Cert.MixGradIdeal.Gen.mem_uc Cert.MixGradIdeal.main_arg7 (by decide))).trans (Cert.MixGradIdeal.Gen.W5_main_arg7 m ρ c),
        (h.1 c _ (Cert.MixGradIdeal.Gen.mem_uc Cert.MixGradIdeal.main_arg8 (by decide))).trans (Cert.MixGradIdeal.Gen.W5_main_arg8 m ρ c),
        (h.1 c _ (Cert.MixGradIdeal.Gen.mem_uc Cert.MixGradIdeal.main_arg9 (by decide))).trans (Cert.MixGradIdeal.Gen.W5_main_arg9 m ρ c)⟩)
      (run m ρ),
    (θ_run _ _ _).mono (fun r h c => by
      obtain ⟨a0, a1, a2, a3, a4, a5, a6, a7, a8, a9⟩ := harg c
      obtain ⟨r7, r15, r24, r33, r41, args⟩ := h c
      refine ⟨r7.trans ?_, r15.trans ?_, r24.trans ?_, r33.trans ?_, r41.trans ?_, args⟩
      · refine (Cert.MixRefIdeal.Read.val_main_v7_eq _ _).trans ?_
        rw [a0, a1]
        exact (ref_in _ _).trans (W5_in m ρ c).symm
      · refine (Cert.MixRefIdeal.Read.val_main_v15_eq _ _).trans ?_
        rw [a8, a9]
        exact (ref_attn _ _).trans (W5_attn m ρ c).symm
      · refine (Cert.MixRefIdeal.Read.val_main_v24_eq _ _).trans ?_
        rw [a4, a5]
        exact (ref_ssm _ _).trans (W5_ssm m ρ c).symm
      · refine (Cert.MixRefIdeal.Read.val_main_v33_eq _ _).trans ?_
        rw [a6, a7]
        exact (ref_glu _ _).trans (W5_glu m ρ c).symm
      · refine (Cert.MixRefIdeal.Read.val_main_v41_eq _ _).trans ?_
        rw [a2, a3]
        exact (ref_out _ _).trans (W5_out m ρ c).symm)
      (Cert.MixRefIdeal.Value.run m' ρ')⟩

end Cert.Proof.Mix

end
-- ==== Proof.Dx.Table.lean ====
/-
  The layer-input gradient's table of one word, the chip's place on the ring.  Whatever the word, the block of
  gathered weights the kernel asks for lies inside the array; and the word decides which weight a point multiplies by.
-/
module

public import proofs.«01_k».proof.Proof.Gen.Dx.Frame
public import proofs.«01_k».proof.Proof.Gen.DxIdeal.Frame

@[expose] public section

noncomputable section

namespace Cert.Proof.Dx

open Idealize.ShloMosaic Idealize.ShloMosaic.TcCoe

/-- The slab of gathered weights fetched at slab `s` when the chip's word is `v`: its own slab is never fetched, a neighbouring
    one is in its place. -/
def fetched (v : BitVec 32) (s : Nat) : BitVec 32 :=
  Scalar.select (Scalar.cmpi .eq (BitVec.ofNat 32 s) v)
    (Scalar.select (Scalar.cmpi .eq (BitVec.ofNat 32 s) 3#32) (Scalar.subi (BitVec.ofNat 32 s) 1#32) (Scalar.addi (BitVec.ofNat 32 s) 1#32))
    (BitVec.ofNat 32 s)

theorem fetched_lt (v : BitVec 32) : ∀ s : Fin 4, (fetched v s.val).toNat < 4 := by
  intro s
  unfold fetched
  generalize Scalar.cmpi .eq (BitVec.ofNat 32 s.val) v = b
  revert b s
  decide

/-- At a slab that is not the chip's own, that slab is fetched. -/
theorem fetched_other (v : BitVec 32) (s : Fin 4) (h : BitVec.ofNat 32 s.val ≠ v) : (fetched v s.val).toNat = s.val := by
  unfold fetched
  have e : Scalar.cmpi .eq (BitVec.ofNat 32 s.val) v = 0#1 := by
    rw [Scalar.cmpi, IntOp.cmpi]
    simp only [beq_eq_false_iff_ne.mpr h]
    rfl
  rw [e]
  clear e h
  revert s
  decide

/-- The body's test of its own slab, and of another's. -/
theorem mine_iff (a v : BitVec 32) :
    ((Scalar.cmpi .ne (Scalar.extui (Scalar.cmpi .eq a v)) (0#32 : BitVec 32)) = 1#1) ↔ a = v := by
  by_cases h : a = v
  · simp [Scalar.cmpi, IntOp.cmpi, Scalar.extui, h]
  · have e : (a == v) = false := beq_eq_false_iff_ne.mpr h
    simp only [Scalar.cmpi, IntOp.cmpi, e, h, iff_false]
    decide

theorem other_iff (a v : BitVec 32) :
    ((Scalar.cmpi .ne (Scalar.extui (Scalar.xori (Scalar.cmpi .eq a v) 1#1)) (0#32 : BitVec 32)) = 1#1) ↔ a ≠ v := by
  by_cases h : a = v
  · have e : (a == v) = true := beq_iff_eq.mpr h
    simp only [h, ne_eq, not_true, iff_false]
    simp only [Scalar.cmpi, IntOp.cmpi, beq_self_eq_true]
    decide
  · have e : (a == v) = false := beq_eq_false_iff_ne.mpr h
    simp only [Scalar.cmpi, IntOp.cmpi, e, h, ne_eq, not_false_iff, iff_true]
    decide

/-- The chip's word, as the index map reads it and as the body reads it. -/
abbrev word {F : FTy → Type} [FloatOps F] (pf : Cert.DxIdeal.pre0.Contents (Elt F)) : BitVec 32 :=
  Cert.DxIdeal.Gen.tbM0_0.view.readAt (Elt F) (Rect.unit (s := Cert.DxIdeal.S1) ![0] Cert.DxIdeal.S1.size Cert.DxIdeal.Gen.inb_S1_S1_0).toLoadRect
    (pf 0) (Shape.Idx.first (Cert.DxIdeal.Gen.numel1_S1.symm ▸ Nat.one_pos))

/-- The gathered weights' block index. -/
theorem index_others {F : FTy → Type} [FloatOps F] (pf : Cert.DxIdeal.pre0.Contents (Elt F)) (i : Cert.DxIdeal.grid0.Coords) :
    Cert.DxIdeal.cc0_transform_1 Cert.DxIdeal.Gen.inb_S1_S1_0 Cert.DxIdeal.Gen.numel1_S1 pf i = ![(fetched (word pf) (i 1).val).toNat, 0, 0] := rfl

theorem ok {F : FTy → Type} [FloatOps F] (m : (ℓ : Loc Cert.Dx.nD Cert.Dx.τ Cert.Dx.sig) → Buf (Elt F) ℓ) : Cert.Dx.Gen.Ok m := by
  refine fun i => ⟨fun a => ?_, .inr (Affine.block_words_dvd (of_decide_eq_true rfl) (by decide))⟩
  match a with
  | ⟨0, _⟩ =>
    show ((fetched _ (i 1).val).toNat + 1) * 1 ≤ 4
    have := fetched_lt (Cert.Dx.Gen.tbM0_0.view.readAt (Elt F) (Rect.unit (s := Cert.Dx.S1) ![0] Cert.Dx.S1.size Cert.Dx.Gen.inb_S1_S1_0).toLoadRect
      (Cert.Dx.Gen.tbl m 0) (Shape.Idx.first (Cert.Dx.Gen.numel1_S1.symm ▸ Nat.one_pos))) (i 1)
    exact (Nat.mul_one _).le.trans this
  | ⟨1, _⟩ => exact (by decide : (0 + 1) * 1024 ≤ 1024)
  | ⟨2, _⟩ => exact (by decide : (0 + 1) * 1792 ≤ 1792)

theorem ok_ideal {F : FTy → Type} [FloatOps F] (m : (ℓ : Loc Cert.DxIdeal.nD Cert.DxIdeal.τ Cert.DxIdeal.sig) → Buf (Elt F) ℓ) :
    Cert.DxIdeal.Gen.Ok m := by
  refine fun i => ⟨fun a => ?_, .inr (Affine.block_words_dvd (of_decide_eq_true rfl) (by decide))⟩
  match a with
  | ⟨0, _⟩ =>
    show ((fetched _ (i 1).val).toNat + 1) * 1 ≤ 4
    have := fetched_lt (word (Cert.DxIdeal.Gen.tbl m)) (i 1)
    exact (Nat.mul_one _).le.trans this
  | ⟨1, _⟩ => exact (by decide : (0 + 1) * 1024 ≤ 1024)
  | ⟨2, _⟩ => exact (by decide : (0 + 1) * 1792 ≤ 1792)

end Cert.Proof.Dx

end
-- ==== Proof.Dx.Products.lean ====
/-
  The input projection's layer-input gradient.  A point adds one slab's product of the projection's gradient with that
  slab's weight — the chip's own copy where the slab is its own, the gathered copy elsewhere — to a carried sum that the
  first of the four slabs starts from the scaled layer-norm gradient; the fourth writes the sum out.
-/
module

public import proofs.«01_k».proof.Proof.Sums
public import proofs.«01_k».proof.Proof.Dx.Table
public import Idealize.ShloMosaic.Lib.Pipeline.Value
public import Idealize.ShloMosaic.Lib.Pipeline.ValueKit
public import Idealize.ShloMosaic.Lib.ValueLayout
public import Idealize.ShloMosaic.Lib.ValueIdx

@[expose] public section

noncomputable section

open scoped BigOperators

namespace Cert.Proof.Dx

open Idealize.ShloMosaic hiding ix1 ix2 ix3 eq_ix1 eq_ix2 eq_ix3
open Idealize.ShloMosaic.TcCoe Idealize.ShloMosaic.ValueIdx Idealize.SL.Sem
open Cert.DxIdeal Cert.DxIdeal.Gen Cert.Sums

/-- A slab's weight at row `d` and column `k`: the chip's own copy at its own slab, the gathered one elsewhere. -/
def weight (v : BitVec 32) (O : S4x1024x1792.Idx → EReal) (W : S1024x1792.Idx → EReal) (s : Fin 4) (d : Fin 1024) (k : Fin 1792) : EReal :=
  if BitVec.ofNat 32 s.val = v then W (ix2 d k) else O (ix3 s d k)

/-- One slab's product, at row `n` and column `d`. -/
def slabAt (v : BitVec 32) (P : S2048x7168.Idx → EReal) (O : S4x1024x1792.Idx → EReal) (W : S1024x1792.Idx → EReal)
    (s : Fin 4) (n : Fin 2048) (d : Fin 1024) : EReal :=
  ∑ k : Fin 1792, P (ix2 n ⟨s.val * 1792 + k.val, by omega⟩) * weight v O W s d k

/-- The scale of the layer-norm gradient. -/
abbrev alpha : EReal := (FloatOps.ofBits (F := Ideal) .f32 0x3F9837F0#32 : Ideal .f32)

/-- The layer input's gradient. -/
def inputGrad (v : BitVec 32) (P : S2048x7168.Idx → EReal) (O : S4x1024x1792.Idx → EReal) (W : S1024x1792.Idx → EReal)
    (Z : S2048x1024.Idx → EReal) : S2048x1024.Idx → EReal :=
  fun i => alpha * Z i + ∑ s : Fin 4, slabAt v P O W s ⟨(i 0).val, (i 0).isLt⟩ ⟨(i 1).val, (i 1).isLt⟩

/-- A block's product with the transpose of the other. -/
def blockDot (a w : S1024x1792.Idx → EReal) (n d : Fin 1024) : EReal := ∑ k : Fin 1792, a (ix2 n k) * w (ix2 d k)

theorem blockDot_at (a w : FVec Ideal S1024x1792 .bf16) (n d : Fin 1024) :
    matmul (F := Ideal) dot_S1024x1792_S1024x1792_S1024x1024_1_1_0_0_n_n none a w (constant S1024x1024 .f32 0x00000000#32) (ix2 n d)
      = blockDot a w n d := by
  rw [matmul_at dot_S1024x1792_S1024x1792_S1024x1024_1_1_0_0_n_n 1792 rfl rfl none _ _ _ (fun k => ix2 n k) (fun k => ix2 d k)
    (fun k => funext fun a => Fin.ext (match a with | ⟨0, _⟩ => rfl | ⟨1, _⟩ => rfl))
    (fun k => funext fun a => Fin.ext (match a with | ⟨0, _⟩ => rfl | ⟨1, _⟩ => rfl))]
  rfl

theorem pay1_at (z : Vec Ideal S1024x1024 .f32) (n d : Fin 1024) : k0_pay1 z (ix2 n d) = alpha * (z (ix2 n d) : EReal) := by
  unfold k0_pay1
  exact congrFun (shapeCast_self (mulf (broadcast S1024x1024 (Scalar.ofBits .f32 0x3F9837F0#32 : Ideal .f32)) z) shapeCasts_S1024x1024_S1024x1024) _

theorem pay2_at (acc : Vec Ideal S1024x1024 .f32) (a w : Vec Ideal S1024x1792 .bf16) (n d : Fin 1024) :
    k0_pay2 acc a w (ix2 n d) = (acc (ix2 n d) : EReal) + blockDot a w n d := by
  unfold k0_pay2
  exact (congrFun (shapeCast_self (addf acc (matmul (F := Ideal) dot_S1024x1792_S1024x1792_S1024x1024_1_1_0_0_n_n none a w
    (constant S1024x1024 .f32 0x00000000#32))) shapeCasts_S1024x1024_S1024x1024) _).trans
    (congrArg ((acc (ix2 n d) : EReal) + ·) (blockDot_at a w n d))

theorem pay3_at (acc : Vec Ideal S1024x1024 .f32) (a : Vec Ideal S1024x1792 .bf16) (w : Vec Ideal S1x1024x1792 .bf16) (n d : Fin 1024) :
    k0_pay3 acc a w (ix2 n d) = (acc (ix2 n d) : EReal) + blockDot a (fun i => w (ix3 0 (i 0) (i 1))) n d := by
  unfold k0_pay3
  refine (congrFun (shapeCast_self (addf acc (matmul (F := Ideal) dot_S1024x1792_S1024x1792_S1024x1024_1_1_0_0_n_n none a
    (shapeCast S1024x1792 w shapeCasts_S1x1024x1792_S1024x1792) (constant S1024x1024 .f32 0x00000000#32))) shapeCasts_S1024x1024_S1024x1024) _).trans
    (congrArg ((acc (ix2 n d) : EReal) + ·) ((blockDot_at a _ n d).trans ?_))
  unfold blockDot
  exact Finset.sum_congr rfl fun k _ => congrArg ((a (ix2 n k) : EReal) * ·) (shapeCast_1ab_ab_apply _ _ _ _)

variable (m : (ℓ : Loc nD τ sig) → Buf (Elt Ideal) ℓ) (hO : Ok m) (c : Dev nD)

/-- The blocks a point reads. -/
def blkP (t : Fin (cfgM m hO).N) : Vec Ideal S1024x1792 .bf16 := iblk m hO c 0 t
def blkO (t : Fin (cfgM m hO).N) : Vec Ideal S1x1024x1792 .bf16 := iblk m hO c 1 t
def blkW (t : Fin (cfgM m hO).N) : Vec Ideal S1024x1792 .bf16 := iblk m hO c 2 t
def blkZ (t : Fin (cfgM m hO).N) : Vec Ideal S1024x1024 .f32 := iblk m hO c 3 t

/-- A point's addition to the carried sum `acc`. -/
def step (t : Fin (cfgM m hO).N) (acc : Vec Ideal S1024x1024 .f32) : Vec Ideal S1024x1024 .f32 :=
  if BitVec.ofNat 32 (grid0.coords t 1).val = word (tbl m) then k0_pay2 acc (blkP m hO c t) (blkW m hO c t)
  else k0_pay3 acc (blkP m hO c t) (blkO m hO c t)

theorem carried_first (t : Fin (cfgM m hO).N) (h0 : t.val % 4 = 0) :
    (outsAt0 m hO c t.val t.isLt).2 = step m hO c t (k0_pay1 (blkZ m hO c t)) := by
  unfold step
  split
  · rename_i h
    rw [outsAt0_B m hO c t h0 ((mine_iff _ _).mpr h) (fun h' => (other_iff _ _).mp h' h) (by omega)]
    dsimp only
    frame_out
    exact congr (congr (congrArg k0_pay2 (congrArg k0_pay1 (Memref.IsWhole.read_unread (hs0_3 m hO t) _)))
      (Memref.IsWhole.read_unread (hs0_0 m hO t) _)) (Memref.IsWhole.read_unread (hs0_2 m hO t) _)
  · rename_i h
    rw [outsAt0_C m hO c t h0 (fun h' => h ((mine_iff _ _).mp h')) ((other_iff _ _).mpr h) (by omega)]
    dsimp only
    frame_out
    exact congr (congr (congrArg k0_pay3 (congrArg k0_pay1 (Memref.IsWhole.read_unread (hs0_3 m hO t) _)))
      (Memref.IsWhole.read_unread (hs0_0 m hO t) _)) (Memref.IsWhole.read_unread (hs0_1 m hO t) _)

theorem carried_next (t : Fin (cfgM m hO).N) (h0 : ¬t.val % 4 = 0) (h3 : ¬t.val % 4 = 3) :
    (outsAt0 m hO c t.val t.isLt).2 = step m hO c t (outsAt0 m hO c (t.val - 1) (Nat.lt_of_le_of_lt (Nat.sub_le _ _) t.isLt)).2 := by
  unfold step
  split
  · rename_i h
    rw [outsAt0_F m hO c t h0 ((mine_iff _ _).mpr h) (fun h' => (other_iff _ _).mp h' h) h3]
    dsimp only
    frame_out
    exact congr (congr (congrArg k0_pay2 (Memref.IsWhole.read_unread (Memref.isWhole_whole cc0_scratch0) _))
      (Memref.IsWhole.read_unread (hs0_0 m hO t) _)) (Memref.IsWhole.read_unread (hs0_2 m hO t) _)
  · rename_i h
    rw [outsAt0_G m hO c t h0 (fun h' => h ((mine_iff _ _).mp h')) ((other_iff _ _).mpr h) h3]
    dsimp only
    frame_out
    exact congr (congr (congrArg k0_pay3 (Memref.IsWhole.read_unread (Memref.isWhole_whole cc0_scratch0) _))
      (Memref.IsWhole.read_unread (hs0_0 m hO t) _)) (Memref.IsWhole.read_unread (hs0_1 m hO t) _)

theorem written_last (t : Fin (cfgM m hO).N) (h3 : t.val % 4 = 3) :
    (outsAt0 m hO c t.val t.isLt).1 = step m hO c t (outsAt0 m hO c (t.val - 1) (Nat.lt_of_le_of_lt (Nat.sub_le _ _) t.isLt)).2 := by
  unfold step
  split
  · rename_i h
    rw [outsAt0_J m hO c t (by omega) ((mine_iff _ _).mpr h) (fun h' => (other_iff _ _).mp h' h) h3]
    dsimp only
    frame_out
    exact congr (congr (congrArg k0_pay2 (Memref.IsWhole.read_unread (Memref.isWhole_whole cc0_scratch0) _))
      (Memref.IsWhole.read_unread (hs0_0 m hO t) _)) (Memref.IsWhole.read_unread (hs0_2 m hO t) _)
  · rename_i h
    rw [outsAt0_K m hO c t (by omega) (fun h' => h ((mine_iff _ _).mp h')) ((other_iff _ _).mpr h) h3]
    dsimp only
    frame_out
    exact congr (congr (congrArg k0_pay3 (Memref.IsWhole.read_unread (Memref.isWhole_whole cc0_scratch0) _))
      (Memref.IsWhole.read_unread (hs0_0 m hO t) _)) (Memref.IsWhole.read_unread (hs0_1 m hO t) _)

/-! The windows' blocks. -/

theorem coord_1 : ∀ t : Fin grid0.N, (grid0.coords t 1).val = t.val % 4 := by decide +kernel
theorem idx_0 : ∀ t : Fin grid0.N, cc0_transform_0 (grid0.coords t) = ![t.val / 4, t.val % 4] := by decide +kernel
theorem idx_2 : ∀ t : Fin grid0.N, cc0_transform_2 (grid0.coords t) = ![0, 0] := by decide +kernel
theorem idx_3 : ∀ t : Fin grid0.N, cc0_transform_3 (grid0.coords t) = ![t.val / 4, 0] := by decide +kernel
theorem idx_4 : ∀ t : Fin grid0.N, cc0_transform_4 (grid0.coords t) = ![t.val / 4, 0] := by decide +kernel

/-- The arguments as launched. -/
abbrev argP : S2048x7168.Idx → EReal := m ((c.tc : Thread nD τ).loc main_arg1)
abbrev argO : S4x1024x1792.Idx → EReal := m ((c.tc : Thread nD τ).loc main_arg2)
abbrev argW : S1024x1792.Idx → EReal := m ((c.tc : Thread nD τ).loc main_arg3)
abbrev argZ : S2048x1024.Idx → EReal := m ((c.tc : Thread nD τ).loc main_arg4)

/-- The row of the array that row `n` of the run `q`'s block is. -/
abbrev rowOf (q : Nat) (hq : q < 2) (n : Fin 1024) : Fin 2048 := ⟨q * 1024 + n.val, by omega⟩

theorem place_P (t : Fin (cfgM m hO).N) (s : Fin 4) (q : Nat) (hq : q < 2) (hs : t.val % 4 = s.val) (ht : t.val / 4 = q)
    (n : Fin 1024) (k : Fin 1792) : blkP m hO c t (ix2 n k) = argP m c (ix2 (rowOf q hq n) ⟨s.val * 1792 + k.val, by omega⟩) := by
  refine congrArg (argP m c) (funext fun a => Fin.ext (match a with | ⟨0, _⟩ => ?_ | ⟨1, _⟩ => ?_))
  · show cc0_transform_0 (grid0.coords t) 0 * 1024 + 1 * n.val = q * 1024 + n.val
    rw [idx_0 t]
    show t.val / 4 * 1024 + 1 * n.val = _
    omega
  · show cc0_transform_0 (grid0.coords t) 1 * 1792 + 1 * k.val = s.val * 1792 + k.val
    rw [idx_0 t]
    show t.val % 4 * 1792 + 1 * k.val = _
    omega

theorem place_O (t : Fin (cfgM m hO).N) (s : Fin 4) (hs : t.val % 4 = s.val) (hv : BitVec.ofNat 32 s.val ≠ word (tbl m))
    (d : Fin 1024) (k : Fin 1792) : blkO m hO c t (ix3 0 d k) = argO m c (ix3 s d k) := by
  refine congrArg (argO m c) (funext fun a => Fin.ext (match a with | ⟨0, _⟩ => ?_ | ⟨1, _⟩ => ?_ | ⟨2, _⟩ => ?_))
  · show (fetched (word (tbl m)) (grid0.coords t 1).val).toNat * 1 + 1 * 0 = s.val
    rw [coord_1 t, hs, fetched_other _ s hv]
    omega
  · show 0 * 1024 + 1 * d.val = d.val
    omega
  · show 0 * 1792 + 1 * k.val = k.val
    omega

theorem place_W (t : Fin (cfgM m hO).N) (d : Fin 1024) (k : Fin 1792) : blkW m hO c t (ix2 d k) = argW m c (ix2 d k) := by
  refine congrArg (argW m c) (funext fun a => Fin.ext (match a with | ⟨0, _⟩ => ?_ | ⟨1, _⟩ => ?_))
  · show cc0_transform_2 (grid0.coords t) 0 * 1024 + 1 * d.val = d.val
    rw [idx_2 t]
    show 0 * 1024 + 1 * d.val = _
    omega
  · show cc0_transform_2 (grid0.coords t) 1 * 1792 + 1 * k.val = k.val
    rw [idx_2 t]
    show 0 * 1792 + 1 * k.val = _
    omega

theorem place_Z (t : Fin (cfgM m hO).N) (q : Nat) (hq : q < 2) (ht : t.val / 4 = q) (n d : Fin 1024) :
    blkZ m hO c t (ix2 n d) = argZ m c (ix2 (rowOf q hq n) d) := by
  refine congrArg (argZ m c) (funext fun a => Fin.ext (match a with | ⟨0, _⟩ => ?_ | ⟨1, _⟩ => ?_))
  · show cc0_transform_3 (grid0.coords t) 0 * 1024 + 1 * n.val = q * 1024 + n.val
    rw [idx_3 t]
    show t.val / 4 * 1024 + 1 * n.val = _
    omega
  · show cc0_transform_3 (grid0.coords t) 1 * 1024 + 1 * d.val = d.val
    rw [idx_3 t]
    show 0 * 1024 + 1 * d.val = _
    omega

/-- One slab's share of the gradient. -/
def share (s : Fin 4) (n : Fin 2048) (d : Fin 1024) : EReal := slabAt (word (tbl m)) (argP m c) (argO m c) (argW m c) s n d

/-- A point's addition, at an index. -/
theorem step_at (t : Fin (cfgM m hO).N) (s : Fin 4) (q : Nat) (hq : q < 2) (hs : t.val % 4 = s.val) (ht : t.val / 4 = q)
    (acc : Vec Ideal S1024x1024 .f32) (n d : Fin 1024) :
    step m hO c t acc (ix2 n d) = (acc (ix2 n d) : EReal) + share m c s (rowOf q hq n) d := by
  unfold step share slabAt weight
  rw [coord_1 t, hs]
  split
  · rename_i h
    refine (pay2_at _ _ _ _ _).trans (congrArg ((acc (ix2 n d) : EReal) + ·) ?_)
    unfold blockDot
    refine Finset.sum_congr rfl fun k _ => ?_
    exact congrArg₂ (· * ·) (place_P m hO c t s q hq hs ht n k) (place_W m hO c t d k)
  · rename_i h
    refine (pay3_at _ _ _ _ _).trans (congrArg ((acc (ix2 n d) : EReal) + ·) ?_)
    unfold blockDot
    refine Finset.sum_congr rfl fun k _ => ?_
    exact congrArg₂ (· * ·) (place_P m hO c t s q hq hs ht n k) (place_O m hO c t s hs h d k)

variable (q : Nat) (hq : q < 2) (n d : Fin 1024)

theorem carried_0 (h : 4 * q < (cfgM m hO).N) : (outsAt0 m hO c (4 * q) h).2 (ix2 n d)
    = alpha * argZ m c (ix2 (rowOf q hq n) d) + share m c 0 (rowOf q hq n) d := by
  rw [show (outsAt0 m hO c (4 * q) h).2 = _ from carried_first m hO c ⟨4 * q, h⟩ (by show 4 * q % 4 = 0; omega),
    step_at m hO c ⟨4 * q, h⟩ 0 q hq (by show 4 * q % 4 = 0; omega) (by show 4 * q / 4 = q; omega), pay1_at,
    place_Z m hO c ⟨4 * q, h⟩ q hq (by show 4 * q / 4 = q; omega)]

theorem carried_1 (h : 4 * q + 1 < (cfgM m hO).N) : (outsAt0 m hO c (4 * q + 1) h).2 (ix2 n d)
    = alpha * argZ m c (ix2 (rowOf q hq n) d) + share m c 0 (rowOf q hq n) d + share m c 1 (rowOf q hq n) d := by
  rw [show (outsAt0 m hO c (4 * q + 1) h).2 = _ from carried_next m hO c ⟨4 * q + 1, h⟩ (by show ¬(4 * q + 1) % 4 = 0; omega)
      (by show ¬(4 * q + 1) % 4 = 3; omega),
    step_at m hO c ⟨4 * q + 1, h⟩ 1 q hq (by show (4 * q + 1) % 4 = 1; omega) (by show (4 * q + 1) / 4 = q; omega)]
  exact congrArg (· + share m c 1 (rowOf q hq n) d) (carried_0 m hO c q hq n d _)

theorem carried_2 (h : 4 * q + 2 < (cfgM m hO).N) : (outsAt0 m hO c (4 * q + 2) h).2 (ix2 n d)
    = alpha * argZ m c (ix2 (rowOf q hq n) d) + share m c 0 (rowOf q hq n) d + share m c 1 (rowOf q hq n) d
      + share m c 2 (rowOf q hq n) d := by
  rw [show (outsAt0 m hO c (4 * q + 2) h).2 = _ from carried_next m hO c ⟨4 * q + 2, h⟩ (by show ¬(4 * q + 2) % 4 = 0; omega)
      (by show ¬(4 * q + 2) % 4 = 3; omega),
    step_at m hO c ⟨4 * q + 2, h⟩ 2 q hq (by show (4 * q + 2) % 4 = 2; omega) (by show (4 * q + 2) / 4 = q; omega)]
  exact congrArg (· + share m c 2 (rowOf q hq n) d) (carried_1 m hO c q hq n d _)

theorem written_3 (h : 4 * q + 3 < (cfgM m hO).N) : (outsAt0 m hO c (4 * q + 3) h).1 (ix2 n d)
    = alpha * argZ m c (ix2 (rowOf q hq n) d) + ∑ s : Fin 4, share m c s (rowOf q hq n) d := by
  rw [show (outsAt0 m hO c (4 * q + 3) h).1 = _ from written_last m hO c ⟨4 * q + 3, h⟩ (by show (4 * q + 3) % 4 = 3; omega),
    step_at m hO c ⟨4 * q + 3, h⟩ 3 q hq (by show (4 * q + 3) % 4 = 3; omega) (by show (4 * q + 3) / 4 = q; omega),
    Fin.sum_univ_four, ← add_assoc, ← add_assoc, ← add_assoc]
  exact congrArg (· + share m c 3 (rowOf q hq n) d) (carried_2 m hO c q hq n d _)

/-- The written blocks fill the result. -/
theorem covers : ((cfgM m hO).win 4).Covers := by
  refine ⟨(by decide : ∀ a : Fin 2, 0 < S1024x1024.size a), fun β => ?_⟩
  have b0 : (β (0 : Fin 2)).val < 2 :=
    lt_of_lt_of_eq (β (0 : Fin 2)).isLt (by show (2048 + 1024 - 1) / 1024 = 2; decide)
  have b1 : (β (1 : Fin 2)).val < 1 :=
    lt_of_lt_of_eq (β (1 : Fin 2)).isLt (by show (1024 + 1024 - 1) / 1024 = 1; decide)
  have hN : 4 * (β (0 : Fin 2)).val + 3 < grid0.N := lt_of_lt_of_eq (by omega) N_0.symm
  refine ⟨⟨4 * (β (0 : Fin 2)).val + 3, hN⟩, (flush0_4 (adm m hO) _).mpr (by show (4 * _ + 3) % 4 = 3; omega), fun a => ⟨?_, .inl rfl⟩⟩
  show cc0_transform_4 (grid0.coords ⟨_, hN⟩) a = _
  rw [idx_4]
  match a with
  | ⟨0, _⟩ =>
    show (4 * (β (0 : Fin 2)).val + 3) / 4 = (β (0 : Fin 2)).val
    omega
  | ⟨1, _⟩ =>
    show 0 = (β (1 : Fin 2)).val
    omega

/-- The gradient after the region. -/
theorem final : (dats m hO 0 c).arrAt 4 (cfgM m hO).N
    = inputGrad (word (tbl m)) (argP m c) (argO m c) (argW m c) (argZ m c) := by
  refine (dats m hO 0 c).arrAt_eq_of_covers 4 _ (covers m hO) fun t hf y => ?_
  have h3 : t.val % 4 = 3 := (flush0_4 (adm m hO) t).mp hf
  have hN : t.val < 8 := lt_of_lt_of_eq t.isLt N_0
  obtain ⟨q, hq, hv⟩ : ∃ q, q < 2 ∧ t.val = 4 * q + 3 := ⟨t.val / 4, by omega, by omega⟩
  blk_simp
  rw [after0_4]
  obtain ⟨n, d, rfl⟩ : ∃ (n d : Fin 1024), (show S1024x1024.Idx from y) = ix2 n d := ⟨_, _, eq_ix2 (show S1024x1024.Idx from y)⟩
  obtain ⟨tv, tl⟩ := t
  obtain rfl : tv = 4 * q + 3 := hv
  refine (written_3 m hO c q hq n d tl).trans ?_
  have e : ((((cfgM m hO).win 4).blk ⟨4 * q + 3, tl⟩).view.emb (ix2 n d) : S2048x1024.Idx) = ix2 (rowOf q hq n) d := by
    refine funext fun a => Fin.ext (match a with | ⟨0, _⟩ => ?_ | ⟨1, _⟩ => ?_)
    · show cc0_transform_4 (grid0.coords ⟨4 * q + 3, tl⟩) 0 * 1024 + 1 * n.val = q * 1024 + n.val
      rw [idx_4]
      show (4 * q + 3) / 4 * 1024 + 1 * n.val = _
      omega
    · show cc0_transform_4 (grid0.coords ⟨4 * q + 3, tl⟩) 1 * 1024 + 1 * d.val = d.val
      rw [idx_4]
      show 0 * 1024 + 1 * d.val = _
      omega
  exact (congrArg (inputGrad (word (tbl m)) (argP m c) (argO m c) (argW m c) (argZ m c)) e).symm

end Cert.Proof.Dx

end
-- ==== Proof.Dx.Reference.lean ====
/-
  The reference's layer-input gradient read at an index: the scaled layer-norm gradient plus one product over the slabs and
  the columns of a slab, the chip's own weight replacing its slab of the gathered ones.
-/
module

public import proofs.«01_k».proof.Proof.Dx.Products
public import proofs.«01_k».proof.Proof.Dh.Reference
public import proofs.«01_k».proof.Proof.Gen.DxRefIdeal.Read

@[expose] public section

set_option maxRecDepth 16384

noncomputable section

open scoped BigOperators

namespace Cert.Proof.Dx

open Idealize.ShloMosaic hiding ix1 ix2 ix3 eq_ix1 eq_ix2 eq_ix3
open Idealize.ShloMosaic.TcCoe Idealize.ShloMosaic.ValueIdx Idealize.SL.Sem Cert.Sums
open Cert.DxRefIdeal Cert.DxRefIdeal.Gen Cert.DxRefIdeal.Read

/-- The one word of an array of one. -/
def only (x : S1.Idx → BitVec 32) : BitVec 32 := x (fun a => match a with | ⟨0, _⟩ => ⟨0, Nat.one_pos⟩)

instance : Subsingleton S1.Idx := ⟨fun a b => funext fun i => match i with
  | ⟨0, h⟩ => Fin.ext (by
      have ha : (a ⟨0, h⟩).val < 1 := (a ⟨0, h⟩).isLt
      have hb : (b ⟨0, h⟩).val < 1 := (b ⟨0, h⟩).isLt
      omega)⟩

theorem word_eq (x : S1.Idx → BitVec 32) (i : S_.Idx) : val_main_v1 (F := Ideal) x i = only x :=
  congrArg x (Subsingleton.elim _ _)

/-- The selected weight. -/
theorem selected (x : S1.Idx → BitVec 32) (O : S4x1024x1792.Idx → EReal) (W : S1024x1792.Idx → EReal) (s : Fin 4) (d : Fin 1024)
    (k : Fin 1792) : (val_main_v6 (F := Ideal) x O W (ix3 s d k) : EReal) = weight (only x) O W s d k := by
  refine (val_main_v6_apply (F := Ideal) x O W _).trans ?_
  show (val_main_v5 (F := Ideal) x O W (ix3 s d k) : EReal) = _
  rw [val_main_v5_apply, val_main_v3_apply, val_main_v0_apply, val_main_v2_apply, word_eq, val_main_call0_v0_apply, val_main_v4_apply]
  unfold weight
  by_cases h : BitVec.ofNat 32 s.val = only x
  · rw [if_pos h]
    have e : IntOp.cmpi .eq (BitVec.ofNat 32 s.val) (only x) = 1#1 := by
      rw [IntOp.cmpi]; simp only [beq_iff_eq.mpr h]; rfl
    refine (congrArg (fun b => Scalar.select b _ _) e).trans ?_
    show W _ = W _
    exact congrArg W (funext fun a => match a with | ⟨0, _⟩ => rfl | ⟨1, _⟩ => rfl)
  · rw [if_neg h]
    have e : IntOp.cmpi .eq (BitVec.ofNat 32 s.val) (only x) = 0#1 := by
      rw [IntOp.cmpi]; simp only [beq_eq_false_iff_ne.mpr h]; rfl
    exact congrArg (fun b => Scalar.select b _ _) e

/-- The projection's gradient, split by slab and transposed. -/
theorem split (P : S2048x7168.Idx → EReal) (s : Fin 4) (k : Fin 1792) (n : Fin 2048) :
    (val_main_v15 (F := Ideal) P (ix3 s k n) : EReal) = P (ix2 n ⟨s.val * 1792 + k.val, by omega⟩) := by
  rw [val_main_v15_apply, val_main_v9_apply, val_main_v8_apply]
  refine (val_main_v7_apply (F := Ideal) P _).trans ?_
  show P _ = P _
  refine congrArg P (funext fun a => Fin.ext (match a with | ⟨0, _⟩ => ?_ | ⟨1, _⟩ => ?_))
  · show ((n.val * 4 + s.val) * 1792 + k.val) / 7168 = n.val
    omega
  · show ((n.val * 4 + s.val) * 1792 + k.val) % 7168 = s.val * 1792 + k.val
    omega

theorem contract (x : S1.Idx → BitVec 32) (P : S2048x7168.Idx → EReal) (O : S4x1024x1792.Idx → EReal) (W : S1024x1792.Idx → EReal)
    (i : S2048x1024.Idx) : (val_main_v16 (F := Ideal) x P O W i : EReal)
      = ∑ s : Fin 4, slabAt (only x) P O W s ⟨(i 0).val, (i 0).isLt⟩ ⟨(i 1).val, (i 1).isLt⟩ := by
  unfold val_main_v16
  refine (Cert.Proof.Dh.dotGeneral_pair dot_S4x1792x2048_S4x1024x1792_S2048x1024_01_02_2_1_n_n 4 1792 rfl rfl rfl none
    (val_main_v15 (F := Ideal) P) (val_main_v6 (F := Ideal) x O W) i
    (fun s k => ix3 s k ⟨(i 0).val, (i 0).isLt⟩) (fun s k => ix3 s ⟨(i 1).val, (i 1).isLt⟩ k)
    (fun s k => funext fun a => Fin.ext (match a with | ⟨0, _⟩ => rfl | ⟨1, _⟩ => rfl | ⟨2, _⟩ => rfl))
    (fun s k => funext fun a => Fin.ext (match a with | ⟨0, _⟩ => rfl | ⟨1, _⟩ => rfl | ⟨2, _⟩ => rfl))).trans ?_
  refine Finset.sum_congr rfl fun s _ => Finset.sum_congr rfl fun k _ => ?_
  exact congrArg₂ (· * ·) (split P s k _) (selected x O W s _ k)

/-- The reference's gradient. -/
theorem ref_input (x : S1.Idx → BitVec 32) (P : S2048x7168.Idx → EReal) (O : S4x1024x1792.Idx → EReal) (W : S1024x1792.Idx → EReal)
    (Z : S2048x1024.Idx → EReal) : val_main_v17 (F := Ideal) x P O W Z = inputGrad (only x) P O W Z := by
  funext i
  refine (val_main_v17_apply (F := Ideal) x P O W Z i).trans ?_
  unfold inputGrad
  refine congrArg₂ (fun a b : EReal => a + b) ?_ (contract x P O W i)
  exact (val_main_v11_apply (F := Ideal) Z i).trans rfl

/-- The word the kernel reads is the argument's. -/
theorem word_tbl (m : (ℓ : Loc Cert.DxIdeal.nD Cert.DxIdeal.τ Cert.DxIdeal.sig) → Buf (Elt Ideal) ℓ) (c : Dev Cert.DxIdeal.nD) :
    word (Cert.DxIdeal.Gen.tbl m) = only (m ((c.tc : Thread Cert.DxIdeal.nD Cert.DxIdeal.τ).loc Cert.DxIdeal.main_arg0)) := by
  obtain rfl : c = 0 := Subsingleton.elim _ _
  exact congrArg (m (((0 : Dev Cert.DxIdeal.nD).tc : Thread Cert.DxIdeal.nD Cert.DxIdeal.τ).loc Cert.DxIdeal.main_arg0))
    (Subsingleton.elim (α := S1.Idx) _ _)

end Cert.Proof.Dx

end
-- ==== Proof.Dx.Claims.lean ====
/-
  The claims about the layer input's gradient: the frames, at any word of the table, and that kernel and reference end with
  the same gradient.
-/
module

public import proofs.«01_k».proof.Defs
public import proofs.«01_k».proof.Proof.Gen.DxRefIdeal.Run
public import proofs.«01_k».proof.Proof.Dx.Reference

@[expose] public section

set_option maxRecDepth 16384

noncomputable section

namespace Cert.Proof.Dx

open Idealize.ShloMosaic Idealize.ShloMosaic.TcCoe Idealize.SL.Sem

theorem frame : Cert.quiescent_Dx := fun m ρ _ => Cert.Dx.Gen.frame m ρ (ok m)

theorem frame_ideal : Cert.quiescent_DxIdeal := fun m ρ _ => Cert.DxIdeal.Gen.frame m ρ (ok_ideal m)

/-- The reference leaves its arguments alone, and having no semaphore ends with none raised. -/
theorem ref_frame : Cert.quiescent_DxRefIdeal := fun m ρ _ =>
  (θ_run _ _ _).mono (fun r h => ⟨fun c => (h c).2, sem_eq_zero_of_no_sems (by decide) r.2⟩)
    (Cert.DxRefIdeal.Value.run m ρ)

open Cert.DxIdeal Cert.DxIdeal.Gen in
/-- The kernel's run: the result is the region's final array, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (dats m (ok_ideal m) 0 c).arrAt 4 (cfgM m (ok_ideal m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h.1 c).1 4, h.2 c⟩) (θ_run_and (run_main m ρ (ok_ideal m)) (unchanged m ρ (ok_ideal m)))

/-- The layer input's gradient of the kernel is that of the reference. -/
theorem equal : Cert.algebraic_DxIdeal_DxRefIdeal := fun m ρ m' ρ' _ harg =>
  ⟨fun c => (Cert.DxIdeal.Gen.dats m (ok_ideal m) 0 c).arrAt 4 (Cert.DxIdeal.Gen.cfgM m (ok_ideal m)).N,
    kernel_run m ρ,
    (θ_run _ _ _).mono (fun r h c => by
      obtain ⟨a0, a1, a2, a3, a4⟩ := harg c
      obtain ⟨r17, args⟩ := h c
      refine ⟨r17.trans ?_, args⟩
      refine (Cert.DxRefIdeal.Read.val_main_v17_eq _ _ _ _ _).trans ?_
      rw [a0, a1, a2, a3, a4]
      refine (ref_input _ _ _ _ _).trans ((final m (ok_ideal m) c).trans ?_).symm
      rw [word_tbl m c])
      (Cert.DxRefIdeal.Value.run m' ρ')⟩

end Cert.Proof.Dx

end
-- ==== Proof.Norm.lean ====
/-
  The layer norm of a row of 1024 entries, and the gradient through it: the closed form a kernel computes and the form that
  differentiating the norm step by step gives are equal on rows of reals.
-/
module

public import proofs.«01_k».proof.Proof.Finite

@[expose] public section

noncomputable section

open scoped BigOperators

namespace Cert.Norm

open Idealize.ShloMosaic Cert.Finite

/-- The constants: the row's length and the added variance. -/
abbrev len : EReal := (FloatOps.ofBits (F := Ideal) .f32 0x44800000#32 : Ideal .f32)
abbrev eps : EReal := (FloatOps.ofBits (F := Ideal) .f32 0x3727C5AC#32 : Ideal .f32)

theorem len_eq : len = ((1024 : ℝ) : EReal) := by
  show Ideal.ofBits .f32 _ = _
  simp [Ideal.ofBits, Ideal.ieee, -EReal.coe_mul]
  try norm_num

theorem eps_eq : ∃ r : ℝ, 0 < r ∧ eps = (r : EReal) := by
  refine ⟨_, ?_, show Ideal.ofBits .f32 0x3727C5AC#32 = _ by simp [Ideal.ofBits, Ideal.ieee, -EReal.coe_mul]; rfl⟩
  norm_num

/-- A row's average. -/
def avg (f : Fin 1024 → EReal) : EReal := Ideal.div (∑ k, f k) len

/-- The row's distance from its average, its variance, the inverse deviation and the normalized row. -/
def mid (z : Fin 1024 → EReal) (k : Fin 1024) : EReal := z k - avg z
def var (z : Fin 1024 → EReal) : EReal := avg fun k => mid z k * mid z k
def inv (z : Fin 1024 → EReal) : EReal := Ideal.rsqrt (var z + eps)
def unit (z : Fin 1024 → EReal) (k : Fin 1024) : EReal := mid z k * inv z

/-- The gradient through the norm, in closed form; `e` is the gradient of the normalized row. -/
def back (z e : Fin 1024 → EReal) (k : Fin 1024) : EReal :=
  inv z * (e k - avg e - unit z k * avg fun j => e j * unit z j)

/-- The gradient of the variance, spread over the row. -/
def spread (z e : Fin 1024 → EReal) : EReal :=
  Ideal.div ((∑ k, mid z k * e k) * (((-(1/2) : ℝ) : EReal) * Ideal.div (inv z) (var z + eps))) len

/-- The gradient through the norm, step by step. -/
def steps (z e : Fin 1024 → EReal) (k : Fin 1024) : EReal :=
  (e k * inv z + spread z e * (((2 : ℝ) : EReal) * mid z k))
    + Ideal.div ((∑ j, -(e j * inv z)) + ∑ j, -(spread z e * (((2 : ℝ) : EReal) * mid z j))) len

theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem sum_real {n : Nat} (f : Fin n → ℝ) : (∑ k, (f k : EReal)) = ((∑ k, f k : ℝ) : EReal) :=
  (map_sum (⟨⟨fun x : ℝ => (x : EReal), EReal.coe_zero⟩, EReal.coe_add⟩ : ℝ →+ EReal) f Finset.univ).symm

theorem avg_real (f : Fin 1024 → ℝ) : avg (fun k => (f k : EReal)) = (((∑ k, f k) / 1024 : ℝ) : EReal) := by
  rw [avg, sum_real, len_eq, div_real _ _ (by norm_num)]

variable (z e : Fin 1024 → ℝ)

/-- The same quantities over the reals. -/
def rmid (k : Fin 1024) : ℝ := z k - (∑ k, z k) / 1024
def rvar : ℝ := (∑ k, rmid z k * rmid z k) / 1024

theorem rvar_nonneg : 0 ≤ rvar z := div_nonneg (Finset.sum_nonneg fun k _ => mul_self_nonneg _) (by norm_num)

theorem sum_rmid : ∑ k, rmid z k = 0 := by
  unfold rmid
  rw [Finset.sum_sub_distrib, Finset.sum_const, Finset.card_univ, Fintype.card_fin, nsmul_eq_mul]
  push_cast
  ring

theorem mid_real (k : Fin 1024) : mid (fun k => (z k : EReal)) k = (rmid z k : EReal) := by
  rw [mid, avg_real, rmid, EReal.coe_sub]

theorem var_real : var (fun k => (z k : EReal)) = (rvar z : EReal) := by
  rw [var, rvar, ← avg_real]
  exact congrArg avg (funext fun k => by rw [mid_real, EReal.coe_mul])

/-- The inverse deviation is a positive real whose square is the inverse of the raised variance. -/
theorem inv_real : ∃ ρ v : ℝ, v ≠ 0 ∧ ρ * ρ * v = 1 ∧ inv (fun k => (z k : EReal)) = (ρ : EReal)
    ∧ var (fun k => (z k : EReal)) + eps = (v : EReal) := by
  obtain ⟨ε, hε, he⟩ := eps_eq
  have hv : 0 < rvar z + ε := add_pos_of_nonneg_of_pos (rvar_nonneg z) hε
  refine ⟨(Real.sqrt (rvar z + ε))⁻¹, rvar z + ε, hv.ne', ?_, ?_, ?_⟩
  · rw [← mul_inv, Real.mul_self_sqrt hv.le, inv_mul_cancel₀ hv.ne']
  · rw [inv, var_real, he, ← EReal.coe_add, Ideal.rsqrt_coe, if_neg (not_lt.mpr hv.le), if_neg hv.ne']
  · rw [var_real, he, ← EReal.coe_add]

/-- The identity over the reals. -/
theorem identity (ρ v : ℝ) (c : Fin 1024 → ℝ) (hv : v ≠ 0) (h : ρ * ρ * v = 1) (h0 : ∑ k, c k = 0) (k : Fin 1024) :
    (e k * ρ + ((∑ j, c j * e j) * (-(1/2) * (ρ / v)) / 1024) * (2 * c k))
      + ((∑ j, -(e j * ρ)) + ∑ j, -(((∑ j, c j * e j) * (-(1/2) * (ρ / v)) / 1024) * (2 * c j))) / 1024
      = ρ * (e k - (∑ j, e j) / 1024 - c k * ρ * ((∑ j, e j * (c j * ρ)) / 1024)) := by
  have hi : ρ / v = ρ * (ρ * ρ) := by
    rw [div_eq_iff hv, mul_assoc, h, mul_one]
  have a1 : ∑ j, -(e j * ρ) = -((∑ j, e j) * ρ) := by rw [Finset.sum_neg_distrib, Finset.sum_mul]
  have a2 : ∀ q : ℝ, ∑ j, -(q * (2 * c j)) = 0 := fun q => by
    rw [Finset.sum_neg_distrib, ← Finset.mul_sum, ← Finset.mul_sum, h0, mul_zero, mul_zero, neg_zero]
  have a3 : ∑ j, e j * (c j * ρ) = (∑ j, c j * e j) * ρ := by
    rw [Finset.sum_mul]
    exact Finset.sum_congr rfl fun j _ => by ring
  rw [a1, a2, a3, hi]
  ring

theorem steps_eq (k : Fin 1024) :
    steps (fun k => (z k : EReal)) (fun k => (e k : EReal)) k = back (fun k => (z k : EReal)) (fun k => (e k : EReal)) k := by
  obtain ⟨ρ, v, hv, h, hi, hs⟩ := inv_real z
  have hspread : spread (fun k => (z k : EReal)) (fun k => (e k : EReal))
      = (((∑ j, rmid z j * e j) * (-(1/2) * (ρ / v)) / 1024 : ℝ) : EReal) := by
    unfold spread
    simp only [mid_real, hi, hs, ← EReal.coe_mul, sum_real, div_real _ _ hv, len_eq]
    exact div_real _ _ (by norm_num)
  unfold steps back unit
  simp only [hspread, hi, mid_real, avg_real, ← EReal.coe_mul, ← EReal.coe_neg, sum_real, ← EReal.coe_add, ← EReal.coe_sub, len_eq]
  rw [div_real _ _ (by norm_num : (1024 : ℝ) ≠ 0), ← EReal.coe_add]
  exact congrArg _ (identity e ρ v (rmid z) hv h (sum_rmid z) k)

/-- The normalized row is real. -/
theorem unit_isReal (k : Fin 1024) : IsReal (unit (fun k => (z k : EReal)) k) := by
  obtain ⟨ρ, v, hv, h, hi, hs⟩ := inv_real z
  exact ⟨rmid z k * ρ, by rw [unit, hi, mid_real, EReal.coe_mul]⟩

end Cert.Norm

namespace Cert.Norm

open Idealize.ShloMosaic Cert.Finite

/-- The two gradients agree where both rows are real. -/
theorem steps_eq_back (z e : Fin 1024 → EReal) (hz : ∀ k, IsReal (z k)) (he : ∀ k, IsReal (e k)) (k : Fin 1024) :
    steps z e k = back z e k := by
  choose zr hzr using hz
  choose er her using he
  obtain rfl : z = fun k => (zr k : EReal) := funext hzr
  obtain rfl : e = fun k => (er k : EReal) := funext her
  exact steps_eq zr er k

theorem unit_real (z : Fin 1024 → EReal) (hz : ∀ k, IsReal (z k)) (k : Fin 1024) : IsReal (unit z k) := by
  choose zr hzr using hz
  obtain rfl : z = fun k => (zr k : EReal) := funext hzr
  exact unit_isReal zr k

end Cert.Norm

end
-- ==== Proof.Layer.lean ====
/-
  Arrays of rows read at an entry: a sum along a row or down a column, and a column of row values spread over the rows.
-/
module

public import proofs.«01_k».proof.Proof.Sums
public import proofs.«01_k».proof.Proof.Norm
public import Idealize.ShloMosaic.Lib.ValueLayout
public import Idealize.ShloMosaic.Lib.ValueIdx

@[expose] public section

noncomputable section

open scoped BigOperators

namespace Cert.Layer

open Idealize.ShloMosaic
open Idealize.ShloMosaic.ValueIdx

variable {α : Type} {n m : Nat}

/-- A column spread over the rows. -/
theorem spread_col (v : (⟨2, ![n, 1]⟩ : Shape).Idx → α) (h : (⟨2, ![n, 1]⟩ : Shape).Broadcasts ⟨2, ![n, m]⟩)
    (i : Fin n) (k : Fin m) : broadcastTo ⟨2, ![n, m]⟩ v h (ix2 i k) = v (ix2 i (0 : Fin 1)) := by
  refine broadcastTo_apply v h (ix2 i k) (ix2 i (0 : Fin 1)) fun ax => ?_
  match ax with
  | ⟨0, _⟩ =>
    show i.val = if n = 1 then 0 else i.val
    split
    · have := i.isLt; omega
    · rfl
  | ⟨1, _⟩ => rfl

/-- A vector stood up as a column. -/
theorem as_col (x : (⟨1, ![n]⟩ : Shape).Idx → α) (h : (⟨1, ![n]⟩ : Shape).ShapeCasts ⟨2, ![n, 1]⟩) (i : Fin n) :
    shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-- The sum along a row. -/
theorem row_sum (x : FVec Ideal ⟨2, ![n, m]⟩ .f32) (acc : BitVec 32) (h : (⟨2, ![n, m]⟩ : Shape).Reduces [1] ⟨1, ![n]⟩)
    (hφ : FKind.Formats .f32) (hacc : acc = FKind.add.neutral .f32 hφ) (i : Fin n) :
    multiReduction .add [1] ⟨1, ![n]⟩ x acc h hφ hacc (ix1 i) = ∑ k : Fin m, x (ix2 i k) :=
  (Ideal.multiReduction_add_single x acc h hφ hacc (ix1 i)).trans (Finset.sum_congr rfl fun k _ =>
    congrArg x (funext fun a => Fin.ext (match a with | ⟨0, _⟩ => rfl | ⟨1, _⟩ => rfl)))

/-- The sum down a column. -/
theorem col_sum (x : FVec Ideal ⟨2, ![n, m]⟩ .f32) (acc : BitVec 32) (h : (⟨2, ![n, m]⟩ : Shape).Reduces [0] ⟨1, ![m]⟩)
    (hφ : FKind.Formats .f32) (hacc : acc = FKind.add.neutral .f32 hφ) (k : Fin m) :
    multiReduction .add [0] ⟨1, ![m]⟩ x acc h hφ hacc (ix1 k) = ∑ i : Fin n, x (ix2 i k) :=
  (Ideal.multiReduction_add_single x acc h hφ hacc (ix1 k)).trans (Finset.sum_congr rfl fun i _ =>
    congrArg x (funext fun a => Fin.ext (match a with | ⟨0, _⟩ => rfl | ⟨1, _⟩ => rfl)))

end Cert.Layer

end
-- ==== Proof.Branch.lean ====
/-
  The pieces of the two branches' products read at an entry: one slab of a weight held in four, and a cut of columns.
-/
module

public import proofs.«01_k».proof.Proof.Layer

@[expose] public section

noncomputable section

open scoped BigOperators

namespace Cert.Branch

open Idealize.ShloMosaic
open Idealize.ShloMosaic.ValueIdx

variable {α : Type} {q a b : Nat}

/-- One slab of a stack of matrices. -/
theorem slab_at (w : (⟨3, ![q, a, b]⟩ : Shape).Idx → α) (o : Nat)
    (h : (⟨3, ![q, a, b]⟩ : Shape).Slices ![o, 0, 0] ⟨3, ![1, a, b]⟩)
    (h' : (⟨3, ![1, a, b]⟩ : Shape).ShapeCasts ⟨2, ![a, b]⟩) (s : Fin q) (hs : s.val = o) (i : Fin a) (j : Fin b) :
    shapeCast ⟨2, ![a, b]⟩ (extractStridedSlice ⟨3, ![1, a, b]⟩ ![o, 0, 0] w h) h' (ix2 i j) = w (ix3 s i j) := by
  rw [shapeCast_1ab_ab_apply]
  exact extractStridedSlice_apply _ _ _ _ _ (fun ax => by
    match ax with
    | ⟨0, _⟩ => exact hs.trans (Nat.add_zero _).symm
    | ⟨1, _⟩ => exact (Nat.zero_add _).symm
    | ⟨2, _⟩ => exact (Nat.zero_add _).symm)

/-- One row of a matrix spread over the rows. -/
theorem spread_row (w : (⟨2, ![q, b]⟩ : Shape).Idx → α) (o : Nat) (h : (⟨2, ![q, b]⟩ : Shape).Slices ![o, 0] ⟨2, ![1, b]⟩)
    (h' : (⟨2, ![1, b]⟩ : Shape).Broadcasts ⟨2, ![a, b]⟩) (s : Fin q) (hs : s.val = o) (i : Fin a) (j : Fin b) :
    broadcastTo ⟨2, ![a, b]⟩ (extractStridedSlice ⟨2, ![1, b]⟩ ![o, 0] w h) h' (ix2 i j) = w (ix2 s j) := by
  rw [broadcastTo_1b_ab_apply]
  exact slice2_axis0_apply o w h 0 j s (hs.trans (Nat.add_zero _).symm)

/-- Column `d` of slab `s` among the 1024. -/
abbrev colOf (s : Fin 4) (d : Fin 256) : Fin 1024 := ⟨s.val * 256 + d.val, by omega⟩

end Cert.Branch

end
-- ==== Proof.Merge.Rows.lean ====
/-
  The merge's row steps read at an entry: the two branches' products with their weights, the gated sum of the two, the output
  product over the skipped row, and the first layer norm.
-/
module

public import proofs.«01_k».proof.Proof.Branch
public import proofs.«01_k».proof.Proof.Norm
public import proofs.«01_k».proof.Proof.Gen.MergeIdeal.Value
public import Idealize.ShloMosaic.Lib.Pipeline.Value
public import Idealize.ShloMosaic.Lib.Pipeline.ValueKit

@[expose] public section

noncomputable section

open scoped BigOperators

namespace Cert.Proof.Merge

open Idealize.ShloMosaic hiding ix1 ix2 ix3 eq_ix1 eq_ix2 eq_ix3
open Idealize.ShloMosaic.TcCoe Idealize.ShloMosaic.ValueIdx Idealize.SL.Sem
open Cert.MergeIdeal Cert.MergeIdeal.Gen Cert.Sums Cert.Norm Cert.Layer Cert.Branch

/-- The factor on the skipped rows. -/
abbrev skip : EReal := (FloatOps.ofBits (F := Ideal) .f32 0x3F9837F0#32 : Ideal .f32)

/-- What one row brings: the two gates' logits, the two branches' inputs and the skipped row. -/
structure Row where
  l0 : Fin 1024 → EReal
  l1 : Fin 1024 → EReal
  a : Fin 512 → EReal
  y : Fin 512 → EReal
  x : Fin 1024 → EReal

/-- The weights: the gates' biases, the branches' weights in four slabs, the output weight, the norm's gain and shift. -/
structure Wts where
  b0 : Fin 1024 → EReal
  b1 : Fin 1024 → EReal
  wa : Fin 4 → Fin 512 → Fin 256 → EReal
  ws : Fin 4 → Fin 512 → Fin 256 → EReal
  w : Fin 1024 → Fin 1024 → EReal
  g : Fin 1024 → EReal
  c : Fin 1024 → EReal

/-- A row times a weight held in four slabs of columns. -/
def branch (v : Fin 512 → EReal) (w : Fin 4 → Fin 512 → Fin 256 → EReal) (d : Fin 1024) : EReal :=
  ∑ k, v k * w ⟨d.val / 256, by omega⟩ k ⟨d.val % 256, by omega⟩

theorem branch_col (v : Fin 512 → EReal) (w : Fin 4 → Fin 512 → Fin 256 → EReal) (s : Fin 4) (e : Fin 256) :
    branch v w (colOf s e) = ∑ k, v k * w s k e := by
  unfold branch
  have h0 : (⟨(colOf s e).val / 256, by omega⟩ : Fin 4) = s :=
    Fin.ext (by show (s.val * 256 + e.val) / 256 = s.val; omega)
  have h1 : (⟨(colOf s e).val % 256, by omega⟩ : Fin 256) = e :=
    Fin.ext (by show (s.val * 256 + e.val) % 256 = e.val; omega)
  rw [h0, h1]

section Steps

variable (W : Wts) (R : Row) (d : Fin 1024)

/-- The two branches' rows. -/
def ya : EReal := branch R.a W.wa d
def ys : EReal := branch R.y W.ws d

/-- The merged row, the row before the norm and the row after it. -/
def mixed : EReal := Ideal.logistic (R.l0 d + W.b0 d) * ya W R d + Ideal.logistic (R.l1 d + W.b1 d) * ys W R d
def z : EReal := skip * R.x d + ∑ k, mixed W R k * W.w k d
def h : EReal := unit (z W R) d * W.g d + W.c d

end Steps

/-- Four blocks of columns side by side, given block by block. -/
theorem four_at (p q r t : FVec Ideal S256x256 .f32) (P : Fin 4 → Fin 256 → EReal) (n : Fin 256)
    (hp : ∀ e, p (ix2 n e) = P 0 e) (hq : ∀ e, q (ix2 n e) = P 1 e) (hr : ∀ e, r (ix2 n e) = P 2 e)
    (ht : ∀ e, t (ix2 n e) = P 3 e) (s : Fin 4) (e : Fin 256) :
    concatenate S256x1024 1 [⟨S256x256, p⟩, ⟨S256x256, q⟩, ⟨S256x256, r⟩, ⟨S256x256, t⟩]
      concatenates_S256x256_S256x256_S256x256_S256x256_S256x1024_d1 (ix2 n (colOf s e)) = P s e := by
  match s with
  | ⟨0, _⟩ =>
    refine (concatenate_apply_piece (t := S256x1024) (1 : Fin 2) _ _ _ 0 (by show 0 < 4; decide) S256x256 p rfl rfl 0 rfl (ix2 n e)
      (fun b => match b with | ⟨0, _⟩ => fun _ => rfl | ⟨1, _⟩ => fun h => absurd rfl h) ?_).trans (hp e)
    show 0 + e.val = 0 * 256 + e.val
    omega
  | ⟨1, _⟩ =>
    refine (concatenate_apply_piece (t := S256x1024) (1 : Fin 2) _ _ _ 1 (by show 1 < 4; decide) S256x256 q rfl rfl 256 rfl (ix2 n e)
      (fun b => match b with | ⟨0, _⟩ => fun _ => rfl | ⟨1, _⟩ => fun h => absurd rfl h) ?_).trans (hq e)
    show 256 + e.val = 1 * 256 + e.val
    omega
  | ⟨2, _⟩ =>
    refine (concatenate_apply_piece (t := S256x1024) (1 : Fin 2) _ _ _ 2 (by show 2 < 4; decide) S256x256 r rfl rfl 512 rfl (ix2 n e)
      (fun b => match b with | ⟨0, _⟩ => fun _ => rfl | ⟨1, _⟩ => fun h => absurd rfl h) ?_).trans (hr e)
    show 512 + e.val = 2 * 256 + e.val
    omega
  | ⟨3, _⟩ =>
    refine (concatenate_apply_piece (t := S256x1024) (1 : Fin 2) _ _ _ 3 (by show 3 < 4; decide) S256x256 t rfl rfl 768 rfl (ix2 n e)
      (fun b => match b with | ⟨0, _⟩ => fun _ => rfl | ⟨1, _⟩ => fun h => absurd rfl h) ?_).trans (ht e)
    show 768 + e.val = 3 * 256 + e.val
    omega

/-- A block of rows times one slab of a branch weight. -/
theorem slab_dot (X : FVec Ideal S256x512 .bf16) (V : FVec Ideal S4x512x256 .bf16) (s : Fin 4) (o : Nat) (hs : s.val = o)
    (h' : S4x512x256.Slices ![o, 0, 0] S1x512x256) (n e : Fin 256) :
    matmul dot_S256x512_S512x256_S256x256_1_0_0_1_n_n none X
      (shapeCast S512x256 (extractStridedSlice S1x512x256 ![o, 0, 0] V h') shapeCasts_S1x512x256_S512x256)
      (constant S256x256 .f32 0x00000000#32) (ix2 n e)
    = ∑ k : Fin 512, X (ix2 n k) * V (ix3 s k e) := by
  refine (matmul_at dot_S256x512_S512x256_S256x256_1_0_0_1_n_n 512 rfl rfl none _ _ _ (fun k => ix2 n k) (fun k => ix2 k e)
    (fun k => funext fun a => Fin.ext (match a with | ⟨0, _⟩ => rfl | ⟨1, _⟩ => rfl))
    (fun k => funext fun a => Fin.ext (match a with | ⟨0, _⟩ => rfl | ⟨1, _⟩ => rfl))).trans ?_
  exact Finset.sum_congr rfl fun k _ => congrArg (X (ix2 n k) * ·) (slab_at V o h' _ s hs k e)

/-- A column of the 1024, by its slab. -/
theorem col_cases (d : Fin 1024) : ∃ (s : Fin 4) (e : Fin 256), d = colOf s e :=
  ⟨⟨d.val / 256, by omega⟩, ⟨d.val % 256, by omega⟩, Fin.ext (by show d.val = d.val / 256 * 256 + d.val % 256; omega)⟩

/-- An entry's distance from its row's average. -/
theorem mid_at (Z : FVec Ideal S256x1024 .f32) (n : Fin 256) (k : Fin 1024) :
    subf Z (broadcastTo S256x1024 (divf (shapeCast S256x1 (multiReduction .add [1] S256 Z 0x00000000#32
      reduces_S256x1024_S256 (.inl rfl) rfl) shapeCasts_S256_S256x1) (broadcast S256x1 (Scalar.ofBits .f32 0x44800000#32)))
      broadcasts_S256x1_S256x1024) (ix2 n k) = mid (fun d => Z (ix2 n d)) k := by
  refine congrArg (Z (ix2 n k) - ·) ((spread_col _ _ n k).trans ?_)
  exact congrArg (Ideal.div · len) ((as_col _ _ n).trans (row_sum _ _ _ _ _ n))

variable (l0 l1 : Vec Ideal S256x1024 .f32) (a y : Vec Ideal S256x512 .bf16) (x : Vec Ideal S256x1024 .f32)
  (b : Vec Ideal S2x1024 .f32) (wa ws : Vec Ideal S4x512x256 .bf16) (w : Vec Ideal S1024x1024 .bf16)
  (g c : Vec Ideal S1x1024 .f32) (n : Fin 256) (d : Fin 1024)

/-- Row `n` of a block, and the weights of a point. -/
abbrev blockRow : Row :=
  ⟨fun d => l0 (ix2 n d), fun d => l1 (ix2 n d), fun k => a (ix2 n k), fun k => y (ix2 n k), fun d => x (ix2 n d)⟩
abbrev blockWts : Wts :=
  ⟨fun d => b (ix2 0 d), fun d => b (ix2 1 d), fun s k e => wa (ix3 s k e), fun s k e => ws (ix3 s k e),
    fun k d => w (ix2 k d), fun d => g (ix2 0 d), fun d => c (ix2 0 d)⟩

theorem pay2_at : k0_pay2 a wa (ix2 n d) = branch (fun k => a (ix2 n k)) (fun s k e => wa (ix3 s k e)) d := by
  obtain ⟨s, e, rfl⟩ := col_cases d
  rw [branch_col]
  unfold k0_pay2
  exact four_at _ _ _ _ (fun s e => ∑ k : Fin 512, a (ix2 n k) * wa (ix3 s k e)) n (slab_dot a wa 0 0 rfl _ n)
    (slab_dot a wa 1 1 rfl _ n) (slab_dot a wa 2 2 rfl _ n) (slab_dot a wa 3 3 rfl _ n) s e

theorem pay5_at : k0_pay5 y ws (k0_pay3 y ws) (k0_pay4 ws) (ix2 n d)
    = branch (fun k => y (ix2 n k)) (fun s k e => ws (ix3 s k e)) d := by
  obtain ⟨s, e, rfl⟩ := col_cases d
  rw [branch_col]
  unfold k0_pay5 k0_pay3 k0_pay4
  exact four_at _ _ _ _ (fun s e => ∑ k : Fin 512, y (ix2 n k) * ws (ix3 s k e)) n (slab_dot y ws 0 0 rfl _ n)
    (slab_dot y ws 1 1 rfl _ n) (slab_dot y ws 2 2 rfl _ n) (slab_dot y ws 3 3 rfl _ n) s e

theorem pay6_at : k0_pay6 l0 l1 y b ws (k0_pay2 a wa) (k0_pay3 y ws) (k0_pay4 ws) (ix2 n d)
    = mixed (blockWts b wa ws w g c) (blockRow l0 l1 a y x n) d := by
  unfold k0_pay6
  exact congrArg₂ (· + ·)
    (congrArg₂ (· * ·) (congrArg (fun t : EReal => Ideal.logistic (l0 (ix2 n d) + t)) (spread_row b 0 _ _ 0 rfl n d))
      (pay2_at a wa n d))
    (congrArg₂ (· * ·) (congrArg (fun t : EReal => Ideal.logistic (l1 (ix2 n d) + t)) (spread_row b 1 _ _ 1 rfl n d))
      (pay5_at y ws n d))

theorem pay7_at : k0_pay7 l0 l1 y x b ws (k0_pay1 w) (k0_pay2 a wa) (k0_pay3 y ws) (k0_pay4 ws) (ix2 n d)
    = z (blockWts b wa ws w g c) (blockRow l0 l1 a y x n) d := by
  unfold k0_pay7
  refine congrArg (skip * x (ix2 n d) + ·) ((matmul_at dot_S256x1024_S1024x1024_S256x1024_1_0_0_1_n_n 1024 rfl rfl none _ _ _
    (fun k => ix2 n k) (fun k => ix2 k d)
    (fun k => funext fun a => Fin.ext (match a with | ⟨0, _⟩ => rfl | ⟨1, _⟩ => rfl))
    (fun k => funext fun a => Fin.ext (match a with | ⟨0, _⟩ => rfl | ⟨1, _⟩ => rfl))).trans ?_)
  exact Finset.sum_congr rfl fun k _ => congrArg₂ (· * ·) (pay6_at l0 l1 a y x b wa ws w g c n k)
    (congrFun (shapeCast_self w shapeCasts_S1024x1024_S1024x1024) (ix2 k d))

theorem pay8_at : k0_pay8 l0 l1 y x b ws (k0_pay1 w) g c (k0_pay2 a wa) (k0_pay3 y ws) (k0_pay4 ws) (ix2 n d)
    = h (blockWts b wa ws w g c) (blockRow l0 l1 a y x n) d := by
  have e : (fun d => k0_pay7 l0 l1 y x b ws (k0_pay1 w) (k0_pay2 a wa) (k0_pay3 y ws) (k0_pay4 ws) (ix2 n d))
      = z (blockWts b wa ws w g c) (blockRow l0 l1 a y x n) := funext fun d => pay7_at l0 l1 a y x b wa ws w g c n d
  unfold h
  rw [← e]
  unfold k0_pay8
  generalize k0_pay7 l0 l1 y x b ws (k0_pay1 w) (k0_pay2 a wa) (k0_pay3 y ws) (k0_pay4 ws) = Z
  refine congrArg₂ (· + ·) (congrArg₂ (· * ·) (congrArg₂ (· * ·) (mid_at Z n d) ((spread_col _ _ n d).trans ?_))
    (broadcastTo_1b_ab_apply g _ n d)) (broadcastTo_1b_ab_apply c _ n d)
  refine congrArg (fun t : EReal => Ideal.rsqrt (Ideal.div t len + eps)) (((as_col _ _ n).trans (row_sum _ _ _ _ _ n)).trans ?_)
  exact Finset.sum_congr rfl fun k _ => congrArg₂ (· * ·) (mid_at Z n k) (mid_at Z n k)

end Cert.Proof.Merge

end
-- ==== Proof.Merge.Places.lean ====
/-
  Where a point's blocks lie: eight blocks of 256 rows, the two gates' logits in their columns of the projection, and the
  weights whole, the output weight's four slabs laid out as one matrix.
-/
module

public import proofs.«01_k».proof.Proof.Merge.Rows

@[expose] public section

noncomputable section

open scoped BigOperators

namespace Cert.Proof.Merge

open Idealize.ShloMosaic hiding ix1 ix2 ix3 eq_ix1 eq_ix2 eq_ix3
open Idealize.ShloMosaic.TcCoe Idealize.ShloMosaic.ValueIdx Idealize.SL.Sem
open Cert.MergeIdeal Cert.MergeIdeal.Gen Cert.Sums Cert.Norm Cert.Layer Cert.Branch

section Whole

variable (P : S2048x7168.Idx → EReal) (A Y : S2048x512.Idx → EReal) (X : S2048x1024.Idx → EReal) (B : S2x1024.Idx → EReal)
  (WA WS : S4x512x256.Idx → EReal) (WO : S4x256x1024.Idx → EReal) (G C : S1x1024.Idx → EReal)

/-- Row `n` of the arguments. -/
abbrev wholeRow (n : Fin 2048) : Row :=
  ⟨fun d => P (ix2 n (⟨5120 + d.val, by omega⟩ : Fin 7168)), fun d => P (ix2 n (⟨6144 + d.val, by omega⟩ : Fin 7168)),
    fun k => A (ix2 n k), fun k => Y (ix2 n k), fun d => X (ix2 n d)⟩

/-- The weights. -/
abbrev wholeWts : Wts :=
  ⟨fun d => B (ix2 0 d), fun d => B (ix2 1 d), fun s k e => WA (ix3 s k e), fun s k e => WS (ix3 s k e),
    fun k d => WO (ix3 (⟨k.val / 256, by omega⟩ : Fin 4) (⟨k.val % 256, by omega⟩ : Fin 256) d),
    fun d => G (ix2 0 d), fun d => C (ix2 0 d)⟩

end Whole

variable (m : (ℓ : Loc nD τ sig) → Buf (Elt Ideal) ℓ) (c : Dev nD)

/-- The arguments as launched. -/
abbrev argP : S2048x7168.Idx → EReal := m ((c.tc : Thread nD τ).loc main_arg0)
abbrev argA : S2048x512.Idx → EReal := m ((c.tc : Thread nD τ).loc main_arg1)
abbrev argY : S2048x512.Idx → EReal := m ((c.tc : Thread nD τ).loc main_arg2)
abbrev argX : S2048x1024.Idx → EReal := m ((c.tc : Thread nD τ).loc main_arg3)
abbrev argB : S2x1024.Idx → EReal := m ((c.tc : Thread nD τ).loc main_arg4)
abbrev argWA : S4x512x256.Idx → EReal := m ((c.tc : Thread nD τ).loc main_arg5)
abbrev argWS : S4x512x256.Idx → EReal := m ((c.tc : Thread nD τ).loc main_arg6)
abbrev argWO : S4x256x1024.Idx → EReal := m ((c.tc : Thread nD τ).loc main_arg7)
abbrev argG : S1x1024.Idx → EReal := m ((c.tc : Thread nD τ).loc main_arg8)
abbrev argC : S1x1024.Idx → EReal := m ((c.tc : Thread nD τ).loc main_arg9)

/-- Row `n` of the launched arguments, and the launched weights. -/
abbrev argRow (n : Fin 2048) : Row := wholeRow (argP m c) (argA m c) (argY m c) (argX m c) n
abbrev argWts : Wts := wholeWts (argB m c) (argWA m c) (argWS m c) (argWO m c) (argG m c) (argC m c)

theorem idx_0 : ∀ t : Fin cfg0.N, win0_0.index t = ![t.val, 5] := (by decide +kernel : ∀ t : Fin grid0.N, _)
theorem idx_1 : ∀ t : Fin cfg0.N, win0_1.index t = ![t.val, 6] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![t.val, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![t.val, 0] := (by decide +kernel : ∀ t : Fin grid0.N, _)
theorem idx_15 : ∀ t : Fin cfg0.N, win0_15.index t = ![t.val, 0] := (by decide +kernel : ∀ t : Fin grid0.N, _)

/-- The row of the array that row `n` of block `q` is. -/
abbrev rowOf (q : Nat) (hq : q < 8) (n : Fin 256) : Fin 2048 := ⟨q * 256 + n.val, by omega⟩

/-- The reshape before the region lays the four slabs one under the other. -/
theorem out_weight (d k : Fin 1024) : (V m c main_v0 : S1024x1024.Idx → EReal) (ix2 d k)
    = argWO m c (ix3 (⟨d.val / 256, by omega⟩ : Fin 4) (⟨d.val % 256, by omega⟩ : Fin 256) k) := by
  have e : (V m c main_v0 : S1024x1024.Idx → EReal)
      = shapeCast S1024x1024 (argWO m c) shapeCasts_S4x256x1024_S1024x1024 := by
    show StableHlo.after hostOps0 (fun b => m (c, b)) (Proc.devRef .tc main_v0) = _
    simp only [hostOps0, StableHlo.after_cons, StableHlo.after_nil]
    after_results_simp
    rfl
  rw [e]
  refine shapeCast_apply _ _ _ _ ?_
  rw [Shape.rowMajor_val_three, Shape.rowMajor_val_two]
  show (d.val / 256 * 256 + d.val % 256) * 1024 + k.val = d.val * 1024 + k.val
  omega

variable (t : Fin cfg0.N) (h8 : t.val < 8) (n : Fin 256)

theorem place_l0 (d : Fin 1024) : (iblk m c 0 t : S256x1024.Idx → EReal) (ix2 n d)
    = argP m c (ix2 (rowOf t.val h8 n) (⟨5120 + d.val, by omega⟩ : Fin 7168)) := by
  blk_simp [iblk, V_main_arg0]
  congr 1
  blk_ext [idx_0, at2_0, at2_1]

theorem place_l1 (d : Fin 1024) : (iblk m c 1 t : S256x1024.Idx → EReal) (ix2 n d)
    = argP m c (ix2 (rowOf t.val h8 n) (⟨6144 + d.val, by omega⟩ : Fin 7168)) := by
  blk_simp [iblk, V_main_arg0]
  congr 1
  blk_ext [idx_1, at2_0, at2_1]

theorem place_a (d : Fin 512) : (iblk m c 2 t : S256x512.Idx → EReal) (ix2 n d)
    = argA m c (ix2 (rowOf t.val h8 n) d) := by
  blk_simp [iblk, V_main_arg1]
  congr 1
  blk_ext [idx_2, at2_0, at2_1]

theorem place_y (d : Fin 512) : (iblk m c 3 t : S256x512.Idx → EReal) (ix2 n d)
    = argY m c (ix2 (rowOf t.val h8 n) d) := by
  blk_simp [iblk, V_main_arg2]
  congr 1
  blk_ext [idx_3, at2_0, at2_1]

theorem place_x (d : Fin 1024) : (iblk m c 4 t : S256x1024.Idx → EReal) (ix2 n d)
    = argX m c (ix2 (rowOf t.val h8 n) d) := by
  blk_simp [iblk, V_main_arg3]
  congr 1
  blk_ext [idx_4, at2_0, at2_1]

theorem place_b (s : Fin 2) (d : Fin 1024) : (iblk m c 5 t : S2x1024.Idx → EReal) (ix2 s d) = argB m c (ix2 s d) := by
  blk_simp [iblk, V_main_arg4]
  congr 1
  blk_ext [idx_5, at2_0, at2_1]

theorem place_wa (s : Fin 4) (j : Fin 512) (k : Fin 256) :
    (iblk m c 6 t : S4x512x256.Idx → EReal) (ix3 s j k) = argWA m c (ix3 s j k) := by
  blk_simp [iblk, V_main_arg5]
  congr 1
  blk_ext [idx_6, at3_0, at3_1, at3_2]

theorem place_ws (s : Fin 4) (j : Fin 512) (k : Fin 256) :
    (iblk m c 7 t : S4x512x256.Idx → EReal) (ix3 s j k) = argWS m c (ix3 s j k) := by
  blk_simp [iblk, V_main_arg6]
  congr 1
  blk_ext [idx_7, at3_0, at3_1, at3_2]

theorem place_w (d k : Fin 1024) : (iblk m c 8 t : S1024x1024.Idx → EReal) (ix2 d k)
    = argWO m c (ix3 (⟨d.val / 256, by omega⟩ : Fin 4) (⟨d.val % 256, by omega⟩ : Fin 256) k) := by
  refine Eq.trans ?_ (out_weight m c d k)
  blk_simp [iblk]
  congr 1
  blk_ext [idx_8, at2_0, at2_1]

theorem place_g (d : Fin 1024) : (iblk m c 9 t : S1x1024.Idx → EReal) (ix2 0 d) = argG m c (ix2 0 d) := by
  blk_simp [iblk, V_main_arg8]
  congr 1
  blk_ext [idx_9, at2_0, at2_1]

theorem place_c (d : Fin 1024) : (iblk m c 10 t : S1x1024.Idx → EReal) (ix2 0 d) = argC m c (ix2 0 d) := by
  blk_simp [iblk, V_main_arg9]
  congr 1
  blk_ext [idx_10, at2_0, at2_1]

/-- A block's row is the arguments' row. -/
theorem row_place : blockRow (iblk m c 0 t) (iblk m c 1 t) (iblk m c 2 t) (iblk m c 3 t) (iblk m c 4 t) n
    = argRow m c (rowOf t.val h8 n) :=
  Row.mk.injEq .. ▸ ⟨funext (place_l0 m c t h8 n), funext (place_l1 m c t h8 n), funext (place_a m c t h8 n),
    funext (place_y m c t h8 n), funext (place_x m c t h8 n)⟩

/-- The point's weights are the arguments'. -/
theorem wts_place : blockWts (iblk m c 5 t) (iblk m c 6 t) (iblk m c 7 t) (iblk m c 8 t) (iblk m c 9 t) (iblk m c 10 t)
    = argWts m c :=
  Wts.mk.injEq .. ▸ ⟨funext (place_b m c t 0), funext (place_b m c t 1),
    funext fun s => funext fun j => funext (place_wa m c t s j), funext fun s => funext fun j => funext (place_ws m c t s j),
    funext fun k => funext (place_w m c t k), funext (place_g m c t), funext (place_c m c t)⟩

end Cert.Proof.Merge

end
-- ==== Proof.Merge.Results.lean ====
/-
  The merge's five results given row by row, as functions of its arguments.
-/
module

public import proofs.«01_k».proof.Proof.Merge.Places

@[expose] public section

noncomputable section

open scoped BigOperators

namespace Cert.Proof.Merge

open Idealize.ShloMosaic hiding ix1 ix2 ix3 eq_ix1 eq_ix2 eq_ix3
open Idealize.ShloMosaic.TcCoe Idealize.ShloMosaic.ValueIdx Idealize.SL.Sem
open Cert.MergeIdeal Cert.MergeIdeal.Gen Cert.Sums Cert.Norm Cert.Layer Cert.Branch

/-- An array given row by row. -/
def byRow (f : Fin 2048 → Fin 1024 → EReal) : (⟨2, ![2048, 1024]⟩ : Shape).Idx → EReal :=
  fun i => f ⟨(i 0).val, (i 0).isLt⟩ ⟨(i 1).val, (i 1).isLt⟩

section Outs

variable (x0 x1 : Vec Ideal S256x1024 .f32) (x2 x3 : Vec Ideal S256x512 .bf16) (x4 : Vec Ideal S256x1024 .f32)
  (x5 : Vec Ideal S2x1024 .f32) (x6 x7 : Vec Ideal S4x512x256 .bf16) (x8 : Vec Ideal S1024x1024 .bf16)
  (x9 x10 : Vec Ideal S1x1024 .f32) (n : Fin 256) (d : Fin 1024)

/-! A point's five results at an entry. -/

theorem out_11 : out0_11 x0 x1 x2 x3 x4 x5 x6 x7 x8 x9 x10 (ix2 n d)
    = ya (blockWts x5 x6 x7 x8 x9 x10) (blockRow x0 x1 x2 x3 x4 n) d := by
  have e : out0_11 x0 x1 x2 x3 x4 x5 x6 x7 x8 x9 x10 = k0_pay2 x2 x6 := by
    unfold_out out0_11
    frame_out
  rw [e]
  exact pay2_at x2 x6 n d

theorem out_12 : out0_12 x0 x1 x2 x3 x4 x5 x6 x7 x8 x9 x10 (ix2 n d)
    = ys (blockWts x5 x6 x7 x8 x9 x10) (blockRow x0 x1 x2 x3 x4 n) d := by
  have e : out0_12 x0 x1 x2 x3 x4 x5 x6 x7 x8 x9 x10 = k0_pay5 x3 x7 (k0_pay3 x3 x7) (k0_pay4 x7) := by
    unfold_out out0_12
    frame_out
  rw [e]
  exact pay5_at x3 x7 n d

theorem out_13 : out0_13 x0 x1 x2 x3 x4 x5 x6 x7 x8 x9 x10 (ix2 n d)
    = mixed (blockWts x5 x6 x7 x8 x9 x10) (blockRow x0 x1 x2 x3 x4 n) d := by
  have e : out0_13 x0 x1 x2 x3 x4 x5 x6 x7 x8 x9 x10 = k0_pay6 x0 x1 x3 x5 x7 (k0_pay2 x2 x6) (k0_pay3 x3 x7) (k0_pay4 x7) := by
    unfold_out out0_13
    frame_out
  rw [e]
  exact pay6_at x0 x1 x2 x3 x4 x5 x6 x7 x8 x9 x10 n d

theorem out_14 : out0_14 x0 x1 x2 x3 x4 x5 x6 x7 x8 x9 x10 (ix2 n d)
    = z (blockWts x5 x6 x7 x8 x9 x10) (blockRow x0 x1 x2 x3 x4 n) d := by
  have e : out0_14 x0 x1 x2 x3 x4 x5 x6 x7 x8 x9 x10 = k0_pay7 x0 x1 x3 x4 x5 x7 (k0_pay1 x8) (k0_pay2 x2 x6) (k0_pay3 x3 x7) (k0_pay4 x7) := by
    unfold_out out0_14
    frame_out
  rw [e]
  exact pay7_at x0 x1 x2 x3 x4 x5 x6 x7 x8 x9 x10 n d

theorem out_15 : out0_15 x0 x1 x2 x3 x4 x5 x6 x7 x8 x9 x10 (ix2 n d)
    = h (blockWts x5 x6 x7 x8 x9 x10) (blockRow x0 x1 x2 x3 x4 n) d := by
  have e : out0_15 x0 x1 x2 x3 x4 x5 x6 x7 x8 x9 x10 = k0_pay8 x0 x1 x3 x4 x5 x7 (k0_pay1 x8) x9 x10 (k0_pay2 x2 x6) (k0_pay3 x3 x7) (k0_pay4 x7) := by
    unfold_out out0_15
    frame_out
  rw [e]
  exact pay8_at x0 x1 x2 x3 x4 x5 x6 x7 x8 x9 x10 n d

end Outs

variable (m : (ℓ : Loc nD τ sig) → Buf (Elt Ideal) ℓ) (c : Dev nD)

theorem array_11 (g : Fin 2048 → Fin 1024 → EReal)
    (hg : ∀ (t : Fin cfg0.N) (h8 : t.val < 8) (n : Fin 256) (d : Fin 1024), out0_11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 n d)
      = g (rowOf t.val h8 n) d) :
    (dats m 0 c).arrAt 11 cfg0.N = byRow g := by
  refine (dats m 0 c).arrAt_eq_of_covers 11 _ (by decide +kernel) fun t _ y => ?_
  have h8 : t.val < 8 := lt_of_lt_of_eq t.isLt N_0
  blk_simp
  rw [after0_11]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_0).slice (win0_11.rect t)).emb (ix2 n d)) 0).val, Fin.isLt _⟩ :=
    Fin.ext (by
      show t.val * 256 + n.val = win0_11.index t 0 * 256 + 1 * n.val
      rw [idx_11]
      show t.val * 256 + n.val = t.val * 256 + 1 * n.val
      omega)
  have e1 : d = ⟨((((View.whole main_v1_0).slice (win0_11.rect t)).emb (ix2 n d)) 1).val, Fin.isLt _⟩ :=
    Fin.ext (by
      show d.val = win0_11.index t 1 * 1024 + 1 * d.val
      rw [idx_11]
      show d.val = 0 * 1024 + 1 * d.val
      omega)
  exact congrArg₂ g e0 e1

theorem final_11 : (dats m 0 c).arrAt 11 cfg0.N = byRow fun n d => ya (argWts m c) (argRow m c n) d :=
  array_11 m c _ fun t h8 n d => by
    rw [← row_place m c t h8 n, ← wts_place m c t]
    exact out_11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) n d

theorem array_12 (g : Fin 2048 → Fin 1024 → EReal)
    (hg : ∀ (t : Fin cfg0.N) (h8 : t.val < 8) (n : Fin 256) (d : Fin 1024), out0_12 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 n d)
      = g (rowOf t.val h8 n) d) :
    (dats m 0 c).arrAt 12 cfg0.N = byRow g := by
  refine (dats m 0 c).arrAt_eq_of_covers 12 _ (by decide +kernel) fun t _ y => ?_
  have h8 : t.val < 8 := lt_of_lt_of_eq t.isLt N_0
  blk_simp
  rw [after0_12]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_1).slice (win0_12.rect t)).emb (ix2 n d)) 0).val, Fin.isLt _⟩ :=
    Fin.ext (by
      show t.val * 256 + n.val = win0_12.index t 0 * 256 + 1 * n.val
      rw [idx_12]
      show t.val * 256 + n.val = t.val * 256 + 1 * n.val
      omega)
  have e1 : d = ⟨((((View.whole main_v1_1).slice (win0_12.rect t)).emb (ix2 n d)) 1).val, Fin.isLt _⟩ :=
    Fin.ext (by
      show d.val = win0_12.index t 1 * 1024 + 1 * d.val
      rw [idx_12]
      show d.val = 0 * 1024 + 1 * d.val
      omega)
  exact congrArg₂ g e0 e1

theorem final_12 : (dats m 0 c).arrAt 12 cfg0.N = byRow fun n d => ys (argWts m c) (argRow m c n) d :=
  array_12 m c _ fun t h8 n d => by
    rw [← row_place m c t h8 n, ← wts_place m c t]
    exact out_12 (iblk m c 0 t) (iblk m c 1 t) (iblk m c 2 t) (iblk m c 3 t) (iblk m c 4 t) (iblk m c 5 t)
      (iblk m c 6 t) (iblk m c 7 t) (iblk m c 8 t) (iblk m c 9 t) (iblk m c 10 t) n d

theorem array_13 (g : Fin 2048 → Fin 1024 → EReal)
    (hg : ∀ (t : Fin cfg0.N) (h8 : t.val < 8) (n : Fin 256) (d : Fin 1024), out0_13 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 n d)
      = g (rowOf t.val h8 n) d) :
    (dats m 0 c).arrAt 13 cfg0.N = byRow g := by
  refine (dats m 0 c).arrAt_eq_of_covers 13 _ (by decide +kernel) fun t _ y => ?_
  have h8 : t.val < 8 := lt_of_lt_of_eq t.isLt N_0
  blk_simp
  rw [after0_13]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_2).slice (win0_13.rect t)).emb (ix2 n d)) 0).val, Fin.isLt _⟩ :=
    Fin.ext (by
      show t.val * 256 + n.val = win0_13.index t 0 * 256 + 1 * n.val
      rw [idx_13]
      show t.val * 256 + n.val = t.val * 256 + 1 * n.val
      omega)
  have e1 : d = ⟨((((View.whole main_v1_2).slice (win0_13.rect t)).emb (ix2 n d)) 1).val, Fin.isLt _⟩ :=
    Fin.ext (by
      show d.val = win0_13.index t 1 * 1024 + 1 * d.val
      rw [idx_13]
      show d.val = 0 * 1024 + 1 * d.val
      omega)
  exact congrArg₂ g e0 e1

theorem final_13 : (dats m 0 c).arrAt 13 cfg0.N = byRow fun n d => mixed (argWts m c) (argRow m c n) d :=
  array_13 m c _ fun t h8 n d => by
    rw [← row_place m c t h8 n, ← wts_place m c t]
    exact out_13 (iblk m c 0 t) (iblk m c 1 t) (iblk m c 2 t) (iblk m c 3 t) (iblk m c 4 t) (iblk m c 5 t)
      (iblk m c 6 t) (iblk m c 7 t) (iblk m c 8 t) (iblk m c 9 t) (iblk m c 10 t) n d

theorem array_14 (g : Fin 2048 → Fin 1024 → EReal)
    (hg : ∀ (t : Fin cfg0.N) (h8 : t.val < 8) (n : Fin 256) (d : Fin 1024), out0_14 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 n d)
      = g (rowOf t.val h8 n) d) :
    (dats m 0 c).arrAt 14 cfg0.N = byRow g := by
  refine (dats m 0 c).arrAt_eq_of_covers 14 _ (by decide +kernel) fun t _ y => ?_
  have h8 : t.val < 8 := lt_of_lt_of_eq t.isLt N_0
  blk_simp
  rw [after0_14]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_3).slice (win0_14.rect t)).emb (ix2 n d)) 0).val, Fin.isLt _⟩ :=
    Fin.ext (by
      show t.val * 256 + n.val = win0_14.index t 0 * 256 + 1 * n.val
      rw [idx_14]
      show t.val * 256 + n.val = t.val * 256 + 1 * n.val
      omega)
  have e1 : d = ⟨((((View.whole main_v1_3).slice (win0_14.rect t)).emb (ix2 n d)) 1).val, Fin.isLt _⟩ :=
    Fin.ext (by
      show d.val = win0_14.index t 1 * 1024 + 1 * d.val
      rw [idx_14]
      show d.val = 0 * 1024 + 1 * d.val
      omega)
  exact congrArg₂ g e0 e1

theorem final_14 : (dats m 0 c).arrAt 14 cfg0.N = byRow fun n d => z (argWts m c) (argRow m c n) d :=
  array_14 m c _ fun t h8 n d => by
    rw [← row_place m c t h8 n, ← wts_place m c t]
    exact out_14 (iblk m c 0 t) (iblk m c 1 t) (iblk m c 2 t) (iblk m c 3 t) (iblk m c 4 t) (iblk m c 5 t)
      (iblk m c 6 t) (iblk m c 7 t) (iblk m c 8 t) (iblk m c 9 t) (iblk m c 10 t) n d

theorem array_15 (g : Fin 2048 → Fin 1024 → EReal)
    (hg : ∀ (t : Fin cfg0.N) (h8 : t.val < 8) (n : Fin 256) (d : Fin 1024), out0_15 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 n d)
      = g (rowOf t.val h8 n) d) :
    (dats m 0 c).arrAt 15 cfg0.N = byRow g := by
  refine (dats m 0 c).arrAt_eq_of_covers 15 _ (by decide +kernel) fun t _ y => ?_
  have h8 : t.val < 8 := lt_of_lt_of_eq t.isLt N_0
  blk_simp
  rw [after0_15]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_4).slice (win0_15.rect t)).emb (ix2 n d)) 0).val, Fin.isLt _⟩ :=
    Fin.ext (by
      show t.val * 256 + n.val = win0_15.index t 0 * 256 + 1 * n.val
      rw [idx_15]
      show t.val * 256 + n.val = t.val * 256 + 1 * n.val
      omega)
  have e1 : d = ⟨((((View.whole main_v1_4).slice (win0_15.rect t)).emb (ix2 n d)) 1).val, Fin.isLt _⟩ :=
    Fin.ext (by
      show d.val = win0_15.index t 1 * 1024 + 1 * d.val
      rw [idx_15]
      show d.val = 0 * 1024 + 1 * d.val
      omega)
  exact congrArg₂ g e0 e1

theorem final_15 : (dats m 0 c).arrAt 15 cfg0.N = byRow fun n d => h (argWts m c) (argRow m c n) d :=
  array_15 m c _ fun t h8 n d => by
    rw [← row_place m c t h8 n, ← wts_place m c t]
    exact out_15 (iblk m c 0 t) (iblk m c 1 t) (iblk m c 2 t) (iblk m c 3 t) (iblk m c 4 t) (iblk m c 5 t)
      (iblk m c 6 t) (iblk m c 7 t) (iblk m c 8 t) (iblk m c 9 t) (iblk m c 10 t) n d

end Cert.Proof.Merge

end
-- ==== Proof.Loss.Rows.lean ====
/-
  The loss region's row steps read at an entry: the last layer norm of a row, its error against the target, the row's
  gradient, and what a block of 1024 rows adds to the loss and to the two weights' gradients.
-/
module

public import proofs.«01_k».proof.Proof.Layer
public import proofs.«01_k».proof.Proof.Gen.LossIdeal.Value
public import Idealize.ShloMosaic.Lib.Pipeline.Value
public import Idealize.ShloMosaic.Lib.Pipeline.ValueKit

@[expose] public section

noncomputable section

open scoped BigOperators

namespace Cert.Proof.Loss

open Idealize.ShloMosaic hiding ix1 ix2 ix3 eq_ix1 eq_ix2 eq_ix3
open Idealize.ShloMosaic.TcCoe Idealize.ShloMosaic.ValueIdx Idealize.SL.Sem
open Cert.LossIdeal Cert.LossIdeal.Gen Cert.Sums Cert.Norm Cert.Layer

/-- The factor on the skipped rows, and the reciprocals of 1024 and 2048. -/
abbrev skip : EReal := (FloatOps.ofBits (F := Ideal) .f32 0x3F9837F0#32 : Ideal .f32)
abbrev perRow : EReal := (FloatOps.ofBits (F := Ideal) .f32 0x3A800000#32 : Ideal .f32)
abbrev halfRow : EReal := (FloatOps.ofBits (F := Ideal) .f32 0x3A000000#32 : Ideal .f32)

/-- A row's error: the normalized row, scaled and shifted, less the target. -/
def err (z g b t : Fin 1024 → EReal) (k : Fin 1024) : EReal := unit z k * g k + b k - t k

/-- The error over the row's length, and the gradient of the normalized row. -/
def slope (z g b t : Fin 1024 → EReal) (k : Fin 1024) : EReal := err z g b t k * perRow
def inner (z g b t : Fin 1024 → EReal) (k : Fin 1024) : EReal := slope z g b t k * g k

/-- A block's row before the norm, and a one-row weight read along its entries. -/
def zOf (h acc : S1024x1024.Idx → EReal) (n d : Fin 1024) : EReal := skip * h (ix2 n d) + acc (ix2 n d)
def lane (w : S1x1024.Idx → EReal) (d : Fin 1024) : EReal := w (ix2 0 d)
def row (x : S1024x1024.Idx → EReal) (n d : Fin 1024) : EReal := x (ix2 n d)

variable (g b : Vec Ideal S1x1024 .f32) (h acc t : Vec Ideal S1024x1024 .f32) (n d : Fin 1024)

theorem pay5_at : k0_pay5 h acc (ix2 n d) = mid (zOf h acc n) d := by
  unfold k0_pay5
  refine congrArg (zOf h acc n d - ·) ((spread_col _ _ n d).trans ?_)
  exact congrArg (Ideal.div · len) ((as_col _ _ n).trans (row_sum _ _ _ _ _ n))

theorem pay6_at : k0_pay6 h acc (ix2 n (0 : Fin 1)) = inv (zOf h acc n) := by
  unfold k0_pay6
  refine congrArg (fun x : EReal => Ideal.rsqrt (Ideal.div x len + eps)) (((as_col _ _ n).trans (row_sum _ _ _ _ _ n)).trans ?_)
  exact Finset.sum_congr rfl fun k _ => congrArg₂ (· * ·) (pay5_at h acc n k) (pay5_at h acc n k)

theorem pay7_at : k0_pay7 h acc (ix2 n d) = unit (zOf h acc n) d := by
  unfold k0_pay7
  exact congrArg₂ (· * ·) (pay5_at h acc n d) ((spread_col _ _ n d).trans (pay6_at h acc n))

theorem pay8_at : k0_pay8 g h acc b t (ix2 n d) = err (zOf h acc n) (lane g) (lane b) (row t n) d := by
  unfold k0_pay8
  exact congrArg (· - t (ix2 n d)) (congrArg₂ (· + ·)
    (congrArg₂ (· * ·) (pay7_at h acc n d) (broadcastTo_1b_ab_apply g _ n d)) (broadcastTo_1b_ab_apply b _ n d))

theorem pay9_at : k0_pay9 g h acc b t (ix2 n d) = slope (zOf h acc n) (lane g) (lane b) (row t n) d := by
  unfold k0_pay9
  exact congrArg (· * perRow) (pay8_at g b h acc t n d)

theorem pay10_at : k0_pay10 g h acc b t (ix2 n d) = inner (zOf h acc n) (lane g) (lane b) (row t n) d := by
  unfold k0_pay10
  exact congrArg₂ (· * ·) (pay9_at g b h acc t n d) (broadcastTo_1b_ab_apply g _ n d)

theorem pay11_at : k0_pay11 g h acc b t (ix2 n (0 : Fin 1)) = avg (inner (zOf h acc n) (lane g) (lane b) (row t n)) := by
  unfold k0_pay11
  refine congrArg (Ideal.div · len) (((as_col _ _ n).trans (row_sum _ _ _ _ _ n)).trans ?_)
  exact Finset.sum_congr rfl fun k _ => pay10_at g b h acc t n k

theorem pay12_at : k0_pay12 g h acc b t (ix2 n (0 : Fin 1))
    = ∑ k, inner (zOf h acc n) (lane g) (lane b) (row t n) k * unit (zOf h acc n) k := by
  unfold k0_pay12
  refine ((as_col _ _ n).trans (row_sum _ _ _ _ _ n)).trans ?_
  exact Finset.sum_congr rfl fun k _ => congrArg₂ (· * ·) (pay10_at g b h acc t n k) (pay7_at h acc n k)

/-- The gradient of the row before the norm. -/
theorem pay13_at : k0_pay13 (k0_pay6 h acc) (k0_pay7 h acc) (k0_pay10 g h acc b t) (k0_pay11 g h acc b t) (k0_pay12 g h acc b t)
      (ix2 n d) = back (zOf h acc n) (inner (zOf h acc n) (lane g) (lane b) (row t n)) d := by
  unfold k0_pay13
  exact congrArg₂ (· * ·) ((spread_col _ _ n d).trans (pay6_at h acc n))
    (congrArg₂ (· - ·)
      (congrArg₂ (· - ·) (pay10_at g b h acc t n d) ((spread_col _ _ n d).trans (pay11_at g b h acc t n)))
      (congrArg₂ (· * ·) (pay7_at h acc n d)
        ((spread_col _ _ n d).trans (congrArg (Ideal.div · len) (pay12_at g b h acc t n)))))

/-- What the block adds to the loss, in every lane. -/
theorem pay14_at (l : Fin 128) : k0_pay14 (k0_pay8 g h acc b t) (ix2 (0 : Fin 1) l)
    = ∑ n : Fin 1024, (∑ k, err (zOf h acc n) (lane g) (lane b) (row t n) k * err (zOf h acc n) (lane g) (lane b) (row t n) k)
        * halfRow := by
  unfold k0_pay14
  refine (spread_col _ _ (0 : Fin 1) l).trans ?_
  refine (congrFun (shapeCast_self _ shapeCasts_S1x1_S1x1) _).trans ?_
  refine ((as_col _ _ (0 : Fin 1)).trans (col_sum _ _ _ _ _ (0 : Fin 1))).trans ?_
  refine Finset.sum_congr rfl fun i _ => congrArg (· * halfRow) (((as_col _ _ i).trans (row_sum _ _ _ _ _ i)).trans ?_)
  exact Finset.sum_congr rfl fun k _ => congrArg₂ (· * ·) (pay8_at g b h acc t i k) (pay8_at g b h acc t i k)

theorem pay15_at : k0_pay15 (k0_pay7 h acc) (k0_pay9 g h acc b t) (ix2 (0 : Fin 1) d)
    = ∑ n : Fin 1024, slope (zOf h acc n) (lane g) (lane b) (row t n) d * unit (zOf h acc n) d := by
  unfold k0_pay15
  refine ((shapeCast_a_1a_apply _ _ (0 : Fin 1) d).trans (col_sum _ _ _ _ _ d)).trans ?_
  exact Finset.sum_congr rfl fun i _ => congrArg₂ (· * ·) (pay9_at g b h acc t i d) (pay7_at h acc i d)

theorem pay16_at : k0_pay16 (k0_pay9 g h acc b t) (ix2 (0 : Fin 1) d)
    = ∑ n : Fin 1024, slope (zOf h acc n) (lane g) (lane b) (row t n) d := by
  unfold k0_pay16
  refine ((shapeCast_a_1a_apply _ _ (0 : Fin 1) d).trans (col_sum _ _ _ _ _ d)).trans ?_
  exact Finset.sum_congr rfl fun i _ => pay9_at g b h acc t i d

theorem pay17_at (x : FVec Ideal S1024x1024 .f32) (v : Vec Ideal S1x128 .f32) (i : S1x128.Idx) :
    k0_pay17 x v i = v i + k0_pay14 x i := by
  unfold k0_pay17
  exact congrArg (· + k0_pay14 x i) (congrFun (shapeCast_self v shapeCasts_S1x128_S1x128) i)

theorem pay18_at (x y : FVec Ideal S1024x1024 .f32) (v : Vec Ideal S1x1024 .f32) (i : S1x1024.Idx) :
    k0_pay18 x y v i = v i + k0_pay15 x y i := by
  unfold k0_pay18
  exact congrArg (· + k0_pay15 x y i) (congrFun (shapeCast_self v shapeCasts_S1x1024_S1x1024) i)

theorem pay4_at (x : FVec Ideal S1x1024 .f32) (v : Vec Ideal S1x1024 .f32) (i : S1x1024.Idx) :
    k0_pay4 x v i = v i + x i := by
  unfold k0_pay4
  exact congrArg (· + x i) (congrFun (shapeCast_self v shapeCasts_S1x1024_S1x1024) i)

end Cert.Proof.Loss

end
-- ==== Proof.Loss.Products.lean ====
/-
  The loss region over its run of points: four slabs of hidden units add up the last product of a block of rows, and the
  fourth point takes the block's norm, error and gradients, adding to what the block before left.
-/
module

public import proofs.«01_k».proof.Proof.Loss.Rows

@[expose] public section

noncomputable section

open scoped BigOperators

namespace Cert.Proof.Loss

open Idealize.ShloMosaic hiding ix1 ix2 ix3 eq_ix1 eq_ix2 eq_ix3
open Idealize.ShloMosaic.TcCoe Idealize.ShloMosaic.ValueIdx Idealize.SL.Sem
open Cert.LossIdeal Cert.LossIdeal.Gen Cert.Sums Cert.Norm Cert.Layer

/-- One slab's product of hidden rows with a weight, at row `n` and column `d`. -/
def slabAt (A : S4x2048x704.Idx → EReal) (W : S4x704x1024.Idx → EReal) (s : Fin 4) (n : Fin 2048) (d : Fin 1024) : EReal :=
  ∑ f : Fin 704, A (ix3 s n f) * W (ix3 s f d)

/-- The row before the last norm. -/
def zAt (A : S4x2048x704.Idx → EReal) (W : S4x704x1024.Idx → EReal) (H : S2048x1024.Idx → EReal) (n : Fin 2048)
    (d : Fin 1024) : EReal := skip * H (ix2 n d) + ∑ s : Fin 4, slabAt A W s n d

/-- A row of an array. -/
def rowAt (T : S2048x1024.Idx → EReal) (n : Fin 2048) (d : Fin 1024) : EReal := T (ix2 n d)

/-- One block's product. -/
def blockDot (a : S1x1024x704.Idx → EReal) (w : S1x704x1024.Idx → EReal) (n d : Fin 1024) : EReal :=
  ∑ f : Fin 704, a (ix3 0 n f) * w (ix3 0 f d)

theorem pay1_at (a : Vec Ideal S1x1024x704 .bf16) (w : Vec Ideal S1x704x1024 .bf16) (n d : Fin 1024) :
    k0_pay1 a w (ix2 n d) = blockDot a w n d := by
  unfold k0_pay1
  refine (matmul_at dot_S1024x704_S704x1024_S1024x1024_1_0_0_1_n_n 704 rfl rfl none _ _ _ (fun f => ix2 n f) (fun f => ix2 f d)
    (fun k => funext fun a => Fin.ext (match a with | ⟨0, _⟩ => rfl | ⟨1, _⟩ => rfl))
    (fun k => funext fun a => Fin.ext (match a with | ⟨0, _⟩ => rfl | ⟨1, _⟩ => rfl))).trans ?_
  exact Finset.sum_congr rfl fun f _ => by rw [shapeCast_1ab_ab_apply, shapeCast_1ab_ab_apply]

theorem pay2_at (a : Vec Ideal S1x1024x704 .bf16) (w : Vec Ideal S1x704x1024 .bf16) (n d : Fin 1024) :
    k0_pay2 a w (ix2 n d) = blockDot a w n d := by
  unfold k0_pay2
  exact (congrFun (shapeCast_self (k0_pay1 a w) shapeCasts_S1024x1024_S1024x1024) _).trans (pay1_at a w n d)

theorem pay3_at (a : Vec Ideal S1x1024x704 .bf16) (w : Vec Ideal S1x704x1024 .bf16) (acc : Vec Ideal S1024x1024 .f32)
    (n d : Fin 1024) : k0_pay3 a w acc (ix2 n d) = acc (ix2 n d) + blockDot a w n d := by
  unfold k0_pay3
  exact (congrFun (shapeCast_self (addf acc (k0_pay1 a w)) shapeCasts_S1024x1024_S1024x1024) _).trans
    (congrArg (acc (ix2 n d) + ·) (pay1_at a w n d))

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-- The running product with this point's slab added. -/
abbrev held (t : Fin cfg0.N) : Vec Ideal S1024x1024 .f32 := k0_pay3 (iblk m c 0 t) (iblk m c 1 t) (before m c t).2.2.2.2

theorem held_at (t : Fin cfg0.N) (n d : Fin 1024) :
    held m c t (ix2 n d) = (before m c t).2.2.2.2 (ix2 n d) + blockDot (iblk m c 0 t) (iblk m c 1 t) n d :=
  pay3_at (iblk m c 0 t) (iblk m c 1 t) (before m c t).2.2.2.2 n d

/-! What a point leaves: the carried product, and the three running results untouched until the fourth point of a run. -/

theorem carried_first (t : Fin cfg0.N) (h0 : t.val % 4 = 0) :
    (outsAt0 m c t.val t.isLt).2.2.2.2 = k0_pay2 (iblk m c 0 t) (iblk m c 1 t) := by
  rw [outsAt0_A m c t h0 (by omega) (by omega)]
  dsimp only
  frame_out

theorem carried_next (t : Fin cfg0.N) (h1 : 1 ≤ t.val % 4) (h2 : ¬t.val % 4 = 3) :
    (outsAt0 m c t.val t.isLt).2.2.2.2 = held m c t := by
  rw [outsAt0_B m c t (by omega) h1 h2]
  dsimp only
  frame_out
  exact congrArg _ (Memref.IsWhole.read_unread (Memref.isWhole_whole cc0_scratch0) _)

theorem kept (t : Fin cfg0.N) (h2 : ¬t.val % 4 = 3) :
    (outsAt0 m c t.val t.isLt).2.1 = (before m c t).2.1 ∧ (outsAt0 m c t.val t.isLt).2.2.1 = (before m c t).2.2.1
      ∧ (outsAt0 m c t.val t.isLt).2.2.2.1 = (before m c t).2.2.2.1 := by
  by_cases h0 : t.val % 4 = 0
  · rw [outsAt0_A m c t h0 (by omega) h2]
    exact ⟨rfl, rfl, rfl⟩
  · rw [outsAt0_B m c t h0 (by omega) h2]
    exact ⟨rfl, rfl, rfl⟩

/-- A first block's results. -/
theorem first_block (t : Fin cfg0.N) (h2 : t.val % 4 = 3) (h4 : t.val < 4) :
    (outsAt0 m c t.val t.isLt).1 = k0_pay13 (k0_pay6 (iblk m c 2 t) (held m c t)) (k0_pay7 (iblk m c 2 t) (held m c t))
        (k0_pay10 (iblk m c 4 t) (iblk m c 2 t) (held m c t) (iblk m c 5 t) (iblk m c 3 t))
        (k0_pay11 (iblk m c 4 t) (iblk m c 2 t) (held m c t) (iblk m c 5 t) (iblk m c 3 t))
        (k0_pay12 (iblk m c 4 t) (iblk m c 2 t) (held m c t) (iblk m c 5 t) (iblk m c 3 t))
      ∧ (outsAt0 m c t.val t.isLt).2.1 = k0_pay14 (k0_pay8 (iblk m c 4 t) (iblk m c 2 t) (held m c t) (iblk m c 5 t) (iblk m c 3 t))
      ∧ (outsAt0 m c t.val t.isLt).2.2.1 = k0_pay15 (k0_pay7 (iblk m c 2 t) (held m c t))
        (k0_pay9 (iblk m c 4 t) (iblk m c 2 t) (held m c t) (iblk m c 5 t) (iblk m c 3 t))
      ∧ (outsAt0 m c t.val t.isLt).2.2.2.1
        = k0_pay16 (k0_pay9 (iblk m c 4 t) (iblk m c 2 t) (held m c t) (iblk m c 5 t) (iblk m c 3 t)) := by
  rw [outsAt0_C m c t (by omega) (by omega) h2 h4 (by omega) h4 (by omega) h4 (by omega)]
  dsimp only
  have e : View.read (Elt Ideal) (View.whole cc0_scratch0) ((Memref.isWhole_whole cc0_scratch0).unread (before m c t).2.2.2.2)
    = (before m c t).2.2.2.2 := Memref.IsWhole.read_unread (Memref.isWhole_whole cc0_scratch0) _
  refine ⟨?_, ?_, ?_, ?_⟩
  · frame_out
    rw [e]
  · frame_out
    rw [e]
  · frame_out
    rw [e]
  · frame_out
    rw [e]

/-- A later block's results, over what the block before left. -/
theorem next_block (t : Fin cfg0.N) (h2 : t.val % 4 = 3) (h4 : 4 ≤ t.val) :
    (outsAt0 m c t.val t.isLt).1 = k0_pay13 (k0_pay6 (iblk m c 2 t) (held m c t)) (k0_pay7 (iblk m c 2 t) (held m c t))
        (k0_pay10 (iblk m c 4 t) (iblk m c 2 t) (held m c t) (iblk m c 5 t) (iblk m c 3 t))
        (k0_pay11 (iblk m c 4 t) (iblk m c 2 t) (held m c t) (iblk m c 5 t) (iblk m c 3 t))
        (k0_pay12 (iblk m c 4 t) (iblk m c 2 t) (held m c t) (iblk m c 5 t) (iblk m c 3 t))
      ∧ (outsAt0 m c t.val t.isLt).2.1 = k0_pay17 (k0_pay8 (iblk m c 4 t) (iblk m c 2 t) (held m c t) (iblk m c 5 t) (iblk m c 3 t))
        (before m c t).2.1
      ∧ (outsAt0 m c t.val t.isLt).2.2.1 = k0_pay18 (k0_pay7 (iblk m c 2 t) (held m c t))
        (k0_pay9 (iblk m c 4 t) (iblk m c 2 t) (held m c t) (iblk m c 5 t) (iblk m c 3 t)) (before m c t).2.2.1
      ∧ (outsAt0 m c t.val t.isLt).2.2.2.1
        = k0_pay4 (k0_pay16 (k0_pay9 (iblk m c 4 t) (iblk m c 2 t) (held m c t) (iblk m c 5 t) (iblk m c 3 t)))
          (before m c t).2.2.2.1 := by
  rw [outsAt0_D m c t (by omega) (by omega) h2 (by omega) h4 (by omega) h4 (by omega) h4]
  dsimp only
  have e : View.read (Elt Ideal) (View.whole cc0_scratch0) ((Memref.isWhole_whole cc0_scratch0).unread (before m c t).2.2.2.2)
    = (before m c t).2.2.2.2 := Memref.IsWhole.read_unread (Memref.isWhole_whole cc0_scratch0) _
  refine ⟨?_, ?_, ?_, ?_⟩
  · frame_out
    rw [e]
  · frame_out
    rw [e]
  · frame_out
    rw [e]
  · frame_out
    rw [e]

/-! The windows' blocks, and the carried product as the whole one's slabs at the block's rows. -/

theorem idx_0 : ∀ t : Fin cfg0.N, win0_0.index t = ![t.val % 4, t.val / 4, 0] := (by decide +kernel : ∀ t : Fin grid0.N, _)
theorem idx_1 : ∀ t : Fin cfg0.N, win0_1.index t = ![t.val % 4, 0, 0] := (by decide +kernel : ∀ t : Fin grid0.N, _)
theorem idx_2 : ∀ t : Fin cfg0.N, win0_2.index t = ![t.val / 4, 0] := (by decide +kernel : ∀ t : Fin grid0.N, _)
theorem idx_3 : ∀ t : Fin cfg0.N, win0_3.index t = ![t.val / 4, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![t.val / 4, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)

/-- The arguments as launched. -/
abbrev argA : S4x2048x704.Idx → EReal := m ((c.tc : Thread nD τ).loc main_arg0)
abbrev argW : S4x704x1024.Idx → EReal := m ((c.tc : Thread nD τ).loc main_arg1)
abbrev argH : S2048x1024.Idx → EReal := m ((c.tc : Thread nD τ).loc main_arg2)
abbrev argT : S2048x1024.Idx → EReal := m ((c.tc : Thread nD τ).loc main_arg3)
abbrev argG : S1x1024.Idx → EReal := m ((c.tc : Thread nD τ).loc main_arg4)
abbrev argB : S1x1024.Idx → EReal := m ((c.tc : Thread nD τ).loc main_arg5)

/-- The row of the array that row `n` of block `q` is. -/
abbrev rowOf (q : Nat) (hq : q < 2) (n : Fin 1024) : Fin 2048 := ⟨q * 1024 + n.val, by omega⟩

theorem dot_place (t : Fin cfg0.N) (s : Fin 4) (q : Nat) (hq : q < 2) (hs : t.val % 4 = s.val) (ht : t.val / 4 = q)
    (n d : Fin 1024) : blockDot (iblk m c 0 t) (iblk m c 1 t) n d = slabAt (argA m c) (argW m c) s (rowOf q hq n) d := by
  unfold blockDot slabAt
  refine Finset.sum_congr rfl fun f _ => ?_
  blk_simp [iblk, V_main_arg0, V_main_arg1]
  congr 2
  · blk_ext [idx_0, at3_0, at3_1, at3_2, hs, ht]
  · blk_ext [idx_1, at3_0, at3_1, at3_2, hs, ht]

theorem skip_place (t : Fin cfg0.N) (q : Nat) (hq : q < 2) (ht : t.val / 4 = q) (n d : Fin 1024) :
    row (iblk m c 2 t) n d = argH m c (ix2 (rowOf q hq n) d) := by
  unfold row
  blk_simp [iblk, V_main_arg2]
  congr 1
  blk_ext [idx_2, at2_0, at2_1, ht]

theorem target_place (t : Fin cfg0.N) (q : Nat) (hq : q < 2) (ht : t.val / 4 = q) (n : Fin 1024) :
    row (iblk m c 3 t) n = rowAt (argT m c) (rowOf q hq n) := by
  funext d
  unfold row rowAt
  blk_simp [iblk, V_main_arg3]
  congr 1
  blk_ext [idx_3, at2_0, at2_1, ht]

theorem gain_place (t : Fin cfg0.N) : lane (iblk m c 4 t) = lane (argG m c) := by
  funext d
  unfold lane
  blk_simp [iblk, V_main_arg4]
  congr 1
  blk_ext [idx_4, at2_0, at2_1]

theorem shift_place (t : Fin cfg0.N) : lane (iblk m c 5 t) = lane (argB m c) := by
  funext d
  unfold lane
  blk_simp [iblk, V_main_arg5]
  congr 1
  blk_ext [idx_5, at2_0, at2_1]

end Cert.Proof.Loss

end
-- ==== Proof.Loss.Results.lean ====
/-
  The loss region's four results as functions of its arguments: the gradient of the rows, the loss, and the gradients of the
  norm's two weights.
-/
module

public import proofs.«01_k».proof.Proof.Loss.Products

@[expose] public section

noncomputable section

open scoped BigOperators

namespace Cert.Proof.Loss

open Idealize.ShloMosaic hiding ix1 ix2 ix3 eq_ix1 eq_ix2 eq_ix3
open Idealize.ShloMosaic.TcCoe Idealize.ShloMosaic.ValueIdx Idealize.SL.Sem
open Cert.LossIdeal Cert.LossIdeal.Gen Cert.Sums Cert.Norm Cert.Layer

section Whole

variable (A : S4x2048x704.Idx → EReal) (W : S4x704x1024.Idx → EReal) (H T : S2048x1024.Idx → EReal) (G B : S1x1024.Idx → EReal)

/-- A row's error and its slope. -/
def errAt (n : Fin 2048) : Fin 1024 → EReal := err (zAt A W H n) (lane G) (lane B) (rowAt T n)
def slopeAt (n : Fin 2048) : Fin 1024 → EReal := slope (zAt A W H n) (lane G) (lane B) (rowAt T n)

/-- What row `n` adds to each of the four results. -/
def backAt (n : Fin 2048) (d : Fin 1024) : EReal :=
  back (zAt A W H n) (inner (zAt A W H n) (lane G) (lane B) (rowAt T n)) d
def lossAt (n : Fin 2048) : EReal := (∑ k, errAt A W H T G B n k * errAt A W H T G B n k) * halfRow
def gainAt (n : Fin 2048) (d : Fin 1024) : EReal := slopeAt A W H T G B n d * unit (zAt A W H n) d

/-- The results. -/
def rowsGrad : S2048x1024.Idx → EReal :=
  fun i => backAt A W H T G B ⟨(i 0).val, (i 0).isLt⟩ ⟨(i 1).val, (i 1).isLt⟩
def loss : S1x128.Idx → EReal := fun _ => ∑ n : Fin 2048, lossAt A W H T G B n
def gainGrad : S1x1024.Idx → EReal := fun i => ∑ n : Fin 2048, gainAt A W H T G B n ⟨(i 1).val, (i 1).isLt⟩
def shiftGrad : S1x1024.Idx → EReal := fun i => ∑ n : Fin 2048, slopeAt A W H T G B n ⟨(i 1).val, (i 1).isLt⟩

end Whole

/-- A sum over all rows is the sum over the two blocks' rows. -/
theorem two_blocks (f : Fin 2048 → EReal) :
    ∑ n : Fin 2048, f n = ∑ n : Fin 1024, f (rowOf 0 (by decide) n) + ∑ n : Fin 1024, f (rowOf 1 (by decide) n) := by
  refine (Fin.sum_univ_add (a := 1024) (b := 1024) f).trans (congrArg₂ (· + ·) ?_ ?_)
  · exact Finset.sum_congr rfl fun n _ => congrArg f (Fin.ext (by show n.val = 0 * 1024 + n.val; omega))
  · exact Finset.sum_congr rfl fun n _ => congrArg f (Fin.ext (by show 1024 + n.val = 1 * 1024 + n.val; omega))

variable (m : (ℓ : Loc nD τ sig) → Buf (Elt Ideal) ℓ) (c : Dev nD)

section Carried

variable (q : Nat) (hq : q < 2) (n d : Fin 1024)

/-- One slab's share of a row. -/
abbrev share (s : Fin 4) : EReal := slabAt (argA m c) (argW m c) s (rowOf q hq n) d

theorem carried_0 (h : 4 * q < cfg0.N) : (outsAt0 m c (4 * q) h).2.2.2.2 (ix2 n d) = share m c q hq n d 0 := by
  rw [show (outsAt0 m c (4 * q) h).2.2.2.2 = _ from carried_first m c ⟨4 * q, h⟩ (by show 4 * q % 4 = 0; omega), pay2_at,
    dot_place m c ⟨4 * q, h⟩ 0 q hq (by show 4 * q % 4 = 0; omega) (by show 4 * q / 4 = q; omega)]

theorem carried_1 (h : 4 * q + 1 < cfg0.N) : (outsAt0 m c (4 * q + 1) h).2.2.2.2 (ix2 n d)
    = share m c q hq n d 0 + share m c q hq n d 1 := by
  rw [show (outsAt0 m c (4 * q + 1) h).2.2.2.2 = _ from carried_next m c ⟨4 * q + 1, h⟩ (by show 1 ≤ (4 * q + 1) % 4; omega)
      (by show ¬(4 * q + 1) % 4 = 3; omega), held_at,
    dot_place m c ⟨4 * q + 1, h⟩ 1 q hq (by show (4 * q + 1) % 4 = 1; omega) (by show (4 * q + 1) / 4 = q; omega)]
  exact congrArg (· + _) (carried_0 m c q hq n d _)

theorem carried_2 (h : 4 * q + 2 < cfg0.N) : (outsAt0 m c (4 * q + 2) h).2.2.2.2 (ix2 n d)
    = share m c q hq n d 0 + share m c q hq n d 1 + share m c q hq n d 2 := by
  rw [show (outsAt0 m c (4 * q + 2) h).2.2.2.2 = _ from carried_next m c ⟨4 * q + 2, h⟩ (by show 1 ≤ (4 * q + 2) % 4; omega)
      (by show ¬(4 * q + 2) % 4 = 3; omega), held_at,
    dot_place m c ⟨4 * q + 2, h⟩ 2 q hq (by show (4 * q + 2) % 4 = 2; omega) (by show (4 * q + 2) / 4 = q; omega)]
  exact congrArg (· + _) (carried_1 m c q hq n d _)

theorem held_3 (h : 4 * q + 3 < cfg0.N) : held m c ⟨4 * q + 3, h⟩ (ix2 n d) = ∑ s : Fin 4, share m c q hq n d s := by
  rw [held_at, dot_place m c ⟨4 * q + 3, h⟩ 3 q hq (by show (4 * q + 3) % 4 = 3; omega) (by show (4 * q + 3) / 4 = q; omega),
    Fin.sum_univ_four]
  exact congrArg (· + _) (carried_2 m c q hq n d _)

/-- The block's row before the norm is the whole one's. -/
theorem row_3 (h : 4 * q + 3 < cfg0.N) : zOf (iblk m c 2 ⟨4 * q + 3, h⟩) (held m c ⟨4 * q + 3, h⟩) n
    = zAt (argA m c) (argW m c) (argH m c) (rowOf q hq n) := by
  funext d
  exact congrArg₂ (fun x y : EReal => skip * x + y)
    (skip_place m c ⟨4 * q + 3, h⟩ q hq (by show (4 * q + 3) / 4 = q; omega) n d) (held_3 m c q hq n d h)

end Carried

/-- What block `q` writes to the rows' gradient. -/
theorem block_rows (q : Nat) (hq : q < 2) (n d : Fin 1024) (h : 4 * q + 3 < cfg0.N) : (outsAt0 m c (4 * q + 3) h).1 (ix2 n d)
    = backAt (argA m c) (argW m c) (argH m c) (argT m c) (argG m c) (argB m c) (rowOf q hq n) d := by
  have e : (outsAt0 m c (4 * q + 3) h).1 = _ := if h4 : 4 * q + 3 < 4
    then (first_block m c ⟨4 * q + 3, h⟩ (by show (4 * q + 3) % 4 = 3; omega) h4).1
    else (next_block m c ⟨4 * q + 3, h⟩ (by show (4 * q + 3) % 4 = 3; omega) (by show 4 ≤ 4 * q + 3; omega)).1
  rw [e, pay13_at, row_3 m c q hq n h, gain_place, shift_place,
    target_place m c ⟨4 * q + 3, h⟩ q hq (by show (4 * q + 3) / 4 = q; omega)]
  rfl

/-- What block `q` adds to the other three. -/
theorem adds_loss (q : Nat) (hq : q < 2) (l : Fin 128) (h : 4 * q + 3 < cfg0.N) :
    k0_pay14 (k0_pay8 (iblk m c 4 ⟨4 * q + 3, h⟩) (iblk m c 2 ⟨4 * q + 3, h⟩) (held m c ⟨4 * q + 3, h⟩) (iblk m c 5 ⟨4 * q + 3, h⟩)
      (iblk m c 3 ⟨4 * q + 3, h⟩)) (ix2 (0 : Fin 1) l)
    = ∑ n : Fin 1024, lossAt (argA m c) (argW m c) (argH m c) (argT m c) (argG m c) (argB m c) (rowOf q hq n) := by
  rw [pay14_at]
  refine Finset.sum_congr rfl fun n _ => ?_
  rw [row_3 m c q hq n h, gain_place, shift_place, target_place m c ⟨4 * q + 3, h⟩ q hq (by show (4 * q + 3) / 4 = q; omega)]
  rfl

theorem adds_gain (q : Nat) (hq : q < 2) (d : Fin 1024) (h : 4 * q + 3 < cfg0.N) :
    k0_pay15 (k0_pay7 (iblk m c 2 ⟨4 * q + 3, h⟩) (held m c ⟨4 * q + 3, h⟩))
      (k0_pay9 (iblk m c 4 ⟨4 * q + 3, h⟩) (iblk m c 2 ⟨4 * q + 3, h⟩) (held m c ⟨4 * q + 3, h⟩) (iblk m c 5 ⟨4 * q + 3, h⟩)
        (iblk m c 3 ⟨4 * q + 3, h⟩)) (ix2 (0 : Fin 1) d)
    = ∑ n : Fin 1024, gainAt (argA m c) (argW m c) (argH m c) (argT m c) (argG m c) (argB m c) (rowOf q hq n) d := by
  rw [pay15_at]
  refine Finset.sum_congr rfl fun n _ => ?_
  rw [row_3 m c q hq n h, gain_place, shift_place, target_place m c ⟨4 * q + 3, h⟩ q hq (by show (4 * q + 3) / 4 = q; omega)]
  rfl

theorem adds_shift (q : Nat) (hq : q < 2) (d : Fin 1024) (h : 4 * q + 3 < cfg0.N) :
    k0_pay16 (k0_pay9 (iblk m c 4 ⟨4 * q + 3, h⟩) (iblk m c 2 ⟨4 * q + 3, h⟩) (held m c ⟨4 * q + 3, h⟩) (iblk m c 5 ⟨4 * q + 3, h⟩)
        (iblk m c 3 ⟨4 * q + 3, h⟩)) (ix2 (0 : Fin 1) d)
    = ∑ n : Fin 1024, slopeAt (argA m c) (argW m c) (argH m c) (argT m c) (argG m c) (argB m c) (rowOf q hq n) d := by
  rw [pay16_at]
  refine Finset.sum_congr rfl fun n _ => ?_
  rw [row_3 m c q hq n h, gain_place, shift_place, target_place m c ⟨4 * q + 3, h⟩ q hq (by show (4 * q + 3) / 4 = q; omega)]
  rfl

/-- Between the two blocks the three running results stay. -/
theorem between (h6 : 6 < cfg0.N) (h3 : 3 < cfg0.N) :
    (outsAt0 m c 6 h6).2.1 = (outsAt0 m c 3 h3).2.1 ∧ (outsAt0 m c 6 h6).2.2.1 = (outsAt0 m c 3 h3).2.2.1
      ∧ (outsAt0 m c 6 h6).2.2.2.1 = (outsAt0 m c 3 h3).2.2.2.1 := by
  have k6 := kept m c ⟨6, h6⟩ (by show ¬6 % 4 = 3; decide)
  have k5 := kept m c ⟨5, Nat.lt_of_succ_lt h6⟩ (by show ¬5 % 4 = 3; decide)
  have k4 := kept m c ⟨4, Nat.lt_of_succ_lt (Nat.lt_of_succ_lt h6)⟩ (by show ¬4 % 4 = 3; decide)
  exact ⟨k6.1.trans (k5.1.trans k4.1), k6.2.1.trans (k5.2.1.trans k4.2.1), k6.2.2.trans (k5.2.2.trans k4.2.2)⟩

/-- The three running results after the last point. -/
theorem last_loss (h : 7 < cfg0.N) (l : Fin 128) : (outsAt0 m c 7 h).2.1 (ix2 (0 : Fin 1) l)
    = ∑ n : Fin 2048, lossAt (argA m c) (argW m c) (argH m c) (argT m c) (argG m c) (argB m c) n := by
  have h3 : 3 < cfg0.N := by omega
  rw [two_blocks, show (outsAt0 m c 7 h).2.1 = _ from (next_block m c ⟨7, h⟩ (by show 7 % 4 = 3; decide) (by show 4 ≤ 7; decide)).2.1,
    pay17_at]
  refine congrArg₂ (· + ·) ?_ (adds_loss m c 1 (by decide) l h)
  refine (congrFun (between m c (Nat.lt_of_succ_lt h) h3).1 _).trans ?_
  rw [show (outsAt0 m c 3 h3).2.1 = _ from (first_block m c ⟨3, h3⟩ (by show 3 % 4 = 3; decide) (by show 3 < 4; decide)).2.1]
  exact adds_loss m c 0 (by decide) l h3

theorem last_gain (h : 7 < cfg0.N) (d : Fin 1024) : (outsAt0 m c 7 h).2.2.1 (ix2 (0 : Fin 1) d)
    = ∑ n : Fin 2048, gainAt (argA m c) (argW m c) (argH m c) (argT m c) (argG m c) (argB m c) n d := by
  have h3 : 3 < cfg0.N := by omega
  rw [two_blocks, show (outsAt0 m c 7 h).2.2.1 = _ from (next_block m c ⟨7, h⟩ (by show 7 % 4 = 3; decide) (by show 4 ≤ 7; decide)).2.2.1,
    pay18_at]
  refine congrArg₂ (· + ·) ?_ (adds_gain m c 1 (by decide) d h)
  refine (congrFun (between m c (Nat.lt_of_succ_lt h) h3).2.1 _).trans ?_
  rw [show (outsAt0 m c 3 h3).2.2.1 = _ from (first_block m c ⟨3, h3⟩ (by show 3 % 4 = 3; decide) (by show 3 < 4; decide)).2.2.1]
  exact adds_gain m c 0 (by decide) d h3

theorem last_shift (h : 7 < cfg0.N) (d : Fin 1024) : (outsAt0 m c 7 h).2.2.2.1 (ix2 (0 : Fin 1) d)
    = ∑ n : Fin 2048, slopeAt (argA m c) (argW m c) (argH m c) (argT m c) (argG m c) (argB m c) n d := by
  have h3 : 3 < cfg0.N := by omega
  rw [two_blocks, show (outsAt0 m c 7 h).2.2.2.1 = _ from (next_block m c ⟨7, h⟩ (by show 7 % 4 = 3; decide) (by show 4 ≤ 7; decide)).2.2.2,
    pay4_at]
  refine congrArg₂ (· + ·) ?_ (adds_shift m c 1 (by decide) d h)
  refine (congrFun (between m c (Nat.lt_of_succ_lt h) h3).2.2 _).trans ?_
  rw [show (outsAt0 m c 3 h3).2.2.2.1 = _ from (first_block m c ⟨3, h3⟩ (by show 3 % 4 = 3; decide) (by show 3 < 4; decide)).2.2.2]
  exact adds_shift m c 0 (by decide) d h3

/-! The four arrays after the region. -/

theorem final_rows : (dats m 0 c).arrAt 6 cfg0.N = rowsGrad (argA m c) (argW m c) (argH m c) (argT m c) (argG m c) (argB m c) := by
  refine (dats m 0 c).arrAt_eq_of_covers 6 _ (by decide +kernel) fun t hf y => ?_
  have h3 : t.val % 4 = 3 := (flush0_6 t).mp hf
  have hN : t.val < 8 := lt_of_lt_of_eq t.isLt N_0
  obtain ⟨q, hq, hv⟩ : ∃ q, q < 2 ∧ t.val = 4 * q + 3 := ⟨t.val / 4, by omega, by omega⟩
  blk_simp
  rw [after0_6]
  obtain ⟨n, d, rfl⟩ : ∃ (n d : Fin 1024), y = ix2 n d := ⟨y 0, y 1, eq_ix2 y⟩
  obtain ⟨tv, tl⟩ := t
  obtain rfl : tv = 4 * q + 3 := hv
  refine (block_rows m c q hq n d tl).trans ?_
  unfold rowsGrad
  have e0 : rowOf q hq n = ⟨((((View.whole main_v0_0).slice (win0_6.rect ⟨4 * q + 3, tl⟩)).emb (ix2 n d)) 0).val, Fin.isLt _⟩ :=
    Fin.ext (by
      show q * 1024 + n.val = win0_6.index ⟨4 * q + 3, tl⟩ 0 * 1024 + 1 * n.val
      rw [idx_6]
      show q * 1024 + n.val = (4 * q + 3) / 4 * 1024 + 1 * n.val
      omega)
  have e1 : d = ⟨((((View.whole main_v0_0).slice (win0_6.rect ⟨4 * q + 3, tl⟩)).emb (ix2 n d)) 1).val, Fin.isLt _⟩ :=
    Fin.ext (by
      show d.val = win0_6.index ⟨4 * q + 3, tl⟩ 1 * 1024 + 1 * d.val
      rw [idx_6]
      show d.val = 0 * 1024 + 1 * d.val
      omega)
  exact congrArg₂ (backAt (argA m c) (argW m c) (argH m c) (argT m c) (argG m c) (argB m c)) e0 e1

theorem final_loss : (dats m 0 c).arrAt 7 cfg0.N = loss (argA m c) (argW m c) (argH m c) (argT m c) (argG m c) (argB m c) := by
  refine (dats m 0 c).arrAt_eq_of_covers 7 _ (by decide +kernel) fun t hf y => ?_
  have h7 : t.val = 7 := by
    have hN : t.val < 8 := lt_of_lt_of_eq t.isLt N_0
    have := (flush0_7 t).mp hf
    omega
  blk_simp
  rw [after0_7]
  obtain ⟨n, d, rfl⟩ : ∃ (n : Fin 1) (d : Fin 128), y = ix2 n d := ⟨y 0, y 1, eq_ix2 y⟩
  obtain rfl : n = 0 := Subsingleton.elim _ _
  obtain ⟨tv, tl⟩ := t
  obtain rfl : tv = 7 := h7
  exact last_loss m c tl d

theorem final_gain : (dats m 0 c).arrAt 8 cfg0.N = gainGrad (argA m c) (argW m c) (argH m c) (argT m c) (argG m c) (argB m c) := by
  refine (dats m 0 c).arrAt_eq_of_covers 8 _ (by decide +kernel) fun t hf y => ?_
  have h7 : t.val = 7 := by
    have hN : t.val < 8 := lt_of_lt_of_eq t.isLt N_0
    have := (flush0_8 t).mp hf
    omega
  blk_simp
  rw [after0_8]
  obtain ⟨n, d, rfl⟩ : ∃ (n : Fin 1) (d : Fin 1024), y = ix2 n d := ⟨y 0, y 1, eq_ix2 y⟩
  obtain rfl : n = 0 := Subsingleton.elim _ _
  obtain ⟨tv, tl⟩ := t
  obtain rfl : tv = 7 := h7
  refine (last_gain m c tl d).trans ?_
  unfold gainGrad
  have e1 : d = ⟨((((View.whole main_v0_2).slice (win0_8.rect ⟨7, tl⟩)).emb (ix2 (0 : Fin 1) d)) 1).val, Fin.isLt _⟩ :=
    Fin.ext (by
      show d.val = win0_8.index ⟨7, tl⟩ 1 * 1024 + 1 * d.val
      rw [idx_8]
      show d.val = 0 * 1024 + 1 * d.val
      omega)
  exact Finset.sum_congr rfl fun n _ => congrArg (gainAt (argA m c) (argW m c) (argH m c) (argT m c) (argG m c) (argB m c) n) e1

theorem final_shift : (dats m 0 c).arrAt 9 cfg0.N = shiftGrad (argA m c) (argW m c) (argH m c) (argT m c) (argG m c) (argB m c) := by
  refine (dats m 0 c).arrAt_eq_of_covers 9 _ (by decide +kernel) fun t hf y => ?_
  have h7 : t.val = 7 := by
    have hN : t.val < 8 := lt_of_lt_of_eq t.isLt N_0
    have := (flush0_9 t).mp hf
    omega
  blk_simp
  rw [after0_9]
  obtain ⟨n, d, rfl⟩ : ∃ (n : Fin 1) (d : Fin 1024), y = ix2 n d := ⟨y 0, y 1, eq_ix2 y⟩
  obtain rfl : n = 0 := Subsingleton.elim _ _
  obtain ⟨tv, tl⟩ := t
  obtain rfl : tv = 7 := h7
  refine (last_shift m c tl d).trans ?_
  unfold shiftGrad
  have e1 : d = ⟨((((View.whole main_v0_3).slice (win0_9.rect ⟨7, tl⟩)).emb (ix2 (0 : Fin 1) d)) 1).val, Fin.isLt _⟩ :=
    Fin.ext (by
      show d.val = win0_9.index ⟨7, tl⟩ 1 * 1024 + 1 * d.val
      rw [idx_9]
      show d.val = 0 * 1024 + 1 * d.val
      omega)
  exact Finset.sum_congr rfl fun n _ => congrArg (slopeAt (argA m c) (argW m c) (argH m c) (argT m c) (argG m c) (argB m c) n) e1

end Cert.Proof.Loss

end
-- ==== Proof.Loss.Reference.lean ====
/-
  The reference's loss, layer norm and gradients, read at an entry and brought to the loss region's results.
-/
module

public import proofs.«01_k».proof.Proof.Loss.Results
public import proofs.«01_k».proof.Proof.Dh.Reference
public import proofs.«01_k».proof.Proof.Gen.LossRefIdeal.Read

@[expose] public section

noncomputable section

open scoped BigOperators

namespace Cert.Proof.Loss

open Idealize.ShloMosaic hiding ix1 ix2 ix3 eq_ix1 eq_ix2 eq_ix3
open Idealize.ShloMosaic.TcCoe Idealize.ShloMosaic.ValueIdx Idealize.SL.Sem Cert.Sums Cert.Norm Cert.Finite
open Cert.LossRefIdeal Cert.LossRefIdeal.Read

/-! The constants. -/

abbrev word (b : BitVec 32) : EReal := (FloatOps.ofBits (F := Ideal) .f32 b : Ideal .f32)

theorem word_zero (x : EReal) : word 0x00000000#32 + x = x := by
  rw [show word 0x00000000#32 = 0 by show Ideal.ofBits .f32 _ = _; simp [Ideal.ofBits, Ideal.ieee]]
  exact zero_add x

theorem word_two : word 0x40000000#32 = ((2 : ℝ) : EReal) := by
  show Ideal.ofBits .f32 _ = _
  simp [Ideal.ofBits, Ideal.ieee, -EReal.coe_mul]
  try norm_num

theorem word_half : word 0x3F000000#32 = ((1 / 2 : ℝ) : EReal) := by
  show Ideal.ofBits .f32 _ = _
  simp [Ideal.ofBits, Ideal.ieee, -EReal.coe_mul]
  try norm_num

theorem word_neg_half : word 0xBF000000#32 = ((-(1 / 2) : ℝ) : EReal) := by
  show Ideal.ofBits .f32 _ = _
  simp [Ideal.ofBits, Ideal.ieee, -EReal.coe_mul]
  try norm_num

theorem perRow_eq : perRow = ((1 / 1024 : ℝ) : EReal) := by
  show Ideal.ofBits .f32 _ = _
  simp [Ideal.ofBits, Ideal.ieee, -EReal.coe_mul]
  try norm_num

theorem halfRow_eq : halfRow = ((1 / 2048 : ℝ) : EReal) := by
  show Ideal.ofBits .f32 _ = _
  simp [Ideal.ofBits, Ideal.ieee, -EReal.coe_mul]
  try norm_num

theorem skip_real : IsReal skip :=
  ⟨_, show Ideal.ofBits .f32 0x3F9837F0#32 = _ by simp [Ideal.ofBits, Ideal.ieee, -EReal.coe_mul]; rfl⟩

/-- The reference's slope: half of the square's derivative over the row's length. -/
theorem slope_ref (x : EReal) :
    Ideal.div (word 0x3F000000#32 * word 0x3F800000#32) len * (word 0x40000000#32 * x) = x * perRow := by
  rw [word_half, show word 0x3F800000#32 = ((1 : ℝ) : EReal) from ofBits_one, word_two, perRow_eq, len_eq, ← EReal.coe_mul,
    div_real _ _ (by norm_num), ← mul_assoc, ← EReal.coe_mul, mul_comm]
  congr 2
  norm_num

/-- The reference's loss of real rows, a row at a time. -/
theorem loss_ref (f : Fin 2048 → EReal) (hf : ∀ n, IsReal (f n)) :
    word 0x3F000000#32 * (∑ n, Ideal.div (f n) len) = ∑ n, f n * halfRow := by
  choose r hr using hf
  obtain rfl : f = fun n => (r n : EReal) := funext hr
  simp only [len_eq, halfRow_eq, word_half, div_real _ _ (by norm_num : (1024 : ℝ) ≠ 0), ← EReal.coe_mul, sum_real]
  rw [Finset.mul_sum]
  exact congrArg _ (Finset.sum_congr rfl fun n _ => by ring)

variable (A : S4x2048x704.Idx → EReal) (W : S4x704x1024.Idx → EReal) (H T : S2048x1024.Idx → EReal) (G B : S1x1024.Idx → EReal)

abbrev rowN (i : S2048x1024.Idx) : Fin 2048 := ⟨(i 0).val, (i 0).isLt⟩
abbrev colN (i : S2048x1024.Idx) : Fin 1024 := ⟨(i 1).val, (i 1).isLt⟩
abbrev rowC (i : S2048x1.Idx) : Fin 2048 := ⟨(i 0).val, (i 0).isLt⟩
abbrev rowV (i : S2048.Idx) : Fin 2048 := ⟨(i 0).val, (i 0).isLt⟩

/-- The product over slabs and hidden units at once. -/
theorem dot_at (i : S2048x1024.Idx) : val_main_v4 (F := Ideal) A W i = ∑ s : Fin 4, slabAt A W s (rowN i) (colN i) := by
  unfold val_main_v4
  refine (Cert.Proof.Dh.dotGeneral_pair dot_S4x2048x704_S4x704x1024_S2048x1024_20_10_1_2_n_n 704 4 rfl rfl rfl none _ _ i
    (fun f s => ix3 s (rowN i) f) (fun f s => ix3 s f (colN i))
    (fun f s => funext fun a => Fin.ext (match a with | ⟨0, _⟩ => rfl | ⟨1, _⟩ => rfl | ⟨2, _⟩ => rfl))
    (fun f s => funext fun a => Fin.ext (match a with | ⟨0, _⟩ => rfl | ⟨1, _⟩ => rfl | ⟨2, _⟩ => rfl))).trans ?_
  exact Finset.sum_comm

theorem v5_at (i : S2048x1024.Idx) : val_main_v5 (F := Ideal) A W H i = zAt A W H (rowN i) (colN i) := by
  rw [val_main_v5_apply, val_main_v1_apply, val_main_v0_apply]
  exact congrArg₂ (· + ·) (congrArg (skip * H ·) (eq_ix2 i)) (dot_at A W i)

theorem v9_at (i : S2048x1.Idx) : val_main_v9 (F := Ideal) A W H i = avg (zAt A W H (rowC i)) := by
  rw [val_main_v9_apply, val_main_v7_apply, val_main_v6_apply, val_main_v8_apply]
  exact congrArg (Ideal.div · len) ((word_zero _).trans (Finset.sum_congr rfl fun k _ => v5_at A W H _))

theorem v11_at (i : S2048x1024.Idx) : val_main_v11 (F := Ideal) A W H i = mid (zAt A W H (rowN i)) (colN i) := by
  rw [val_main_v11_apply, val_main_v10_apply]
  exact congrArg₂ (· - ·) (v5_at A W H i) (v9_at A W H _)

theorem v20_at (i : S2048x1024.Idx) : val_main_v20 (F := Ideal) A W H i = mid (zAt A W H (rowN i)) (colN i) := by
  rw [val_main_v20_apply, val_main_v19_apply]
  exact congrArg₂ (· - ·) (v5_at A W H i) (v9_at A W H _)

theorem v18_at (i : S2048x1.Idx) : val_main_v18 (F := Ideal) A W H i = var (zAt A W H (rowC i)) := by
  rw [val_main_v18_apply, val_main_v16_apply, val_main_v15_apply, val_main_v17_apply]
  exact congrArg (Ideal.div · len) ((word_zero _).trans (Finset.sum_congr rfl fun k _ =>
    congrArg₂ (· * ·) (v11_at A W H _) (v11_at A W H _)))

theorem v22_at (i : S2048x1.Idx) : val_main_v22 (F := Ideal) A W H i = var (zAt A W H (rowC i)) + eps := by
  rw [val_main_v22_apply, val_main_v21_apply]
  exact congrArg (· + eps) (v18_at A W H i)

theorem v23_at (i : S2048x1.Idx) : val_main_v23 (F := Ideal) A W H i = inv (zAt A W H (rowC i)) := by
  rw [val_main_v23_apply]
  exact congrArg Ideal.rsqrt (v22_at A W H i)

theorem v26_at (i : S2048x1.Idx) : val_main_v26 (F := Ideal) A W H i
    = ((-(1/2) : ℝ) : EReal) * Ideal.div (inv (zAt A W H (rowC i))) (var (zAt A W H (rowC i)) + eps) := by
  rw [val_main_v26_apply, val_main_v25_apply, val_main_v24_apply]
  exact congrArg₂ (· * ·) word_neg_half (congrArg₂ Ideal.div (v23_at A W H i) (v22_at A W H i))

theorem v28_at (i : S2048x1024.Idx) : val_main_v28 (F := Ideal) A W H i = unit (zAt A W H (rowN i)) (colN i) := by
  rw [val_main_v28_apply, val_main_v27_apply]
  exact congrArg₂ (· * ·) (v20_at A W H i) (v23_at A W H _)

/-- A one-row weight spread over the rows. -/
theorem lane_at (w : S1x1024.Idx → EReal) (i : S1x1024.Idx) (h : (i 0).val = 0) :
    w i = lane w ⟨(i 1).val, (i 1).isLt⟩ :=
  congrArg w (funext fun a => Fin.ext (match a with | ⟨0, _⟩ => h | ⟨1, _⟩ => rfl))

theorem v33_at (i : S2048x1024.Idx) : val_main_v33 (F := Ideal) A W H T G B i = errAt A W H T G B (rowN i) (colN i) := by
  rw [val_main_v33_apply, val_main_v32_apply, val_main_v30_apply, val_main_v29_apply, val_main_v31_apply]
  exact congrArg₂ (· - ·) (congrArg₂ (· + ·) (congrArg₂ (· * ·) (v28_at A W H i) (lane_at G _ rfl)) (lane_at B _ rfl))
    (congrArg T (eq_ix2 i))

theorem v47_at (i : S2048x1024.Idx) : val_main_v47 (F := Ideal) A W H T G B i = slopeAt A W H T G B (rowN i) (colN i) := by
  rw [val_main_v47_apply, val_main_v46_apply, val_main_v45_apply, val_main_v43_apply, val_main_v42_apply, val_main_v44_apply,
    val_main_v36_apply, val_main_v35_apply]
  refine Eq.trans ?_ (slope_ref (errAt A W H T G B (rowN i) (colN i)))
  exact congrArg (fun x : EReal => Ideal.div (word 0x3F000000#32 * word 0x3F800000#32) len * (word 0x40000000#32 * x))
    (v33_at A W H T G B i)

/-- The gradient of the normalized row. -/
abbrev innerAt (n : Fin 2048) : Fin 1024 → EReal := inner (zAt A W H n) (lane G) (lane B) (rowAt T n)

theorem v54_at (i : S2048x1024.Idx) : val_main_v54 (F := Ideal) A W H T G B i = innerAt A W H T G B (rowN i) (colN i) := by
  rw [val_main_v54_apply, val_main_v53_apply]
  exact congrArg₂ (· * ·) (v47_at A W H T G B i) (lane_at G _ rfl)

theorem v57_at (i : S2048x1.Idx) (h : (i 1).val = 0) : val_main_v57 (F := Ideal) A W H T G B i
    = ∑ k, mid (zAt A W H (rowC i)) k * innerAt A W H T G B (rowC i) k := by
  rw [val_main_v57_apply, val_main_v56_apply]
  have e : rowV (idx_main_v57 i) = rowC i := Fin.ext (by show (i 0).val * 1 + (i 1).val = (i 0).val; omega)
  refine (word_zero _).trans (Finset.sum_congr rfl fun k _ => ?_)
  rw [val_main_v55_apply]
  refine (congrArg₂ (· * ·) (v20_at A W H _) (v54_at A W H T G B _)).trans ?_
  exact congrArg (fun r => mid (zAt A W H r) k * innerAt A W H T G B r k) e

theorem v59_at (i : S2048x1024.Idx) : val_main_v59 (F := Ideal) A W H T G B i
    = innerAt A W H T G B (rowN i) (colN i) * inv (zAt A W H (rowN i)) := by
  rw [val_main_v59_apply, val_main_v58_apply]
  exact congrArg₂ (· * ·) (v54_at A W H T G B i) (v23_at A W H _)

theorem v67_at (i : S2048x1024.Idx) : val_main_v67 (F := Ideal) A W H T G B i
    = spread (zAt A W H (rowN i)) (innerAt A W H T G B (rowN i)) := by
  rw [val_main_v67_apply, val_main_v66_apply]
  refine (word_zero _).trans ((Fin.sum_univ_one _).trans ?_)
  rw [val_main_v65_apply, val_main_v60_apply, val_main_v64_apply]
  exact congrArg (Ideal.div · len) (congrArg₂ (· * ·) (v57_at A W H T G B _ rfl) (v26_at A W H _))

theorem v68_at (i : S2048x1024.Idx) : val_main_v68 (F := Ideal) A W H T G B i
    = spread (zAt A W H (rowN i)) (innerAt A W H T G B (rowN i)) * (((2 : ℝ) : EReal) * mid (zAt A W H (rowN i)) (colN i)) := by
  rw [val_main_v68_apply, val_main_v14_apply, val_main_v13_apply]
  exact congrArg₂ (· * ·) (v67_at A W H T G B i) (congrArg₂ (· * ·) word_two (v11_at A W H i))

theorem v63_at (i : S2048x1.Idx) (h : (i 1).val = 0) : val_main_v63 (F := Ideal) A W H T G B i
    = ∑ k, -(innerAt A W H T G B (rowC i) k * inv (zAt A W H (rowC i))) := by
  rw [val_main_v63_apply, val_main_v62_apply]
  have e : rowV (idx_main_v63 i) = rowC i := Fin.ext (by show (i 0).val * 1 + (i 1).val = (i 0).val; omega)
  refine (word_zero _).trans (Finset.sum_congr rfl fun k _ => ?_)
  rw [val_main_v61_apply]
  refine (congrArg (- ·) (v59_at A W H T G B _)).trans ?_
  exact congrArg (fun r => -(innerAt A W H T G B r k * inv (zAt A W H r))) e

theorem v71_at (i : S2048x1.Idx) (h : (i 1).val = 0) : val_main_v71 (F := Ideal) A W H T G B i
    = ∑ k, -(spread (zAt A W H (rowC i)) (innerAt A W H T G B (rowC i)) * (((2 : ℝ) : EReal) * mid (zAt A W H (rowC i)) k)) := by
  rw [val_main_v71_apply, val_main_v70_apply]
  have e : rowV (idx_main_v71 i) = rowC i := Fin.ext (by show (i 0).val * 1 + (i 1).val = (i 0).val; omega)
  refine (word_zero _).trans (Finset.sum_congr rfl fun k _ => ?_)
  rw [val_main_v69_apply]
  refine (congrArg (- ·) (v68_at A W H T G B _)).trans ?_
  exact congrArg (fun r => -(spread (zAt A W H r) (innerAt A W H T G B r) * (((2 : ℝ) : EReal) * mid (zAt A W H r) k))) e

theorem v78_at (i : S2048x1024.Idx) : val_main_v78 (F := Ideal) A W H T G B i
    = steps (zAt A W H (rowN i)) (innerAt A W H T G B (rowN i)) (colN i) := by
  rw [val_main_v78_apply, val_main_v72_apply, val_main_v77_apply, val_main_v76_apply]
  refine congrArg₂ (· + ·) (congrArg₂ (· + ·) (v59_at A W H T G B i) (v68_at A W H T G B i)) ?_
  refine (word_zero _).trans ((Fin.sum_univ_one _).trans ?_)
  rw [val_main_v75_apply, val_main_v73_apply, val_main_v74_apply]
  exact congrArg (Ideal.div · len) (congrArg₂ (· + ·) (v63_at A W H T G B _ rfl) (v71_at A W H T G B _ rfl))

/-! The results. -/

theorem ref_shift : val_main_v49 (F := Ideal) A W H T G B = shiftGrad A W H T G B := by
  funext i
  rw [val_main_v49_apply, val_main_v48_apply]
  have e : (⟨((idx_main_v49 i) 0).val, Fin.isLt _⟩ : Fin 1024) = ⟨(i 1).val, (i 1).isLt⟩ := Fin.ext (by
    have h0 : (i 0).val < 1 := (i 0).isLt
    show (i 0).val * 1024 + (i 1).val = (i 1).val
    omega)
  refine (word_zero _).trans (Finset.sum_congr rfl fun n _ => ?_)
  refine (v47_at A W H T G B _).trans ?_
  exact congrArg (slopeAt A W H T G B n) e

theorem ref_gain : val_main_v52 (F := Ideal) A W H T G B = gainGrad A W H T G B := by
  funext i
  rw [val_main_v52_apply, val_main_v51_apply]
  have e : (⟨((idx_main_v52 i) 0).val, Fin.isLt _⟩ : Fin 1024) = ⟨(i 1).val, (i 1).isLt⟩ := Fin.ext (by
    have h0 : (i 0).val < 1 := (i 0).isLt
    show (i 0).val * 1024 + (i 1).val = (i 1).val
    omega)
  refine (word_zero _).trans (Finset.sum_congr rfl fun n _ => ?_)
  rw [val_main_v50_apply]
  refine (congrArg₂ (· * ·) (v28_at A W H _) (v47_at A W H T G B _)).trans ((mul_comm _ _).trans ?_)
  exact congrArg (gainAt A W H T G B n) e

section Real

variable (hA : ∀ i, IsReal (A i)) (hW : ∀ i, IsReal (W i)) (hH : ∀ i, IsReal (H i)) (hT : ∀ i, IsReal (T i))
  (hG : ∀ i, IsReal (G i)) (hB : ∀ i, IsReal (B i))

include hA hW hH in
theorem z_real (n : Fin 2048) (d : Fin 1024) : IsReal (zAt A W H n d) :=
  (skip_real.mul (hH _)).add (IsReal.sum _ _ fun s => IsReal.sum _ _ fun f => (hA _).mul (hW _))

theorem sub_real {x y : EReal} (hx : IsReal x) (hy : IsReal y) : IsReal (x - y) := by
  obtain ⟨a, rfl⟩ := hx; obtain ⟨b, rfl⟩ := hy; exact ⟨a - b, by push_cast; rfl⟩

include hA hW hH hT hG hB in
theorem err_real (n : Fin 2048) (d : Fin 1024) : IsReal (errAt A W H T G B n d) :=
  sub_real (((unit_real _ (z_real A W H hA hW hH n) d).mul (hG _)).add (hB _)) (hT _)

include hA hW hH hT hG hB in
theorem inner_real (n : Fin 2048) (d : Fin 1024) : IsReal (innerAt A W H T G B n d) :=
  ((err_real A W H T G B hA hW hH hT hG hB n d).mul ⟨_, perRow_eq⟩).mul (hG _)

include hA hW hH hT hG hB in
theorem ref_rows : val_main_v78 (F := Ideal) A W H T G B = rowsGrad A W H T G B := by
  funext i
  rw [v78_at, steps_eq_back _ _ (z_real A W H hA hW hH _) (inner_real A W H T G B hA hW hH hT hG hB _)]
  rfl

/-- The rows of a column are numbered by their coordinate. -/
def rowsOf : S2048.Idx ≃ Fin 2048 where
  toFun i := rowV i
  invFun n := ix1 n
  left_inv i := funext fun a => match a with | ⟨0, _⟩ => rfl
  right_inv n := rfl

include hA hW hH hT hG hB in
theorem ref_loss : val_main_v79 (F := Ideal) A W H T G B = loss A W H T G B := by
  funext i
  rw [val_main_v79_apply, val_main_v41_apply, val_main_v40_apply]
  refine Eq.trans ?_ (loss_ref (fun n => ∑ k, errAt A W H T G B n k * errAt A W H T G B n k)
    fun n => IsReal.sum _ _ fun k => (err_real A W H T G B hA hW hH hT hG hB n k).mul (err_real A W H T G B hA hW hH hT hG hB n k))
  refine congrArg (word 0x3F000000#32 * ·) ((word_zero _).trans ?_)
  refine Fintype.sum_equiv rowsOf _ _ fun j => ?_
  rw [val_main_v39_apply, val_main_v37_apply, val_main_v38_apply]
  refine congrArg (Ideal.div · len) ((word_zero _).trans (Finset.sum_congr rfl fun k _ => ?_))
  exact congrArg₂ (· * ·) (v33_at A W H T G B _) (v33_at A W H T G B _)

end Real

end Cert.Proof.Loss

end
-- ==== Proof.Merge.Reference.lean ====
/-
  The reference's merge read at an entry: the branches' products, the gates, the output product and the layer norm.
-/
module

public import proofs.«01_k».proof.Proof.Merge.Results
public import proofs.«01_k».proof.Proof.Loss.Reference
public import proofs.«01_k».proof.Proof.Gen.MergeRefIdeal.Read

@[expose] public section

noncomputable section

open scoped BigOperators

namespace Cert.Proof.Merge

open Idealize.ShloMosaic hiding ix1 ix2 ix3 eq_ix1 eq_ix2 eq_ix3
open Idealize.ShloMosaic.TcCoe Idealize.ShloMosaic.ValueIdx Idealize.SL.Sem Cert.Sums Cert.Norm Cert.Finite Cert.Branch
open Cert.MergeRefIdeal Cert.MergeRefIdeal.Read
open Cert.Proof.Loss (word word_zero rowN colN rowC rowV lane lane_at)

variable (P : S2048x7168.Idx → EReal) (A Y : S2048x512.Idx → EReal) (X : S2048x1024.Idx → EReal) (B : S2x1024.Idx → EReal)
  (WA WS : S4x512x256.Idx → EReal) (WO : S4x256x1024.Idx → EReal) (G C : S1x1024.Idx → EReal)

theorem v3_at (i : S2048x1024.Idx) : val_main_v3 (F := Ideal) A WA i
    = branch (fun k => A (ix2 (rowN i) k)) (fun s k e => WA (ix3 s k e)) (colN i) := by
  rw [val_main_v3_apply, val_main_v2_apply]
  unfold branch
  have h0 : (i 0).val < 2048 := (i 0).isLt
  have h1 : (i 1).val < 1024 := (i 1).isLt
  refine Finset.sum_congr rfl fun k _ => congrArg₂ (fun x y : EReal => x * y)
    (congrArg A (funext fun a => Fin.ext (match a with | ⟨0, _⟩ => ?_ | ⟨1, _⟩ => rfl)))
    (congrArg WA (funext fun a => Fin.ext (match a with | ⟨0, _⟩ => ?_ | ⟨1, _⟩ => rfl | ⟨2, _⟩ => ?_)))
  · show ((i 0).val * 1024 + (i 1).val) / 1024 = (i 0).val
    omega
  · show ((i 0).val * 1024 + (i 1).val) / 256 % 4 = (i 1).val / 256
    omega
  · show ((i 0).val * 1024 + (i 1).val) % 256 = (i 1).val % 256
    omega

theorem v7_at (i : S2048x1024.Idx) : val_main_v7 (F := Ideal) Y WS i
    = branch (fun k => Y (ix2 (rowN i) k)) (fun s k e => WS (ix3 s k e)) (colN i) := by
  rw [val_main_v7_apply, val_main_v6_apply]
  unfold branch
  have h0 : (i 0).val < 2048 := (i 0).isLt
  have h1 : (i 1).val < 1024 := (i 1).isLt
  refine Finset.sum_congr rfl fun k _ => congrArg₂ (fun x y : EReal => x * y)
    (congrArg Y (funext fun a => Fin.ext (match a with | ⟨0, _⟩ => ?_ | ⟨1, _⟩ => rfl)))
    (congrArg WS (funext fun a => Fin.ext (match a with | ⟨0, _⟩ => ?_ | ⟨1, _⟩ => rfl | ⟨2, _⟩ => ?_)))
  · show ((i 0).val * 1024 + (i 1).val) / 1024 = (i 0).val
    omega
  · show ((i 0).val * 1024 + (i 1).val) / 256 % 4 = (i 1).val / 256
    omega
  · show ((i 0).val * 1024 + (i 1).val) % 256 = (i 1).val % 256
    omega

theorem v18_at (i : S2048x1024.Idx) : val_main_v18 (F := Ideal) P B i
    = Ideal.logistic (P (ix2 (rowN i) (⟨5120 + (colN i).val, by omega⟩ : Fin 7168)) + B (ix2 0 (colN i))) := by
  have e : val_main_v12 (F := Ideal) P B i
      = P (ix2 (rowN i) (⟨5120 + (colN i).val, by omega⟩ : Fin 7168)) + B (ix2 0 (colN i)) := by
    rw [val_main_v12_apply, val_main_v9_apply, val_main_v8_apply, val_main_v11_apply, val_main_v10_apply]
    exact congrArg₂ (· + ·) (congrArg P (funext fun a => match a with | ⟨0, _⟩ => rfl | ⟨1, _⟩ => rfl))
      (congrArg B (funext fun a => match a with | ⟨0, _⟩ => rfl | ⟨1, _⟩ => rfl))
  rw [val_main_v18_apply, val_main_v17_apply, val_main_v16_apply, val_main_v15_apply, val_main_v14_apply, val_main_v13_apply, e]
  show Ideal.div (word 0x3F800000#32) (word 0x3F800000#32 + Ideal.exp (-_)) = _
  rw [show word 0x3F800000#32 = ((1 : ℝ) : EReal) from ofBits_one]
  simp [Ideal.logistic]

theorem v28_at (i : S2048x1024.Idx) : val_main_v28 (F := Ideal) P B i
    = Ideal.logistic (P (ix2 (rowN i) (⟨6144 + (colN i).val, by omega⟩ : Fin 7168)) + B (ix2 1 (colN i))) := by
  have e : val_main_v22 (F := Ideal) P B i
      = P (ix2 (rowN i) (⟨6144 + (colN i).val, by omega⟩ : Fin 7168)) + B (ix2 1 (colN i)) := by
    rw [val_main_v22_apply, val_main_v19_apply, val_main_v8_apply, val_main_v21_apply, val_main_v20_apply]
    refine congrArg₂ (· + ·) (congrArg P (funext fun a => Fin.ext (match a with | ⟨0, _⟩ => rfl | ⟨1, _⟩ => ?_)))
      (congrArg B (funext fun a => Fin.ext (match a with | ⟨0, _⟩ => rfl | ⟨1, _⟩ => rfl)))
    show 5120 + (1024 + (i 1).val) = 6144 + (i 1).val
    omega
  rw [val_main_v28_apply, val_main_v27_apply, val_main_v26_apply, val_main_v25_apply, val_main_v24_apply, val_main_v23_apply, e]
  show Ideal.div (word 0x3F800000#32) (word 0x3F800000#32 + Ideal.exp (-_)) = _
  rw [show word 0x3F800000#32 = ((1 : ℝ) : EReal) from ofBits_one]
  simp [Ideal.logistic]

theorem v31_at (i : S2048x1024.Idx) : val_main_v31 (F := Ideal) P A Y B WA WS i
    = mixed (wholeWts B WA WS WO G C) (wholeRow P A Y X (rowN i)) (colN i) := by
  rw [val_main_v31_apply, val_main_v29_apply, val_main_v30_apply]
  exact congrArg₂ (· + ·) (congrArg₂ (· * ·) (v18_at P B i) (v3_at A WA i)) (congrArg₂ (· * ·) (v28_at P B i) (v7_at Y WS i))

theorem v35_at (i : S1024x1024.Idx) : val_main_v35 (F := Ideal) WO i
    = WO (ix3 (⟨(i 0).val / 256, by have h : (i 0).val < 1024 := (i 0).isLt; omega⟩ : Fin 4)
      (⟨(i 0).val % 256, Nat.mod_lt _ (by decide)⟩ : Fin 256) (⟨(i 1).val, (i 1).isLt⟩ : Fin 1024)) := by
  rw [val_main_v35_apply, val_main_v34_apply]
  have h0 : (i 0).val < 1024 := (i 0).isLt
  have h1 : (i 1).val < 1024 := (i 1).isLt
  refine congrArg WO (funext fun a => Fin.ext (match a with | ⟨0, _⟩ => ?_ | ⟨1, _⟩ => ?_ | ⟨2, _⟩ => ?_))
  · show ((i 0).val * 1024 + (i 1).val) / 262144 = (i 0).val / 256
    omega
  · show ((i 0).val * 1024 + (i 1).val) / 1024 % 256 = (i 0).val % 256
    omega
  · show ((i 0).val * 1024 + (i 1).val) % 1024 = (i 1).val
    omega

theorem v37_at (i : S2048x1024.Idx) : val_main_v37 (F := Ideal) P A Y X B WA WS WO i
    = z (wholeWts B WA WS WO G C) (wholeRow P A Y X (rowN i)) (colN i) := by
  rw [val_main_v37_apply, val_main_v33_apply, val_main_v32_apply, val_main_v36_apply]
  exact congrArg₂ (fun x y : EReal => skip * x + y) (congrArg X (eq_ix2 i))
    (Finset.sum_congr rfl fun k _ => congrArg₂ (· * ·) (v31_at P A Y X B WA WS WO G C _) (v35_at WO _))

/-- The row before the norm. -/
abbrev zr (n : Fin 2048) : Fin 1024 → EReal := fun d => z (wholeWts B WA WS WO G C) (wholeRow P A Y X n) d

theorem v42_at (i : S2048x1.Idx) : val_main_v42 (F := Ideal) P A Y X B WA WS WO i
    = avg (zr P A Y X B WA WS WO G C (rowC i)) := by
  rw [val_main_v42_apply, val_main_v40_apply, val_main_v39_apply, val_main_v41_apply]
  exact congrArg (Ideal.div · len) ((word_zero _).trans (Finset.sum_congr rfl fun k _ => v37_at P A Y X B WA WS WO G C _))

theorem v44_at (i : S2048x1024.Idx) : val_main_v44 (F := Ideal) P A Y X B WA WS WO i
    = mid (zr P A Y X B WA WS WO G C (rowN i)) (colN i) := by
  rw [val_main_v44_apply, val_main_v43_apply]
  exact congrArg₂ (· - ·) (v37_at P A Y X B WA WS WO G C i) (v42_at P A Y X B WA WS WO G C _)

theorem v51_at (i : S2048x1024.Idx) : val_main_v51 (F := Ideal) P A Y X B WA WS WO i
    = mid (zr P A Y X B WA WS WO G C (rowN i)) (colN i) := by
  rw [val_main_v51_apply, val_main_v50_apply]
  exact congrArg₂ (· - ·) (v37_at P A Y X B WA WS WO G C i) (v42_at P A Y X B WA WS WO G C _)

theorem v49_at (i : S2048x1.Idx) : val_main_v49 (F := Ideal) P A Y X B WA WS WO i
    = var (zr P A Y X B WA WS WO G C (rowC i)) := by
  rw [val_main_v49_apply, val_main_v47_apply, val_main_v46_apply, val_main_v48_apply]
  refine congrArg (Ideal.div · len) ((word_zero _).trans (Finset.sum_congr rfl fun k _ => ?_))
  rw [val_main_v45_apply]
  exact congrArg₂ (· * ·) (v44_at P A Y X B WA WS WO G C _) (v44_at P A Y X B WA WS WO G C _)

theorem v54_at (i : S2048x1.Idx) : val_main_v54 (F := Ideal) P A Y X B WA WS WO i
    = inv (zr P A Y X B WA WS WO G C (rowC i)) := by
  rw [val_main_v54_apply, val_main_v53_apply, val_main_v52_apply]
  exact congrArg (fun x : EReal => Ideal.rsqrt (x + eps)) (v49_at P A Y X B WA WS WO G C i)

theorem v60_at (i : S2048x1024.Idx) : val_main_v60 (F := Ideal) P A Y X B WA WS WO G C i
    = h (wholeWts B WA WS WO G C) (wholeRow P A Y X (rowN i)) (colN i) := by
  rw [val_main_v60_apply, val_main_v58_apply, val_main_v56_apply, val_main_v55_apply, val_main_v57_apply, val_main_v59_apply]
  exact congrArg₂ (· + ·) (congrArg₂ (· * ·) (congrArg₂ (· * ·) (v51_at P A Y X B WA WS WO G C i) (v54_at P A Y X B WA WS WO G C _))
    (lane_at G _ rfl)) (lane_at C _ rfl)

/-! The five results as arrays given row by row. -/

theorem ref_ya : val_main_v3 (F := Ideal) A WA = byRow fun n d => ya (wholeWts B WA WS WO G C) (wholeRow P A Y X n) d :=
  funext fun i => v3_at A WA i

theorem ref_ys : val_main_v7 (F := Ideal) Y WS = byRow fun n d => ys (wholeWts B WA WS WO G C) (wholeRow P A Y X n) d :=
  funext fun i => v7_at Y WS i

theorem ref_mixed : val_main_v38 (F := Ideal) P A Y B WA WS = byRow fun n d => mixed (wholeWts B WA WS WO G C) (wholeRow P A Y X n) d :=
  funext fun i => v31_at P A Y X B WA WS WO G C i

theorem ref_z : val_main_v37 (F := Ideal) P A Y X B WA WS WO = byRow fun n d => z (wholeWts B WA WS WO G C) (wholeRow P A Y X n) d :=
  funext fun i => v37_at P A Y X B WA WS WO G C i

theorem ref_h : val_main_v60 (F := Ideal) P A Y X B WA WS WO G C = byRow fun n d => h (wholeWts B WA WS WO G C) (wholeRow P A Y X n) d :=
  funext fun i => v60_at P A Y X B WA WS WO G C i

end Cert.Proof.Merge

end
-- ==== Proof.Merge.Claims.lean ====
/-
  The claims about the merge: the reference's frame, and that kernel and reference end with the same five results.
-/
module

public import proofs.«01_k».proof.Defs
public import proofs.«01_k».proof.Proof.Merge.Reference
public import proofs.«01_k».proof.Proof.Gen.MergeRefIdeal.Run

@[expose] public section

set_option maxRecDepth 16384

noncomputable section

namespace Cert.Proof.Merge

open Idealize.ShloMosaic Idealize.ShloMosaic.TcCoe Idealize.SL.Sem

/-- The reference leaves its arguments alone, and having no semaphore ends with none raised. -/
theorem ref_frame : Cert.quiescent_MergeRefIdeal := fun m ρ _ =>
  (θ_run _ _ _).mono (fun r h => ⟨fun c => (h c).2.2.2.2.2, sem_eq_zero_of_no_sems (by decide) r.2⟩)
    (Cert.MergeRefIdeal.Value.run m ρ)

set_option maxHeartbeats 2000000 in
/-- The five results of the kernel are those of the reference. -/
theorem equal : Cert.algebraic_MergeIdeal_MergeRefIdeal := fun m ρ m' ρ' _ harg =>
  ⟨fun c => (Cert.MergeIdeal.Gen.dats m 0 c).arrAt 11 Cert.MergeIdeal.cfg0.N,
    fun c => (Cert.MergeIdeal.Gen.dats m 0 c).arrAt 12 Cert.MergeIdeal.cfg0.N,
    fun c => (Cert.MergeIdeal.Gen.dats m 0 c).arrAt 13 Cert.MergeIdeal.cfg0.N,
    fun c => (Cert.MergeIdeal.Gen.dats m 0 c).arrAt 14 Cert.MergeIdeal.cfg0.N,
    fun c => (Cert.MergeIdeal.Gen.dats m 0 c).arrAt 15 Cert.MergeIdeal.cfg0.N,
    Cert.MergeIdeal.Value.run_blocks m ρ,
    (θ_run _ _ _).mono (fun r h c => by
      obtain ⟨a0, a1, a2, a3, a4, a5, a6, a7, a8, a9⟩ := harg c
      obtain ⟨r3, r7, r38, r37, r60, args⟩ := h c
      refine ⟨r3.trans ?_, r7.trans ?_, r38.trans ?_, r37.trans ?_, r60.trans ?_, args⟩
      · refine (Cert.MergeRefIdeal.Read.val_main_v3_eq _ _).trans ?_
        rw [a1, a5]
        exact (ref_ya (argP m c) (argA m c) (argY m c) (argX m c) (argB m c) (argWA m c) (argWS m c) (argWO m c) (argG m c)
          (argC m c)).trans (final_11 m c).symm
      · refine (Cert.MergeRefIdeal.Read.val_main_v7_eq _ _).trans ?_
        rw [a2, a6]
        exact (ref_ys (argP m c) (argA m c) (argY m c) (argX m c) (argB m c) (argWA m c) (argWS m c) (argWO m c) (argG m c)
          (argC m c)).trans (final_12 m c).symm
      · refine (Cert.MergeRefIdeal.Read.val_main_v38_eq _ _ _ _ _ _).trans ?_
        rw [a0, a1, a2, a4, a5, a6]
        exact (ref_mixed (argP m c) (argA m c) (argY m c) (argX m c) (argB m c) (argWA m c) (argWS m c) (argWO m c) (argG m c)
          (argC m c)).trans (final_13 m c).symm
      · refine (Cert.MergeRefIdeal.Read.val_main_v37_eq _ _ _ _ _ _ _ _).trans ?_
        rw [a0, a1, a2, a3, a4, a5, a6, a7]
        exact (ref_z (argP m c) (argA m c) (argY m c) (argX m c) (argB m c) (argWA m c) (argWS m c) (argWO m c) (argG m c)
          (argC m c)).trans (final_14 m c).symm
      · refine (Cert.MergeRefIdeal.Read.val_main_v60_eq _ _).trans ?_
        rw [a0, a1, a2, a3, a4, a5, a6, a7, a8, a9]
        exact (ref_h (argP m c) (argA m c) (argY m c) (argX m c) (argB m c) (argWA m c) (argWS m c) (argWO m c) (argG m c)
          (argC m c)).trans (final_15 m c).symm)
      (Cert.MergeRefIdeal.Value.run m' ρ')⟩

end Cert.Proof.Merge

end
-- ==== Proof.Unmerge.Rows.lean ====
/-
  The merge's backward row steps read at an entry: the gradient through the first layer norm, through the output weight,
  through the two gates, and through the two branch weights.
-/
module

public import proofs.«01_k».proof.Proof.Branch
public import proofs.«01_k».proof.Proof.Norm
public import proofs.«01_k».proof.Proof.Gen.UnmergeIdeal.Value
public import Idealize.ShloMosaic.Lib.Pipeline.Value
public import Idealize.ShloMosaic.Lib.Pipeline.ValueKit

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem
open Cert.UnmergeIdeal Cert.UnmergeIdeal.Gen Cert.Sums Cert.Norm Cert.Layer Cert.Branch

/-- The factor on the skipped rows, and one. -/
abbrev skip : EReal := (FloatOps.ofBits (F := Ideal) .f32 0x3F9837F0#32 : Ideal .f32)
abbrev one : EReal := (FloatOps.ofBits (F := Ideal) .f32 0x3F800000#32 : Ideal .f32)

/-- What one row brings: the gradient of the row after the norm in two parts, the row before the norm, the two gates'
logits and the two branches' rows. -/
structure Row where
  x : Fin 1024 → EReal
  f : Fin 1024 → EReal
  z : Fin 1024 → EReal
  l0 : Fin 1024 → EReal
  l1 : Fin 1024 → EReal
  ya : Fin 1024 → EReal
  ys : Fin 1024 → EReal

/-- The weights: the norm's gain, the gates' biases, the output weight and the branches' weights in four slabs. -/
structure Wts where
  g : Fin 1024 → EReal
  b0 : Fin 1024 → EReal
  b1 : Fin 1024 → EReal
  w : Fin 1024 → Fin 1024 → EReal
  wa : Fin 4 → Fin 512 → Fin 256 → EReal
  ws : Fin 4 → Fin 512 → Fin 256 → EReal

section Steps

variable (W : Wts) (R : Row) (d : Fin 1024)

/-- The gradient after the norm, and before its gain. -/
def dh : EReal := skip * R.x d + R.f d
def inner : EReal := dh R d * W.g d

/-- The gradient before the norm, and of the merged row. -/
def dz : EReal := back R.z (inner W R) d
def dm : EReal := ∑ k, dz W R k * W.w d k

/-- The gates. -/
def gate0 : EReal := Ideal.logistic (R.l0 d + W.b0 d)
def gate1 : EReal := Ideal.logistic (R.l1 d + W.b1 d)

/-- The gradients of the logits and of the branches' rows. -/
def dl0 : EReal := dm W R d * R.ya d * gate0 W R d * (one - gate0 W R d)
def dl1 : EReal := dm W R d * R.ys d * gate1 W R d * (one - gate1 W R d)
def dya : EReal := dm W R d * gate0 W R d
def dys : EReal := dm W R d * gate1 W R d

/-- Both logits' gradients side by side. -/
def dl (e : Fin 2048) : EReal := if h : e.val < 1024 then dl0 W R ⟨e.val, h⟩ else dl1 W R ⟨e.val - 1024, by omega⟩

/-- The gradients of the branches' inputs. -/
def dattn (j : Fin 512) : EReal := ∑ s : Fin 4, ∑ k : Fin 256, dya W R (colOf s k) * W.wa s j k
def dglu (j : Fin 512) : EReal := ∑ s : Fin 4, ∑ k : Fin 256, dys W R (colOf s k) * W.ws s j k

end Steps

variable (x f z l0 l1 ya ys : Vec Ideal S256x1024 .f32) (g : Vec Ideal S1x1024 .f32) (b : Vec Ideal S2x1024 .f32)
  (w : Vec Ideal S1024x1024 .bf16) (wa ws : Vec Ideal S4x512x256 .bf16) (n : Fin 256) (d : Fin 1024)

/-- Row `n` of a block, and the weights of a point. -/
abbrev blockRow : Row :=
  ⟨fun d => x (ix2 n d), fun d => f (ix2 n d), fun d => z (ix2 n d), fun d => l0 (ix2 n d), fun d => l1 (ix2 n d),
    fun d => ya (ix2 n d), fun d => ys (ix2 n d)⟩
abbrev blockWts : Wts :=
  ⟨fun d => g (ix2 0 d), fun d => b (ix2 0 d), fun d => b (ix2 1 d), fun d k => w (ix2 d k),
    fun s j k => wa (ix3 s j k), fun s j k => ws (ix3 s j k)⟩

theorem pay4_at : k0_pay4 z (ix2 n d) = mid (fun d => z (ix2 n d)) d := by
  unfold k0_pay4
  refine congrArg (z (ix2 n d) - ·) ((spread_col _ _ n d).trans ?_)
  exact congrArg (Ideal.div · len) ((as_col _ _ n).trans (row_sum _ _ _ _ _ n))

theorem pay5_at : k0_pay5 z (ix2 n (0 : Fin 1)) = inv (fun d => z (ix2 n d)) := by
  unfold k0_pay5
  refine congrArg (fun x : EReal => Ideal.rsqrt (Ideal.div x len + eps)) (((as_col _ _ n).trans (row_sum _ _ _ _ _ n)).trans ?_)
  exact Finset.sum_congr rfl fun k _ => congrArg₂ (· * ·) (pay4_at z n k) (pay4_at z n k)

theorem pay6_at : k0_pay6 z (ix2 n d) = inv (fun d => z (ix2 n d)) := by
  unfold k0_pay6
  exact (spread_col _ _ n d).trans (pay5_at z n)

theorem pay7_at : k0_pay7 (k0_pay4 z) (k0_pay6 z) (ix2 n d) = unit (fun d => z (ix2 n d)) d := by
  unfold k0_pay7
  exact congrArg₂ (· * ·) (pay4_at z n d) (pay6_at z n d)

theorem inner_at : mulf (k0_pay8 x f) (broadcastTo S256x1024 g broadcasts_S1x1024_S256x1024) (ix2 n d)
    = inner (blockWts g b w wa ws) (blockRow x f z l0 l1 ya ys n) d :=
  congrArg₂ (· * ·) rfl (broadcastTo_1b_ab_apply g _ n d)

theorem pay9_at : k0_pay9 x f g (k0_pay4 z) (k0_pay5 z) (k0_pay6 z) (ix2 n d) = dz (blockWts g b w wa ws) (blockRow x f z l0 l1 ya ys n) d := by
  unfold k0_pay9
  refine congrArg₂ (· * ·) ((spread_col _ _ n d).trans (pay5_at z n))
    (congrArg₂ (· - ·)
      (congrArg₂ (· - ·) (inner_at x f z l0 l1 ya ys g b w wa ws n d) ((spread_col _ _ n d).trans
        (congrArg (Ideal.div · len) (((as_col _ _ n).trans (row_sum _ _ _ _ _ n)).trans
          (Finset.sum_congr rfl fun k _ => inner_at x f z l0 l1 ya ys g b w wa ws n k)))))
      (congrArg₂ (· * ·) (pay7_at z n d) ((spread_col _ _ n d).trans
        (congrArg (Ideal.div · len) (((as_col _ _ n).trans (row_sum _ _ _ _ _ n)).trans
          (Finset.sum_congr rfl fun k _ => congrArg₂ (· * ·) (inner_at x f z l0 l1 ya ys g b w wa ws n k) (pay7_at z n k)))))))

theorem pay10_at : k0_pay10 x f g (k0_pay3 w) (k0_pay4 z) (k0_pay5 z) (k0_pay6 z) (ix2 n d) = dm (blockWts g b w wa ws) (blockRow x f z l0 l1 ya ys n) d := by
  unfold k0_pay10
  refine (matmul_at dot_S256x1024_S1024x1024_S256x1024_1_1_0_0_n_n 1024 rfl rfl none _ _ _ (fun k => ix2 n k) (fun k => ix2 d k)
    (fun k => funext fun a => Fin.ext (match a with | ⟨0, _⟩ => rfl | ⟨1, _⟩ => rfl))
    (fun k => funext fun a => Fin.ext (match a with | ⟨0, _⟩ => rfl | ⟨1, _⟩ => rfl))).trans ?_
  exact Finset.sum_congr rfl fun k _ => congrArg₂ (· * ·) (pay9_at x f z l0 l1 ya ys g b w wa ws n k)
    (congrFun (shapeCast_self w shapeCasts_S1024x1024_S1024x1024) (ix2 d k))

theorem pay11_at : k0_pay11 l0 b (ix2 n d) = gate0 (blockWts g b w wa ws) (blockRow x f z l0 l1 ya ys n) d := by
  unfold k0_pay11
  exact congrArg (fun y : EReal => Ideal.logistic (l0 (ix2 n d) + y)) (spread_row b 0 _ _ 0 rfl n d)

theorem pay12_at : k0_pay12 l1 b (ix2 n d) = gate1 (blockWts g b w wa ws) (blockRow x f z l0 l1 ya ys n) d := by
  unfold k0_pay12
  exact congrArg (fun y : EReal => Ideal.logistic (l1 (ix2 n d) + y)) (spread_row b 1 _ _ 1 rfl n d)

theorem pay13_at : k0_pay13 x f l0 ya g b (k0_pay3 w) (k0_pay4 z) (k0_pay5 z) (k0_pay6 z) (ix2 n d) = dl0 (blockWts g b w wa ws) (blockRow x f z l0 l1 ya ys n) d := by
  unfold k0_pay13
  exact congrArg₂ (fun p q : EReal => p * ya (ix2 n d) * q * (one - q)) (pay10_at x f z l0 l1 ya ys g b w wa ws n d)
    (pay11_at x f z l0 l1 ya ys g b w wa ws n d)

theorem pay14_at : k0_pay14 x f l1 ys g b (k0_pay3 w) (k0_pay4 z) (k0_pay5 z) (k0_pay6 z) (ix2 n d) = dl1 (blockWts g b w wa ws) (blockRow x f z l0 l1 ya ys n) d := by
  unfold k0_pay14
  exact congrArg₂ (fun p q : EReal => p * ys (ix2 n d) * q * (one - q)) (pay10_at x f z l0 l1 ya ys g b w wa ws n d)
    (pay12_at x f z l0 l1 ya ys g b w wa ws n d)

theorem pay15_at : k0_pay15 x f l0 g b (k0_pay3 w) (k0_pay4 z) (k0_pay5 z) (k0_pay6 z) (ix2 n d) = dya (blockWts g b w wa ws) (blockRow x f z l0 l1 ya ys n) d := by
  unfold k0_pay15
  exact congrArg₂ (· * ·) (pay10_at x f z l0 l1 ya ys g b w wa ws n d) (pay11_at x f z l0 l1 ya ys g b w wa ws n d)

theorem pay16_at : k0_pay16 x f l1 g b (k0_pay3 w) (k0_pay4 z) (k0_pay5 z) (k0_pay6 z) (ix2 n d) = dys (blockWts g b w wa ws) (blockRow x f z l0 l1 ya ys n) d := by
  unfold k0_pay16
  exact congrArg₂ (· * ·) (pay10_at x f z l0 l1 ya ys g b w wa ws n d) (pay12_at x f z l0 l1 ya ys g b w wa ws n d)

theorem pay17_at (e : Fin 2048) :
    k0_pay17 x f l0 l1 ya ys g b (k0_pay3 w) (k0_pay4 z) (k0_pay5 z) (k0_pay6 z) (ix2 n e) = dl (blockWts g b w wa ws) (blockRow x f z l0 l1 ya ys n) e := by
  unfold k0_pay17 dl
  split
  · next h =>
    refine (concatenate_pair_apply_left (t := S256x2048) (s₁ := S256x1024) (s₂ := S256x1024) (1 : Fin 2) _ _ concatenates_S256x1024_S256x1024_S256x2048_d1 (ix2 n e) rfl
      (ix2 n (⟨e.val, h⟩ : Fin 1024)) fun a => match a with | ⟨0, _⟩ => rfl | ⟨1, _⟩ => rfl).trans ?_
    exact pay13_at x f z l0 l1 ya ys g b w wa ws n _
  · next h =>
    refine (concatenate_pair_apply_right (t := S256x2048) (s₁ := S256x1024) (s₂ := S256x1024) (1 : Fin 2) _ _ concatenates_S256x1024_S256x1024_S256x2048_d1 (ix2 n e) rfl rfl
      (ix2 n (⟨e.val - 1024, by omega⟩ : Fin 1024)) (fun a => match a with | ⟨0, _⟩ => fun _ => rfl | ⟨1, _⟩ => fun h => absurd rfl h)
      (by show e.val - 1024 + 1024 = e.val; omega)).trans ?_
    exact pay14_at x f z l0 l1 ya ys g b w wa ws n _

/-- One slab of columns times one slab of a branch weight. -/
theorem slab_dot (X : FVec Ideal S256x1024 .bf16) (V : FVec Ideal S4x512x256 .bf16) (s : Fin 4) (o o' : Nat) (hs : s.val = o)
    (ho : o' = s.val * 256) (h : S256x1024.Slices ![0, o'] S256x256) (h' : S4x512x256.Slices ![o, 0, 0] S1x512x256) (j : Fin 512) :
    matmul dot_S256x256_S512x256_S256x512_1_1_0_0_n_n none (extractStridedSlice S256x256 ![0, o'] X h)
      (shapeCast S512x256 (extractStridedSlice S1x512x256 ![o, 0, 0] V h') shapeCasts_S1x512x256_S512x256)
      (constant S256x512 .f32 0x00000000#32) (ix2 n j)
    = ∑ k : Fin 256, X (ix2 n (colOf s k)) * V (ix3 s j k) := by
  refine (matmul_at dot_S256x256_S512x256_S256x512_1_1_0_0_n_n 256 rfl rfl none _ _ _ (fun k => ix2 n k) (fun k => ix2 j k)
    (fun k => funext fun a => Fin.ext (match a with | ⟨0, _⟩ => rfl | ⟨1, _⟩ => rfl))
    (fun k => funext fun a => Fin.ext (match a with | ⟨0, _⟩ => rfl | ⟨1, _⟩ => rfl))).trans ?_
  refine Finset.sum_congr rfl fun k _ => congrArg₂ (· * ·) ?_ (slab_at V o h' _ s hs j k)
  exact slice2_axis1_apply o' X h n k (colOf s k) (by show s.val * 256 + k.val = o' + k.val; rw [ho])

theorem zero_word (y : EReal) : (FloatOps.ofBits (F := Ideal) .f32 0x00000000#32 : Ideal .f32) + y = y := by
  rw [show (FloatOps.ofBits (F := Ideal) .f32 0x00000000#32 : Ideal .f32) = (0 : EReal) by
    show Ideal.ofBits .f32 _ = _; simp [Ideal.ofBits, Ideal.ieee]]
  exact zero_add y

theorem pay19_at (j : Fin 512) :
    k0_pay19 wa (k0_pay15 x f l0 g b (k0_pay3 w) (k0_pay4 z) (k0_pay5 z) (k0_pay6 z))
      (k0_pay18 x f l0 g b (k0_pay3 w) wa (k0_pay4 z) (k0_pay5 z) (k0_pay6 z)) (ix2 n j) = dattn (blockWts g b w wa ws) (blockRow x f z l0 l1 ya ys n) j := by
  unfold k0_pay19 k0_pay18 dattn
  rw [Fin.sum_univ_four]
  have e : ∀ s : Fin 4, ∑ k : Fin 256, k0_pay15 x f l0 g b (k0_pay3 w) (k0_pay4 z) (k0_pay5 z) (k0_pay6 z) (ix2 n (colOf s k))
      * wa (ix3 s j k) = ∑ k : Fin 256, dya (blockWts g b w wa ws) (blockRow x f z l0 l1 ya ys n) (colOf s k) * wa (ix3 s j k) := fun s =>
    Finset.sum_congr rfl fun k _ => congrArg (· * wa (ix3 s j k)) (pay15_at x f z l0 l1 ya ys g b w wa ws n _)
  exact congrArg₂ (· + ·) (congrArg₂ (· + ·) (congrArg₂ (· + ·)
    ((zero_word _).trans ((slab_dot n _ wa 0 0 0 rfl rfl _ _ j).trans (e 0)))
    ((slab_dot n _ wa 1 1 256 rfl rfl _ _ j).trans (e 1)))
    ((slab_dot n _ wa 2 2 512 rfl rfl _ _ j).trans (e 2)))
    ((slab_dot n _ wa 3 3 768 rfl rfl _ _ j).trans (e 3))

theorem pay20_at (j : Fin 512) :
    k0_pay20 ws (k0_pay16 x f l1 g b (k0_pay3 w) (k0_pay4 z) (k0_pay5 z) (k0_pay6 z)) (ix2 n j) = dglu (blockWts g b w wa ws) (blockRow x f z l0 l1 ya ys n) j := by
  unfold k0_pay20 dglu
  rw [Fin.sum_univ_four]
  have e : ∀ s : Fin 4, ∑ k : Fin 256, k0_pay16 x f l1 g b (k0_pay3 w) (k0_pay4 z) (k0_pay5 z) (k0_pay6 z) (ix2 n (colOf s k))
      * ws (ix3 s j k) = ∑ k : Fin 256, dys (blockWts g b w wa ws) (blockRow x f z l0 l1 ya ys n) (colOf s k) * ws (ix3 s j k) := fun s =>
    Finset.sum_congr rfl fun k _ => congrArg (· * ws (ix3 s j k)) (pay16_at x f z l0 l1 ya ys g b w wa ws n _)
  exact congrArg₂ (· + ·) (congrArg₂ (· + ·) (congrArg₂ (· + ·)
    ((zero_word _).trans ((slab_dot n _ ws 0 0 0 rfl rfl _ _ j).trans (e 0)))
    ((slab_dot n _ ws 1 1 256 rfl rfl _ _ j).trans (e 1)))
    ((slab_dot n _ ws 2 2 512 rfl rfl _ _ j).trans (e 2)))
    ((slab_dot n _ ws 3 3 768 rfl rfl _ _ j).trans (e 3))

/-! What a block adds to the four sums down the rows. -/

theorem pay21_at : k0_pay21 (k0_pay7 (k0_pay4 z) (k0_pay6 z)) (k0_pay8 x f) (ix2 (0 : Fin 1) d)
    = ∑ n : Fin 256, dh (blockRow x f z l0 l1 ya ys n) d * unit (fun d => z (ix2 n d)) d := by
  unfold k0_pay21
  refine ((shapeCast_a_1a_apply _ _ (0 : Fin 1) d).trans (col_sum _ _ _ _ _ d)).trans ?_
  exact Finset.sum_congr rfl fun i _ => congrArg₂ (· * ·) rfl (pay7_at z i d)

theorem pay22_at : k0_pay22 (k0_pay8 x f) (ix2 (0 : Fin 1) d) = ∑ n : Fin 256, dh (blockRow x f z l0 l1 ya ys n) d := by
  unfold k0_pay22
  exact ((shapeCast_a_1a_apply _ _ (0 : Fin 1) d).trans (col_sum _ _ _ _ _ d)).trans (Finset.sum_congr rfl fun i _ => rfl)

theorem pay23_at : k0_pay23 (k0_pay13 x f l0 ya g b (k0_pay3 w) (k0_pay4 z) (k0_pay5 z) (k0_pay6 z)) (ix2 (0 : Fin 1) d)
    = ∑ n : Fin 256, dl0 (blockWts g b w wa ws) (blockRow x f z l0 l1 ya ys n) d := by
  unfold k0_pay23
  refine ((shapeCast_a_1a_apply _ _ (0 : Fin 1) d).trans (col_sum _ _ _ _ _ d)).trans ?_
  exact Finset.sum_congr rfl fun i _ => pay13_at x f z l0 l1 ya ys g b w wa ws i d

theorem pay24_at : k0_pay24 (k0_pay14 x f l1 ys g b (k0_pay3 w) (k0_pay4 z) (k0_pay5 z) (k0_pay6 z)) (ix2 (0 : Fin 1) d)
    = ∑ n : Fin 256, dl1 (blockWts g b w wa ws) (blockRow x f z l0 l1 ya ys n) d := by
  unfold k0_pay24
  refine ((shapeCast_a_1a_apply _ _ (0 : Fin 1) d).trans (col_sum _ _ _ _ _ d)).trans ?_
  exact Finset.sum_congr rfl fun i _ => pay14_at x f z l0 l1 ya ys g b w wa ws i d

/-- Adding to what the point before left. -/
theorem adds_1 (p v : Vec Ideal S1x1024 .f32) (i : S1x1024.Idx) : k0_pay1 p v i = v i + p i := by
  unfold k0_pay1
  exact congrArg (· + p i) (congrFun (shapeCast_self v shapeCasts_S1x1024_S1x1024) i)

theorem adds_2 (p v : Vec Ideal S1x1024 .f32) (i : S1x1024.Idx) : k0_pay2 p v i = v i + p i := by
  unfold k0_pay2
  exact congrArg (· + p i) (congrFun (shapeCast_self v shapeCasts_S1x1024_S1x1024) i)

theorem adds_26 (p v : Vec Ideal S1x1024 .f32) (i : S1x1024.Idx) : k0_pay26 p v i = v i + p i := by
  unfold k0_pay26
  exact congrArg (· + p i) (congrFun (shapeCast_self v shapeCasts_S1x1024_S1x1024) i)

theorem adds_27 (p v : Vec Ideal S1x1024 .f32) (i : S1x1024.Idx) : k0_pay27 p v i = v i + p i := by
  unfold k0_pay27
  exact congrArg (· + p i) (congrFun (shapeCast_self v shapeCasts_S1x1024_S1x1024) i)

end Cert.Proof.Unmerge

end
-- ==== Proof.Unmerge.Points.lean ====
/-
  What each of the eight points of the merge's backward region leaves, in terms of its blocks.
-/
module

public import proofs.«01_k».proof.Proof.Unmerge.Rows

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem
open Cert.UnmergeIdeal Cert.UnmergeIdeal.Gen Cert.Sums Cert.Norm Cert.Layer Cert.Branch

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-! The ten values of a point: six it writes out, and four it adds to the running sums. -/

abbrev zOut (t : Fin cfg0.N) : Vec Ideal S256x1024 .f32 := k0_pay9 (iblk m c 0 t) (iblk m c 1 t) (iblk m c 7 t) (k0_pay4 (iblk m c
  2 t)) (k0_pay5 (iblk m c 2 t)) (k0_pay6 (iblk m c 2 t))
abbrev attnOut (t : Fin cfg0.N) : Vec Ideal S256x1024 .bf16 := k0_pay15 (iblk m c 0 t) (iblk m c 1 t) (iblk m c 3 t) (iblk m c 7
  t) (iblk m c 8 t) (k0_pay3 (iblk m c 9 t)) (k0_pay4 (iblk m c 2 t)) (k0_pay5 (iblk m c 2 t)) (k0_pay6 (iblk m c 2 t))
abbrev gluOut (t : Fin cfg0.N) : Vec Ideal S256x1024 .bf16 := k0_pay16 (iblk m c 0 t) (iblk m c 1 t) (iblk m c 4 t) (iblk m c 7 t)
  (iblk m c 8 t) (k0_pay3 (iblk m c 9 t)) (k0_pay4 (iblk m c 2 t)) (k0_pay5 (iblk m c 2 t)) (k0_pay6 (iblk m c 2 t))
abbrev logitOut (t : Fin cfg0.N) : Vec Ideal S256x2048 .bf16 := k0_pay25 (k0_pay17 (iblk m c 0 t) (iblk m c 1 t) (iblk m c 3 t)
  (iblk m c 4 t) (iblk m c 5 t) (iblk m c 6 t) (iblk m c 7 t) (iblk m c 8 t) (k0_pay3 (iblk m c 9 t)) (k0_pay4 (iblk m c 2 t))
  (k0_pay5 (iblk m c 2 t)) (k0_pay6 (iblk m c 2 t)))
abbrev attnIn (t : Fin cfg0.N) : Vec Ideal S256x512 .f32 := k0_pay19 (iblk m c 10 t) (k0_pay15 (iblk m c 0 t) (iblk m c 1 t) (iblk
  m c 3 t) (iblk m c 7 t) (iblk m c 8 t) (k0_pay3 (iblk m c 9 t)) (k0_pay4 (iblk m c 2 t)) (k0_pay5 (iblk m c 2 t)) (k0_pay6 (iblk
  m c 2 t))) (k0_pay18 (iblk m c 0 t) (iblk m c 1 t) (iblk m c 3 t) (iblk m c 7 t) (iblk m c 8 t) (k0_pay3 (iblk m c 9 t)) (iblk m
  c 10 t) (k0_pay4 (iblk m c 2 t)) (k0_pay5 (iblk m c 2 t)) (k0_pay6 (iblk m c 2 t)))
abbrev gluIn (t : Fin cfg0.N) : Vec Ideal S256x512 .f32 := k0_pay20 (iblk m c 11 t) (k0_pay16 (iblk m c 0 t) (iblk m c 1 t) (iblk
  m c 4 t) (iblk m c 7 t) (iblk m c 8 t) (k0_pay3 (iblk m c 9 t)) (k0_pay4 (iblk m c 2 t)) (k0_pay5 (iblk m c 2 t)) (k0_pay6 (iblk
  m c 2 t)))
abbrev gainAdd (t : Fin cfg0.N) : Vec Ideal S1x1024 .f32 := k0_pay21 (k0_pay7 (k0_pay4 (iblk m c 2 t)) (k0_pay6 (iblk m c 2 t)))
  (k0_pay8 (iblk m c 0 t) (iblk m c 1 t))
abbrev shiftAdd (t : Fin cfg0.N) : Vec Ideal S1x1024 .f32 := k0_pay22 (k0_pay8 (iblk m c 0 t) (iblk m c 1 t))
abbrev bias0Add (t : Fin cfg0.N) : Vec Ideal S1x1024 .f32 := k0_pay23 (k0_pay13 (iblk m c 0 t) (iblk m c 1 t) (iblk m c 3 t) (iblk
  m c 5 t) (iblk m c 7 t) (iblk m c 8 t) (k0_pay3 (iblk m c 9 t)) (k0_pay4 (iblk m c 2 t)) (k0_pay5 (iblk m c 2 t)) (k0_pay6 (iblk
  m c 2 t)))
abbrev bias1Add (t : Fin cfg0.N) : Vec Ideal S1x1024 .f32 := k0_pay24 (k0_pay14 (iblk m c 0 t) (iblk m c 1 t) (iblk m c 4 t) (iblk
  m c 6 t) (iblk m c 7 t) (iblk m c 8 t) (k0_pay3 (iblk m c 9 t)) (k0_pay4 (iblk m c 2 t)) (k0_pay5 (iblk m c 2 t)) (k0_pay6 (iblk
  m c 2 t)))

/-- The first point's results. -/
theorem first_point (t : Fin cfg0.N) (h : t.val = 0) :
    (outsAt0 m c t.val t.isLt).1 = zOut m c t
      ∧ (outsAt0 m c t.val t.isLt).2.1 = attnOut m c t
      ∧ (outsAt0 m c t.val t.isLt).2.2.1 = gluOut m c t
      ∧ (outsAt0 m c t.val t.isLt).2.2.2.1 = logitOut m c t
      ∧ (outsAt0 m c t.val t.isLt).2.2.2.2.1 = attnIn m c t
      ∧ (outsAt0 m c t.val t.isLt).2.2.2.2.2.1 = gluIn m c t
      ∧ (outsAt0 m c t.val t.isLt).2.2.2.2.2.2.1 = gainAdd m c t
      ∧ (outsAt0 m c t.val t.isLt).2.2.2.2.2.2.2.1 = shiftAdd m c t
      ∧ (outsAt0 m c t.val t.isLt).2.2.2.2.2.2.2.2.1 = bias0Add m c t
      ∧ (outsAt0 m c t.val t.isLt).2.2.2.2.2.2.2.2.2 = bias1Add m c t := by
  rw [outsAt0_A m c t (by omega) (by omega) (by omega) (by omega) (by omega) (by omega) (by omega) (by omega)]
  dsimp only
  refine ⟨?_, ?_, ?_, ?_, ?_, ?_, ?_, ?_, ?_, ?_⟩ <;> frame_out

/-- A later point's results, its four sums over what the point before left. -/
theorem next_point (t : Fin cfg0.N) (h : 1 ≤ t.val) :
    (outsAt0 m c t.val t.isLt).1 = zOut m c t
      ∧ (outsAt0 m c t.val t.isLt).2.1 = attnOut m c t
      ∧ (outsAt0 m c t.val t.isLt).2.2.1 = gluOut m c t
      ∧ (outsAt0 m c t.val t.isLt).2.2.2.1 = logitOut m c t
      ∧ (outsAt0 m c t.val t.isLt).2.2.2.2.1 = attnIn m c t
      ∧ (outsAt0 m c t.val t.isLt).2.2.2.2.2.1 = gluIn m c t
      ∧ (outsAt0 m c t.val t.isLt).2.2.2.2.2.2.1 = k0_pay26 (gainAdd m c t) (before m c t).2.2.2.2.2.2.1
      ∧ (outsAt0 m c t.val t.isLt).2.2.2.2.2.2.2.1 = k0_pay27 (shiftAdd m c t) (before m c t).2.2.2.2.2.2.2.1
      ∧ (outsAt0 m c t.val t.isLt).2.2.2.2.2.2.2.2.1 = k0_pay1 (bias0Add m c t) (before m c t).2.2.2.2.2.2.2.2.1
      ∧ (outsAt0 m c t.val t.isLt).2.2.2.2.2.2.2.2.2 = k0_pay2 (bias1Add m c t) (before m c t).2.2.2.2.2.2.2.2.2 := by
  have hN : t.val < 8 := lt_of_lt_of_eq t.isLt N_0
  rw [outsAt0_B m c t (by omega) h (by omega) h (by omega) h (by omega) h]
  dsimp only
  refine ⟨?_, ?_, ?_, ?_, ?_, ?_, ?_, ?_, ?_, ?_⟩ <;> frame_out

end Cert.Proof.Unmerge

end
-- ==== Proof.Unmerge.Places.lean ====
/-
  Where a point's blocks lie: eight blocks of 256 rows, the two gates' logits in their columns of the projection, and the
  weights whole, the output weight's four slabs laid out as one matrix.
-/
module

public import proofs.«01_k».proof.Proof.Unmerge.Points

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem
open Cert.UnmergeIdeal Cert.UnmergeIdeal.Gen Cert.Sums Cert.Norm Cert.Layer Cert.Branch

section Whole

variable (X F Z : S2048x1024.Idx → EReal) (P : S2048x7168.Idx → EReal) (YA YS : S2048x1024.Idx → EReal)
  (G : S1x1024.Idx → EReal) (B : S2x1024.Idx → EReal) (WO : S4x256x1024.Idx → EReal) (WA WS : S4x512x256.Idx → EReal)

/-- Row `n` of the arguments. -/
abbrev wholeRow (n : Fin 2048) : Row :=
  ⟨fun d => X (ix2 n d), fun d => F (ix2 n d), fun d => Z (ix2 n d), fun d => P (ix2 n (⟨5120 + d.val, by omega⟩ : Fin 7168)),
    fun d => P (ix2 n (⟨6144 + d.val, by omega⟩ : Fin 7168)), fun d => YA (ix2 n d), fun d => YS (ix2 n d)⟩

/-- The weights. -/
abbrev wholeWts : Wts :=
  ⟨fun d => G (ix2 0 d), fun d => B (ix2 0 d), fun d => B (ix2 1 d),
    fun d k => WO (ix3 (⟨d.val / 256, by omega⟩ : Fin 4) (⟨d.val % 256, by omega⟩ : Fin 256) k),
    fun s j k => WA (ix3 s j k), fun s j k => WS (ix3 s j k)⟩

end Whole

variable (m : (ℓ : Loc nD τ sig) → Buf (Elt Ideal) ℓ) (c : Dev nD)

/-- The arguments as launched. -/
abbrev argX : S2048x1024.Idx → EReal := m ((c.tc : Thread nD τ).loc main_arg0)
abbrev argF : S2048x1024.Idx → EReal := m ((c.tc : Thread nD τ).loc main_arg1)
abbrev argZ : S2048x1024.Idx → EReal := m ((c.tc : Thread nD τ).loc main_arg2)
abbrev argP : S2048x7168.Idx → EReal := m ((c.tc : Thread nD τ).loc main_arg3)
abbrev argYA : S2048x1024.Idx → EReal := m ((c.tc : Thread nD τ).loc main_arg4)
abbrev argYS : S2048x1024.Idx → EReal := m ((c.tc : Thread nD τ).loc main_arg5)
abbrev argG : S1x1024.Idx → EReal := m ((c.tc : Thread nD τ).loc main_arg6)
abbrev argB : S2x1024.Idx → EReal := m ((c.tc : Thread nD τ).loc main_arg7)
abbrev argWO : S4x256x1024.Idx → EReal := m ((c.tc : Thread nD τ).loc main_arg8)
abbrev argWA : S4x512x256.Idx → EReal := m ((c.tc : Thread nD τ).loc main_arg9)
abbrev argWS : S4x512x256.Idx → EReal := m ((c.tc : Thread nD τ).loc main_arg10)

/-- Row `n` of the launched arguments, and the launched weights. -/
abbrev argRow (n : Fin 2048) : Row :=
  wholeRow (argX m c) (argF m c) (argZ m c) (argP m c) (argYA m c) (argYS m c) n
abbrev argWts : Wts := wholeWts (argG m c) (argB m c) (argWO m c) (argWA m c) (argWS m c)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 5] := (by decide +kernel : ∀ t : Fin grid0.N, _)
theorem idx_4 : ∀ t : Fin cfg0.N, win0_4.index t = ![t.val, 6] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0, 0] := (by decide +kernel : ∀ t : Fin grid0.N, _)
theorem idx_11 : ∀ t : Fin cfg0.N, win0_11.index t = ![0, 0, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![t.val, 0] := (by decide +kernel : ∀ t : Fin grid0.N, _)
theorem idx_15 : ∀ t : Fin cfg0.N, win0_15.index t = ![t.val, 0] := (by decide +kernel : ∀ t : Fin grid0.N, _)
theorem idx_16 : ∀ t : Fin cfg0.N, win0_16.index t = ![t.val, 0] := (by decide +kernel : ∀ t : Fin grid0.N, _)
theorem idx_17 : ∀ t : Fin cfg0.N, win0_17.index t = ![t.val, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0, 0] := (by decide +kernel : ∀ t : Fin grid0.N, _)
theorem idx_21 : ∀ t : Fin cfg0.N, win0_21.index t = ![0, 0] := (by decide +kernel : ∀ t : Fin grid0.N, _)

/-- The row of the array that row `n` of block `q` is. -/
abbrev rowOf (q : Nat) (hq : q < 8) (n : Fin 256) : Fin 2048 := ⟨q * 256 + n.val, by omega⟩

/-- The reshape before the region lays the four slabs one under the other. -/
theorem out_weight (d k : Fin 1024) : (V m c main_v0 : S1024x1024.Idx → EReal) (ix2 d k)
    = argWO m c (ix3 (⟨d.val / 256, by omega⟩ : Fin 4) (⟨d.val % 256, by omega⟩ : Fin 256) k) := by
  have e : (V m c main_v0 : S1024x1024.Idx → EReal)
      = shapeCast S1024x1024 (argWO m c) shapeCasts_S4x256x1024_S1024x1024 := by
    show StableHlo.after hostOps0 (fun b => m (c, b)) (Proc.devRef .tc main_v0) = _
    simp only [hostOps0, StableHlo.after_cons, StableHlo.after_nil]
    after_results_simp
    rfl
  rw [e]
  refine shapeCast_apply _ _ _ _ ?_
  rw [Shape.rowMajor_val_three, Shape.rowMajor_val_two]
  show (d.val / 256 * 256 + d.val % 256) * 1024 + k.val = d.val * 1024 + k.val
  omega

variable (t : Fin cfg0.N) (h8 : t.val < 8) (n : Fin 256)

theorem place_x (d : Fin 1024) : (iblk m c 0 t : S256x1024.Idx → EReal) (ix2 n d) = argX m c (ix2 (rowOf t.val h8 n) d) := by
  blk_simp [iblk, V_main_arg0]
  congr 1
  blk_ext [idx_0, at2_0, at2_1]

theorem place_f (d : Fin 1024) : (iblk m c 1 t : S256x1024.Idx → EReal) (ix2 n d) = argF m c (ix2 (rowOf t.val h8 n) d) := by
  blk_simp [iblk, V_main_arg1]
  congr 1
  blk_ext [idx_1, at2_0, at2_1]

theorem place_z (d : Fin 1024) : (iblk m c 2 t : S256x1024.Idx → EReal) (ix2 n d) = argZ m c (ix2 (rowOf t.val h8 n) d) := by
  blk_simp [iblk, V_main_arg2]
  congr 1
  blk_ext [idx_2, at2_0, at2_1]

theorem place_l0 (d : Fin 1024) : (iblk m c 3 t : S256x1024.Idx → EReal) (ix2 n d)
    = argP m c (ix2 (rowOf t.val h8 n) (⟨5120 + d.val, by omega⟩ : Fin 7168)) := by
  blk_simp [iblk, V_main_arg3]
  congr 1
  blk_ext [idx_3, at2_0, at2_1]

theorem place_l1 (d : Fin 1024) : (iblk m c 4 t : S256x1024.Idx → EReal) (ix2 n d)
    = argP m c (ix2 (rowOf t.val h8 n) (⟨6144 + d.val, by omega⟩ : Fin 7168)) := by
  blk_simp [iblk, V_main_arg3]
  congr 1
  blk_ext [idx_4, at2_0, at2_1]

theorem place_ya (d : Fin 1024) : (iblk m c 5 t : S256x1024.Idx → EReal) (ix2 n d) = argYA m c (ix2 (rowOf t.val h8 n) d) := by
  blk_simp [iblk, V_main_arg4]
  congr 1
  blk_ext [idx_5, at2_0, at2_1]

theorem place_ys (d : Fin 1024) : (iblk m c 6 t : S256x1024.Idx → EReal) (ix2 n d) = argYS m c (ix2 (rowOf t.val h8 n) d) := by
  blk_simp [iblk, V_main_arg5]
  congr 1
  blk_ext [idx_6, at2_0, at2_1]

theorem place_g (d : Fin 1024) : (iblk m c 7 t : S1x1024.Idx → EReal) (ix2 0 d) = argG m c (ix2 0 d) := by
  blk_simp [iblk, V_main_arg6]
  congr 1
  blk_ext [idx_7, at2_0, at2_1]

theorem place_b (s : Fin 2) (d : Fin 1024) : (iblk m c 8 t : S2x1024.Idx → EReal) (ix2 s d) = argB m c (ix2 s d) := by
  blk_simp [iblk, V_main_arg7]
  congr 1
  blk_ext [idx_8, at2_0, at2_1]

theorem place_w (d k : Fin 1024) : (iblk m c 9 t : S1024x1024.Idx → EReal) (ix2 d k)
    = argWO m c (ix3 (⟨d.val / 256, by omega⟩ : Fin 4) (⟨d.val % 256, by omega⟩ : Fin 256) k) := by
  refine Eq.trans ?_ (out_weight m c d k)
  blk_simp [iblk]
  congr 1
  blk_ext [idx_9, at2_0, at2_1]

theorem place_wa (s : Fin 4) (j : Fin 512) (k : Fin 256) :
    (iblk m c 10 t : S4x512x256.Idx → EReal) (ix3 s j k) = argWA m c (ix3 s j k) := by
  blk_simp [iblk, V_main_arg9]
  congr 1
  blk_ext [idx_10, at3_0, at3_1, at3_2]

theorem place_ws (s : Fin 4) (j : Fin 512) (k : Fin 256) :
    (iblk m c 11 t : S4x512x256.Idx → EReal) (ix3 s j k) = argWS m c (ix3 s j k) := by
  blk_simp [iblk, V_main_arg10]
  congr 1
  blk_ext [idx_11, at3_0, at3_1, at3_2]

/-- A block's row is the arguments' row. -/
theorem row_place : blockRow (iblk m c 0 t) (iblk m c 1 t) (iblk m c 2 t) (iblk m c 3 t) (iblk m c 4 t) (iblk m c 5 t)
    (iblk m c 6 t) n = argRow m c (rowOf t.val h8 n) :=
  Row.mk.injEq .. ▸ ⟨funext (place_x m c t h8 n), funext (place_f m c t h8 n), funext (place_z m c t h8 n),
    funext (place_l0 m c t h8 n), funext (place_l1 m c t h8 n), funext (place_ya m c t h8 n), funext (place_ys m c t h8 n)⟩

/-- The point's weights are the arguments'. -/
theorem wts_place : blockWts (iblk m c 7 t) (iblk m c 8 t) (iblk m c 9 t) (iblk m c 10 t) (iblk m c 11 t) = argWts m c :=
  Wts.mk.injEq .. ▸ ⟨funext (place_g m c t), funext (place_b m c t 0), funext (place_b m c t 1),
    funext fun d => funext (place_w m c t d), funext fun s => funext fun j => funext (place_wa m c t s j),
    funext fun s => funext fun j => funext (place_ws m c t s j)⟩

end Cert.Proof.Unmerge

end
-- ==== Proof.Unmerge.Results.lean ====
/-
  The merge's backward region's six results given row by row, as functions of its arguments.
-/
module

public import proofs.«01_k».proof.Proof.Unmerge.Places

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem
open Cert.UnmergeIdeal Cert.UnmergeIdeal.Gen Cert.Sums Cert.Norm Cert.Layer Cert.Branch

/-- An array given row by row. -/
def byRow {k : Nat} (f : Fin 2048 → Fin k → EReal) : (⟨2, ![2048, k]⟩ : Shape).Idx → EReal :=
  fun i => f ⟨(i 0).val, (i 0).isLt⟩ ⟨(i 1).val, (i 1).isLt⟩

variable (m : (ℓ : Loc nD τ sig) → Buf (Elt Ideal) ℓ) (c : Dev nD) (t : Fin cfg0.N) (h8 : t.val < 8)

theorem at_12 (n : Fin 256) (d : Fin 1024) : (outsAt0 m c t.val t.isLt).1 (ix2 n d)
    = dz (argWts m c) (argRow m c (rowOf t.val h8 n)) d := by
  have e : (outsAt0 m c t.val t.isLt).1 = zOut m c t := if h : t.val = 0
    then (first_point m c t h).1 else (next_point m c t (by omega)).1
  rw [e, ← row_place m c t h8 n, ← wts_place m c t]
  exact pay9_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

theorem at_13 (n : Fin 256) (d : Fin 1024) : (outsAt0 m c t.val t.isLt).2.1 (ix2 n d)
    = dya (argWts m c) (argRow m c (rowOf t.val h8 n)) d := by
  have e : (outsAt0 m c t.val t.isLt).2.1 = attnOut m c t := if h : t.val = 0
    then (first_point m c t h).2.1 else (next_point m c t (by omega)).2.1
  rw [e, ← row_place m c t h8 n, ← wts_place m c t]
  exact pay15_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

theorem at_14 (n : Fin 256) (d : Fin 1024) : (outsAt0 m c t.val t.isLt).2.2.1 (ix2 n d)
    = dys (argWts m c) (argRow m c (rowOf t.val h8 n)) d := by
  have e : (outsAt0 m c t.val t.isLt).2.2.1 = gluOut m c t := if h : t.val = 0
    then (first_point m c t h).2.2.1 else (next_point m c t (by omega)).2.2.1
  rw [e, ← row_place m c t h8 n, ← wts_place m c t]
  exact pay16_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

theorem at_15 (n : Fin 256) (d : Fin 2048) : (outsAt0 m c t.val t.isLt).2.2.2.1 (ix2 n d)
    = dl (argWts m c) (argRow m c (rowOf t.val h8 n)) d := by
  have e : (outsAt0 m c t.val t.isLt).2.2.2.1 = logitOut m c t := if h : t.val = 0
    then (first_point m c t h).2.2.2.1 else (next_point m c t (by omega)).2.2.2.1
  rw [e, ← row_place m c t h8 n, ← wts_place m c t]
  exact pay17_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

theorem at_16 (n : Fin 256) (d : Fin 512) : (outsAt0 m c t.val t.isLt).2.2.2.2.1 (ix2 n d)
    = dattn (argWts m c) (argRow m c (rowOf t.val h8 n)) d := by
  have e : (outsAt0 m c t.val t.isLt).2.2.2.2.1 = attnIn m c t := if h : t.val = 0
    then (first_point m c t h).2.2.2.2.1 else (next_point m c t (by omega)).2.2.2.2.1
  rw [e, ← row_place m c t h8 n, ← wts_place m c t]
  exact pay19_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

theorem at_17 (n : Fin 256) (d : Fin 512) : (outsAt0 m c t.val t.isLt).2.2.2.2.2.1 (ix2 n d)
    = dglu (argWts m c) (argRow m c (rowOf t.val h8 n)) d := by
  have e : (outsAt0 m c t.val t.isLt).2.2.2.2.2.1 = gluIn m c t := if h : t.val = 0
    then (first_point m c t h).2.2.2.2.2.1 else (next_point m c t (by omega)).2.2.2.2.2.1
  rw [e, ← row_place m c t h8 n, ← wts_place m c t]
  exact pay20_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) n d

/-! The six arrays after the region. -/

theorem array_12 (g : Fin 2048 → Fin 1024 → EReal)
    (hg : ∀ (t : Fin cfg0.N) (h8 : t.val < 8) (n : Fin 256) (d : Fin 1024),
      (outsAt0 m c t.val t.isLt).1 (ix2 n d) = g (rowOf t.val h8 n) d) :
    (dats m 0 c).arrAt 12 cfg0.N = byRow g := by
  refine (dats m 0 c).arrAt_eq_of_covers 12 _ (by decide +kernel) fun t _ y => ?_
  have h8 : t.val < 8 := lt_of_lt_of_eq t.isLt N_0
  blk_simp
  rw [after0_12]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_0).slice (win0_12.rect t)).emb (ix2 n d)) 0).val, Fin.isLt _⟩ :=
    Fin.ext (by
      show t.val * 256 + n.val = win0_12.index t 0 * 256 + 1 * n.val
      rw [idx_12]
      show t.val * 256 + n.val = t.val * 256 + 1 * n.val
      omega)
  have e1 : d = ⟨((((View.whole main_v1_0).slice (win0_12.rect t)).emb (ix2 n d)) 1).val, Fin.isLt _⟩ :=
    Fin.ext (by
      show d.val = win0_12.index t 1 * 1024 + 1 * d.val
      rw [idx_12]
      show d.val = 0 * 1024 + 1 * d.val
      omega)
  exact congrArg₂ g e0 e1

theorem final_12 : (dats m 0 c).arrAt 12 cfg0.N = byRow fun n d => dz (argWts m c) (argRow m c n) d :=
  array_12 m c _ (at_12 m c)

theorem array_13 (g : Fin 2048 → Fin 1024 → EReal)
    (hg : ∀ (t : Fin cfg0.N) (h8 : t.val < 8) (n : Fin 256) (d : Fin 1024),
      (outsAt0 m c t.val t.isLt).2.1 (ix2 n d) = g (rowOf t.val h8 n) d) :
    (dats m 0 c).arrAt 13 cfg0.N = byRow g := by
  refine (dats m 0 c).arrAt_eq_of_covers 13 _ (by decide +kernel) fun t _ y => ?_
  have h8 : t.val < 8 := lt_of_lt_of_eq t.isLt N_0
  blk_simp
  rw [after0_13]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_1).slice (win0_13.rect t)).emb (ix2 n d)) 0).val, Fin.isLt _⟩ :=
    Fin.ext (by
      show t.val * 256 + n.val = win0_13.index t 0 * 256 + 1 * n.val
      rw [idx_13]
      show t.val * 256 + n.val = t.val * 256 + 1 * n.val
      omega)
  have e1 : d = ⟨((((View.whole main_v1_1).slice (win0_13.rect t)).emb (ix2 n d)) 1).val, Fin.isLt _⟩ :=
    Fin.ext (by
      show d.val = win0_13.index t 1 * 1024 + 1 * d.val
      rw [idx_13]
      show d.val = 0 * 1024 + 1 * d.val
      omega)
  exact congrArg₂ g e0 e1

theorem final_13 : (dats m 0 c).arrAt 13 cfg0.N = byRow fun n d => dya (argWts m c) (argRow m c n) d :=
  array_13 m c _ (at_13 m c)

theorem array_14 (g : Fin 2048 → Fin 1024 → EReal)
    (hg : ∀ (t : Fin cfg0.N) (h8 : t.val < 8) (n : Fin 256) (d : Fin 1024),
      (outsAt0 m c t.val t.isLt).2.2.1 (ix2 n d) = g (rowOf t.val h8 n) d) :
    (dats m 0 c).arrAt 14 cfg0.N = byRow g := by
  refine (dats m 0 c).arrAt_eq_of_covers 14 _ (by decide +kernel) fun t _ y => ?_
  have h8 : t.val < 8 := lt_of_lt_of_eq t.isLt N_0
  blk_simp
  rw [after0_14]
  obtain ⟨n, d, rfl⟩ : ∃ (n : Fin 256) (d : Fin 1024), y = ix2 n d := ⟨y 0, y 1, eq_ix2 y⟩
  refine (hg t h8 n d).trans ?_
  unfold byRow
  have e0 : rowOf t.val h8 n = ⟨((((View.whole main_v1_2).slice (win0_14.rect t)).emb (ix2 n d)) 0).val, Fin.isLt _⟩ :=
    Fin.ext (by
      show t.val * 256 + n.val = win0_14.index t 0 * 256 + 1 * n.val
      rw [idx_14]
      show t.val * 256 + n.val = t.val * 256 + 1 * n.val
      omega)
  have e1 : d = ⟨((((View.whole main_v1_2).slice (win0_14.rect t)).emb (ix2 n d)) 1).val, Fin.isLt _⟩ :=
    Fin.ext (by
      show d.val = win0_14.index t 1 * 1024 + 1 * d.val
      rw [idx_14]
      show d.val = 0 * 1024 + 1 * d.val
      omega)
  exact congrArg₂ g e0 e1

theorem final_14 : (dats m 0 c).arrAt 14 cfg0.N = byRow fun n d => dys (argWts m c) (argRow m c n) d :=
  array_14 m c _ (at_14 m c)

theorem array_15 (g : Fin 2048 → Fin 2048 → EReal)
    (hg : ∀ (t : Fin cfg0.N) (h8 : t.val < 8) (n : Fin 256) (d : Fin 2048),
      (outsAt0 m c t.val t.isLt).2.2.2.1 (ix2 n d) = g (rowOf t.val h8 n) d) :
    (dats m 0 c).arrAt 15 cfg0.N = byRow g := by
  refine (dats m 0 c).arrAt_eq_of_covers 15 _ (by decide +kernel) fun t _ y => ?_
  have h8 : t.val < 8 := lt_of_lt_of_eq t.isLt N_0
  blk_simp
  rw [after0_15]
  obtain ⟨n, d, rfl⟩ : ∃ (n : Fin 256) (d : Fin 2048), y = ix2 n d := ⟨y 0, y 1, eq_ix2 y⟩
  refine (hg t h8 n d).trans ?_
  unfold byRow
  have e0 : rowOf t.val h8 n = ⟨((((View.whole main_v1_3).slice (win0_15.rect t)).emb (ix2 n d)) 0).val, Fin.isLt _⟩ :=
    Fin.ext (by
      show t.val * 256 + n.val = win0_15.index t 0 * 256 + 1 * n.val
      rw [idx_15]
      show t.val * 256 + n.val = t.val * 256 + 1 * n.val
      omega)
  have e1 : d = ⟨((((View.whole main_v1_3).slice (win0_15.rect t)).emb (ix2 n d)) 1).val, Fin.isLt _⟩ :=
    Fin.ext (by
      show d.val = win0_15.index t 1 * 2048 + 1 * d.val
      rw [idx_15]
      show d.val = 0 * 2048 + 1 * d.val
      omega)
  exact congrArg₂ g e0 e1

theorem final_15 : (dats m 0 c).arrAt 15 cfg0.N = byRow fun n d => dl (argWts m c) (argRow m c n) d :=
  array_15 m c _ (at_15 m c)

theorem array_16 (g : Fin 2048 → Fin 512 → EReal)
    (hg : ∀ (t : Fin cfg0.N) (h8 : t.val < 8) (n : Fin 256) (d : Fin 512),
      (outsAt0 m c t.val t.isLt).2.2.2.2.1 (ix2 n d) = g (rowOf t.val h8 n) d) :
    (dats m 0 c).arrAt 16 cfg0.N = byRow g := by
  refine (dats m 0 c).arrAt_eq_of_covers 16 _ (by decide +kernel) fun t _ y => ?_
  have h8 : t.val < 8 := lt_of_lt_of_eq t.isLt N_0
  blk_simp
  rw [after0_16]
  obtain ⟨n, d, rfl⟩ : ∃ (n : Fin 256) (d : Fin 512), y = ix2 n d := ⟨y 0, y 1, eq_ix2 y⟩
  refine (hg t h8 n d).trans ?_
  unfold byRow
  have e0 : rowOf t.val h8 n = ⟨((((View.whole main_v1_4).slice (win0_16.rect t)).emb (ix2 n d)) 0).val, Fin.isLt _⟩ :=
    Fin.ext (by
      show t.val * 256 + n.val = win0_16.index t 0 * 256 + 1 * n.val
      rw [idx_16]
      show t.val * 256 + n.val = t.val * 256 + 1 * n.val
      omega)
  have e1 : d = ⟨((((View.whole main_v1_4).slice (win0_16.rect t)).emb (ix2 n d)) 1).val, Fin.isLt _⟩ :=
    Fin.ext (by
      show d.val = win0_16.index t 1 * 512 + 1 * d.val
      rw [idx_16]
      show d.val = 0 * 512 + 1 * d.val
      omega)
  exact congrArg₂ g e0 e1

theorem final_16 : (dats m 0 c).arrAt 16 cfg0.N = byRow fun n d => dattn (argWts m c) (argRow m c n) d :=
  array_16 m c _ (at_16 m c)

theorem array_17 (g : Fin 2048 → Fin 512 → EReal)
    (hg : ∀ (t : Fin cfg0.N) (h8 : t.val < 8) (n : Fin 256) (d : Fin 512),
      (outsAt0 m c t.val t.isLt).2.2.2.2.2.1 (ix2 n d) = g (rowOf t.val h8 n) d) :
    (dats m 0 c).arrAt 17 cfg0.N = byRow g := by
  refine (dats m 0 c).arrAt_eq_of_covers 17 _ (by decide +kernel) fun t _ y => ?_
  have h8 : t.val < 8 := lt_of_lt_of_eq t.isLt N_0
  blk_simp
  rw [after0_17]
  obtain ⟨n, d, rfl⟩ : ∃ (n : Fin 256) (d : Fin 512), y = ix2 n d := ⟨y 0, y 1, eq_ix2 y⟩
  refine (hg t h8 n d).trans ?_
  unfold byRow
  have e0 : rowOf t.val h8 n = ⟨((((View.whole main_v1_5).slice (win0_17.rect t)).emb (ix2 n d)) 0).val, Fin.isLt _⟩ :=
    Fin.ext (by
      show t.val * 256 + n.val = win0_17.index t 0 * 256 + 1 * n.val
      rw [idx_17]
      show t.val * 256 + n.val = t.val * 256 + 1 * n.val
      omega)
  have e1 : d = ⟨((((View.whole main_v1_5).slice (win0_17.rect t)).emb (ix2 n d)) 1).val, Fin.isLt _⟩ :=
    Fin.ext (by
      show d.val = win0_17.index t 1 * 512 + 1 * d.val
      rw [idx_17]
      show d.val = 0 * 512 + 1 * d.val
      omega)
  exact congrArg₂ g e0 e1

theorem final_17 : (dats m 0 c).arrAt 17 cfg0.N = byRow fun n d => dglu (argWts m c) (argRow m c n) d :=
  array_17 m c _ (at_17 m c)

end Cert.Proof.Unmerge

end
-- ==== Proof.Unmerge.Totals.lean ====
/-
  The merge's backward region's four sums down the rows, as functions of its arguments.
-/
module

public import proofs.«01_k».proof.Proof.Unmerge.Results

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem
open Cert.UnmergeIdeal Cert.UnmergeIdeal.Gen Cert.Sums Cert.Norm Cert.Layer Cert.Branch

/-- A one-row array of sums down the rows. -/
def downRows (f : Fin 2048 → Fin 1024 → EReal) : S1x1024.Idx → EReal := fun i => ∑ n, f n ⟨(i 1).val, (i 1).isLt⟩

/-- A sum over all rows is the sum over the eight blocks' rows. -/
theorem eight_blocks (f : Fin 2048 → EReal) :
    ∑ n : Fin 2048, f n = ∑ q : Fin 8, ∑ n : Fin 256, f (rowOf q.val q.isLt n) := by
  rw [← Fintype.sum_prod_type' fun (q : Fin 8) (n : Fin 256) => f (rowOf q.val q.isLt n)]
  refine (Equiv.sum_comp (finProdFinEquiv (m := 8) (n := 256)) f).symm.trans (Finset.sum_congr rfl fun x _ => ?_)
  exact congrArg f (Fin.ext (by show x.2.val + 256 * x.1.val = x.1.val * 256 + x.2.val; omega))

/-- A value that starts as the first block's sum and grows by each block's ends as the whole sum. -/
theorem running_sum (f : Fin 2048 → EReal) (a : (t : Nat) → t < cfg0.N → EReal)
    (h0 : ∀ h : 0 < cfg0.N, a 0 h = ∑ n : Fin 256, f (rowOf 0 (by decide) n))
    (hs : ∀ (t : Nat) (h : t + 1 < cfg0.N) (h8 : t + 1 < 8),
      a (t + 1) h = a t (Nat.lt_of_succ_lt h) + ∑ n : Fin 256, f (rowOf (t + 1) h8 n))
    (t : Nat) (ht : t < cfg0.N) (h7 : t = 7) : a t ht = ∑ n : Fin 2048, f n := by
  subst h7
  rw [eight_blocks, Fin.sum_univ_eight, hs 6 ht (by decide), hs 5 (by omega) (by decide), hs 4 (by omega) (by decide),
    hs 3 (by omega) (by decide), hs 2 (by omega) (by decide), hs 1 (by omega) (by decide), hs 0 (by omega) (by decide),
    h0 (by omega)]
  rfl

variable (m : (ℓ : Loc nD τ sig) → Buf (Elt Ideal) ℓ) (c : Dev nD) (t : Fin cfg0.N) (h8 : t.val < 8)

/-- The summand of result 6, and what a point adds to it. -/
abbrev summand_18 : Fin 2048 → Fin 1024 → EReal := fun n d => dh (argRow m c n) d * unit (argRow m c n).z d

theorem adds_at_18 (d : Fin 1024) : gainAdd m c t (ix2 (0 : Fin 1) d)
    = ∑ n : Fin 256, summand_18 m c (rowOf t.val h8 n) d := by
  refine (pay21_at (iblk m c 0 t) (iblk m c 1 t) (iblk m c 2 t) (iblk m c 3 t) (iblk m c 4 t) (iblk m c 5 t) (iblk m c 6 t) d).trans (Finset.sum_congr rfl fun n _ => ?_)
  exact congrArg (fun R : Row => dh R d * unit R.z d) (row_place m c t h8 n)

theorem last_18 (t : Fin cfg0.N) (h7 : t.val = 7) (d : Fin 1024) : (outsAt0 m c t.val t.isLt).2.2.2.2.2.2.1 (ix2 (0 : Fin 1) d)
    = ∑ n : Fin 2048, summand_18 m c n d := by
  refine running_sum (fun n => summand_18 m c n d) (fun t h => (outsAt0 m c t h).2.2.2.2.2.2.1 (ix2 (0 : Fin 1) d)) ?_ ?_ t.val
    t.isLt h7
  · intro h
    exact (congrFun (first_point m c ⟨0, h⟩ rfl).2.2.2.2.2.2.1 _).trans (adds_at_18 m c ⟨0, h⟩ (by show 0 < 8; decide) d)
  · intro t h h8
    refine (congrFun (next_point m c ⟨t + 1, h⟩ (by show 1 ≤ t + 1; omega)).2.2.2.2.2.2.1 _).trans ?_
    refine (adds_26 _ _ _).trans ?_
    exact congrArg (_ + ·) (adds_at_18 m c ⟨t + 1, h⟩ h8 d)

/-- The summand of result 7, and what a point adds to it. -/
abbrev summand_19 : Fin 2048 → Fin 1024 → EReal := fun n d => dh (argRow m c n) d

theorem adds_at_19 (d : Fin 1024) : shiftAdd m c t (ix2 (0 : Fin 1) d)
    = ∑ n : Fin 256, summand_19 m c (rowOf t.val h8 n) d := by
  refine (pay22_at (iblk m c 0 t) (iblk m c 1 t) (iblk m c 2 t) (iblk m c 3 t) (iblk m c 4 t) (iblk m c 5 t) (iblk m c 6 t) d).trans (Finset.sum_congr rfl fun n _ => ?_)
  exact congrArg (fun R : Row => dh R d) (row_place m c t h8 n)

theorem last_19 (t : Fin cfg0.N) (h7 : t.val = 7) (d : Fin 1024) : (outsAt0 m c t.val t.isLt).2.2.2.2.2.2.2.1 (ix2 (0 : Fin 1) d)
    = ∑ n : Fin 2048, summand_19 m c n d := by
  refine running_sum (fun n => summand_19 m c n d) (fun t h => (outsAt0 m c t h).2.2.2.2.2.2.2.1 (ix2 (0 : Fin 1) d)) ?_ ?_ t.val
    t.isLt h7
  · intro h
    exact (congrFun (first_point m c ⟨0, h⟩ rfl).2.2.2.2.2.2.2.1 _).trans (adds_at_19 m c ⟨0, h⟩ (by show 0 < 8; decide) d)
  · intro t h h8
    refine (congrFun (next_point m c ⟨t + 1, h⟩ (by show 1 ≤ t + 1; omega)).2.2.2.2.2.2.2.1 _).trans ?_
    refine (adds_27 _ _ _).trans ?_
    exact congrArg (_ + ·) (adds_at_19 m c ⟨t + 1, h⟩ h8 d)

/-- The summand of result 8, and what a point adds to it. -/
abbrev summand_20 : Fin 2048 → Fin 1024 → EReal := fun n d => dl0 (argWts m c) (argRow m c n) d

theorem adds_at_20 (d : Fin 1024) : bias0Add m c t (ix2 (0 : Fin 1) d)
    = ∑ n : Fin 256, summand_20 m c (rowOf t.val h8 n) d := by
  refine (pay23_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) d).trans (Finset.sum_congr rfl fun n _ => ?_)
  exact congrArg₂ (fun (W : Wts) (R : Row) => dl0 W R d) (wts_place m c t) (row_place m c t h8 n)

theorem last_20 (t : Fin cfg0.N) (h7 : t.val = 7) (d : Fin 1024) : (outsAt0 m c t.val t.isLt).2.2.2.2.2.2.2.2.1 (ix2 (0 : Fin 1) d)
    = ∑ n : Fin 2048, summand_20 m c n d := by
  refine running_sum (fun n => summand_20 m c n d) (fun t h => (outsAt0 m c t h).2.2.2.2.2.2.2.2.1 (ix2 (0 : Fin 1) d)) ?_ ?_ t.val
    t.isLt h7
  · intro h
    exact (congrFun (first_point m c ⟨0, h⟩ rfl).2.2.2.2.2.2.2.2.1 _).trans (adds_at_20 m c ⟨0, h⟩ (by show 0 < 8; decide) d)
  · intro t h h8
    refine (congrFun (next_point m c ⟨t + 1, h⟩ (by show 1 ≤ t + 1; omega)).2.2.2.2.2.2.2.2.1 _).trans ?_
    refine (adds_1 _ _ _).trans ?_
    exact congrArg (_ + ·) (adds_at_20 m c ⟨t + 1, h⟩ h8 d)

/-- The summand of result 9, and what a point adds to it. -/
abbrev summand_21 : Fin 2048 → Fin 1024 → EReal := fun n d => dl1 (argWts m c) (argRow m c n) d

theorem adds_at_21 (d : Fin 1024) : bias1Add m c t (ix2 (0 : Fin 1) d)
    = ∑ n : Fin 256, summand_21 m c (rowOf t.val h8 n) d := by
  refine (pay24_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) d).trans (Finset.sum_congr rfl fun n _ => ?_)
  exact congrArg₂ (fun (W : Wts) (R : Row) => dl1 W R d) (wts_place m c t) (row_place m c t h8 n)

theorem last_21 (t : Fin cfg0.N) (h7 : t.val = 7) (d : Fin 1024) : (outsAt0 m c t.val t.isLt).2.2.2.2.2.2.2.2.2 (ix2 (0 : Fin 1) d)
    = ∑ n : Fin 2048, summand_21 m c n d := by
  refine running_sum (fun n => summand_21 m c n d) (fun t h => (outsAt0 m c t h).2.2.2.2.2.2.2.2.2 (ix2 (0 : Fin 1) d)) ?_ ?_ t.val
    t.isLt h7
  · intro h
    exact (congrFun (first_point m c ⟨0, h⟩ rfl).2.2.2.2.2.2.2.2.2 _).trans (adds_at_21 m c ⟨0, h⟩ (by show 0 < 8; decide) d)
  · intro t h h8
    refine (congrFun (next_point m c ⟨t + 1, h⟩ (by show 1 ≤ t + 1; omega)).2.2.2.2.2.2.2.2.2 _).trans ?_
    refine (adds_2 _ _ _).trans ?_
    exact congrArg (_ + ·) (adds_at_21 m c ⟨t + 1, h⟩ h8 d)

theorem array_18 (g : Fin 2048 → Fin 1024 → EReal)
    (hg : ∀ (t : Fin cfg0.N) (_ : t.val = 7) (d : Fin 1024),
      (outsAt0 m c t.val t.isLt).2.2.2.2.2.2.1 (ix2 (0 : Fin 1) d) = ∑ n : Fin 2048, g n d) :
    (dats m 0 c).arrAt 18 cfg0.N = downRows g := by
  refine (dats m 0 c).arrAt_eq_of_covers 18 _ (by decide +kernel) fun t hf y => ?_
  have h7 : t.val = 7 := by
    have hN : t.val < 8 := lt_of_lt_of_eq t.isLt N_0
    have := (flush0_18 t).mp hf
    omega
  blk_simp
  rw [after0_18]
  obtain ⟨n, d, rfl⟩ : ∃ (n : Fin 1) (d : Fin 1024), y = ix2 n d := ⟨y 0, y 1, eq_ix2 y⟩
  obtain rfl : n = 0 := Subsingleton.elim _ _
  refine (hg t h7 d).trans ?_
  unfold downRows
  have e1 : d = ⟨((((View.whole main_v1_6).slice (win0_18.rect t)).emb (ix2 (0 : Fin 1) d)) 1).val, Fin.isLt _⟩ :=
    Fin.ext (by
      show d.val = win0_18.index t 1 * 1024 + 1 * d.val
      rw [idx_18]
      show d.val = 0 * 1024 + 1 * d.val
      omega)
  exact Finset.sum_congr rfl fun n _ => congrArg (g n) e1

theorem final_18 : (dats m 0 c).arrAt 18 cfg0.N = downRows (summand_18 m c) := array_18 m c _ (last_18 m c)

theorem array_19 (g : Fin 2048 → Fin 1024 → EReal)
    (hg : ∀ (t : Fin cfg0.N) (_ : t.val = 7) (d : Fin 1024),
      (outsAt0 m c t.val t.isLt).2.2.2.2.2.2.2.1 (ix2 (0 : Fin 1) d) = ∑ n : Fin 2048, g n d) :
    (dats m 0 c).arrAt 19 cfg0.N = downRows g := by
  refine (dats m 0 c).arrAt_eq_of_covers 19 _ (by decide +kernel) fun t hf y => ?_
  have h7 : t.val = 7 := by
    have hN : t.val < 8 := lt_of_lt_of_eq t.isLt N_0
    have := (flush0_19 t).mp hf
    omega
  blk_simp
  rw [after0_19]
  obtain ⟨n, d, rfl⟩ : ∃ (n : Fin 1) (d : Fin 1024), y = ix2 n d := ⟨y 0, y 1, eq_ix2 y⟩
  obtain rfl : n = 0 := Subsingleton.elim _ _
  refine (hg t h7 d).trans ?_
  unfold downRows
  have e1 : d = ⟨((((View.whole main_v1_7).slice (win0_19.rect t)).emb (ix2 (0 : Fin 1) d)) 1).val, Fin.isLt _⟩ :=
    Fin.ext (by
      show d.val = win0_19.index t 1 * 1024 + 1 * d.val
      rw [idx_19]
      show d.val = 0 * 1024 + 1 * d.val
      omega)
  exact Finset.sum_congr rfl fun n _ => congrArg (g n) e1

theorem final_19 : (dats m 0 c).arrAt 19 cfg0.N = downRows (summand_19 m c) := array_19 m c _ (last_19 m c)

theorem array_20 (g : Fin 2048 → Fin 1024 → EReal)
    (hg : ∀ (t : Fin cfg0.N) (_ : t.val = 7) (d : Fin 1024),
      (outsAt0 m c t.val t.isLt).2.2.2.2.2.2.2.2.1 (ix2 (0 : Fin 1) d) = ∑ n : Fin 2048, g n d) :
    (dats m 0 c).arrAt 20 cfg0.N = downRows g := by
  refine (dats m 0 c).arrAt_eq_of_covers 20 _ (by decide +kernel) fun t hf y => ?_
  have h7 : t.val = 7 := by
    have hN : t.val < 8 := lt_of_lt_of_eq t.isLt N_0
    have := (flush0_20 t).mp hf
    omega
  blk_simp
  rw [after0_20]
  obtain ⟨n, d, rfl⟩ : ∃ (n : Fin 1) (d : Fin 1024), y = ix2 n d := ⟨y 0, y 1, eq_ix2 y⟩
  obtain rfl : n = 0 := Subsingleton.elim _ _
  refine (hg t h7 d).trans ?_
  unfold downRows
  have e1 : d = ⟨((((View.whole main_v1_8).slice (win0_20.rect t)).emb (ix2 (0 : Fin 1) d)) 1).val, Fin.isLt _⟩ :=
    Fin.ext (by
      show d.val = win0_20.index t 1 * 1024 + 1 * d.val
      rw [idx_20]
      show d.val = 0 * 1024 + 1 * d.val
      omega)
  exact Finset.sum_congr rfl fun n _ => congrArg (g n) e1

theorem final_20 : (dats m 0 c).arrAt 20 cfg0.N = downRows (summand_20 m c) := array_20 m c _ (last_20 m c)

theorem array_21 (g : Fin 2048 → Fin 1024 → EReal)
    (hg : ∀ (t : Fin cfg0.N) (_ : t.val = 7) (d : Fin 1024),
      (outsAt0 m c t.val t.isLt).2.2.2.2.2.2.2.2.2 (ix2 (0 : Fin 1) d) = ∑ n : Fin 2048, g n d) :
    (dats m 0 c).arrAt 21 cfg0.N = downRows g := by
  refine (dats m 0 c).arrAt_eq_of_covers 21 _ (by decide +kernel) fun t hf y => ?_
  have h7 : t.val = 7 := by
    have hN : t.val < 8 := lt_of_lt_of_eq t.isLt N_0
    have := (flush0_21 t).mp hf
    omega
  blk_simp
  rw [after0_21]
  obtain ⟨n, d, rfl⟩ : ∃ (n : Fin 1) (d : Fin 1024), y = ix2 n d := ⟨y 0, y 1, eq_ix2 y⟩
  obtain rfl : n = 0 := Subsingleton.elim _ _
  refine (hg t h7 d).trans ?_
  unfold downRows
  have e1 : d = ⟨((((View.whole main_v1_9).slice (win0_21.rect t)).emb (ix2 (0 : Fin 1) d)) 1).val, Fin.isLt _⟩ :=
    Fin.ext (by
      show d.val = win0_21.index t 1 * 1024 + 1 * d.val
      rw [idx_21]
      show d.val = 0 * 1024 + 1 * d.val
      omega)
  exact Finset.sum_congr rfl fun n _ => congrArg (g n) e1

theorem final_21 : (dats m 0 c).arrAt 21 cfg0.N = downRows (summand_21 m c) := array_21 m c _ (last_21 m c)

end Cert.Proof.Unmerge

end
-- ==== Proof.Unmerge.RefNorm.lean ====
/-
  The reference's gradient through the first layer norm, read at an entry.
-/
module

public import proofs.«01_k».proof.Proof.Unmerge.Totals
public import proofs.«01_k».proof.Proof.Loss.Reference
public import proofs.«01_k».proof.Proof.Gen.UnmergeRefIdeal.Read

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem Cert.Sums Cert.Norm Cert.Finite Cert.Branch
open Cert.UnmergeRefIdeal Cert.UnmergeRefIdeal.Read
open Cert.Proof.Loss (word word_zero word_two word_neg_half skip_real rowN colN rowC rowV lane lane_at)

variable (X F Z : S2048x1024.Idx → EReal) (G : S1x1024.Idx → EReal)

/-- The row before the norm, the gradient after the norm, and the one before its gain. -/
abbrev zr (n : Fin 2048) : Fin 1024 → EReal := fun d => Z (ix2 n d)
abbrev dhAt (n : Fin 2048) (d : Fin 1024) : EReal := skip * X (ix2 n d) + F (ix2 n d)
abbrev innerAt (n : Fin 2048) : Fin 1024 → EReal := fun d => dhAt X F n d * lane G d

theorem v2_at (i : S2048x1024.Idx) : val_main_v2 (F := Ideal) X F i = dhAt X F (rowN i) (colN i) := by
  rw [val_main_v2_apply, val_main_v1_apply, val_main_v0_apply]
  exact congrArg₂ (fun x y : EReal => skip * x + y) (congrArg X (eq_ix2 i)) (congrArg F (eq_ix2 i))

theorem v7_at (i : S2048x1.Idx) : val_main_v7 (F := Ideal) Z i = avg (zr Z (rowC i)) := by
  rw [val_main_v7_apply, val_main_v5_apply, val_main_v4_apply, val_main_v6_apply]
  exact congrArg (Ideal.div · len) ((word_zero _).trans (Finset.sum_congr rfl fun k _ => congrArg Z (eq_ix2 _)))

theorem v9_at (i : S2048x1024.Idx) : val_main_v9 (F := Ideal) Z i = mid (zr Z (rowN i)) (colN i) := by
  rw [val_main_v9_apply, val_main_v8_apply]
  exact congrArg₂ (· - ·) (congrArg Z (eq_ix2 i)) (v7_at Z _)

theorem v18_at (i : S2048x1024.Idx) : val_main_v18 (F := Ideal) Z i = mid (zr Z (rowN i)) (colN i) := by
  rw [val_main_v18_apply, val_main_v17_apply]
  exact congrArg₂ (· - ·) (congrArg Z (eq_ix2 i)) (v7_at Z _)

theorem v16_at (i : S2048x1.Idx) : val_main_v16 (F := Ideal) Z i = var (zr Z (rowC i)) := by
  rw [val_main_v16_apply, val_main_v14_apply, val_main_v13_apply, val_main_v15_apply]
  exact congrArg (Ideal.div · len) ((word_zero _).trans (Finset.sum_congr rfl fun k _ =>
    congrArg₂ (· * ·) (v9_at Z _) (v9_at Z _)))

theorem v20_at (i : S2048x1.Idx) : val_main_v20 (F := Ideal) Z i = var (zr Z (rowC i)) + eps := by
  rw [val_main_v20_apply, val_main_v19_apply]
  exact congrArg (· + eps) (v16_at Z i)

theorem v21_at (i : S2048x1.Idx) : val_main_v21 (F := Ideal) Z i = inv (zr Z (rowC i)) := by
  rw [val_main_v21_apply]
  exact congrArg Ideal.rsqrt (v20_at Z i)

theorem v24_at (i : S2048x1.Idx) : val_main_v24 (F := Ideal) Z i
    = ((-(1/2) : ℝ) : EReal) * Ideal.div (inv (zr Z (rowC i))) (var (zr Z (rowC i)) + eps) := by
  rw [val_main_v24_apply, val_main_v23_apply, val_main_v22_apply]
  exact congrArg₂ (· * ·) word_neg_half (congrArg₂ Ideal.div (v21_at Z i) (v20_at Z i))

theorem v26_at (i : S2048x1024.Idx) : val_main_v26 (F := Ideal) Z i = unit (zr Z (rowN i)) (colN i) := by
  rw [val_main_v26_apply, val_main_v25_apply]
  exact congrArg₂ (· * ·) (v18_at Z i) (v21_at Z _)

theorem v37_at (i : S2048x1024.Idx) : val_main_v37 (F := Ideal) X F G i = innerAt X F G (rowN i) (colN i) := by
  rw [val_main_v37_apply, val_main_v36_apply]
  exact congrArg₂ (· * ·) (v2_at X F i) (lane_at G _ rfl)

theorem v40_at (i : S2048x1.Idx) (h : (i 1).val = 0) : val_main_v40 (F := Ideal) X F Z G i
    = ∑ k, mid (zr Z (rowC i)) k * innerAt X F G (rowC i) k := by
  rw [val_main_v40_apply, val_main_v39_apply]
  have e : rowV (idx_main_v40 i) = rowC i := Fin.ext (by show (i 0).val * 1 + (i 1).val = (i 0).val; omega)
  refine (word_zero _).trans (Finset.sum_congr rfl fun k _ => ?_)
  rw [val_main_v38_apply]
  refine (congrArg₂ (· * ·) (v18_at Z _) (v37_at X F G _)).trans ?_
  exact congrArg (fun r => mid (zr Z r) k * innerAt X F G r k) e

theorem v42_at (i : S2048x1024.Idx) : val_main_v42 (F := Ideal) X F Z G i
    = innerAt X F G (rowN i) (colN i) * inv (zr Z (rowN i)) := by
  rw [val_main_v42_apply, val_main_v41_apply]
  exact congrArg₂ (· * ·) (v37_at X F G i) (v21_at Z _)

theorem v50_at (i : S2048x1024.Idx) : val_main_v50 (F := Ideal) X F Z G i = spread (zr Z (rowN i)) (innerAt X F G (rowN i)) := by
  rw [val_main_v50_apply, val_main_v49_apply]
  refine (word_zero _).trans ((Fin.sum_univ_one _).trans ?_)
  rw [val_main_v48_apply, val_main_v43_apply, val_main_v47_apply]
  exact congrArg (Ideal.div · len) (congrArg₂ (· * ·) (v40_at X F Z G _ rfl) (v24_at Z _))

theorem v51_at (i : S2048x1024.Idx) : val_main_v51 (F := Ideal) X F Z G i
    = spread (zr Z (rowN i)) (innerAt X F G (rowN i)) * (((2 : ℝ) : EReal) * mid (zr Z (rowN i)) (colN i)) := by
  rw [val_main_v51_apply, val_main_v12_apply, val_main_v11_apply]
  exact congrArg₂ (· * ·) (v50_at X F Z G i) (congrArg₂ (· * ·) word_two (v9_at Z i))

theorem v46_at (i : S2048x1.Idx) (h : (i 1).val = 0) : val_main_v46 (F := Ideal) X F Z G i
    = ∑ k, -(innerAt X F G (rowC i) k * inv (zr Z (rowC i))) := by
  rw [val_main_v46_apply, val_main_v45_apply]
  have e : rowV (idx_main_v46 i) = rowC i := Fin.ext (by show (i 0).val * 1 + (i 1).val = (i 0).val; omega)
  refine (word_zero _).trans (Finset.sum_congr rfl fun k _ => ?_)
  rw [val_main_v44_apply]
  refine (congrArg (- ·) (v42_at X F Z G _)).trans ?_
  exact congrArg (fun r => -(innerAt X F G r k * inv (zr Z r))) e

theorem v54_at (i : S2048x1.Idx) (h : (i 1).val = 0) : val_main_v54 (F := Ideal) X F Z G i
    = ∑ k, -(spread (zr Z (rowC i)) (innerAt X F G (rowC i)) * (((2 : ℝ) : EReal) * mid (zr Z (rowC i)) k)) := by
  rw [val_main_v54_apply, val_main_v53_apply]
  have e : rowV (idx_main_v54 i) = rowC i := Fin.ext (by show (i 0).val * 1 + (i 1).val = (i 0).val; omega)
  refine (word_zero _).trans (Finset.sum_congr rfl fun k _ => ?_)
  rw [val_main_v52_apply]
  refine (congrArg (- ·) (v51_at X F Z G _)).trans ?_
  exact congrArg (fun r => -(spread (zr Z r) (innerAt X F G r) * (((2 : ℝ) : EReal) * mid (zr Z r) k))) e

theorem v61_at (i : S2048x1024.Idx) : val_main_v61 (F := Ideal) X F Z G i
    = steps (zr Z (rowN i)) (innerAt X F G (rowN i)) (colN i) := by
  rw [val_main_v61_apply, val_main_v55_apply, val_main_v60_apply, val_main_v59_apply]
  refine congrArg₂ (· + ·) (congrArg₂ (· + ·) (v42_at X F Z G i) (v51_at X F Z G i)) ?_
  refine (word_zero _).trans ((Fin.sum_univ_one _).trans ?_)
  rw [val_main_v58_apply, val_main_v56_apply, val_main_v57_apply]
  exact congrArg (Ideal.div · len) (congrArg₂ (· + ·) (v46_at X F Z G _ rfl) (v54_at X F Z G _ rfl))

/-- The four arguments of the norm being real, the reference's gradient is the closed form. -/
theorem v61_real (hX : ∀ i, IsReal (X i)) (hF : ∀ i, IsReal (F i)) (hZ : ∀ i, IsReal (Z i)) (hG : ∀ i, IsReal (G i))
    (i : S2048x1024.Idx) :
    val_main_v61 (F := Ideal) X F Z G i = back (zr Z (rowN i)) (innerAt X F G (rowN i)) (colN i) := by
  rw [v61_at]
  exact steps_eq_back _ _ (fun d => hZ _) (fun d => ((skip_real.mul (hX _)).add (hF _)).mul (hG _)) _

/-! The gain's and the shift's gradients. -/

theorem ref_shift : val_main_v32 (F := Ideal) X F = downRows fun n d => dhAt X F n d := by
  funext i
  rw [val_main_v32_apply, val_main_v31_apply]
  have e : (⟨((idx_main_v32 i) 0).val, Fin.isLt _⟩ : Fin 1024) = ⟨(i 1).val, (i 1).isLt⟩ := Fin.ext (by
    have h0 : (i 0).val < 1 := (i 0).isLt
    show (i 0).val * 1024 + (i 1).val = (i 1).val
    omega)
  refine (word_zero _).trans (Finset.sum_congr rfl fun n _ => ?_)
  exact (v2_at X F _).trans (congrArg (dhAt X F n) e)

theorem ref_gain : val_main_v35 (F := Ideal) X F Z = downRows fun n d => dhAt X F n d * unit (zr Z n) d := by
  funext i
  rw [val_main_v35_apply, val_main_v34_apply]
  have e : (⟨((idx_main_v35 i) 0).val, Fin.isLt _⟩ : Fin 1024) = ⟨(i 1).val, (i 1).isLt⟩ := Fin.ext (by
    have h0 : (i 0).val < 1 := (i 0).isLt
    show (i 0).val * 1024 + (i 1).val = (i 1).val
    omega)
  refine (word_zero _).trans (Finset.sum_congr rfl fun n _ => ?_)
  rw [val_main_v33_apply]
  refine (congrArg₂ (· * ·) (v26_at Z _) (v2_at X F _)).trans ((mul_comm _ _).trans ?_)
  exact congrArg (fun d => dhAt X F n d * unit (zr Z n) d) e

end Cert.Proof.Unmerge

end
-- ==== Proof.Unmerge.RefGates.lean ====
/-
  The reference's gates and the gradients of the merged row, of the logits and of the branches' rows, read at an entry.
-/
module

public import proofs.«01_k».proof.Proof.Unmerge.RefNorm
public import Idealize.ShloMosaic.Lib.KernelVsHost

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem Cert.Sums Cert.Norm Cert.Finite Cert.Branch
open Cert.UnmergeRefIdeal Cert.UnmergeRefIdeal.Read
open Cert.Proof.Loss (word word_zero rowN colN)

variable (X F Z : S2048x1024.Idx → EReal) (P : S2048x7168.Idx → EReal) (YA YS : S2048x1024.Idx → EReal)
  (G : S1x1024.Idx → EReal) (B : S2x1024.Idx → EReal) (WO : S4x256x1024.Idx → EReal) (WA WS : S4x512x256.Idx → EReal)

theorem v63_at (i : S1024x1024.Idx) : val_main_v63 (F := Ideal) WO i
    = WO (ix3 (⟨(i 0).val / 256, by have := (i 0).isLt; show (i 0).val / 256 < 4; have h : (i 0).val < 1024 := this; omega⟩ : Fin 4)
      (⟨(i 0).val % 256, Nat.mod_lt _ (by decide)⟩ : Fin 256) (⟨(i 1).val, (i 1).isLt⟩ : Fin 1024)) := by
  rw [val_main_v63_apply, val_main_v62_apply]
  have h0 : (i 0).val < 1024 := (i 0).isLt
  have h1 : (i 1).val < 1024 := (i 1).isLt
  refine congrArg WO (funext fun a => Fin.ext (match a with | ⟨0, _⟩ => ?_ | ⟨1, _⟩ => ?_ | ⟨2, _⟩ => ?_))
  · show ((i 0).val * 1024 + (i 1).val) / 262144 = (i 0).val / 256
    omega
  · show ((i 0).val * 1024 + (i 1).val) / 1024 % 256 = (i 0).val % 256
    omega
  · show ((i 0).val * 1024 + (i 1).val) % 1024 = (i 1).val
    omega

theorem v77_at (i : S2048x1024.Idx) : val_main_v77 (F := Ideal) P B i
    = gate0 (wholeWts G B WO WA WS) (wholeRow X F Z P YA YS (rowN i)) (colN i) := by
  have e : val_main_v71 (F := Ideal) P B i
      = P (ix2 (rowN i) (⟨5120 + (colN i).val, by omega⟩ : Fin 7168)) + B (ix2 0 (colN i)) := by
    rw [val_main_v71_apply, val_main_v68_apply, val_main_v64_apply, val_main_v70_apply, val_main_v69_apply]
    exact congrArg₂ (· + ·) (congrArg P (funext fun a => match a with | ⟨0, _⟩ => rfl | ⟨1, _⟩ => rfl))
      (congrArg B (funext fun a => match a with | ⟨0, _⟩ => rfl | ⟨1, _⟩ => rfl))
  rw [val_main_v77_apply, val_main_v76_apply, val_main_v75_apply, val_main_v74_apply, val_main_v73_apply, val_main_v72_apply, e]
  unfold gate0
  show Ideal.div (word 0x3F800000#32) (word 0x3F800000#32 + Ideal.exp (-_)) = _
  rw [show word 0x3F800000#32 = ((1 : ℝ) : EReal) from ofBits_one]
  simp [Ideal.logistic]

theorem v90_at (i : S2048x1024.Idx) : val_main_v90 (F := Ideal) P B i
    = gate1 (wholeWts G B WO WA WS) (wholeRow X F Z P YA YS (rowN i)) (colN i) := by
  have e : val_main_v84 (F := Ideal) P B i
      = P (ix2 (rowN i) (⟨6144 + (colN i).val, by omega⟩ : Fin 7168)) + B (ix2 1 (colN i)) := by
    rw [val_main_v84_apply, val_main_v81_apply, val_main_v64_apply, val_main_v83_apply, val_main_v82_apply]
    refine congrArg₂ (· + ·) (congrArg P (funext fun a => Fin.ext (match a with | ⟨0, _⟩ => rfl | ⟨1, _⟩ => ?_)))
      (congrArg B (funext fun a => Fin.ext (match a with | ⟨0, _⟩ => rfl | ⟨1, _⟩ => rfl)))
    show 5120 + (1024 + (i 1).val) = 6144 + (i 1).val
    omega
  rw [val_main_v90_apply, val_main_v89_apply, val_main_v88_apply, val_main_v87_apply, val_main_v86_apply, val_main_v85_apply, e]
  unfold gate1
  show Ideal.div (word 0x3F800000#32) (word 0x3F800000#32 + Ideal.exp (-_)) = _
  rw [show word 0x3F800000#32 = ((1 : ℝ) : EReal) from ofBits_one]
  simp [Ideal.logistic]

section Real

variable (hX : ∀ i, IsReal (X i)) (hF : ∀ i, IsReal (F i)) (hZ : ∀ i, IsReal (Z i)) (hG : ∀ i, IsReal (G i))

include hX hF hZ hG

theorem v61_dz (i : S2048x1024.Idx) : val_main_v61 (F := Ideal) X F Z G i
    = dz (wholeWts G B WO WA WS) (wholeRow X F Z P YA YS (rowN i)) (colN i) :=
  (v61_real X F Z G hX hF hZ hG i).trans rfl

theorem v67_at (i : S2048x1024.Idx) : val_main_v67 (F := Ideal) X F Z G WO i
    = dm (wholeWts G B WO WA WS) (wholeRow X F Z P YA YS (rowN i)) (colN i) := by
  rw [val_main_v67_apply]
  exact Finset.sum_congr rfl fun k _ => congrArg₂ (· * ·) (v61_dz X F Z P YA YS G B WO WA WS hX hF hZ hG _) (v63_at WO _)

theorem v99_at (i : S2048x1024.Idx) : val_main_v99 (F := Ideal) X F Z P G B WO i
    = dya (wholeWts G B WO WA WS) (wholeRow X F Z P YA YS (rowN i)) (colN i) := by
  rw [val_main_v99_apply]
  exact (congrArg₂ (· * ·) (v77_at X F Z P YA YS G B WO WA WS i) (v67_at X F Z P YA YS G B WO WA WS hX hF hZ hG i)).trans
    (mul_comm _ _)

theorem v97_at (i : S2048x1024.Idx) : val_main_v97 (F := Ideal) X F Z P G B WO i
    = dys (wholeWts G B WO WA WS) (wholeRow X F Z P YA YS (rowN i)) (colN i) := by
  rw [val_main_v97_apply]
  exact (congrArg₂ (· * ·) (v90_at X F Z P YA YS G B WO WA WS i) (v67_at X F Z P YA YS G B WO WA WS hX hF hZ hG i)).trans
    (mul_comm _ _)

theorem v106_at (i : S2048x1024.Idx) : val_main_v106 (F := Ideal) X F Z P YA G B WO i
    = dl0 (wholeWts G B WO WA WS) (wholeRow X F Z P YA YS (rowN i)) (colN i) := by
  rw [val_main_v106_apply, val_main_v100_apply, val_main_v80_apply, val_main_v79_apply, val_main_v78_apply]
  refine (congrArg₂ (fun p q : EReal => p * YA i * (q * (one - q))) (v67_at X F Z P YA YS G B WO WA WS hX hF hZ hG i)
    (v77_at X F Z P YA YS G B WO WA WS i)).trans ?_
  rw [congrArg YA (eq_ix2 i)]
  exact (mul_assoc _ _ _).symm

theorem v101_at (i : S2048x1024.Idx) : val_main_v101 (F := Ideal) X F Z P YS G B WO i
    = dl1 (wholeWts G B WO WA WS) (wholeRow X F Z P YA YS (rowN i)) (colN i) := by
  rw [val_main_v101_apply, val_main_v98_apply, val_main_v93_apply, val_main_v92_apply, val_main_v91_apply]
  refine (congrArg₂ (fun p q : EReal => p * YS i * (q * (one - q))) (v67_at X F Z P YA YS G B WO WA WS hX hF hZ hG i)
    (v90_at X F Z P YA YS G B WO WA WS i)).trans ?_
  rw [congrArg YS (eq_ix2 i)]
  exact (mul_assoc _ _ _).symm

end Real

end Cert.Proof.Unmerge

end
-- ==== Proof.Unmerge.RefResults.lean ====
/-
  The reference's results as whole arrays: the gradients written side by side by padding with nothing, the products that go back
  through the branches, and the sums down the rows.
-/
module

public import proofs.«01_k».proof.Proof.Unmerge.RefGates
public import proofs.«01_k».proof.Proof.Unmerge.Totals
public import proofs.«01_k».proof.Proof.Dh.Reference

@[expose] public section

noncomputable section

open scoped BigOperators

namespace Cert.Proof.Unmerge

open Idealize.ShloMosaic hiding ix1 ix2 ix3 eq_ix1 eq_ix2 eq_ix3
open Idealize.ShloMosaic.TcCoe Idealize.ShloMosaic.ValueIdx Idealize.SL.Sem Cert.Sums Cert.Norm Cert.Finite Cert.Branch
open Cert.UnmergeRefIdeal Cert.UnmergeRefIdeal.Read
open Cert.Proof.Loss (word word_zero rowN colN)

/-- Zero added on the right changes nothing. -/
theorem zero_word_right (x : EReal) : x + word 0x00000000#32 = x := (add_comm _ _).trans (word_zero x)

section Pads

variable (x : S2048x1024.Idx → EReal) (y : S1x1024.Idx → EReal) (v : S_.Idx → EReal)

/-- Columns padded on the left: nothing in the first half, the columns in the second. -/
theorem padLeft_low (h) (hu) (i : S2048x2048.Idx) (hi : (i 1).val < 1024) :
    pad S2048x2048 ![0, 1024] ![0, 0] ![0, 0] x v h hu i = v (Shape.Idx.first hu) :=
  pad_apply_of_not_inside _ _ _ x v h hu i (1 : Fin 2) fun hh => by
    have h1 : 1024 ≤ (i 1).val := hh.1
    omega

theorem padLeft_high (h) (hu) (i : S2048x2048.Idx) (hi : ¬(i 1).val < 1024) :
    pad S2048x2048 ![0, 1024] ![0, 0] ![0, 0] x v h hu i
      = x (ix2 (⟨(i 0).val, (i 0).isLt⟩ : Fin 2048) (⟨(i 1).val - 1024, by
        have h1 : (i 1).val < 2048 := (i 1).isLt
        omega⟩ : Fin 1024)) :=
  pad_apply_of_inside _ _ _ x v h hu i _ fun a => match a with
    | ⟨0, _⟩ => by show (i 0).val = 0 + (i 0).val * (0 + 1); omega
    | ⟨1, _⟩ => by show (i 1).val = 1024 + ((i 1).val - 1024) * (0 + 1); omega

/-- Columns padded on the right: the columns in the first half, nothing in the second. -/
theorem padRight_low (h) (hu) (i : S2048x2048.Idx) (hi : (i 1).val < 1024) :
    pad S2048x2048 ![0, 0] ![0, 1024] ![0, 0] x v h hu i
      = x (ix2 (⟨(i 0).val, (i 0).isLt⟩ : Fin 2048) (⟨(i 1).val, hi⟩ : Fin 1024)) :=
  pad_apply_of_inside _ _ _ x v h hu i _ fun a => match a with
    | ⟨0, _⟩ => by show (i 0).val = 0 + (i 0).val * (0 + 1); omega
    | ⟨1, _⟩ => by show (i 1).val = 0 + (i 1).val * (0 + 1); omega

theorem padRight_high (h) (hu) (i : S2048x2048.Idx) (hi : ¬(i 1).val < 1024) :
    pad S2048x2048 ![0, 0] ![0, 1024] ![0, 0] x v h hu i = v (Shape.Idx.first hu) :=
  pad_apply_of_not_inside _ _ _ x v h hu i (1 : Fin 2) fun hh => by
    have h1 : ((i 1).val - 0) / (0 + 1) < 1024 := hh.2.2
    omega

/-- A row padded above: nothing in the first row, the row in the second. -/
theorem padAbove_low (h) (hu) (i : S2x1024.Idx) (hi : (i 0).val = 0) :
    pad S2x1024 ![1, 0] ![0, 0] ![0, 0] y v h hu i = v (Shape.Idx.first hu) :=
  pad_apply_of_not_inside _ _ _ y v h hu i (0 : Fin 2) fun hh => by
    have h1 : 1 ≤ (i 0).val := hh.1
    omega

theorem padAbove_high (h) (hu) (i : S2x1024.Idx) (hi : (i 0).val = 1) :
    pad S2x1024 ![1, 0] ![0, 0] ![0, 0] y v h hu i = y (ix2 (0 : Fin 1) (⟨(i 1).val, (i 1).isLt⟩ : Fin 1024)) :=
  pad_apply_of_inside _ _ _ y v h hu i _ fun a => match a with
    | ⟨0, _⟩ => by show (i 0).val = 1 + 0 * (0 + 1); omega
    | ⟨1, _⟩ => by show (i 1).val = 0 + (i 1).val * (0 + 1); omega

/-- A row padded below: the row in the first row, nothing in the second. -/
theorem padBelow_low (h) (hu) (i : S2x1024.Idx) (hi : (i 0).val = 0) :
    pad S2x1024 ![0, 0] ![1, 0] ![0, 0] y v h hu i = y (ix2 (0 : Fin 1) (⟨(i 1).val, (i 1).isLt⟩ : Fin 1024)) :=
  pad_apply_of_inside _ _ _ y v h hu i _ fun a => match a with
    | ⟨0, _⟩ => by show (i 0).val = 0 + 0 * (0 + 1); omega
    | ⟨1, _⟩ => by show (i 1).val = 0 + (i 1).val * (0 + 1); omega

theorem padBelow_high (h) (hu) (i : S2x1024.Idx) (hi : (i 0).val = 1) :
    pad S2x1024 ![0, 0] ![1, 0] ![0, 0] y v h hu i = v (Shape.Idx.first hu) :=
  pad_apply_of_not_inside _ _ _ y v h hu i (0 : Fin 2) fun hh => by
    have h1 : ((i 0).val - 0) / (0 + 1) < 1 := hh.2.2
    omega

end Pads

variable (X F Z : S2048x1024.Idx → EReal) (P : S2048x7168.Idx → EReal) (YA YS : S2048x1024.Idx → EReal)
  (G : S1x1024.Idx → EReal) (B : S2x1024.Idx → EReal) (WO : S4x256x1024.Idx → EReal) (WA WS : S4x512x256.Idx → EReal)
  (hX : ∀ i, IsReal (X i)) (hF : ∀ i, IsReal (F i)) (hZ : ∀ i, IsReal (Z i)) (hG : ∀ i, IsReal (G i))

include hX hF hZ hG

/-- The gradient of the gates' logits: one gate's in the first half of the columns, the other's in the second. -/
theorem ref_logits : val_main_v127 (F := Ideal) X F Z P YA YS G B WO
    = byRow fun n e => dl (wholeWts G B WO WA WS) (wholeRow X F Z P YA YS n) e := by
  funext i
  rw [val_main_v127_apply, val_main_v112_apply]
  unfold val_main_v105 val_main_v111
  show _ = dl (wholeWts G B WO WA WS) (wholeRow X F Z P YA YS _) ⟨(i 1).val, (i 1).isLt⟩
  unfold dl
  by_cases hi : (i 1).val < 1024
  · rw [padLeft_low _ _ _ _ i hi, padRight_low _ _ _ _ i hi, dif_pos hi]
    exact (word_zero _).trans (v106_at X F Z P YA YS G B WO WA WS hX hF hZ hG _)
  · rw [padLeft_high _ _ _ _ i hi, padRight_high _ _ _ _ i hi, dif_neg hi]
    exact (zero_word_right _).trans (v101_at X F Z P YA YS G B WO WA WS hX hF hZ hG _)

/-- The gradient of the first bias: the first gate's logits' gradients summed down the rows. -/
theorem ref_bias0 : val_main_v128 (F := Ideal) X F Z P YA YS G B WO
    = downRows fun n d => dl0 (wholeWts G B WO WA WS) (wholeRow X F Z P YA YS n) d := by
  funext i
  have h0 : (i 0).val < 1 := (i 0).isLt
  rw [val_main_v128_apply, val_main_v110_apply]
  unfold val_main_v104 val_main_v109
  rw [padAbove_low _ _ _ _ _ (by show (i 0).val = 0; omega), padBelow_low _ _ _ _ _ (by show (i 0).val = 0; omega)]
  refine (word_zero _).trans ?_
  rw [val_main_v108_apply, val_main_v107_apply]
  refine (word_zero _).trans (Finset.sum_congr rfl fun n _ => ?_)
  refine (v106_at X F Z P YA YS G B WO WA WS hX hF hZ hG _).trans ?_
  refine congrArg (dl0 (wholeWts G B WO WA WS) (wholeRow X F Z P YA YS n)) (Fin.ext ?_)
  show 0 * 1024 + (i 1).val = (i 1).val
  omega

theorem ref_bias1 : val_main_v129 (F := Ideal) X F Z P YA YS G B WO
    = downRows fun n d => dl1 (wholeWts G B WO WA WS) (wholeRow X F Z P YA YS n) d := by
  funext i
  have h0 : (i 0).val < 1 := (i 0).isLt
  rw [val_main_v129_apply, val_main_v110_apply]
  unfold val_main_v104 val_main_v109
  rw [padAbove_high _ _ _ _ _ (by show 1 + (i 0).val = 1; omega), padBelow_high _ _ _ _ _ (by show 1 + (i 0).val = 1; omega)]
  refine (zero_word_right _).trans ?_
  rw [val_main_v103_apply, val_main_v102_apply]
  refine (word_zero _).trans (Finset.sum_congr rfl fun n _ => ?_)
  refine (v101_at X F Z P YA YS G B WO WA WS hX hF hZ hG _).trans ?_
  refine congrArg (dl1 (wholeWts G B WO WA WS) (wholeRow X F Z P YA YS n)) (Fin.ext ?_)
  show 0 * 1024 + (i 1).val = (i 1).val
  omega

theorem v117_at (i : S2048x4x256.Idx) : val_main_v117 (F := Ideal) X F Z P G B WO i
    = dya (wholeWts G B WO WA WS) (wholeRow X F Z P YA YS ⟨(i 0).val, (i 0).isLt⟩)
      (colOf ⟨(i 1).val, (i 1).isLt⟩ ⟨(i 2).val, (i 2).isLt⟩) := by
  rw [val_main_v117_apply]
  have h0 : (i 0).val < 2048 := (i 0).isLt
  have h1 : (i 1).val < 4 := (i 1).isLt
  have h2 : (i 2).val < 256 := (i 2).isLt
  refine (v99_at X F Z P YA YS G B WO WA WS hX hF hZ hG _).trans ?_
  refine congrArg₂ (fun n d => dya (wholeWts G B WO WA WS) (wholeRow X F Z P YA YS n) d) (Fin.ext ?_) (Fin.ext ?_)
  · show (((i 0).val * 4 + (i 1).val) * 256 + (i 2).val) / 1024 = (i 0).val
    omega
  · show (((i 0).val * 4 + (i 1).val) * 256 + (i 2).val) % 1024 = (i 1).val * 256 + (i 2).val
    omega

theorem v123_at (i : S2048x4x256.Idx) : val_main_v123 (F := Ideal) X F Z P G B WO i
    = dys (wholeWts G B WO WA WS) (wholeRow X F Z P YA YS ⟨(i 0).val, (i 0).isLt⟩)
      (colOf ⟨(i 1).val, (i 1).isLt⟩ ⟨(i 2).val, (i 2).isLt⟩) := by
  rw [val_main_v123_apply]
  have h0 : (i 0).val < 2048 := (i 0).isLt
  have h1 : (i 1).val < 4 := (i 1).isLt
  have h2 : (i 2).val < 256 := (i 2).isLt
  refine (v97_at X F Z P YA YS G B WO WA WS hX hF hZ hG _).trans ?_
  refine congrArg₂ (fun n d => dys (wholeWts G B WO WA WS) (wholeRow X F Z P YA YS n) d) (Fin.ext ?_) (Fin.ext ?_)
  · show (((i 0).val * 4 + (i 1).val) * 256 + (i 2).val) / 1024 = (i 0).val
    omega
  · show (((i 0).val * 4 + (i 1).val) * 256 + (i 2).val) % 1024 = (i 1).val * 256 + (i 2).val
    omega

omit hX hF hZ hG in
/-- The product over slabs and columns at once, with the slabs of the second operand taken the other way round. -/
theorem contract_back (L : FVec Ideal S2048x4x256 .f32) (R : FVec Ideal S4x512x256 .f32) (i : S2048x512.Idx) :
    (Host.dotGeneral (F := Ideal) dot_S2048x4x256_S4x512x256_S2048x512_12_02_0_1_n_n none L R i : EReal)
      = ∑ s : Fin 4, ∑ k : Fin 256, (L (ix3 (⟨(i 0).val, (i 0).isLt⟩ : Fin 2048) s k) : EReal)
        * R (ix3 s (⟨(i 1).val, (i 1).isLt⟩ : Fin 512) k) :=
  Cert.Proof.Dh.dotGeneral_pair dot_S2048x4x256_S4x512x256_S2048x512_12_02_0_1_n_n 4 256 rfl rfl rfl none L R i
    (fun s k => ix3 _ s k) (fun s k => ix3 s _ k)
    (fun s k => funext fun a => Fin.ext (match a with | ⟨0, _⟩ => rfl | ⟨1, _⟩ => rfl | ⟨2, _⟩ => rfl))
    (fun s k => funext fun a => Fin.ext (match a with | ⟨0, _⟩ => rfl | ⟨1, _⟩ => rfl | ⟨2, _⟩ => rfl))

/-- The gradients of the branches' inputs. -/
theorem ref_attn : val_main_v118 (F := Ideal) X F Z P G B WO WA
    = byRow fun n j => dattn (wholeWts G B WO WA WS) (wholeRow X F Z P YA YS n) j := by
  funext i
  unfold val_main_v118
  refine (contract_back _ _ i).trans ?_
  show _ = ∑ s : Fin 4, ∑ k : Fin 256, dya (wholeWts G B WO WA WS) (wholeRow X F Z P YA YS ⟨(i 0).val, (i 0).isLt⟩) (colOf s k)
    * WA (ix3 s (⟨(i 1).val, (i 1).isLt⟩ : Fin 512) k)
  refine Finset.sum_congr rfl fun s _ => Finset.sum_congr rfl fun k _ => ?_
  rw [v117_at X F Z P YA YS G B WO WA WS hX hF hZ hG, val_main_v114_apply]
  rfl

theorem ref_glu : val_main_v124 (F := Ideal) X F Z P G B WO WS
    = byRow fun n j => dglu (wholeWts G B WO WA WS) (wholeRow X F Z P YA YS n) j := by
  funext i
  unfold val_main_v124
  refine (contract_back _ _ i).trans ?_
  show _ = ∑ s : Fin 4, ∑ k : Fin 256, dys (wholeWts G B WO WA WS) (wholeRow X F Z P YA YS ⟨(i 0).val, (i 0).isLt⟩) (colOf s k)
    * WS (ix3 s (⟨(i 1).val, (i 1).isLt⟩ : Fin 512) k)
  refine Finset.sum_congr rfl fun s _ => Finset.sum_congr rfl fun k _ => ?_
  rw [v123_at X F Z P YA YS G B WO WA WS hX hF hZ hG, val_main_v120_apply]
  rfl

theorem ref_rows : val_main_v61 (F := Ideal) X F Z G
    = byRow fun n d => dz (wholeWts G B WO WA WS) (wholeRow X F Z P YA YS n) d :=
  funext fun i => v61_dz X F Z P YA YS G B WO WA WS hX hF hZ hG i

theorem ref_ya : val_main_v125 (F := Ideal) X F Z P G B WO
    = byRow fun n d => dya (wholeWts G B WO WA WS) (wholeRow X F Z P YA YS n) d :=
  funext fun i => v99_at X F Z P YA YS G B WO WA WS hX hF hZ hG i

theorem ref_ys : val_main_v126 (F := Ideal) X F Z P G B WO
    = byRow fun n d => dys (wholeWts G B WO WA WS) (wholeRow X F Z P YA YS n) d :=
  funext fun i => v97_at X F Z P YA YS G B WO WA WS hX hF hZ hG i

end Cert.Proof.Unmerge

end
-- ==== Proof.Unmerge.Claims.lean ====
/-
  The claims about the way back through the merge: the reference's frame, and that kernel and reference end with the same ten
  results.
-/
module

public import proofs.«01_k».proof.Defs
public import proofs.«01_k».proof.Proof.Unmerge.RefResults
public import proofs.«01_k».proof.Proof.Gen.UnmergeRefIdeal.Run
public import proofs.«01_k».proof.Proof.Gen.Pre_unmerge_finite

@[expose] public section

set_option maxRecDepth 16384

noncomputable section

namespace Cert.Proof.Unmerge

open Idealize.ShloMosaic Idealize.ShloMosaic.TcCoe Idealize.SL.Sem Cert.Finite

/-- A shape of rank nought has one index. -/
instance : Subsingleton (⟨0, ![]⟩ : Shape).Idx := ⟨fun a b => funext fun i => i.elim0⟩

/-- The precondition read off: every element of the two gradients, of the rows and of the gain is a real number. -/
theorem finite_args (x f z : FVec Ideal ⟨2, ![2048, 1024]⟩ .f32) (p : FVec Ideal ⟨2, ![2048, 7168]⟩ .f32)
    (ya ys : FVec Ideal ⟨2, ![2048, 1024]⟩ .f32) (g : FVec Ideal ⟨2, ![1, 1024]⟩ .f32) (b : FVec Ideal ⟨2, ![2, 1024]⟩ .f32)
    (wo : FVec Ideal ⟨3, ![4, 256, 1024]⟩ .bf16) (wa ws : FVec Ideal ⟨3, ![4, 512, 256]⟩ .bf16)
    (e : Cert.Pre_unmerge_finite.fn (F := Ideal) x f z p ya ys g b wo wa ws = fun _ => 1#1) :
    (∀ i, IsReal (x i)) ∧ (∀ i, IsReal (f i)) ∧ (∀ i, IsReal (z i)) ∧ (∀ i, IsReal (g i)) := by
  have e0 := congrFun e (fun i => i.elim0)
  unfold Cert.Pre_unmerge_finite.fn Cert.Pre_unmerge_finite.fn_part1 at e0
  obtain ⟨e1, h4⟩ := IntOp.andi_eq_one.mp e0
  obtain ⟨e2, h3⟩ := IntOp.andi_eq_one.mp e1
  obtain ⟨h1, h2⟩ := IntOp.andi_eq_one.mp e2
  exact ⟨real_of_all _ _ _ _ _ _ _ h1, real_of_all _ _ _ _ _ _ _ h2, real_of_all _ _ _ _ _ _ _ h3,
    real_of_all _ _ _ _ _ _ _ h4⟩

/-- The reference leaves its arguments alone, and having no semaphore ends with none raised. -/
theorem ref_frame : Cert.quiescent_UnmergeRefIdeal := fun m ρ _ =>
  (θ_run _ _ _).mono (fun r h => ⟨fun c => (h c).2.2.2.2.2.2.2.2.2.2, sem_eq_zero_of_no_sems (by decide) r.2⟩)
    (Cert.UnmergeRefIdeal.Value.run m ρ)

set_option maxHeartbeats 2000000 in
/-- The ten results of the kernel are those of the reference. -/
theorem equal : Cert.algebraic_UnmergeIdeal_UnmergeRefIdeal_pre_unmerge_finite := fun m ρ m' ρ' hpre harg =>
  ⟨fun c => (Cert.UnmergeIdeal.Gen.dats m 0 c).arrAt 12 Cert.UnmergeIdeal.cfg0.N,
    fun c => (Cert.UnmergeIdeal.Gen.dats m 0 c).arrAt 13 Cert.UnmergeIdeal.cfg0.N,
    fun c => (Cert.UnmergeIdeal.Gen.dats m 0 c).arrAt 14 Cert.UnmergeIdeal.cfg0.N,
    fun c => (Cert.UnmergeIdeal.Gen.dats m 0 c).arrAt 15 Cert.UnmergeIdeal.cfg0.N,
    fun c => (Cert.UnmergeIdeal.Gen.dats m 0 c).arrAt 16 Cert.UnmergeIdeal.cfg0.N,
    fun c => (Cert.UnmergeIdeal.Gen.dats m 0 c).arrAt 17 Cert.UnmergeIdeal.cfg0.N,
    fun c => (Cert.UnmergeIdeal.Gen.dats m 0 c).arrAt 18 Cert.UnmergeIdeal.cfg0.N,
    fun c => (Cert.UnmergeIdeal.Gen.dats m 0 c).arrAt 19 Cert.UnmergeIdeal.cfg0.N,
    fun c => (Cert.UnmergeIdeal.Gen.dats m 0 c).arrAt 20 Cert.UnmergeIdeal.cfg0.N,
    fun c => (Cert.UnmergeIdeal.Gen.dats m 0 c).arrAt 21 Cert.UnmergeIdeal.cfg0.N,
    Cert.UnmergeIdeal.Value.run_blocks m ρ,
    (θ_run _ _ _).mono (fun r h c => by
      obtain ⟨a0, a1, a2, a3, a4, a5, a6, a7, a8, a9, a10⟩ := harg c
      obtain ⟨fX, fF, fZ, fG⟩ := finite_args _ _ _ _ _ _ _ _ _ _ _ (hpre c)
      obtain ⟨r61, r125, r126, r127, r118, r124, r35, r32, r128, r129, args⟩ := h c
      refine ⟨r61.trans ?_, r125.trans ?_, r126.trans ?_, r127.trans ?_, r118.trans ?_, r124.trans ?_, r35.trans ?_, r32.trans ?_, r128.trans ?_, r129.trans ?_, args⟩
      · refine (Cert.UnmergeRefIdeal.Read.val_main_v61_eq _ _).trans ?_
        rw [a0, a1, a2, a6]
        exact (ref_rows (argX m c) (argF m c) (argZ m c) (argP m c) (argYA m c) (argYS m c) (argG m c) (argB m c) (argWO m c) (argWA m c)
          (argWS m c) fX fF fZ fG).trans (final_12 m c).symm
      · refine (Cert.UnmergeRefIdeal.Read.val_main_v125_eq _ _).trans ?_
        rw [a0, a1, a2, a3, a6, a7, a8]
        exact (ref_ya (argX m c) (argF m c) (argZ m c) (argP m c) (argYA m c) (argYS m c) (argG m c) (argB m c) (argWO m c) (argWA m c)
          (argWS m c) fX fF fZ fG).trans (final_13 m c).symm
      · refine (Cert.UnmergeRefIdeal.Read.val_main_v126_eq _ _).trans ?_
        rw [a0, a1, a2, a3, a6, a7, a8]
        exact (ref_ys (argX m c) (argF m c) (argZ m c) (argP m c) (argYA m c) (argYS m c) (argG m c) (argB m c) (argWO m c) (argWA m c)
          (argWS m c) fX fF fZ fG).trans (final_14 m c).symm
      · refine (Cert.UnmergeRefIdeal.Read.val_main_v127_eq _ _).trans ?_
        rw [a0, a1, a2, a3, a4, a5, a6, a7, a8]
        exact (ref_logits (argX m c) (argF m c) (argZ m c) (argP m c) (argYA m c) (argYS m c) (argG m c) (argB m c) (argWO m c) (argWA m c)
          (argWS m c) fX fF fZ fG).trans (final_15 m c).symm
      · refine (Cert.UnmergeRefIdeal.Read.val_main_v118_eq _ _).trans ?_
        rw [a0, a1, a2, a3, a6, a7, a8, a9]
        exact (ref_attn (argX m c) (argF m c) (argZ m c) (argP m c) (argYA m c) (argYS m c) (argG m c) (argB m c) (argWO m c) (argWA m c)
          (argWS m c) fX fF fZ fG).trans (final_16 m c).symm
      · refine (Cert.UnmergeRefIdeal.Read.val_main_v124_eq _ _).trans ?_
        rw [a0, a1, a2, a3, a6, a7, a8, a10]
        exact (ref_glu (argX m c) (argF m c) (argZ m c) (argP m c) (argYA m c) (argYS m c) (argG m c) (argB m c) (argWO m c) (argWA m c)
          (argWS m c) fX fF fZ fG).trans (final_17 m c).symm
      · refine (Cert.UnmergeRefIdeal.Read.val_main_v35_eq _ _ _).trans ?_
        rw [a0, a1, a2]
        exact (ref_gain (argX m c) (argF m c) (argZ m c)).trans (final_18 m c).symm
      · refine (Cert.UnmergeRefIdeal.Read.val_main_v32_eq _ _).trans ?_
        rw [a0, a1]
        exact (ref_shift (argX m c) (argF m c)).trans (final_19 m c).symm
      · refine (Cert.UnmergeRefIdeal.Read.val_main_v128_eq _ _).trans ?_
        rw [a0, a1, a2, a3, a4, a5, a6, a7, a8]
        exact (ref_bias0 (argX m c) (argF m c) (argZ m c) (argP m c) (argYA m c) (argYS m c) (argG m c) (argB m c) (argWO m c) (argWA m c)
          (argWS m c) fX fF fZ fG).trans (final_20 m c).symm
      · refine (Cert.UnmergeRefIdeal.Read.val_main_v129_eq _ _).trans ?_
        rw [a0, a1, a2, a3, a4, a5, a6, a7, a8]
        exact (ref_bias1 (argX m c) (argF m c) (argZ m c) (argP m c) (argYA m c) (argYS m c) (argG m c) (argB m c) (argWO m c) (argWA m c)
          (argWS m c) fX fF fZ fG).trans (final_21 m c).symm)
      (Cert.UnmergeRefIdeal.Value.run m' ρ')⟩

end Cert.Proof.Unmerge

end
-- ==== Proof.Loss.Claims.lean ====
/-
  The claims about the loss: the reference's frame, and that kernel and reference end with the same gradient of the rows, the
  same loss and the same gradients of the norm's two weights.
-/
module

public import proofs.«01_k».proof.Defs
public import proofs.«01_k».proof.Proof.Loss.Reference
public import proofs.«01_k».proof.Proof.Gen.LossRefIdeal.Run
public import proofs.«01_k».proof.Proof.Gen.Pre_loss_finite

@[expose] public section

set_option maxRecDepth 16384

noncomputable section

namespace Cert.Proof.Loss

open Idealize.ShloMosaic Idealize.ShloMosaic.TcCoe Idealize.SL.Sem Cert.Finite

/-- A shape of rank nought has one index. -/
instance : Subsingleton (⟨0, ![]⟩ : Shape).Idx := ⟨fun a b => funext fun i => i.elim0⟩

/-- The precondition read off: every element of every argument is a real number. -/
theorem finite_args (act : FVec Ideal ⟨3, ![4, 2048, 704]⟩ .bf16) (w : FVec Ideal ⟨3, ![4, 704, 1024]⟩ .bf16)
    (h t : FVec Ideal ⟨2, ![2048, 1024]⟩ .f32) (g b : FVec Ideal ⟨2, ![1, 1024]⟩ .f32)
    (e : Cert.Pre_loss_finite.fn (F := Ideal) act w h t g b = fun _ => 1#1) :
    (∀ i, IsReal (act i)) ∧ (∀ i, IsReal (w i)) ∧ (∀ i, IsReal (h i)) ∧ (∀ i, IsReal (t i)) ∧ (∀ i, IsReal (g i))
      ∧ (∀ i, IsReal (b i)) := by
  have e0 := congrFun e (fun i => i.elim0)
  unfold Cert.Pre_loss_finite.fn Cert.Pre_loss_finite.fn_part1 at e0
  obtain ⟨e1, h6⟩ := IntOp.andi_eq_one.mp e0
  obtain ⟨e2, h5⟩ := IntOp.andi_eq_one.mp e1
  obtain ⟨e3, h4⟩ := IntOp.andi_eq_one.mp e2
  obtain ⟨e4, h3⟩ := IntOp.andi_eq_one.mp e3
  obtain ⟨h1, h2⟩ := IntOp.andi_eq_one.mp e4
  exact ⟨real_of_all _ _ _ _ _ _ _ h1, real_of_all _ _ _ _ _ _ _ h2, real_of_all _ _ _ _ _ _ _ h3,
    real_of_all _ _ _ _ _ _ _ h4, real_of_all _ _ _ _ _ _ _ h5, real_of_all _ _ _ _ _ _ _ h6⟩

/-- The reference leaves its arguments alone, and having no semaphore ends with none raised. -/
theorem ref_frame : Cert.quiescent_LossRefIdeal := fun m ρ _ =>
  (θ_run _ _ _).mono (fun r h => ⟨fun c => (h c).2.2.2.2, sem_eq_zero_of_no_sems (by decide) r.2⟩)
    (Cert.LossRefIdeal.Value.run m ρ)

/-- The four results of the kernel are those of the reference. -/
theorem equal : Cert.algebraic_LossIdeal_LossRefIdeal_pre_loss_finite := fun m ρ m' ρ' hpre harg =>
  ⟨fun c => (Cert.LossIdeal.Gen.dats m 0 c).arrAt 6 Cert.LossIdeal.cfg0.N,
    fun c => (Cert.LossIdeal.Gen.dats m 0 c).arrAt 7 Cert.LossIdeal.cfg0.N,
    fun c => (Cert.LossIdeal.Gen.dats m 0 c).arrAt 8 Cert.LossIdeal.cfg0.N,
    fun c => (Cert.LossIdeal.Gen.dats m 0 c).arrAt 9 Cert.LossIdeal.cfg0.N,
    Cert.LossIdeal.Value.run_blocks m ρ,
    (θ_run _ _ _).mono (fun r h c => by
      obtain ⟨a0, a1, a2, a3, a4, a5⟩ := harg c
      obtain ⟨fA, fW, fH, fT, fG, fB⟩ := finite_args _ _ _ _ _ _ (hpre c)
      obtain ⟨r78, r79, r52, r49, args⟩ := h c
      refine ⟨r78.trans ?_, r79.trans ?_, r52.trans ?_, r49.trans ?_, args⟩
      · refine (Cert.LossRefIdeal.Read.val_main_v78_eq _ _).trans ?_
        rw [a0, a1, a2, a3, a4, a5]
        exact (ref_rows _ _ _ _ _ _ fA fW fH fT fG fB).trans (final_rows m c).symm
      · refine (Cert.LossRefIdeal.Read.val_main_v79_eq _ _).trans ?_
        rw [a0, a1, a2, a3, a4, a5]
        exact (ref_loss _ _ _ _ _ _ fA fW fH fT fG fB).trans (final_loss m c).symm
      · refine (Cert.LossRefIdeal.Read.val_main_v52_eq _ _).trans ?_
        rw [a0, a1, a2, a3, a4, a5]
        exact (ref_gain _ _ _ _ _ _).trans (final_gain m c).symm
      · refine (Cert.LossRefIdeal.Read.val_main_v49_eq _ _).trans ?_
        rw [a0, a1, a2, a3, a4, a5]
        exact (ref_shift _ _ _ _ _ _).trans (final_shift m c).symm)
      (Cert.LossRefIdeal.Value.run m' ρ')⟩

end Cert.Proof.Loss

end
-- ==== Proof.Adam.Step.lean ====
/-
  One weight entry's step of the optimizer, and the word arithmetic that tells which chip's half of the summed gradient a
  row of the weight takes.
-/
module

public import proofs.«01_k».proof.Proof.Sums
public import Idealize.ShloMosaic.Lib.Pipeline.Value

@[expose] public section

noncomputable section

namespace Cert.Proof.Adam

open Idealize.ShloMosaic

/-- The running mean of the gradient. -/
def mean (g mo : Ideal .f32) : Ideal .f32 :=
  FloatOps.addf (F := Ideal) (FloatOps.mulf (F := Ideal) (FloatOps.ofBits (F := Ideal) .f32 0x3F666666#32) mo) (FloatOps.mulf (F := Ideal) (FloatOps.ofBits (F := Ideal) .f32 0x3DCCCCCD#32) g)

/-- The running mean of the gradient's square. -/
def square (g v : Ideal .f32) : Ideal .f32 :=
  FloatOps.addf (F := Ideal) (FloatOps.mulf (F := Ideal) (FloatOps.ofBits (F := Ideal) .f32 0x3F7FBE77#32) v)
    (FloatOps.mulf (F := Ideal) (FloatOps.ofBits (F := Ideal) .f32 0x3A83126F#32) (FloatOps.mulf (F := Ideal) g g))

/-- The weight's change. -/
def change (w mo v : Ideal .f32) : Ideal .f32 :=
  FloatOps.mulf (F := Ideal) (FloatOps.ofBits (F := Ideal) .f32 0xBA83126F#32)
    (FloatOps.addf (F := Ideal)
      (FloatOps.divf (F := Ideal) (FloatOps.divf (F := Ideal) mo (FloatOps.ofBits (F := Ideal) .f32 0x3F26BD02#32))
        (FloatOps.addf (F := Ideal) (FloatOps.sqrt (F := Ideal) (FloatOps.divf (F := Ideal) v (FloatOps.ofBits (F := Ideal) .f32 0x3C231ACC#32))) (FloatOps.ofBits (F := Ideal) .f32 0x322BCC77#32)))
      (FloatOps.mulf (F := Ideal) (FloatOps.ofBits (F := Ideal) .f32 0x3C23D70A#32) w))

/-- The quotient, rounded down. -/
def halfOf (a p : BitVec 32) : BitVec 32 :=
  Scalar.select
    (Scalar.andi (Scalar.cmpi .ne
        (Scalar.subi (Scalar.extui (Scalar.cmpi .sgt a 0#32)) (Scalar.extui (Scalar.cmpi .slt a 0#32)) : BitVec 32)
        (Scalar.subi (Scalar.extui (Scalar.cmpi .sgt p 0#32)) (Scalar.extui (Scalar.cmpi .slt p 0#32))))
      (Scalar.cmpi .ne (Scalar.remsi a p) 0#32))
    (Scalar.subi (Scalar.divsi a p) 1#32) (Scalar.divsi a p)

/-- The remainder, of the divisor's sign. -/
def remOf (a p : BitVec 32) : BitVec 32 :=
  Scalar.select
    (Scalar.andi
      (Scalar.xori (Scalar.cmpi .slt (Scalar.remsi a (Scalar.select (Scalar.cmpi .eq p 0#32) 1#32 p)) 0#32)
        (Scalar.cmpi .slt (Scalar.select (Scalar.cmpi .eq p 0#32) 1#32 p) 0#32))
      (Scalar.cmpi .ne (Scalar.remsi a (Scalar.select (Scalar.cmpi .eq p 0#32) 1#32 p)) 0#32))
    (Scalar.addi (Scalar.remsi a (Scalar.select (Scalar.cmpi .eq p 0#32) 1#32 p)) (Scalar.select (Scalar.cmpi .eq p 0#32) 1#32 p))
    (Scalar.remsi a (Scalar.select (Scalar.cmpi .eq p 0#32) 1#32 p))

/-- The block of the chip's own half that point `a` asks for, and of the other chip's: the point's block where its rows are
    that half's, the first block elsewhere. -/
def ownBlock (a p v : BitVec 32) : BitVec 32 :=
  Scalar.select (Scalar.xori (Scalar.xori (Scalar.cmpi .eq (halfOf a p) v) 1#1) 1#1) (remOf a p) 0#32
def otherBlock (a p v : BitVec 32) : BitVec 32 :=
  Scalar.select (Scalar.xori (Scalar.xori (Scalar.cmpi .eq (halfOf a p) v) 0#1) 1#1) (remOf a p) 0#32

theorem eq_bit {a v : BitVec 32} (h : a = v) : Scalar.cmpi .eq a v = 1#1 := by
  rw [Scalar.cmpi, IntOp.cmpi]
  simp only [beq_iff_eq.mpr h]
  rfl

theorem ne_bit {a v : BitVec 32} (h : a ≠ v) : Scalar.cmpi .eq a v = 0#1 := by
  rw [Scalar.cmpi, IntOp.cmpi]
  simp only [beq_eq_false_iff_ne.mpr h]
  rfl

theorem ownBlock_lt_4 (v : BitVec 32) (t : Fin 8) : (ownBlock (BitVec.ofNat 32 t.val) 4#32 v).toNat < 4 := by
  unfold ownBlock
  generalize Scalar.cmpi .eq (halfOf (BitVec.ofNat 32 t.val) 4#32) v = b
  revert b t
  decide +kernel
theorem otherBlock_lt_4 (v : BitVec 32) (t : Fin 8) : (otherBlock (BitVec.ofNat 32 t.val) 4#32 v).toNat < 4 := by
  unfold otherBlock
  generalize Scalar.cmpi .eq (halfOf (BitVec.ofNat 32 t.val) 4#32) v = b
  revert b t
  decide +kernel
theorem ownBlock_lt_2 (v : BitVec 32) (t : Fin 4) : (ownBlock (BitVec.ofNat 32 t.val) 2#32 v).toNat < 2 := by
  unfold ownBlock
  generalize Scalar.cmpi .eq (halfOf (BitVec.ofNat 32 t.val) 2#32) v = b
  revert b t
  decide +kernel
theorem otherBlock_lt_2 (v : BitVec 32) (t : Fin 4) : (otherBlock (BitVec.ofNat 32 t.val) 2#32 v).toNat < 2 := by
  unfold otherBlock
  generalize Scalar.cmpi .eq (halfOf (BitVec.ofNat 32 t.val) 2#32) v = b
  revert b t
  decide +kernel

theorem halfOf_4 : ∀ t : Fin 8, halfOf (BitVec.ofNat 32 t.val) 4#32 = BitVec.ofNat 32 (t.val / 4) := by decide +kernel
theorem halfOf_2 : ∀ t : Fin 4, halfOf (BitVec.ofNat 32 t.val) 2#32 = BitVec.ofNat 32 (t.val / 2) := by decide +kernel
theorem halfOf_1 : ∀ t : Fin 2, halfOf (BitVec.ofNat 32 t.val) 1#32 = BitVec.ofNat 32 (t.val / 1) := by decide +kernel
theorem remOf_4 : ∀ t : Fin 8, (remOf (BitVec.ofNat 32 t.val) 4#32).toNat = t.val % 4 := by decide +kernel
theorem remOf_2 : ∀ t : Fin 4, (remOf (BitVec.ofNat 32 t.val) 2#32).toNat = t.val % 2 := by decide +kernel

theorem ownBlock_own (a p v : BitVec 32) (h : halfOf a p = v) : ownBlock a p v = remOf a p := by
  unfold ownBlock
  rw [eq_bit h]
  rfl
theorem otherBlock_other (a p v : BitVec 32) (h : halfOf a p ≠ v) : otherBlock a p v = remOf a p := by
  unfold otherBlock
  rw [ne_bit h]
  rfl

/-- The selected one of two arrays. -/
theorem select_eq {α : Type} (a v : BitVec 32) (x y : α) : Scalar.select (Scalar.cmpi .eq a v) x y = if a = v then x else y := by
  by_cases h : a = v
  · rw [eq_bit h, if_pos h]
    rfl
  · rw [ne_bit h, if_neg h]
    rfl

end Cert.Proof.Adam

end
-- ==== Proof.AdamIn.Table.lean ====
/-
  The optimizer's step of the input projection: the table of one word, the chip's place in its pair; whatever the word, the blocks asked
  for lie inside the arrays.
-/
module

public import proofs.«01_k».proof.Proof.Adam.Step
public import proofs.«01_k».proof.Proof.Gen.AdamIn.Frame
public import proofs.«01_k».proof.Proof.Gen.AdamInIdeal.Frame

@[expose] public section

set_option maxRecDepth 16384

noncomputable section

namespace Cert.Proof.AdamIn

open Idealize.ShloMosaic Idealize.ShloMosaic.TcCoe

/-- The chip's word. -/
abbrev word {F : FTy → Type} [FloatOps F] (pf : Cert.AdamInIdeal.pre0.Contents (Elt F)) : BitVec 32 :=
  Cert.AdamInIdeal.Gen.tbM0_0.view.readAt (Elt F) (Rect.unit (s := Cert.AdamInIdeal.S1) ![0] Cert.AdamInIdeal.S1.size Cert.AdamInIdeal.Gen.inb_S1_S1_0).toLoadRect
    (pf 0) (Shape.Idx.first (Cert.AdamInIdeal.Gen.numel1_S1.symm ▸ Nat.one_pos))

theorem within {x : Nat} (h : x < 4) : (x + 1) * 128 ≤ 512 := by omega

theorem index_own {F : FTy → Type} [FloatOps F] (pf : Cert.AdamIn.pre0.Contents (Elt F)) (i : Cert.AdamIn.grid0.Coords) :
    Cert.AdamIn.cc0_transform_1 Cert.AdamIn.Gen.inb_S1_S1_0 Cert.AdamIn.Gen.numel1_S1 pf i
      = ![(Cert.Proof.Adam.ownBlock (BitVec.ofNat 32 (i 0).val) 4#32
          (pf.at 0 (Rect.unit (s := Cert.AdamIn.S1) ![0] Cert.AdamIn.S1.size Cert.AdamIn.Gen.inb_S1_S1_0) Cert.AdamIn.Gen.numel1_S1)).toNat, 0] := rfl

theorem index_other {F : FTy → Type} [FloatOps F] (pf : Cert.AdamIn.pre0.Contents (Elt F)) (i : Cert.AdamIn.grid0.Coords) :
    Cert.AdamIn.cc0_transform_2 Cert.AdamIn.Gen.inb_S1_S1_0 Cert.AdamIn.Gen.numel1_S1 pf i
      = ![(Cert.Proof.Adam.otherBlock (BitVec.ofNat 32 (i 0).val) 4#32
          (pf.at 0 (Rect.unit (s := Cert.AdamIn.S1) ![0] Cert.AdamIn.S1.size Cert.AdamIn.Gen.inb_S1_S1_0) Cert.AdamIn.Gen.numel1_S1)).toNat, 0] := rfl

theorem ok {F : FTy → Type} [FloatOps F] (m : (ℓ : Loc Cert.AdamIn.nD Cert.AdamIn.τ Cert.AdamIn.sig) → Buf (Elt F) ℓ) : Cert.AdamIn.Gen.Ok m := by
  refine ⟨fun i => ⟨fun a => ?_, .inl rfl⟩, fun i => ⟨fun a => ?_, .inl rfl⟩⟩
  · rw [index_own (Cert.AdamIn.Gen.tbl m) i]
    match a with
    | ⟨0, _⟩ => exact within (Cert.Proof.Adam.ownBlock_lt_4 _ (i 0))
    | ⟨1, _⟩ => exact (by decide : (0 + 1) * 1792 ≤ 1792)
  · rw [index_other (Cert.AdamIn.Gen.tbl m) i]
    match a with
    | ⟨0, _⟩ => exact within (Cert.Proof.Adam.otherBlock_lt_4 _ (i 0))
    | ⟨1, _⟩ => exact (by decide : (0 + 1) * 1792 ≤ 1792)

theorem index_own_ideal {F : FTy → Type} [FloatOps F] (pf : Cert.AdamInIdeal.pre0.Contents (Elt F)) (i : Cert.AdamInIdeal.grid0.Coords) :
    Cert.AdamInIdeal.cc0_transform_1 Cert.AdamInIdeal.Gen.inb_S1_S1_0 Cert.AdamInIdeal.Gen.numel1_S1 pf i
      = ![(Cert.Proof.Adam.ownBlock (BitVec.ofNat 32 (i 0).val) 4#32
          (pf.at 0 (Rect.unit (s := Cert.AdamInIdeal.S1) ![0] Cert.AdamInIdeal.S1.size Cert.AdamInIdeal.Gen.inb_S1_S1_0) Cert.AdamInIdeal.Gen.numel1_S1)).toNat, 0] := rfl

theorem index_other_ideal {F : FTy → Type} [FloatOps F] (pf : Cert.AdamInIdeal.pre0.Contents (Elt F)) (i : Cert.AdamInIdeal.grid0.Coords) :
    Cert.AdamInIdeal.cc0_transform_2 Cert.AdamInIdeal.Gen.inb_S1_S1_0 Cert.AdamInIdeal.Gen.numel1_S1 pf i
      = ![(Cert.Proof.Adam.otherBlock (BitVec.ofNat 32 (i 0).val) 4#32
          (pf.at 0 (Rect.unit (s := Cert.AdamInIdeal.S1) ![0] Cert.AdamInIdeal.S1.size Cert.AdamInIdeal.Gen.inb_S1_S1_0) Cert.AdamInIdeal.Gen.numel1_S1)).toNat, 0] := rfl

theorem ok_ideal {F : FTy → Type} [FloatOps F] (m : (ℓ : Loc Cert.AdamInIdeal.nD Cert.AdamInIdeal.τ Cert.AdamInIdeal.sig) → Buf (Elt F) ℓ) : Cert.AdamInIdeal.Gen.Ok m := by
  refine ⟨fun i => ⟨fun a => ?_, .inl rfl⟩, fun i => ⟨fun a => ?_, .inl rfl⟩⟩
  · rw [index_own_ideal (Cert.AdamInIdeal.Gen.tbl m) i]
    match a with
    | ⟨0, _⟩ => exact within (Cert.Proof.Adam.ownBlock_lt_4 _ (i 0))
    | ⟨1, _⟩ => exact (by decide : (0 + 1) * 1792 ≤ 1792)
  · rw [index_other_ideal (Cert.AdamInIdeal.Gen.tbl m) i]
    match a with
    | ⟨0, _⟩ => exact within (Cert.Proof.Adam.otherBlock_lt_4 _ (i 0))
    | ⟨1, _⟩ => exact (by decide : (0 + 1) * 1792 ≤ 1792)

end Cert.Proof.AdamIn

end
-- ==== Proof.AdamIn.Step.lean ====
/-
  The optimizer's step of the input projection, block by block: which half of the summed gradient a block takes, and the four blocks
  a point writes — the gradient, the weight's change and the two running means.
-/
module

public import proofs.«01_k».proof.Proof.Sums
public import proofs.«01_k».proof.Proof.AdamIn.Table
public import Idealize.ShloMosaic.Lib.Pipeline.Value
public import Idealize.ShloMosaic.Lib.Pipeline.ValueKit
public import Idealize.ShloMosaic.Lib.ValueLayout
public import Idealize.ShloMosaic.Lib.ValueIdx

@[expose] public section

set_option maxRecDepth 16384

noncomputable section

namespace Cert.Proof.AdamIn

open Idealize.ShloMosaic hiding ix1 ix2 ix3 eq_ix1 eq_ix2 eq_ix3
open Idealize.ShloMosaic.TcCoe Idealize.ShloMosaic.ValueIdx Idealize.SL.Sem Cert.Sums
open Cert.AdamInIdeal Cert.AdamInIdeal.Gen

/-- The summed gradient's entry: the first half of the rows is the first chip's half, the second the second's; a chip has its
    own half and the other's. -/
def grad (v : BitVec 32) (own other : S512x1792.Idx → EReal) (r : Fin 1024) (k : Fin 1792) : EReal :=
  if BitVec.ofNat 32 (r.val / 512) = v then own (ix2 ⟨r.val % 512, Nat.mod_lt _ (by decide)⟩ k)
  else other (ix2 ⟨r.val % 512, Nat.mod_lt _ (by decide)⟩ k)

theorem pay2_at (t : Fin grid0.N) (v : BitVec 32) (x y : Vec Ideal S128x1792 .f32) :
    k0_pay2 (grid0.coords t) v x y = if BitVec.ofNat 32 (t.val / 4) = v then x else y := by
  have e : Cert.Proof.Adam.halfOf (BitVec.ofNat 32 (grid0.coords t 0).val) 4#32 = BitVec.ofNat 32 (t.val / 4) := by
    revert t
    decide +kernel
  rw [← e]
  exact Cert.Proof.Adam.select_eq _ _ _ _

theorem pay3_at (i : grid0.Coords) (v : BitVec 32) (x y z : Vec Ideal S128x1792 .f32) (j : S128x1792.Idx) :
    k0_pay3 i v x y z j = Cert.Proof.Adam.mean (k0_pay2 i v x y j) (z j) := rfl

theorem pay4_at (i : grid0.Coords) (v : BitVec 32) (x y z : Vec Ideal S128x1792 .f32) (j : S128x1792.Idx) :
    k0_pay4 i v x y z j = Cert.Proof.Adam.square (k0_pay2 i v x y j) (z j) := rfl

theorem pay1_at (w a b : Vec Ideal S128x1792 .f32) (j : S128x1792.Idx) :
    k0_pay1 w a b (Scalar.ofBits .f32 0x3F26BD02#32) j = Cert.Proof.Adam.change (w j) (a j) (b j) := rfl

variable (m : (ℓ : Loc nD τ sig) → Buf (Elt Ideal) ℓ) (hO : Ok m) (c : Dev nD)

/-- The blocks a point reads. -/
def blkW (t : Fin (cfgM m hO).N) : Vec Ideal S128x1792 .f32 := iblk m hO c 0 t
def blkOwn (t : Fin (cfgM m hO).N) : Vec Ideal S128x1792 .f32 := iblk m hO c 1 t
def blkOther (t : Fin (cfgM m hO).N) : Vec Ideal S128x1792 .f32 := iblk m hO c 2 t
def blkM (t : Fin (cfgM m hO).N) : Vec Ideal S128x1792 .f32 := iblk m hO c 3 t
def blkV (t : Fin (cfgM m hO).N) : Vec Ideal S128x1792 .f32 := iblk m hO c 4 t

/-- What a point writes. -/
def outG (t : Fin (cfgM m hO).N) : Vec Ideal S128x1792 .f32 :=
  k0_pay2 (grid0.coords t) (word (tbl m)) (blkOwn m hO c t) (blkOther m hO c t)
def outM (t : Fin (cfgM m hO).N) : Vec Ideal S128x1792 .f32 :=
  k0_pay3 (grid0.coords t) (word (tbl m)) (blkOwn m hO c t) (blkOther m hO c t) (blkM m hO c t)
def outV (t : Fin (cfgM m hO).N) : Vec Ideal S128x1792 .f32 :=
  k0_pay4 (grid0.coords t) (word (tbl m)) (blkOwn m hO c t) (blkOther m hO c t) (blkV m hO c t)
def outD (t : Fin (cfgM m hO).N) : Vec Ideal S128x1792 .f32 :=
  k0_pay1 (blkW m hO c t) (outM m hO c t) (outV m hO c t) (Scalar.ofBits .f32 0x3F26BD02#32)

theorem out_g (t : Fin (cfgM m hO).N) : (outsAt0 m hO c t).1 = outG m hO c t := by
  unfold outsAt0 outG
  dsimp only
  frame_out
  exact congr (congrArg (k0_pay2 (grid0.coords t) (word (tbl m))) (Memref.IsWhole.read_unread (hs0_1 m hO t) _))
    (Memref.IsWhole.read_unread (hs0_2 m hO t) _)

theorem out_m (t : Fin (cfgM m hO).N) : (outsAt0 m hO c t).2.2.1 = outM m hO c t := by
  unfold outsAt0 outM
  dsimp only
  frame_out
  exact congr (congr (congrArg (k0_pay3 (grid0.coords t) (word (tbl m))) (Memref.IsWhole.read_unread (hs0_1 m hO t) _))
    (Memref.IsWhole.read_unread (hs0_2 m hO t) _)) (Memref.IsWhole.read_unread (hs0_3 m hO t) _)

theorem out_v (t : Fin (cfgM m hO).N) : (outsAt0 m hO c t).2.2.2 = outV m hO c t := by
  unfold outsAt0 outV
  dsimp only
  frame_out
  exact congr (congr (congrArg (k0_pay4 (grid0.coords t) (word (tbl m))) (Memref.IsWhole.read_unread (hs0_1 m hO t) _))
    (Memref.IsWhole.read_unread (hs0_2 m hO t) _)) (Memref.IsWhole.read_unread (hs0_4 m hO t) _)

theorem out_d (t : Fin (cfgM m hO).N) : (outsAt0 m hO c t).2.1 = outD m hO c t := by
  unfold outsAt0 outD outM outV
  dsimp only
  frame_out
  exact congrFun (congr (congr (congrArg k0_pay1 (Memref.IsWhole.read_unread (hs0_0 m hO t) _))
    (congr (congr (congrArg (k0_pay3 (grid0.coords t) (word (tbl m))) (Memref.IsWhole.read_unread (hs0_1 m hO t) _))
      (Memref.IsWhole.read_unread (hs0_2 m hO t) _)) (Memref.IsWhole.read_unread (hs0_3 m hO t) _)))
    (congr (congr (congrArg (k0_pay4 (grid0.coords t) (word (tbl m))) (Memref.IsWhole.read_unread (hs0_1 m hO t) _))
      (Memref.IsWhole.read_unread (hs0_2 m hO t) _)) (Memref.IsWhole.read_unread (hs0_4 m hO t) _))) _

/-! The windows' blocks. -/

theorem coord_0 : ∀ t : Fin grid0.N, (grid0.coords t 0).val = t.val := by decide +kernel
theorem idx_0 : ∀ t : Fin grid0.N, cc0_transform_0 (grid0.coords t) = ![t.val, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![t.val, 0] := by decide +kernel
theorem idx_7 : ∀ t : Fin grid0.N, cc0_transform_7 (grid0.coords t) = ![t.val, 0] := by decide +kernel
theorem idx_8 : ∀ t : Fin grid0.N, cc0_transform_8 (grid0.coords t) = ![t.val, 0] := by decide +kernel

/-- The arguments as launched. -/
abbrev argW : S1024x1792.Idx → EReal := m ((c.tc : Thread nD τ).loc main_arg1)
abbrev argOwn : S512x1792.Idx → EReal := m ((c.tc : Thread nD τ).loc main_arg2)
abbrev argOther : S512x1792.Idx → EReal := m ((c.tc : Thread nD τ).loc main_arg3)
abbrev argM : S1024x1792.Idx → EReal := m ((c.tc : Thread nD τ).loc main_arg4)
abbrev argV : S1024x1792.Idx → EReal := m ((c.tc : Thread nD τ).loc main_arg5)

/-- The row of the weight that row `n` of point `t`'s block is. -/
abbrev rowOf (t : Nat) (ht : t < 8) (n : Fin 128) : Fin 1024 := ⟨t * 128 + n.val, by omega⟩

variable (t : Fin (cfgM m hO).N) (ht : t.val < 8) (n : Fin 128) (k : Fin 1792)

theorem place_W : blkW m hO c t (ix2 n k) = argW m c (ix2 (rowOf t.val ht n) k) := by
  refine congrArg (argW m c) (funext fun a => Fin.ext (match a with | ⟨0, _⟩ => ?_ | ⟨1, _⟩ => ?_))
  · show cc0_transform_0 (grid0.coords t) 0 * 128 + 1 * n.val = t.val * 128 + n.val
    rw [idx_0 t]
    show t.val * 128 + 1 * n.val = _
    omega
  · show cc0_transform_0 (grid0.coords t) 1 * 1792 + 1 * k.val = k.val
    rw [idx_0 t]
    show 0 * 1792 + 1 * k.val = _
    omega

theorem place_M : blkM m hO c t (ix2 n k) = argM m c (ix2 (rowOf t.val ht n) k) := by
  refine congrArg (argM m c) (funext fun a => Fin.ext (match a with | ⟨0, _⟩ => ?_ | ⟨1, _⟩ => ?_))
  · show cc0_transform_3 (grid0.coords t) 0 * 128 + 1 * n.val = t.val * 128 + n.val
    rw [idx_3 t]
    show t.val * 128 + 1 * n.val = _
    omega
  · show cc0_transform_3 (grid0.coords t) 1 * 1792 + 1 * k.val = k.val
    rw [idx_3 t]
    show 0 * 1792 + 1 * k.val = _
    omega

theorem place_V : blkV m hO c t (ix2 n k) = argV m c (ix2 (rowOf t.val ht n) k) := by
  refine congrArg (argV m c) (funext fun a => Fin.ext (match a with | ⟨0, _⟩ => ?_ | ⟨1, _⟩ => ?_))
  · show cc0_transform_4 (grid0.coords t) 0 * 128 + 1 * n.val = t.val * 128 + n.val
    rw [idx_4 t]
    show t.val * 128 + 1 * n.val = _
    omega
  · show cc0_transform_4 (grid0.coords t) 1 * 1792 + 1 * k.val = k.val
    rw [idx_4 t]
    show 0 * 1792 + 1 * k.val = _
    omega

theorem place_Own (hv : BitVec.ofNat 32 (t.val / 4) = word (tbl m)) : blkOwn m hO c t (ix2 n k)
    = argOwn m c (ix2 ⟨(rowOf t.val ht n).val % 512, Nat.mod_lt _ (by decide)⟩ k) := by
  refine congrArg (argOwn m c) (funext fun a => Fin.ext (match a with | ⟨0, _⟩ => ?_ | ⟨1, _⟩ => ?_))
  · show (Cert.Proof.Adam.ownBlock (BitVec.ofNat 32 (grid0.coords t 0).val) 4#32 (word (tbl m))).toNat * 128 + 1 * n.val
      = (t.val * 128 + n.val) % 512
    have e := Cert.Proof.Adam.halfOf_4 ⟨t.val, ht⟩
    rw [coord_0 t, Cert.Proof.Adam.ownBlock_own _ _ _ (by rw [show Cert.Proof.Adam.halfOf (BitVec.ofNat 32 t.val) 4#32 = _ from e]; exact hv),
      show (Cert.Proof.Adam.remOf (BitVec.ofNat 32 t.val) 4#32).toNat = _ from Cert.Proof.Adam.remOf_4 ⟨t.val, ht⟩]
    show t.val % 4 * 128 + 1 * n.val = (t.val * 128 + n.val) % 512
    omega
  · show 0 * 1792 + 1 * k.val = k.val
    omega

theorem place_Other (hv : BitVec.ofNat 32 (t.val / 4) ≠ word (tbl m)) : blkOther m hO c t (ix2 n k)
    = argOther m c (ix2 ⟨(rowOf t.val ht n).val % 512, Nat.mod_lt _ (by decide)⟩ k) := by
  refine congrArg (argOther m c) (funext fun a => Fin.ext (match a with | ⟨0, _⟩ => ?_ | ⟨1, _⟩ => ?_))
  · show (Cert.Proof.Adam.otherBlock (BitVec.ofNat 32 (grid0.coords t 0).val) 4#32 (word (tbl m))).toNat * 128 + 1 * n.val
      = (t.val * 128 + n.val) % 512
    have e := Cert.Proof.Adam.halfOf_4 ⟨t.val, ht⟩
    rw [coord_0 t, Cert.Proof.Adam.otherBlock_other _ _ _ (by rw [show Cert.Proof.Adam.halfOf (BitVec.ofNat 32 t.val) 4#32 = _ from e]; exact hv),
      show (Cert.Proof.Adam.remOf (BitVec.ofNat 32 t.val) 4#32).toNat = _ from Cert.Proof.Adam.remOf_4 ⟨t.val, ht⟩]
    show t.val % 4 * 128 + 1 * n.val = (t.val * 128 + n.val) % 512
    omega
  · show 0 * 1792 + 1 * k.val = k.val
    omega

/-- The entry of the summed gradient. -/
abbrev gradOf (r : Fin 1024) (k : Fin 1792) : EReal := grad (word (tbl m)) (argOwn m c) (argOther m c) r k

theorem outG_at : outG m hO c t (ix2 n k) = gradOf m c (rowOf t.val ht n) k := by
  have e : (rowOf t.val ht n).val / 512 = t.val / 4 := by
    show (t.val * 128 + n.val) / 512 = _
    omega
  unfold outG gradOf grad
  rw [pay2_at, e]
  split
  · rename_i h
    exact place_Own m hO c t ht n k h
  · rename_i h
    exact place_Other m hO c t ht n k h

theorem outM_at : outM m hO c t (ix2 n k)
    = Cert.Proof.Adam.mean (gradOf m c (rowOf t.val ht n) k) (argM m c (ix2 (rowOf t.val ht n) k)) :=
  (pay3_at _ _ _ _ _ _).trans (congrArg₂ Cert.Proof.Adam.mean (outG_at m hO c t ht n k) (place_M m hO c t ht n k))

theorem outV_at : outV m hO c t (ix2 n k)
    = Cert.Proof.Adam.square (gradOf m c (rowOf t.val ht n) k) (argV m c (ix2 (rowOf t.val ht n) k)) :=
  (pay4_at _ _ _ _ _ _).trans (congrArg₂ Cert.Proof.Adam.square (outG_at m hO c t ht n k) (place_V m hO c t ht n k))

theorem outD_at : outD m hO c t (ix2 n k)
    = Cert.Proof.Adam.change (argW m c (ix2 (rowOf t.val ht n) k))
        (Cert.Proof.Adam.mean (gradOf m c (rowOf t.val ht n) k) (argM m c (ix2 (rowOf t.val ht n) k)))
        (Cert.Proof.Adam.square (gradOf m c (rowOf t.val ht n) k) (argV m c (ix2 (rowOf t.val ht n) k))) :=
  (pay1_at _ _ _ _).trans (congr (congrArg₂ Cert.Proof.Adam.change (place_W m hO c t ht n k) (outM_at m hO c t ht n k))
    (outV_at m hO c t ht n k))

/-- The four results, entry by entry. -/
def gradient (v : BitVec 32) (own other : S512x1792.Idx → EReal) : S1024x1792.Idx → EReal :=
  fun i => grad v own other ⟨(i 0).val, (i 0).isLt⟩ ⟨(i 1).val, (i 1).isLt⟩
def newMean (v : BitVec 32) (own other : S512x1792.Idx → EReal) (M : S1024x1792.Idx → EReal) : S1024x1792.Idx → EReal :=
  fun i => Cert.Proof.Adam.mean (gradient v own other i) (M i)
def newSquare (v : BitVec 32) (own other : S512x1792.Idx → EReal) (V : S1024x1792.Idx → EReal) : S1024x1792.Idx → EReal :=
  fun i => Cert.Proof.Adam.square (gradient v own other i) (V i)
def delta (v : BitVec 32) (W : S1024x1792.Idx → EReal) (own other : S512x1792.Idx → EReal) (M V : S1024x1792.Idx → EReal) :
    S1024x1792.Idx → EReal :=
  fun i => Cert.Proof.Adam.change (W i) (newMean v own other M i) (newSquare v own other V i)

theorem covers_5 : ((cfgM m hO).win 5).Covers := by
  refine ⟨(by decide : ∀ a : Fin 2, 0 < S128x1792.size a), fun β => ?_⟩
  have b0 : (β (0 : Fin 2)).val < 8 :=
    lt_of_lt_of_eq (β (0 : Fin 2)).isLt (by show (1024 + 128 - 1) / 128 = 8; decide)
  have b1 : (β (1 : Fin 2)).val < 1 :=
    lt_of_lt_of_eq (β (1 : Fin 2)).isLt (by show (1792 + 1792 - 1) / 1792 = 1; decide)
  have hN : (β (0 : Fin 2)).val < grid0.N := lt_of_lt_of_eq b0 N_0.symm
  refine ⟨⟨(β (0 : Fin 2)).val, hN⟩, flush0_5 (adm m hO) _, fun a => ⟨?_, .inl rfl⟩⟩
  show cc0_transform_5 (grid0.coords ⟨_, hN⟩) a = _
  rw [idx_5]
  match a with
  | ⟨0, _⟩ => rfl
  | ⟨1, _⟩ =>
    show 0 = (β (1 : Fin 2)).val
    omega

theorem emb_5 : ((((cfgM m hO).win 5).blk t).view.emb (ix2 n k) : S1024x1792.Idx) = ix2 (rowOf t.val ht n) k := by
  refine funext fun a => Fin.ext (match a with | ⟨0, _⟩ => ?_ | ⟨1, _⟩ => ?_)
  · show cc0_transform_5 (grid0.coords t) 0 * 128 + 1 * n.val = t.val * 128 + n.val
    rw [idx_5 t]
    show t.val * 128 + 1 * n.val = _
    omega
  · show cc0_transform_5 (grid0.coords t) 1 * 1792 + 1 * k.val = k.val
    rw [idx_5 t]
    show 0 * 1792 + 1 * k.val = _
    omega

theorem covers_6 : ((cfgM m hO).win 6).Covers := by
  refine ⟨(by decide : ∀ a : Fin 2, 0 < S128x1792.size a), fun β => ?_⟩
  have b0 : (β (0 : Fin 2)).val < 8 :=
    lt_of_lt_of_eq (β (0 : Fin 2)).isLt (by show (1024 + 128 - 1) / 128 = 8; decide)
  have b1 : (β (1 : Fin 2)).val < 1 :=
    lt_of_lt_of_eq (β (1 : Fin 2)).isLt (by show (1792 + 1792 - 1) / 1792 = 1; decide)
  have hN : (β (0 : Fin 2)).val < grid0.N := lt_of_lt_of_eq b0 N_0.symm
  refine ⟨⟨(β (0 : Fin 2)).val, hN⟩, flush0_6 (adm m hO) _, fun a => ⟨?_, .inl rfl⟩⟩
  show cc0_transform_6 (grid0.coords ⟨_, hN⟩) a = _
  rw [idx_6]
  match a with
  | ⟨0, _⟩ => rfl
  | ⟨1, _⟩ =>
    show 0 = (β (1 : Fin 2)).val
    omega

theorem emb_6 : ((((cfgM m hO).win 6).blk t).view.emb (ix2 n k) : S1024x1792.Idx) = ix2 (rowOf t.val ht n) k := by
  refine funext fun a => Fin.ext (match a with | ⟨0, _⟩ => ?_ | ⟨1, _⟩ => ?_)
  · show cc0_transform_6 (grid0.coords t) 0 * 128 + 1 * n.val = t.val * 128 + n.val
    rw [idx_6 t]
    show t.val * 128 + 1 * n.val = _
    omega
  · show cc0_transform_6 (grid0.coords t) 1 * 1792 + 1 * k.val = k.val
    rw [idx_6 t]
    show 0 * 1792 + 1 * k.val = _
    omega

theorem covers_7 : ((cfgM m hO).win 7).Covers := by
  refine ⟨(by decide : ∀ a : Fin 2, 0 < S128x1792.size a), fun β => ?_⟩
  have b0 : (β (0 : Fin 2)).val < 8 :=
    lt_of_lt_of_eq (β (0 : Fin 2)).isLt (by show (1024 + 128 - 1) / 128 = 8; decide)
  have b1 : (β (1 : Fin 2)).val < 1 :=
    lt_of_lt_of_eq (β (1 : Fin 2)).isLt (by show (1792 + 1792 - 1) / 1792 = 1; decide)
  have hN : (β (0 : Fin 2)).val < grid0.N := lt_of_lt_of_eq b0 N_0.symm
  refine ⟨⟨(β (0 : Fin 2)).val, hN⟩, flush0_7 (adm m hO) _, fun a => ⟨?_, .inl rfl⟩⟩
  show cc0_transform_7 (grid0.coords ⟨_, hN⟩) a = _
  rw [idx_7]
  match a with
  | ⟨0, _⟩ => rfl
  | ⟨1, _⟩ =>
    show 0 = (β (1 : Fin 2)).val
    omega

theorem emb_7 : ((((cfgM m hO).win 7).blk t).view.emb (ix2 n k) : S1024x1792.Idx) = ix2 (rowOf t.val ht n) k := by
  refine funext fun a => Fin.ext (match a with | ⟨0, _⟩ => ?_ | ⟨1, _⟩ => ?_)
  · show cc0_transform_7 (grid0.coords t) 0 * 128 + 1 * n.val = t.val * 128 + n.val
    rw [idx_7 t]
    show t.val * 128 + 1 * n.val = _
    omega
  · show cc0_transform_7 (grid0.coords t) 1 * 1792 + 1 * k.val = k.val
    rw [idx_7 t]
    show 0 * 1792 + 1 * k.val = _
    omega

theorem covers_8 : ((cfgM m hO).win 8).Covers := by
  refine ⟨(by decide : ∀ a : Fin 2, 0 < S128x1792.size a), fun β => ?_⟩
  have b0 : (β (0 : Fin 2)).val < 8 :=
    lt_of_lt_of_eq (β (0 : Fin 2)).isLt (by show (1024 + 128 - 1) / 128 = 8; decide)
  have b1 : (β (1 : Fin 2)).val < 1 :=
    lt_of_lt_of_eq (β (1 : Fin 2)).isLt (by show (1792 + 1792 - 1) / 1792 = 1; decide)
  have hN : (β (0 : Fin 2)).val < grid0.N := lt_of_lt_of_eq b0 N_0.symm
  refine ⟨⟨(β (0 : Fin 2)).val, hN⟩, flush0_8 (adm m hO) _, fun a => ⟨?_, .inl rfl⟩⟩
  show cc0_transform_8 (grid0.coords ⟨_, hN⟩) a = _
  rw [idx_8]
  match a with
  | ⟨0, _⟩ => rfl
  | ⟨1, _⟩ =>
    show 0 = (β (1 : Fin 2)).val
    omega

theorem emb_8 : ((((cfgM m hO).win 8).blk t).view.emb (ix2 n k) : S1024x1792.Idx) = ix2 (rowOf t.val ht n) k := by
  refine funext fun a => Fin.ext (match a with | ⟨0, _⟩ => ?_ | ⟨1, _⟩ => ?_)
  · show cc0_transform_8 (grid0.coords t) 0 * 128 + 1 * n.val = t.val * 128 + n.val
    rw [idx_8 t]
    show t.val * 128 + 1 * n.val = _
    omega
  · show cc0_transform_8 (grid0.coords t) 1 * 1792 + 1 * k.val = k.val
    rw [idx_8 t]
    show 0 * 1792 + 1 * k.val = _
    omega

theorem final_g : (dats m hO 0 c).arrAt 5 (cfgM m hO).N = gradient (word (tbl m)) (argOwn m c) (argOther m c) := by
  refine (dats m hO 0 c).arrAt_eq_of_covers 5 _ (covers_5 m hO) fun t hf y => ?_
  have ht : t.val < 8 := lt_of_lt_of_eq t.isLt N_0
  blk_simp
  rw [after0_5]
  obtain ⟨n, k, rfl⟩ : ∃ (n : Fin 128) (k : Fin 1792), (show S128x1792.Idx from y) = ix2 n k :=
    ⟨_, _, eq_ix2 (show S128x1792.Idx from y)⟩
  refine (congrFun (out_g m hO c t) (ix2 n k)).trans ((outG_at m hO c t ht n k).trans ?_)
  exact (congrArg (gradient (word (tbl m)) (argOwn m c) (argOther m c)) (emb_5 m hO t ht n k)).symm

theorem final_d : (dats m hO 0 c).arrAt 6 (cfgM m hO).N = delta (word (tbl m)) (argW m c) (argOwn m c) (argOther m c) (argM m c) (argV m c) := by
  refine (dats m hO 0 c).arrAt_eq_of_covers 6 _ (covers_6 m hO) fun t hf y => ?_
  have ht : t.val < 8 := lt_of_lt_of_eq t.isLt N_0
  blk_simp
  rw [after0_6]
  obtain ⟨n, k, rfl⟩ : ∃ (n : Fin 128) (k : Fin 1792), (show S128x1792.Idx from y) = ix2 n k :=
    ⟨_, _, eq_ix2 (show S128x1792.Idx from y)⟩
  refine (congrFun (out_d m hO c t) (ix2 n k)).trans ((outD_at m hO c t ht n k).trans ?_)
  exact (congrArg (delta (word (tbl m)) (argW m c) (argOwn m c) (argOther m c) (argM m c) (argV m c)) (emb_6 m hO t ht n k)).symm

theorem final_m : (dats m hO 0 c).arrAt 7 (cfgM m hO).N = newMean (word (tbl m)) (argOwn m c) (argOther m c) (argM m c) := by
  refine (dats m hO 0 c).arrAt_eq_of_covers 7 _ (covers_7 m hO) fun t hf y => ?_
  have ht : t.val < 8 := lt_of_lt_of_eq t.isLt N_0
  blk_simp
  rw [after0_7]
  obtain ⟨n, k, rfl⟩ : ∃ (n : Fin 128) (k : Fin 1792), (show S128x1792.Idx from y) = ix2 n k :=
    ⟨_, _, eq_ix2 (show S128x1792.Idx from y)⟩
  refine (congrFun (out_m m hO c t) (ix2 n k)).trans ((outM_at m hO c t ht n k).trans ?_)
  exact (congrArg (newMean (word (tbl m)) (argOwn m c) (argOther m c) (argM m c)) (emb_7 m hO t ht n k)).symm

theorem final_v : (dats m hO 0 c).arrAt 8 (cfgM m hO).N = newSquare (word (tbl m)) (argOwn m c) (argOther m c) (argV m c) := by
  refine (dats m hO 0 c).arrAt_eq_of_covers 8 _ (covers_8 m hO) fun t hf y => ?_
  have ht : t.val < 8 := lt_of_lt_of_eq t.isLt N_0
  blk_simp
  rw [after0_8]
  obtain ⟨n, k, rfl⟩ : ∃ (n : Fin 128) (k : Fin 1792), (show S128x1792.Idx from y) = ix2 n k :=
    ⟨_, _, eq_ix2 (show S128x1792.Idx from y)⟩
  refine (congrFun (out_v m hO c t) (ix2 n k)).trans ((outV_at m hO c t ht n k).trans ?_)
  exact (congrArg (newSquare (word (tbl m)) (argOwn m c) (argOther m c) (argV m c)) (emb_8 m hO t ht n k)).symm

end Cert.Proof.AdamIn

end
-- ==== Proof.AdamIn.Reference.lean ====
/-
  The reference's step of the input projection, entry by entry.
-/
module

public import proofs.«01_k».proof.Proof.AdamIn.Step
public import proofs.«01_k».proof.Proof.Gen.AdamInRefIdeal.Read

@[expose] public section

set_option maxRecDepth 16384

noncomputable section

namespace Cert.Proof.AdamIn

open Idealize.ShloMosaic hiding ix1 ix2 ix3 eq_ix1 eq_ix2 eq_ix3
open Idealize.ShloMosaic.TcCoe Idealize.ShloMosaic.ValueIdx Idealize.SL.Sem Cert.Sums
open Cert.AdamInRefIdeal Cert.AdamInRefIdeal.Gen Cert.AdamInRefIdeal.Read

/-- The one word of an array of one. -/
def only (x : S1.Idx → BitVec 32) : BitVec 32 := x (fun a => match a with | ⟨0, _⟩ => ⟨0, Nat.one_pos⟩)

theorem one_index (i j : S1.Idx) : i = j := funext fun a => match a with
  | ⟨0, h⟩ => Fin.ext (by
      have hi : (i ⟨0, h⟩).val < 1 := (i ⟨0, h⟩).isLt
      have hj : (j ⟨0, h⟩).val < 1 := (j ⟨0, h⟩).isLt
      omega)

theorem word_eq (x : S1.Idx → BitVec 32) (i : S_.Idx) : val_main_v1 (F := Ideal) x i = only x := congrArg x (one_index _ _)

variable (x : S1.Idx → BitVec 32) (W : S1024x1792.Idx → EReal) (own other : S512x1792.Idx → EReal) (M V : S1024x1792.Idx → EReal)

/-- The selected gradient. -/
theorem ref_gradient_at (i : S1024x1792.Idx) : (val_main_v7 (F := Ideal) x own other i : EReal) = gradient (only x) own other i := by
  refine (val_main_v7_apply (F := Ideal) x own other i).trans ?_
  refine (val_main_v6_apply (F := Ideal) x own other _).trans ?_
  rw [val_main_v3_apply, val_main_v0_apply, val_main_v2_apply, word_eq, val_main_call0_v0_apply, val_main_v4_apply,
    val_main_call0_v1_apply, val_main_v5_apply]
  refine (Cert.Proof.Adam.select_eq _ _ _ _).trans ?_
  have h0 : (i 0).val < 1024 := (i 0).isLt
  have h1 : (i 1).val < 1792 := (i 1).isLt
  unfold gradient grad
  have e : BitVec.ofNat 32 ((idx_main_v7 i) 0).val = BitVec.ofNat 32 ((i 0).val / 512) := by
    refine congrArg (BitVec.ofNat 32) ?_
    show ((i 0).val * 1792 + (i 1).val) / 917504 = (i 0).val / 512
    omega
  have r : ((i 0).val * 1792 + (i 1).val) / 1792 % 512 = (i 0).val % 512 := by omega
  have k : ((i 0).val * 1792 + (i 1).val) % 1792 = (i 1).val := by omega
  rw [e]
  split
  · exact congrArg own (funext fun a => Fin.ext (match a with | ⟨0, _⟩ => r | ⟨1, _⟩ => k))
  · exact congrArg other (funext fun a => Fin.ext (match a with | ⟨0, _⟩ => r | ⟨1, _⟩ => k))

theorem ref_gradient : val_main_v7 (F := Ideal) x own other = gradient (only x) own other := funext (ref_gradient_at x own other)

theorem ref_mean_at (i : S1024x1792.Idx) : (val_main_v12 (F := Ideal) x own other M i : EReal) = newMean (only x) own other M i := by
  unfold newMean
  rw [← ref_gradient_at]
  refine (val_main_v12_apply (F := Ideal) x own other M i).trans ?_
  rw [val_main_v9_apply, val_main_v8_apply, val_main_cst_apply, val_main_v11_apply, val_main_v10_apply, val_main_cst_0_apply]
  rfl

theorem ref_mean : val_main_v12 (F := Ideal) x own other M = newMean (only x) own other M := funext (ref_mean_at x own other M)

theorem ref_square_at (i : S1024x1792.Idx) : (val_main_v18 (F := Ideal) x own other V i : EReal) = newSquare (only x) own other V i := by
  unfold newSquare
  rw [← ref_gradient_at]
  refine (val_main_v18_apply (F := Ideal) x own other V i).trans ?_
  rw [val_main_v14_apply, val_main_v13_apply, val_main_cst_1_apply, val_main_v17_apply, val_main_v16_apply, val_main_cst_2_apply,
    val_main_v15_apply]
  rfl

theorem ref_square : val_main_v18 (F := Ideal) x own other V = newSquare (only x) own other V := funext (ref_square_at x own other V)

theorem ref_delta : val_main_v31 (F := Ideal) x W own other M V = delta (only x) W own other M V := by
  funext i
  unfold delta
  rw [← ref_mean_at, ← ref_square_at]
  refine (val_main_v31_apply (F := Ideal) x W own other M V i).trans ?_
  rw [val_main_v30_apply, val_main_cst_7_apply, val_main_v29_apply, val_main_v28_apply, val_main_v27_apply, val_main_cst_6_apply,
    val_main_v26_apply, val_main_v25_apply, val_main_v24_apply, val_main_cst_5_apply, val_main_v23_apply, val_main_v22_apply,
    val_main_v21_apply, val_main_cst_4_apply, val_main_v20_apply, val_main_v19_apply, val_main_cst_3_apply]
  rfl

/-- The word the kernel reads is the argument's. -/
theorem word_tbl (m : (ℓ : Loc Cert.AdamInIdeal.nD Cert.AdamInIdeal.τ Cert.AdamInIdeal.sig) → Buf (Elt Ideal) ℓ) (c : Dev Cert.AdamInIdeal.nD) :
    word (Cert.AdamInIdeal.Gen.tbl m) = only (m ((c.tc : Thread Cert.AdamInIdeal.nD Cert.AdamInIdeal.τ).loc Cert.AdamInIdeal.main_arg0)) := by
  obtain rfl : c = 0 := Subsingleton.elim _ _
  exact congrArg (m (((0 : Dev Cert.AdamInIdeal.nD).tc : Thread Cert.AdamInIdeal.nD Cert.AdamInIdeal.τ).loc Cert.AdamInIdeal.main_arg0))
    (one_index _ _)

end Cert.Proof.AdamIn

end
-- ==== Proof.AdamIn.Claims.lean ====
/-
  The claims about the optimizer's step of the input projection: the frames, at any word of the table, and that kernel and reference
  end with the same gradient, change and running means.
-/
module

public import proofs.«01_k».proof.Defs
public import proofs.«01_k».proof.Proof.Gen.AdamInRefIdeal.Run
public import proofs.«01_k».proof.Proof.AdamIn.Reference

@[expose] public section

set_option maxRecDepth 16384

noncomputable section

namespace Cert.Proof.AdamIn

open Idealize.ShloMosaic Idealize.ShloMosaic.TcCoe Idealize.SL.Sem

theorem frame : Cert.quiescent_AdamIn := fun m ρ _ => Cert.AdamIn.Gen.frame m ρ (ok m)

theorem frame_ideal : Cert.quiescent_AdamInIdeal := fun m ρ _ => Cert.AdamInIdeal.Gen.frame m ρ (ok_ideal m)

/-- The reference leaves its arguments alone, and having no semaphore ends with none raised. -/
theorem ref_frame : Cert.quiescent_AdamInRefIdeal := fun m ρ _ =>
  (θ_run _ _ _).mono (fun r h => ⟨fun c => (h c).2.2.2.2, sem_eq_zero_of_no_sems (by decide) r.2⟩)
    (Cert.AdamInRefIdeal.Value.run m ρ)

open Cert.AdamInIdeal Cert.AdamInIdeal.Gen in
/-- The kernel's run: the results are the region's final arrays, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m (ok_ideal m) 0 c).arrAt 5 (cfgM m (ok_ideal m)).N
      ∧ r.2.mem ((c.tc : Thread nD τ).loc main_v0_1) = (dats m (ok_ideal m) 0 c).arrAt 6 (cfgM m (ok_ideal m)).N
      ∧ r.2.mem ((c.tc : Thread nD τ).loc main_v0_2) = (dats m (ok_ideal m) 0 c).arrAt 7 (cfgM m (ok_ideal m)).N
      ∧ r.2.mem ((c.tc : Thread nD τ).loc main_v0_3) = (dats m (ok_ideal m) 0 c).arrAt 8 (cfgM m (ok_ideal m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.1 c).1 5, (h.1 c).1 6, (h.1 c).1 7, (h.1 c).1 8, h.2 c⟩)
    (θ_run_and (run_main m ρ (ok_ideal m)) (unchanged m ρ (ok_ideal m)))

/-- The kernel's gradient, weight change and running means are the reference's. -/
theorem equal : Cert.algebraic_AdamInIdeal_AdamInRefIdeal := fun m ρ m' ρ' _ harg =>
  ⟨fun c => (Cert.AdamInIdeal.Gen.dats m (ok_ideal m) 0 c).arrAt 5 (Cert.AdamInIdeal.Gen.cfgM m (ok_ideal m)).N,
    fun c => (Cert.AdamInIdeal.Gen.dats m (ok_ideal m) 0 c).arrAt 6 (Cert.AdamInIdeal.Gen.cfgM m (ok_ideal m)).N,
    fun c => (Cert.AdamInIdeal.Gen.dats m (ok_ideal m) 0 c).arrAt 7 (Cert.AdamInIdeal.Gen.cfgM m (ok_ideal m)).N,
    fun c => (Cert.AdamInIdeal.Gen.dats m (ok_ideal m) 0 c).arrAt 8 (Cert.AdamInIdeal.Gen.cfgM m (ok_ideal m)).N,
    kernel_run m ρ,
    (θ_run _ _ _).mono (fun r h c => by
      obtain ⟨a0, a1, a2, a3, a4, a5⟩ := harg c
      obtain ⟨r7, r31, r12, r18, args⟩ := h c
      refine ⟨r7.trans ?_, r31.trans ?_, r12.trans ?_, r18.trans ?_, args⟩
      · refine (Cert.AdamInRefIdeal.Read.val_main_v7_eq _ _ _).trans ?_
        rw [a0, a2, a3]
        refine (ref_gradient _ _ _).trans ((final_g m (ok_ideal m) c).trans ?_).symm
        rw [word_tbl m c]
      · refine (Cert.AdamInRefIdeal.Read.val_main_v31_eq _ _ _ _ _ _).trans ?_
        rw [a0, a1, a2, a3, a4, a5]
        refine (ref_delta _ _ _ _ _ _).trans ((final_d m (ok_ideal m) c).trans ?_).symm
        rw [word_tbl m c]
      · refine (Cert.AdamInRefIdeal.Read.val_main_v12_eq _ _ _ _).trans ?_
        rw [a0, a2, a3, a4]
        refine (ref_mean _ _ _ _).trans ((final_m m (ok_ideal m) c).trans ?_).symm
        rw [word_tbl m c]
      · refine (Cert.AdamInRefIdeal.Read.val_main_v18_eq _ _ _ _).trans ?_
        rw [a0, a2, a3, a5]
        refine (ref_square _ _ _ _).trans ((final_v m (ok_ideal m) c).trans ?_).symm
        rw [word_tbl m c])
      (Cert.AdamInRefIdeal.Value.run m' ρ')⟩

end Cert.Proof.AdamIn

end
-- ==== Proof.AdamFf.Table.lean ====
/-
  The optimizer's step of the feed-forward weights: the table of one word, the chip's place in its pair; whatever the word, the blocks asked
  for lie inside the arrays.
-/
module

public import proofs.«01_k».proof.Proof.Adam.Step
public import proofs.«01_k».proof.Proof.Gen.AdamFf.Frame
public import proofs.«01_k».proof.Proof.Gen.AdamFfIdeal.Frame

@[expose] public section

set_option maxRecDepth 16384

noncomputable section

namespace Cert.Proof.AdamFf

open Idealize.ShloMosaic Idealize.ShloMosaic.TcCoe

/-- The chip's word. -/
abbrev word {F : FTy → Type} [FloatOps F] (pf : Cert.AdamFfIdeal.pre0.Contents (Elt F)) : BitVec 32 :=
  Cert.AdamFfIdeal.Gen.tbM0_0.view.readAt (Elt F) (Rect.unit (s := Cert.AdamFfIdeal.S1) ![0] Cert.AdamFfIdeal.S1.size Cert.AdamFfIdeal.Gen.inb_S1_S1_0).toLoadRect
    (pf 0) (Shape.Idx.first (Cert.AdamFfIdeal.Gen.numel1_S1.symm ▸ Nat.one_pos))

theorem within {x : Nat} (h : x < 2) : (x + 1) * 176 ≤ 352 := by omega

theorem index_own {F : FTy → Type} [FloatOps F] (pf : Cert.AdamFf.pre0.Contents (Elt F)) (i : Cert.AdamFf.grid0.Coords) :
    Cert.AdamFf.cc0_transform_1 Cert.AdamFf.Gen.inb_S1_S1_0 Cert.AdamFf.Gen.numel1_S1 pf i
      = ![(Cert.Proof.Adam.ownBlock (BitVec.ofNat 32 (i 0).val) 2#32
          (pf.at 0 (Rect.unit (s := Cert.AdamFf.S1) ![0] Cert.AdamFf.S1.size Cert.AdamFf.Gen.inb_S1_S1_0) Cert.AdamFf.Gen.numel1_S1)).toNat, 0] := rfl

theorem index_other {F : FTy → Type} [FloatOps F] (pf : Cert.AdamFf.pre0.Contents (Elt F)) (i : Cert.AdamFf.grid0.Coords) :
    Cert.AdamFf.cc0_transform_2 Cert.AdamFf.Gen.inb_S1_S1_0 Cert.AdamFf.Gen.numel1_S1 pf i
      = ![(Cert.Proof.Adam.otherBlock (BitVec.ofNat 32 (i 0).val) 2#32
          (pf.at 0 (Rect.unit (s := Cert.AdamFf.S1) ![0] Cert.AdamFf.S1.size Cert.AdamFf.Gen.inb_S1_S1_0) Cert.AdamFf.Gen.numel1_S1)).toNat, 0] := rfl

theorem ok {F : FTy → Type} [FloatOps F] (m : (ℓ : Loc Cert.AdamFf.nD Cert.AdamFf.τ Cert.AdamFf.sig) → Buf (Elt F) ℓ) : Cert.AdamFf.Gen.Ok m := by
  refine ⟨fun i => ⟨fun a => ?_, .inl rfl⟩, fun i => ⟨fun a => ?_, .inl rfl⟩⟩
  · rw [index_own (Cert.AdamFf.Gen.tbl m) i]
    match a with
    | ⟨0, _⟩ => exact within (Cert.Proof.Adam.ownBlock_lt_2 _ (i 0))
    | ⟨1, _⟩ => exact (by decide : (0 + 1) * 1024 ≤ 1024)
  · rw [index_other (Cert.AdamFf.Gen.tbl m) i]
    match a with
    | ⟨0, _⟩ => exact within (Cert.Proof.Adam.otherBlock_lt_2 _ (i 0))
    | ⟨1, _⟩ => exact (by decide : (0 + 1) * 1024 ≤ 1024)

theorem index_own_ideal {F : FTy → Type} [FloatOps F] (pf : Cert.AdamFfIdeal.pre0.Contents (Elt F)) (i : Cert.AdamFfIdeal.grid0.Coords) :
    Cert.AdamFfIdeal.cc0_transform_1 Cert.AdamFfIdeal.Gen.inb_S1_S1_0 Cert.AdamFfIdeal.Gen.numel1_S1 pf i
      = ![(Cert.Proof.Adam.ownBlock (BitVec.ofNat 32 (i 0).val) 2#32
          (pf.at 0 (Rect.unit (s := Cert.AdamFfIdeal.S1) ![0] Cert.AdamFfIdeal.S1.size Cert.AdamFfIdeal.Gen.inb_S1_S1_0) Cert.AdamFfIdeal.Gen.numel1_S1)).toNat, 0] := rfl

theorem index_other_ideal {F : FTy → Type} [FloatOps F] (pf : Cert.AdamFfIdeal.pre0.Contents (Elt F)) (i : Cert.AdamFfIdeal.grid0.Coords) :
    Cert.AdamFfIdeal.cc0_transform_2 Cert.AdamFfIdeal.Gen.inb_S1_S1_0 Cert.AdamFfIdeal.Gen.numel1_S1 pf i
      = ![(Cert.Proof.Adam.otherBlock (BitVec.ofNat 32 (i 0).val) 2#32
          (pf.at 0 (Rect.unit (s := Cert.AdamFfIdeal.S1) ![0] Cert.AdamFfIdeal.S1.size Cert.AdamFfIdeal.Gen.inb_S1_S1_0) Cert.AdamFfIdeal.Gen.numel1_S1)).toNat, 0] := rfl

theorem ok_ideal {F : FTy → Type} [FloatOps F] (m : (ℓ : Loc Cert.AdamFfIdeal.nD Cert.AdamFfIdeal.τ Cert.AdamFfIdeal.sig) → Buf (Elt F) ℓ) : Cert.AdamFfIdeal.Gen.Ok m := by
  refine ⟨fun i => ⟨fun a => ?_, .inl rfl⟩, fun i => ⟨fun a => ?_, .inl rfl⟩⟩
  · rw [index_own_ideal (Cert.AdamFfIdeal.Gen.tbl m) i]
    match a with
    | ⟨0, _⟩ => exact within (Cert.Proof.Adam.ownBlock_lt_2 _ (i 0))
    | ⟨1, _⟩ => exact (by decide : (0 + 1) * 1024 ≤ 1024)
  · rw [index_other_ideal (Cert.AdamFfIdeal.Gen.tbl m) i]
    match a with
    | ⟨0, _⟩ => exact within (Cert.Proof.Adam.otherBlock_lt_2 _ (i 0))
    | ⟨1, _⟩ => exact (by decide : (0 + 1) * 1024 ≤ 1024)

end Cert.Proof.AdamFf

end
-- ==== Proof.AdamFf.Step.lean ====
/-
  The optimizer's step of the feed-forward weights, block by block: which half of the summed gradient a block takes, and the four blocks
  a point writes — the gradient, the weight's change and the two running means.
-/
module

public import proofs.«01_k».proof.Proof.Sums
public import proofs.«01_k».proof.Proof.AdamFf.Table
public import Idealize.ShloMosaic.Lib.Pipeline.Value
public import Idealize.ShloMosaic.Lib.Pipeline.ValueKit
public import Idealize.ShloMosaic.Lib.ValueLayout
public import Idealize.ShloMosaic.Lib.ValueIdx

@[expose] public section

set_option maxRecDepth 16384

noncomputable section

namespace Cert.Proof.AdamFf

open Idealize.ShloMosaic hiding ix1 ix2 ix3 eq_ix1 eq_ix2 eq_ix3
open Idealize.ShloMosaic.TcCoe Idealize.ShloMosaic.ValueIdx Idealize.SL.Sem Cert.Sums
open Cert.AdamFfIdeal Cert.AdamFfIdeal.Gen

/-- The summed gradient's entry: the first half of the rows is the first chip's half, the second the second's; a chip has its
    own half and the other's. -/
def grad (v : BitVec 32) (own other : S352x1024.Idx → EReal) (r : Fin 704) (k : Fin 1024) : EReal :=
  if BitVec.ofNat 32 (r.val / 352) = v then own (ix2 ⟨r.val % 352, Nat.mod_lt _ (by decide)⟩ k)
  else other (ix2 ⟨r.val % 352, Nat.mod_lt _ (by decide)⟩ k)

theorem pay2_at (t : Fin grid0.N) (v : BitVec 32) (x y : Vec Ideal S176x1024 .f32) :
    k0_pay2 (grid0.coords t) v x y = if BitVec.ofNat 32 (t.val / 2) = v then x else y := by
  have e : Cert.Proof.Adam.halfOf (BitVec.ofNat 32 (grid0.coords t 0).val) 2#32 = BitVec.ofNat 32 (t.val / 2) := by
    revert t
    decide +kernel
  rw [← e]
  exact Cert.Proof.Adam.select_eq _ _ _ _

theorem pay3_at (i : grid0.Coords) (v : BitVec 32) (x y z : Vec Ideal S176x1024 .f32) (j : S176x1024.Idx) :
    k0_pay3 i v x y z j = Cert.Proof.Adam.mean (k0_pay2 i v x y j) (z j) := rfl

theorem pay4_at (i : grid0.Coords) (v : BitVec 32) (x y z : Vec Ideal S176x1024 .f32) (j : S176x1024.Idx) :
    k0_pay4 i v x y z j = Cert.Proof.Adam.square (k0_pay2 i v x y j) (z j) := rfl

theorem pay1_at (w a b : Vec Ideal S176x1024 .f32) (j : S176x1024.Idx) :
    k0_pay1 w a b (Scalar.ofBits .f32 0x3F26BD02#32) j = Cert.Proof.Adam.change (w j) (a j) (b j) := rfl

variable (m : (ℓ : Loc nD τ sig) → Buf (Elt Ideal) ℓ) (hO : Ok m) (c : Dev nD)

/-- The blocks a point reads. -/
def blkW (t : Fin (cfgM m hO).N) : Vec Ideal S176x1024 .f32 := iblk m hO c 0 t
def blkOwn (t : Fin (cfgM m hO).N) : Vec Ideal S176x1024 .f32 := iblk m hO c 1 t
def blkOther (t : Fin (cfgM m hO).N) : Vec Ideal S176x1024 .f32 := iblk m hO c 2 t
def blkM (t : Fin (cfgM m hO).N) : Vec Ideal S176x1024 .f32 := iblk m hO c 3 t
def blkV (t : Fin (cfgM m hO).N) : Vec Ideal S176x1024 .f32 := iblk m hO c 4 t

/-- What a point writes. -/
def outG (t : Fin (cfgM m hO).N) : Vec Ideal S176x1024 .f32 :=
  k0_pay2 (grid0.coords t) (word (tbl m)) (blkOwn m hO c t) (blkOther m hO c t)
def outM (t : Fin (cfgM m hO).N) : Vec Ideal S176x1024 .f32 :=
  k0_pay3 (grid0.coords t) (word (tbl m)) (blkOwn m hO c t) (blkOther m hO c t) (blkM m hO c t)
def outV (t : Fin (cfgM m hO).N) : Vec Ideal S176x1024 .f32 :=
  k0_pay4 (grid0.coords t) (word (tbl m)) (blkOwn m hO c t) (blkOther m hO c t) (blkV m hO c t)
def outD (t : Fin (cfgM m hO).N) : Vec Ideal S176x1024 .f32 :=
  k0_pay1 (blkW m hO c t) (outM m hO c t) (outV m hO c t) (Scalar.ofBits .f32 0x3F26BD02#32)

theorem out_g (t : Fin (cfgM m hO).N) : (outsAt0 m hO c t).1 = outG m hO c t := by
  unfold outsAt0 outG
  dsimp only
  frame_out
  exact congr (congrArg (k0_pay2 (grid0.coords t) (word (tbl m))) (Memref.IsWhole.read_unread (hs0_1 m hO t) _))
    (Memref.IsWhole.read_unread (hs0_2 m hO t) _)

theorem out_m (t : Fin (cfgM m hO).N) : (outsAt0 m hO c t).2.2.1 = outM m hO c t := by
  unfold outsAt0 outM
  dsimp only
  frame_out
  exact congr (congr (congrArg (k0_pay3 (grid0.coords t) (word (tbl m))) (Memref.IsWhole.read_unread (hs0_1 m hO t) _))
    (Memref.IsWhole.read_unread (hs0_2 m hO t) _)) (Memref.IsWhole.read_unread (hs0_3 m hO t) _)

theorem out_v (t : Fin (cfgM m hO).N) : (outsAt0 m hO c t).2.2.2 = outV m hO c t := by
  unfold outsAt0 outV
  dsimp only
  frame_out
  exact congr (congr (congrArg (k0_pay4 (grid0.coords t) (word (tbl m))) (Memref.IsWhole.read_unread (hs0_1 m hO t) _))
    (Memref.IsWhole.read_unread (hs0_2 m hO t) _)) (Memref.IsWhole.read_unread (hs0_4 m hO t) _)

theorem out_d (t : Fin (cfgM m hO).N) : (outsAt0 m hO c t).2.1 = outD m hO c t := by
  unfold outsAt0 outD outM outV
  dsimp only
  frame_out
  exact congrFun (congr (congr (congrArg k0_pay1 (Memref.IsWhole.read_unread (hs0_0 m hO t) _))
    (congr (congr (congrArg (k0_pay3 (grid0.coords t) (word (tbl m))) (Memref.IsWhole.read_unread (hs0_1 m hO t) _))
      (Memref.IsWhole.read_unread (hs0_2 m hO t) _)) (Memref.IsWhole.read_unread (hs0_3 m hO t) _)))
    (congr (congr (congrArg (k0_pay4 (grid0.coords t) (word (tbl m))) (Memref.IsWhole.read_unread (hs0_1 m hO t) _))
      (Memref.IsWhole.read_unread (hs0_2 m hO t) _)) (Memref.IsWhole.read_unread (hs0_4 m hO t) _))) _

/-! The windows' blocks. -/

theorem coord_0 : ∀ t : Fin grid0.N, (grid0.coords t 0).val = t.val := by decide +kernel
theorem idx_0 : ∀ t : Fin grid0.N, cc0_transform_0 (grid0.coords t) = ![t.val, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![t.val, 0] := by decide +kernel
theorem idx_7 : ∀ t : Fin grid0.N, cc0_transform_7 (grid0.coords t) = ![t.val, 0] := by decide +kernel
theorem idx_8 : ∀ t : Fin grid0.N, cc0_transform_8 (grid0.coords t) = ![t.val, 0] := by decide +kernel

/-- The arguments as launched. -/
abbrev argW : S704x1024.Idx → EReal := m ((c.tc : Thread nD τ).loc main_arg1)
abbrev argOwn : S352x1024.Idx → EReal := m ((c.tc : Thread nD τ).loc main_arg2)
abbrev argOther : S352x1024.Idx → EReal := m ((c.tc : Thread nD τ).loc main_arg3)
abbrev argM : S704x1024.Idx → EReal := m ((c.tc : Thread nD τ).loc main_arg4)
abbrev argV : S704x1024.Idx → EReal := m ((c.tc : Thread nD τ).loc main_arg5)

/-- The row of the weight that row `n` of point `t`'s block is. -/
abbrev rowOf (t : Nat) (ht : t < 4) (n : Fin 176) : Fin 704 := ⟨t * 176 + n.val, by omega⟩

variable (t : Fin (cfgM m hO).N) (ht : t.val < 4) (n : Fin 176) (k : Fin 1024)

theorem place_W : blkW m hO c t (ix2 n k) = argW m c (ix2 (rowOf t.val ht n) k) := by
  refine congrArg (argW m c) (funext fun a => Fin.ext (match a with | ⟨0, _⟩ => ?_ | ⟨1, _⟩ => ?_))
  · show cc0_transform_0 (grid0.coords t) 0 * 176 + 1 * n.val = t.val * 176 + n.val
    rw [idx_0 t]
    show t.val * 176 + 1 * n.val = _
    omega
  · show cc0_transform_0 (grid0.coords t) 1 * 1024 + 1 * k.val = k.val
    rw [idx_0 t]
    show 0 * 1024 + 1 * k.val = _
    omega

theorem place_M : blkM m hO c t (ix2 n k) = argM m c (ix2 (rowOf t.val ht n) k) := by
  refine congrArg (argM m c) (funext fun a => Fin.ext (match a with | ⟨0, _⟩ => ?_ | ⟨1, _⟩ => ?_))
  · show cc0_transform_3 (grid0.coords t) 0 * 176 + 1 * n.val = t.val * 176 + n.val
    rw [idx_3 t]
    show t.val * 176 + 1 * n.val = _
    omega
  · show cc0_transform_3 (grid0.coords t) 1 * 1024 + 1 * k.val = k.val
    rw [idx_3 t]
    show 0 * 1024 + 1 * k.val = _
    omega

theorem place_V : blkV m hO c t (ix2 n k) = argV m c (ix2 (rowOf t.val ht n) k) := by
  refine congrArg (argV m c) (funext fun a => Fin.ext (match a with | ⟨0, _⟩ => ?_ | ⟨1, _⟩ => ?_))
  · show cc0_transform_4 (grid0.coords t) 0 * 176 + 1 * n.val = t.val * 176 + n.val
    rw [idx_4 t]
    show t.val * 176 + 1 * n.val = _
    omega
  · show cc0_transform_4 (grid0.coords t) 1 * 1024 + 1 * k.val = k.val
    rw [idx_4 t]
    show 0 * 1024 + 1 * k.val = _
    omega

theorem place_Own (hv : BitVec.ofNat 32 (t.val / 2) = word (tbl m)) : blkOwn m hO c t (ix2 n k)
    = argOwn m c (ix2 ⟨(rowOf t.val ht n).val % 352, Nat.mod_lt _ (by decide)⟩ k) := by
  refine congrArg (argOwn m c) (funext fun a => Fin.ext (match a with | ⟨0, _⟩ => ?_ | ⟨1, _⟩ => ?_))
  · show (Cert.Proof.Adam.ownBlock (BitVec.ofNat 32 (grid0.coords t 0).val) 2#32 (word (tbl m))).toNat * 176 + 1 * n.val
      = (t.val * 176 + n.val) % 352
    have e := Cert.Proof.Adam.halfOf_2 ⟨t.val, ht⟩
    rw [coord_0 t, Cert.Proof.Adam.ownBlock_own _ _ _ (by rw [show Cert.Proof.Adam.halfOf (BitVec.ofNat 32 t.val) 2#32 = _ from e]; exact hv),
      show (Cert.Proof.Adam.remOf (BitVec.ofNat 32 t.val) 2#32).toNat = _ from Cert.Proof.Adam.remOf_2 ⟨t.val, ht⟩]
    show t.val % 2 * 176 + 1 * n.val = (t.val * 176 + n.val) % 352
    omega
  · show 0 * 1024 + 1 * k.val = k.val
    omega

theorem place_Other (hv : BitVec.ofNat 32 (t.val / 2) ≠ word (tbl m)) : blkOther m hO c t (ix2 n k)
    = argOther m c (ix2 ⟨(rowOf t.val ht n).val % 352, Nat.mod_lt _ (by decide)⟩ k) := by
  refine congrArg (argOther m c) (funext fun a => Fin.ext (match a with | ⟨0, _⟩ => ?_ | ⟨1, _⟩ => ?_))
  · show (Cert.Proof.Adam.otherBlock (BitVec.ofNat 32 (grid0.coords t 0).val) 2#32 (word (tbl m))).toNat * 176 + 1 * n.val
      = (t.val * 176 + n.val) % 352
    have e := Cert.Proof.Adam.halfOf_2 ⟨t.val, ht⟩
    rw [coord_0 t, Cert.Proof.Adam.otherBlock_other _ _ _ (by rw [show Cert.Proof.Adam.halfOf (BitVec.ofNat 32 t.val) 2#32 = _ from e]; exact hv),
      show (Cert.Proof.Adam.remOf (BitVec.ofNat 32 t.val) 2#32).toNat = _ from Cert.Proof.Adam.remOf_2 ⟨t.val, ht⟩]
    show t.val % 2 * 176 + 1 * n.val = (t.val * 176 + n.val) % 352
    omega
  · show 0 * 1024 + 1 * k.val = k.val
    omega

/-- The entry of the summed gradient. -/
abbrev gradOf (r : Fin 704) (k : Fin 1024) : EReal := grad (word (tbl m)) (argOwn m c) (argOther m c) r k

theorem outG_at : outG m hO c t (ix2 n k) = gradOf m c (rowOf t.val ht n) k := by
  have e : (rowOf t.val ht n).val / 352 = t.val / 2 := by
    show (t.val * 176 + n.val) / 352 = _
    omega
  unfold outG gradOf grad
  rw [pay2_at, e]
  split
  · rename_i h
    exact place_Own m hO c t ht n k h
  · rename_i h
    exact place_Other m hO c t ht n k h

theorem outM_at : outM m hO c t (ix2 n k)
    = Cert.Proof.Adam.mean (gradOf m c (rowOf t.val ht n) k) (argM m c (ix2 (rowOf t.val ht n) k)) :=
  (pay3_at _ _ _ _ _ _).trans (congrArg₂ Cert.Proof.Adam.mean (outG_at m hO c t ht n k) (place_M m hO c t ht n k))

theorem outV_at : outV m hO c t (ix2 n k)
    = Cert.Proof.Adam.square (gradOf m c (rowOf t.val ht n) k) (argV m c (ix2 (rowOf t.val ht n) k)) :=
  (pay4_at _ _ _ _ _ _).trans (congrArg₂ Cert.Proof.Adam.square (outG_at m hO c t ht n k) (place_V m hO c t ht n k))

theorem outD_at : outD m hO c t (ix2 n k)
    = Cert.Proof.Adam.change (argW m c (ix2 (rowOf t.val ht n) k))
        (Cert.Proof.Adam.mean (gradOf m c (rowOf t.val ht n) k) (argM m c (ix2 (rowOf t.val ht n) k)))
        (Cert.Proof.Adam.square (gradOf m c (rowOf t.val ht n) k) (argV m c (ix2 (rowOf t.val ht n) k))) :=
  (pay1_at _ _ _ _).trans (congr (congrArg₂ Cert.Proof.Adam.change (place_W m hO c t ht n k) (outM_at m hO c t ht n k))
    (outV_at m hO c t ht n k))

/-- The four results, entry by entry. -/
def gradient (v : BitVec 32) (own other : S352x1024.Idx → EReal) : S704x1024.Idx → EReal :=
  fun i => grad v own other ⟨(i 0).val, (i 0).isLt⟩ ⟨(i 1).val, (i 1).isLt⟩
def newMean (v : BitVec 32) (own other : S352x1024.Idx → EReal) (M : S704x1024.Idx → EReal) : S704x1024.Idx → EReal :=
  fun i => Cert.Proof.Adam.mean (gradient v own other i) (M i)
def newSquare (v : BitVec 32) (own other : S352x1024.Idx → EReal) (V : S704x1024.Idx → EReal) : S704x1024.Idx → EReal :=
  fun i => Cert.Proof.Adam.square (gradient v own other i) (V i)
def delta (v : BitVec 32) (W : S704x1024.Idx → EReal) (own other : S352x1024.Idx → EReal) (M V : S704x1024.Idx → EReal) :
    S704x1024.Idx → EReal :=
  fun i => Cert.Proof.Adam.change (W i) (newMean v own other M i) (newSquare v own other V i)

theorem covers_5 : ((cfgM m hO).win 5).Covers := by
  refine ⟨(by decide : ∀ a : Fin 2, 0 < S176x1024.size a), fun β => ?_⟩
  have b0 : (β (0 : Fin 2)).val < 4 :=
    lt_of_lt_of_eq (β (0 : Fin 2)).isLt (by show (704 + 176 - 1) / 176 = 4; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_5 (adm m hO) _, fun a => ⟨?_, .inl rfl⟩⟩
  show cc0_transform_5 (grid0.coords ⟨_, hN⟩) a = _
  rw [idx_5]
  match a with
  | ⟨0, _⟩ => rfl
  | ⟨1, _⟩ =>
    show 0 = (β (1 : Fin 2)).val
    omega

theorem emb_5 : ((((cfgM m hO).win 5).blk t).view.emb (ix2 n k) : S704x1024.Idx) = ix2 (rowOf t.val ht n) k := by
  refine funext fun a => Fin.ext (match a with | ⟨0, _⟩ => ?_ | ⟨1, _⟩ => ?_)
  · show cc0_transform_5 (grid0.coords t) 0 * 176 + 1 * n.val = t.val * 176 + n.val
    rw [idx_5 t]
    show t.val * 176 + 1 * n.val = _
    omega
  · show cc0_transform_5 (grid0.coords t) 1 * 1024 + 1 * k.val = k.val
    rw [idx_5 t]
    show 0 * 1024 + 1 * k.val = _
    omega

theorem covers_6 : ((cfgM m hO).win 6).Covers := by
  refine ⟨(by decide : ∀ a : Fin 2, 0 < S176x1024.size a), fun β => ?_⟩
  have b0 : (β (0 : Fin 2)).val < 4 :=
    lt_of_lt_of_eq (β (0 : Fin 2)).isLt (by show (704 + 176 - 1) / 176 = 4; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_6 (adm m hO) _, fun a => ⟨?_, .inl rfl⟩⟩
  show cc0_transform_6 (grid0.coords ⟨_, hN⟩) a = _
  rw [idx_6]
  match a with
  | ⟨0, _⟩ => rfl
  | ⟨1, _⟩ =>
    show 0 = (β (1 : Fin 2)).val
    omega

theorem emb_6 : ((((cfgM m hO).win 6).blk t).view.emb (ix2 n k) : S704x1024.Idx) = ix2 (rowOf t.val ht n) k := by
  refine funext fun a => Fin.ext (match a with | ⟨0, _⟩ => ?_ | ⟨1, _⟩ => ?_)
  · show cc0_transform_6 (grid0.coords t) 0 * 176 + 1 * n.val = t.val * 176 + n.val
    rw [idx_6 t]
    show t.val * 176 + 1 * n.val = _
    omega
  · show cc0_transform_6 (grid0.coords t) 1 * 1024 + 1 * k.val = k.val
    rw [idx_6 t]
    show 0 * 1024 + 1 * k.val = _
    omega

theorem covers_7 : ((cfgM m hO).win 7).Covers := by
  refine ⟨(by decide : ∀ a : Fin 2, 0 < S176x1024.size a), fun β => ?_⟩
  have b0 : (β (0 : Fin 2)).val < 4 :=
    lt_of_lt_of_eq (β (0 : Fin 2)).isLt (by show (704 + 176 - 1) / 176 = 4; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_7 (adm m hO) _, fun a => ⟨?_, .inl rfl⟩⟩
  show cc0_transform_7 (grid0.coords ⟨_, hN⟩) a = _
  rw [idx_7]
  match a with
  | ⟨0, _⟩ => rfl
  | ⟨1, _⟩ =>
    show 0 = (β (1 : Fin 2)).val
    omega

theorem emb_7 : ((((cfgM m hO).win 7).blk t).view.emb (ix2 n k) : S704x1024.Idx) = ix2 (rowOf t.val ht n) k := by
  refine funext fun a => Fin.ext (match a with | ⟨0, _⟩ => ?_ | ⟨1, _⟩ => ?_)
  · show cc0_transform_7 (grid0.coords t) 0 * 176 + 1 * n.val = t.val * 176 + n.val
    rw [idx_7 t]
    show t.val * 176 + 1 * n.val = _
    omega
  · show cc0_transform_7 (grid0.coords t) 1 * 1024 + 1 * k.val = k.val
    rw [idx_7 t]
    show 0 * 1024 + 1 * k.val = _
    omega

theorem covers_8 : ((cfgM m hO).win 8).Covers := by
  refine ⟨(by decide : ∀ a : Fin 2, 0 < S176x1024.size a), fun β => ?_⟩
  have b0 : (β (0 : Fin 2)).val < 4 :=
    lt_of_lt_of_eq (β (0 : Fin 2)).isLt (by show (704 + 176 - 1) / 176 = 4; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_8 (adm m hO) _, fun a => ⟨?_, .inl rfl⟩⟩
  show cc0_transform_8 (grid0.coords ⟨_, hN⟩) a = _
  rw [idx_8]
  match a with
  | ⟨0, _⟩ => rfl
  | ⟨1, _⟩ =>
    show 0 = (β (1 : Fin 2)).val
    omega

theorem emb_8 : ((((cfgM m hO).win 8).blk t).view.emb (ix2 n k) : S704x1024.Idx) = ix2 (rowOf t.val ht n) k := by
  refine funext fun a => Fin.ext (match a with | ⟨0, _⟩ => ?_ | ⟨1, _⟩ => ?_)
  · show cc0_transform_8 (grid0.coords t) 0 * 176 + 1 * n.val = t.val * 176 + n.val
    rw [idx_8 t]
    show t.val * 176 + 1 * n.val = _
    omega
  · show cc0_transform_8 (grid0.coords t) 1 * 1024 + 1 * k.val = k.val
    rw [idx_8 t]
    show 0 * 1024 + 1 * k.val = _
    omega

theorem final_g : (dats m hO 0 c).arrAt 5 (cfgM m hO).N = gradient (word (tbl m)) (argOwn m c) (argOther m c) := by
  refine (dats m hO 0 c).arrAt_eq_of_covers 5 _ (covers_5 m hO) fun t hf y => ?_
  have ht : t.val < 4 := lt_of_lt_of_eq t.isLt N_0
  blk_simp
  rw [after0_5]
  obtain ⟨n, k, rfl⟩ : ∃ (n : Fin 176) (k : Fin 1024), (show S176x1024.Idx from y) = ix2 n k :=
    ⟨_, _, eq_ix2 (show S176x1024.Idx from y)⟩
  refine (congrFun (out_g m hO c t) (ix2 n k)).trans ((outG_at m hO c t ht n k).trans ?_)
  exact (congrArg (gradient (word (tbl m)) (argOwn m c) (argOther m c)) (emb_5 m hO t ht n k)).symm

theorem final_d : (dats m hO 0 c).arrAt 6 (cfgM m hO).N = delta (word (tbl m)) (argW m c) (argOwn m c) (argOther m c) (argM m c) (argV m c) := by
  refine (dats m hO 0 c).arrAt_eq_of_covers 6 _ (covers_6 m hO) fun t hf y => ?_
  have ht : t.val < 4 := lt_of_lt_of_eq t.isLt N_0
  blk_simp
  rw [after0_6]
  obtain ⟨n, k, rfl⟩ : ∃ (n : Fin 176) (k : Fin 1024), (show S176x1024.Idx from y) = ix2 n k :=
    ⟨_, _, eq_ix2 (show S176x1024.Idx from y)⟩
  refine (congrFun (out_d m hO c t) (ix2 n k)).trans ((outD_at m hO c t ht n k).trans ?_)
  exact (congrArg (delta (word (tbl m)) (argW m c) (argOwn m c) (argOther m c) (argM m c) (argV m c)) (emb_6 m hO t ht n k)).symm

theorem final_m : (dats m hO 0 c).arrAt 7 (cfgM m hO).N = newMean (word (tbl m)) (argOwn m c) (argOther m c) (argM m c) := by
  refine (dats m hO 0 c).arrAt_eq_of_covers 7 _ (covers_7 m hO) fun t hf y => ?_
  have ht : t.val < 4 := lt_of_lt_of_eq t.isLt N_0
  blk_simp
  rw [after0_7]
  obtain ⟨n, k, rfl⟩ : ∃ (n : Fin 176) (k : Fin 1024), (show S176x1024.Idx from y) = ix2 n k :=
    ⟨_, _, eq_ix2 (show S176x1024.Idx from y)⟩
  refine (congrFun (out_m m hO c t) (ix2 n k)).trans ((outM_at m hO c t ht n k).trans ?_)
  exact (congrArg (newMean (word (tbl m)) (argOwn m c) (argOther m c) (argM m c)) (emb_7 m hO t ht n k)).symm

theorem final_v : (dats m hO 0 c).arrAt 8 (cfgM m hO).N = newSquare (word (tbl m)) (argOwn m c) (argOther m c) (argV m c) := by
  refine (dats m hO 0 c).arrAt_eq_of_covers 8 _ (covers_8 m hO) fun t hf y => ?_
  have ht : t.val < 4 := lt_of_lt_of_eq t.isLt N_0
  blk_simp
  rw [after0_8]
  obtain ⟨n, k, rfl⟩ : ∃ (n : Fin 176) (k : Fin 1024), (show S176x1024.Idx from y) = ix2 n k :=
    ⟨_, _, eq_ix2 (show S176x1024.Idx from y)⟩
  refine (congrFun (out_v m hO c t) (ix2 n k)).trans ((outV_at m hO c t ht n k).trans ?_)
  exact (congrArg (newSquare (word (tbl m)) (argOwn m c) (argOther m c) (argV m c)) (emb_8 m hO t ht n k)).symm

end Cert.Proof.AdamFf

end
-- ==== Proof.AdamFf.Reference.lean ====
/-
  The reference's step of the feed-forward weights, entry by entry.
-/
module

public import proofs.«01_k».proof.Proof.AdamFf.Step
public import proofs.«01_k».proof.Proof.Gen.AdamFfRefIdeal.Read

@[expose] public section

set_option maxRecDepth 16384

noncomputable section

namespace Cert.Proof.AdamFf

open Idealize.ShloMosaic hiding ix1 ix2 ix3 eq_ix1 eq_ix2 eq_ix3
open Idealize.ShloMosaic.TcCoe Idealize.ShloMosaic.ValueIdx Idealize.SL.Sem Cert.Sums
open Cert.AdamFfRefIdeal Cert.AdamFfRefIdeal.Gen Cert.AdamFfRefIdeal.Read

/-- The one word of an array of one. -/
def only (x : S1.Idx → BitVec 32) : BitVec 32 := x (fun a => match a with | ⟨0, _⟩ => ⟨0, Nat.one_pos⟩)

theorem one_index (i j : S1.Idx) : i = j := funext fun a => match a with
  | ⟨0, h⟩ => Fin.ext (by
      have hi : (i ⟨0, h⟩).val < 1 := (i ⟨0, h⟩).isLt
      have hj : (j ⟨0, h⟩).val < 1 := (j ⟨0, h⟩).isLt
      omega)

theorem word_eq (x : S1.Idx → BitVec 32) (i : S_.Idx) : val_main_v1 (F := Ideal) x i = only x := congrArg x (one_index _ _)

variable (x : S1.Idx → BitVec 32) (W : S704x1024.Idx → EReal) (own other : S352x1024.Idx → EReal) (M V : S704x1024.Idx → EReal)

/-- The selected gradient. -/
theorem ref_gradient_at (i : S704x1024.Idx) : (val_main_v7 (F := Ideal) x own other i : EReal) = gradient (only x) own other i := by
  refine (val_main_v7_apply (F := Ideal) x own other i).trans ?_
  refine (val_main_v6_apply (F := Ideal) x own other _).trans ?_
  rw [val_main_v3_apply, val_main_v0_apply, val_main_v2_apply, word_eq, val_main_call0_v0_apply, val_main_v4_apply,
    val_main_call0_v1_apply, val_main_v5_apply]
  refine (Cert.Proof.Adam.select_eq _ _ _ _).trans ?_
  have h0 : (i 0).val < 704 := (i 0).isLt
  have h1 : (i 1).val < 1024 := (i 1).isLt
  unfold gradient grad
  have e : BitVec.ofNat 32 ((idx_main_v7 i) 0).val = BitVec.ofNat 32 ((i 0).val / 352) := by
    refine congrArg (BitVec.ofNat 32) ?_
    show ((i 0).val * 1024 + (i 1).val) / 360448 = (i 0).val / 352
    omega
  have r : ((i 0).val * 1024 + (i 1).val) / 1024 % 352 = (i 0).val % 352 := by omega
  have k : ((i 0).val * 1024 + (i 1).val) % 1024 = (i 1).val := by omega
  rw [e]
  split
  · exact congrArg own (funext fun a => Fin.ext (match a with | ⟨0, _⟩ => r | ⟨1, _⟩ => k))
  · exact congrArg other (funext fun a => Fin.ext (match a with | ⟨0, _⟩ => r | ⟨1, _⟩ => k))

theorem ref_gradient : val_main_v7 (F := Ideal) x own other = gradient (only x) own other := funext (ref_gradient_at x own other)

theorem ref_mean_at (i : S704x1024.Idx) : (val_main_v12 (F := Ideal) x own other M i : EReal) = newMean (only x) own other M i := by
  unfold newMean
  rw [← ref_gradient_at]
  refine (val_main_v12_apply (F := Ideal) x own other M i).trans ?_
  rw [val_main_v9_apply, val_main_v8_apply, val_main_cst_apply, val_main_v11_apply, val_main_v10_apply, val_main_cst_0_apply]
  rfl

theorem ref_mean : val_main_v12 (F := Ideal) x own other M = newMean (only x) own other M := funext (ref_mean_at x own other M)

theorem ref_square_at (i : S704x1024.Idx) : (val_main_v18 (F := Ideal) x own other V i : EReal) = newSquare (only x) own other V i := by
  unfold newSquare
  rw [← ref_gradient_at]
  refine (val_main_v18_apply (F := Ideal) x own other V i).trans ?_
  rw [val_main_v14_apply, val_main_v13_apply, val_main_cst_1_apply, val_main_v17_apply, val_main_v16_apply, val_main_cst_2_apply,
    val_main_v15_apply]
  rfl

theorem ref_square : val_main_v18 (F := Ideal) x own other V = newSquare (only x) own other V := funext (ref_square_at x own other V)

theorem ref_delta : val_main_v31 (F := Ideal) x W own other M V = delta (only x) W own other M V := by
  funext i
  unfold delta
  rw [← ref_mean_at, ← ref_square_at]
  refine (val_main_v31_apply (F := Ideal) x W own other M V i).trans ?_
  rw [val_main_v30_apply, val_main_cst_7_apply, val_main_v29_apply, val_main_v28_apply, val_main_v27_apply, val_main_cst_6_apply,
    val_main_v26_apply, val_main_v25_apply, val_main_v24_apply, val_main_cst_5_apply, val_main_v23_apply, val_main_v22_apply,
    val_main_v21_apply, val_main_cst_4_apply, val_main_v20_apply, val_main_v19_apply, val_main_cst_3_apply]
  rfl

/-- The word the kernel reads is the argument's. -/
theorem word_tbl (m : (ℓ : Loc Cert.AdamFfIdeal.nD Cert.AdamFfIdeal.τ Cert.AdamFfIdeal.sig) → Buf (Elt Ideal) ℓ) (c : Dev Cert.AdamFfIdeal.nD) :
    word (Cert.AdamFfIdeal.Gen.tbl m) = only (m ((c.tc : Thread Cert.AdamFfIdeal.nD Cert.AdamFfIdeal.τ).loc Cert.AdamFfIdeal.main_arg0)) := by
  obtain rfl : c = 0 := Subsingleton.elim _ _
  exact congrArg (m (((0 : Dev Cert.AdamFfIdeal.nD).tc : Thread Cert.AdamFfIdeal.nD Cert.AdamFfIdeal.τ).loc Cert.AdamFfIdeal.main_arg0))
    (one_index _ _)

end Cert.Proof.AdamFf

end
-- ==== Proof.AdamFf.Claims.lean ====
/-
  The claims about the optimizer's step of the feed-forward weights: the frames, at any word of the table, and that kernel and reference
  end with the same gradient, change and running means.
-/
module

public import proofs.«01_k».proof.Defs
public import proofs.«01_k».proof.Proof.Gen.AdamFfRefIdeal.Run
public import proofs.«01_k».proof.Proof.AdamFf.Reference

@[expose] public section

set_option maxRecDepth 16384

noncomputable section

namespace Cert.Proof.AdamFf

open Idealize.ShloMosaic Idealize.ShloMosaic.TcCoe Idealize.SL.Sem

theorem frame : Cert.quiescent_AdamFf := fun m ρ _ => Cert.AdamFf.Gen.frame m ρ (ok m)

theorem frame_ideal : Cert.quiescent_AdamFfIdeal := fun m ρ _ => Cert.AdamFfIdeal.Gen.frame m ρ (ok_ideal m)

/-- The reference leaves its arguments alone, and having no semaphore ends with none raised. -/
theorem ref_frame : Cert.quiescent_AdamFfRefIdeal := fun m ρ _ =>
  (θ_run _ _ _).mono (fun r h => ⟨fun c => (h c).2.2.2.2, sem_eq_zero_of_no_sems (by decide) r.2⟩)
    (Cert.AdamFfRefIdeal.Value.run m ρ)

open Cert.AdamFfIdeal Cert.AdamFfIdeal.Gen in
/-- The kernel's run: the results are the region's final arrays, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m (ok_ideal m) 0 c).arrAt 5 (cfgM m (ok_ideal m)).N
      ∧ r.2.mem ((c.tc : Thread nD τ).loc main_v0_1) = (dats m (ok_ideal m) 0 c).arrAt 6 (cfgM m (ok_ideal m)).N
      ∧ r.2.mem ((c.tc : Thread nD τ).loc main_v0_2) = (dats m (ok_ideal m) 0 c).arrAt 7 (cfgM m (ok_ideal m)).N
      ∧ r.2.mem ((c.tc : Thread nD τ).loc main_v0_3) = (dats m (ok_ideal m) 0 c).arrAt 8 (cfgM m (ok_ideal m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.1 c).1 5, (h.1 c).1 6, (h.1 c).1 7, (h.1 c).1 8, h.2 c⟩)
    (θ_run_and (run_main m ρ (ok_ideal m)) (unchanged m ρ (ok_ideal m)))

/-- The kernel's gradient, weight change and running means are the reference's. -/
theorem equal : Cert.algebraic_AdamFfIdeal_AdamFfRefIdeal := fun m ρ m' ρ' _ harg =>
  ⟨fun c => (Cert.AdamFfIdeal.Gen.dats m (ok_ideal m) 0 c).arrAt 5 (Cert.AdamFfIdeal.Gen.cfgM m (ok_ideal m)).N,
    fun c => (Cert.AdamFfIdeal.Gen.dats m (ok_ideal m) 0 c).arrAt 6 (Cert.AdamFfIdeal.Gen.cfgM m (ok_ideal m)).N,
    fun c => (Cert.AdamFfIdeal.Gen.dats m (ok_ideal m) 0 c).arrAt 7 (Cert.AdamFfIdeal.Gen.cfgM m (ok_ideal m)).N,
    fun c => (Cert.AdamFfIdeal.Gen.dats m (ok_ideal m) 0 c).arrAt 8 (Cert.AdamFfIdeal.Gen.cfgM m (ok_ideal m)).N,
    kernel_run m ρ,
    (θ_run _ _ _).mono (fun r h c => by
      obtain ⟨a0, a1, a2, a3, a4, a5⟩ := harg c
      obtain ⟨r7, r31, r12, r18, args⟩ := h c
      refine ⟨r7.trans ?_, r31.trans ?_, r12.trans ?_, r18.trans ?_, args⟩
      · refine (Cert.AdamFfRefIdeal.Read.val_main_v7_eq _ _ _).trans ?_
        rw [a0, a2, a3]
        refine (ref_gradient _ _ _).trans ((final_g m (ok_ideal m) c).trans ?_).symm
        rw [word_tbl m c]
      · refine (Cert.AdamFfRefIdeal.Read.val_main_v31_eq _ _ _ _ _ _).trans ?_
        rw [a0, a1, a2, a3, a4, a5]
        refine (ref_delta _ _ _ _ _ _).trans ((final_d m (ok_ideal m) c).trans ?_).symm
        rw [word_tbl m c]
      · refine (Cert.AdamFfRefIdeal.Read.val_main_v12_eq _ _ _ _).trans ?_
        rw [a0, a2, a3, a4]
        refine (ref_mean _ _ _ _).trans ((final_m m (ok_ideal m) c).trans ?_).symm
        rw [word_tbl m c]
      · refine (Cert.AdamFfRefIdeal.Read.val_main_v18_eq _ _ _ _).trans ?_
        rw [a0, a2, a3, a5]
        refine (ref_square _ _ _ _).trans ((final_v m (ok_ideal m) c).trans ?_).symm
        rw [word_tbl m c])
      (Cert.AdamFfRefIdeal.Value.run m' ρ')⟩

end Cert.Proof.AdamFf

end
-- ==== Proof.AdamOut.Table.lean ====
/-
  The optimizer's step of the output projection: the table of one word, the chip's place in its pair; whatever the word, the blocks asked
  for lie inside the arrays.
-/
module

public import proofs.«01_k».proof.Proof.Adam.Step
public import proofs.«01_k».proof.Proof.Gen.AdamOut.Frame
public import proofs.«01_k».proof.Proof.Gen.AdamOutIdeal.Frame

@[expose] public section

set_option maxRecDepth 16384

noncomputable section

namespace Cert.Proof.AdamOut

open Idealize.ShloMosaic Idealize.ShloMosaic.TcCoe

/-- The chip's word. -/
abbrev word {F : FTy → Type} [FloatOps F] (pf : Cert.AdamOutIdeal.pre0.Contents (Elt F)) : BitVec 32 :=
  Cert.AdamOutIdeal.Gen.tbM0_0.view.readAt (Elt F) (Rect.unit (s := Cert.AdamOutIdeal.S1) ![0] Cert.AdamOutIdeal.S1.size Cert.AdamOutIdeal.Gen.inb_S1_S1_0).toLoadRect
    (pf 0) (Shape.Idx.first (Cert.AdamOutIdeal.Gen.numel1_S1.symm ▸ Nat.one_pos))

theorem ok {F : FTy → Type} [FloatOps F] (m : (ℓ : Loc Cert.AdamOut.nD Cert.AdamOut.τ Cert.AdamOut.sig) → Buf (Elt F) ℓ) : Cert.AdamOut.Gen.Ok m :=
  trivial

theorem ok_ideal {F : FTy → Type} [FloatOps F] (m : (ℓ : Loc Cert.AdamOutIdeal.nD Cert.AdamOutIdeal.τ Cert.AdamOutIdeal.sig) → Buf (Elt F) ℓ) : Cert.AdamOutIdeal.Gen.Ok m :=
  trivial

end Cert.Proof.AdamOut

end
-- ==== Proof.AdamOut.Step.lean ====
/-
  The optimizer's step of the output projection, block by block: which half of the summed gradient a block takes, and the four blocks
  a point writes — the gradient, the weight's change and the two running means.
-/
module

public import proofs.«01_k».proof.Proof.Sums
public import proofs.«01_k».proof.Proof.AdamOut.Table
public import Idealize.ShloMosaic.Lib.Pipeline.Value
public import Idealize.ShloMosaic.Lib.Pipeline.ValueKit
public import Idealize.ShloMosaic.Lib.ValueLayout
public import Idealize.ShloMosaic.Lib.ValueIdx

@[expose] public section

set_option maxRecDepth 16384

noncomputable section

namespace Cert.Proof.AdamOut

open Idealize.ShloMosaic hiding ix1 ix2 ix3 eq_ix1 eq_ix2 eq_ix3
open Idealize.ShloMosaic.TcCoe Idealize.ShloMosaic.ValueIdx Idealize.SL.Sem Cert.Sums
open Cert.AdamOutIdeal Cert.AdamOutIdeal.Gen

/-- The summed gradient's entry: the first half of the rows is the first chip's half, the second the second's; a chip has its
    own half and the other's. -/
def grad (v : BitVec 32) (own other : S128x1024.Idx → EReal) (r : Fin 256) (k : Fin 1024) : EReal :=
  if BitVec.ofNat 32 (r.val / 128) = v then own (ix2 ⟨r.val % 128, Nat.mod_lt _ (by decide)⟩ k)
  else other (ix2 ⟨r.val % 128, Nat.mod_lt _ (by decide)⟩ k)

theorem pay2_at (t : Fin grid0.N) (v : BitVec 32) (x y : Vec Ideal S128x1024 .f32) :
    k0_pay2 (grid0.coords t) v x y = if BitVec.ofNat 32 (t.val / 1) = v then x else y := by
  have e : Cert.Proof.Adam.halfOf (BitVec.ofNat 32 (grid0.coords t 0).val) 1#32 = BitVec.ofNat 32 (t.val / 1) := by
    revert t
    decide +kernel
  rw [← e]
  exact Cert.Proof.Adam.select_eq _ _ _ _

theorem pay3_at (i : grid0.Coords) (v : BitVec 32) (x y z : Vec Ideal S128x1024 .f32) (j : S128x1024.Idx) :
    k0_pay3 i v x y z j = Cert.Proof.Adam.mean (k0_pay2 i v x y j) (z j) := rfl

theorem pay4_at (i : grid0.Coords) (v : BitVec 32) (x y z : Vec Ideal S128x1024 .f32) (j : S128x1024.Idx) :
    k0_pay4 i v x y z j = Cert.Proof.Adam.square (k0_pay2 i v x y j) (z j) := rfl

theorem pay1_at (w a b : Vec Ideal S128x1024 .f32) (j : S128x1024.Idx) :
    k0_pay1 w a b (Scalar.ofBits .f32 0x3F26BD02#32) j = Cert.Proof.Adam.change (w j) (a j) (b j) := rfl

variable (m : (ℓ : Loc nD τ sig) → Buf (Elt Ideal) ℓ) (hO : Ok m) (c : Dev nD)

/-- The blocks a point reads. -/
def blkW (t : Fin (cfgM m hO).N) : Vec Ideal S128x1024 .f32 := iblk m hO c 0 t
def blkOwn (t : Fin (cfgM m hO).N) : Vec Ideal S128x1024 .f32 := iblk m hO c 1 t
def blkOther (t : Fin (cfgM m hO).N) : Vec Ideal S128x1024 .f32 := iblk m hO c 2 t
def blkM (t : Fin (cfgM m hO).N) : Vec Ideal S128x1024 .f32 := iblk m hO c 3 t
def blkV (t : Fin (cfgM m hO).N) : Vec Ideal S128x1024 .f32 := iblk m hO c 4 t

/-- What a point writes. -/
def outG (t : Fin (cfgM m hO).N) : Vec Ideal S128x1024 .f32 :=
  k0_pay2 (grid0.coords t) (word (tbl m)) (blkOwn m hO c t) (blkOther m hO c t)
def outM (t : Fin (cfgM m hO).N) : Vec Ideal S128x1024 .f32 :=
  k0_pay3 (grid0.coords t) (word (tbl m)) (blkOwn m hO c t) (blkOther m hO c t) (blkM m hO c t)
def outV (t : Fin (cfgM m hO).N) : Vec Ideal S128x1024 .f32 :=
  k0_pay4 (grid0.coords t) (word (tbl m)) (blkOwn m hO c t) (blkOther m hO c t) (blkV m hO c t)
def outD (t : Fin (cfgM m hO).N) : Vec Ideal S128x1024 .f32 :=
  k0_pay1 (blkW m hO c t) (outM m hO c t) (outV m hO c t) (Scalar.ofBits .f32 0x3F26BD02#32)

theorem out_g (t : Fin (cfgM m hO).N) : (outsAt0 m hO c t).1 = outG m hO c t := by
  unfold outsAt0 outG
  dsimp only
  frame_out
  exact congr (congrArg (k0_pay2 (grid0.coords t) (word (tbl m))) (Memref.IsWhole.read_unread (hs0_1 m hO t) _))
    (Memref.IsWhole.read_unread (hs0_2 m hO t) _)

theorem out_m (t : Fin (cfgM m hO).N) : (outsAt0 m hO c t).2.2.1 = outM m hO c t := by
  unfold outsAt0 outM
  dsimp only
  frame_out
  exact congr (congr (congrArg (k0_pay3 (grid0.coords t) (word (tbl m))) (Memref.IsWhole.read_unread (hs0_1 m hO t) _))
    (Memref.IsWhole.read_unread (hs0_2 m hO t) _)) (Memref.IsWhole.read_unread (hs0_3 m hO t) _)

theorem out_v (t : Fin (cfgM m hO).N) : (outsAt0 m hO c t).2.2.2 = outV m hO c t := by
  unfold outsAt0 outV
  dsimp only
  frame_out
  exact congr (congr (congrArg (k0_pay4 (grid0.coords t) (word (tbl m))) (Memref.IsWhole.read_unread (hs0_1 m hO t) _))
    (Memref.IsWhole.read_unread (hs0_2 m hO t) _)) (Memref.IsWhole.read_unread (hs0_4 m hO t) _)

theorem out_d (t : Fin (cfgM m hO).N) : (outsAt0 m hO c t).2.1 = outD m hO c t := by
  unfold outsAt0 outD outM outV
  dsimp only
  frame_out
  exact congrFun (congr (congr (congrArg k0_pay1 (Memref.IsWhole.read_unread (hs0_0 m hO t) _))
    (congr (congr (congrArg (k0_pay3 (grid0.coords t) (word (tbl m))) (Memref.IsWhole.read_unread (hs0_1 m hO t) _))
      (Memref.IsWhole.read_unread (hs0_2 m hO t) _)) (Memref.IsWhole.read_unread (hs0_3 m hO t) _)))
    (congr (congr (congrArg (k0_pay4 (grid0.coords t) (word (tbl m))) (Memref.IsWhole.read_unread (hs0_1 m hO t) _))
      (Memref.IsWhole.read_unread (hs0_2 m hO t) _)) (Memref.IsWhole.read_unread (hs0_4 m hO t) _))) _

/-! The windows' blocks. -/

theorem coord_0 : ∀ t : Fin grid0.N, (grid0.coords t 0).val = t.val := by decide +kernel
theorem idx_0 : ∀ t : Fin grid0.N, cc0_transform_0 (grid0.coords t) = ![t.val, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![t.val, 0] := by decide +kernel
theorem idx_7 : ∀ t : Fin grid0.N, cc0_transform_7 (grid0.coords t) = ![t.val, 0] := by decide +kernel
theorem idx_8 : ∀ t : Fin grid0.N, cc0_transform_8 (grid0.coords t) = ![t.val, 0] := by decide +kernel

/-- The arguments as launched. -/
abbrev argW : S256x1024.Idx → EReal := m ((c.tc : Thread nD τ).loc main_arg1)
abbrev argOwn : S128x1024.Idx → EReal := m ((c.tc : Thread nD τ).loc main_arg2)
abbrev argOther : S128x1024.Idx → EReal := m ((c.tc : Thread nD τ).loc main_arg3)
abbrev argM : S256x1024.Idx → EReal := m ((c.tc : Thread nD τ).loc main_arg4)
abbrev argV : S256x1024.Idx → EReal := m ((c.tc : Thread nD τ).loc main_arg5)

/-- The row of the weight that row `n` of point `t`'s block is. -/
abbrev rowOf (t : Nat) (ht : t < 2) (n : Fin 128) : Fin 256 := ⟨t * 128 + n.val, by omega⟩

variable (t : Fin (cfgM m hO).N) (ht : t.val < 2) (n : Fin 128) (k : Fin 1024)

theorem place_W : blkW m hO c t (ix2 n k) = argW m c (ix2 (rowOf t.val ht n) k) := by
  refine congrArg (argW m c) (funext fun a => Fin.ext (match a with | ⟨0, _⟩ => ?_ | ⟨1, _⟩ => ?_))
  · show cc0_transform_0 (grid0.coords t) 0 * 128 + 1 * n.val = t.val * 128 + n.val
    rw [idx_0 t]
    show t.val * 128 + 1 * n.val = _
    omega
  · show cc0_transform_0 (grid0.coords t) 1 * 1024 + 1 * k.val = k.val
    rw [idx_0 t]
    show 0 * 1024 + 1 * k.val = _
    omega

theorem place_M : blkM m hO c t (ix2 n k) = argM m c (ix2 (rowOf t.val ht n) k) := by
  refine congrArg (argM m c) (funext fun a => Fin.ext (match a with | ⟨0, _⟩ => ?_ | ⟨1, _⟩ => ?_))
  · show cc0_transform_3 (grid0.coords t) 0 * 128 + 1 * n.val = t.val * 128 + n.val
    rw [idx_3 t]
    show t.val * 128 + 1 * n.val = _
    omega
  · show cc0_transform_3 (grid0.coords t) 1 * 1024 + 1 * k.val = k.val
    rw [idx_3 t]
    show 0 * 1024 + 1 * k.val = _
    omega

theorem place_V : blkV m hO c t (ix2 n k) = argV m c (ix2 (rowOf t.val ht n) k) := by
  refine congrArg (argV m c) (funext fun a => Fin.ext (match a with | ⟨0, _⟩ => ?_ | ⟨1, _⟩ => ?_))
  · show cc0_transform_4 (grid0.coords t) 0 * 128 + 1 * n.val = t.val * 128 + n.val
    rw [idx_4 t]
    show t.val * 128 + 1 * n.val = _
    omega
  · show cc0_transform_4 (grid0.coords t) 1 * 1024 + 1 * k.val = k.val
    rw [idx_4 t]
    show 0 * 1024 + 1 * k.val = _
    omega

theorem place_Own (hv : BitVec.ofNat 32 (t.val / 1) = word (tbl m)) : blkOwn m hO c t (ix2 n k)
    = argOwn m c (ix2 ⟨(rowOf t.val ht n).val % 128, Nat.mod_lt _ (by decide)⟩ k) := by
  refine congrArg (argOwn m c) (funext fun a => Fin.ext (match a with | ⟨0, _⟩ => ?_ | ⟨1, _⟩ => ?_))
  · show 0 * 128 + 1 * n.val = (t.val * 128 + n.val) % 128
    omega
  · show 0 * 1024 + 1 * k.val = k.val
    omega

theorem place_Other (hv : BitVec.ofNat 32 (t.val / 1) ≠ word (tbl m)) : blkOther m hO c t (ix2 n k)
    = argOther m c (ix2 ⟨(rowOf t.val ht n).val % 128, Nat.mod_lt _ (by decide)⟩ k) := by
  refine congrArg (argOther m c) (funext fun a => Fin.ext (match a with | ⟨0, _⟩ => ?_ | ⟨1, _⟩ => ?_))
  · show 0 * 128 + 1 * n.val = (t.val * 128 + n.val) % 128
    omega
  · show 0 * 1024 + 1 * k.val = k.val
    omega

/-- The entry of the summed gradient. -/
abbrev gradOf (r : Fin 256) (k : Fin 1024) : EReal := grad (word (tbl m)) (argOwn m c) (argOther m c) r k

theorem outG_at : outG m hO c t (ix2 n k) = gradOf m c (rowOf t.val ht n) k := by
  have e : (rowOf t.val ht n).val / 128 = t.val / 1 := by
    show (t.val * 128 + n.val) / 128 = _
    omega
  unfold outG gradOf grad
  rw [pay2_at, e]
  split
  · rename_i h
    exact place_Own m hO c t ht n k h
  · rename_i h
    exact place_Other m hO c t ht n k h

theorem outM_at : outM m hO c t (ix2 n k)
    = Cert.Proof.Adam.mean (gradOf m c (rowOf t.val ht n) k) (argM m c (ix2 (rowOf t.val ht n) k)) :=
  (pay3_at _ _ _ _ _ _).trans (congrArg₂ Cert.Proof.Adam.mean (outG_at m hO c t ht n k) (place_M m hO c t ht n k))

theorem outV_at : outV m hO c t (ix2 n k)
    = Cert.Proof.Adam.square (gradOf m c (rowOf t.val ht n) k) (argV m c (ix2 (rowOf t.val ht n) k)) :=
  (pay4_at _ _ _ _ _ _).trans (congrArg₂ Cert.Proof.Adam.square (outG_at m hO c t ht n k) (place_V m hO c t ht n k))

theorem outD_at : outD m hO c t (ix2 n k)
    = Cert.Proof.Adam.change (argW m c (ix2 (rowOf t.val ht n) k))
        (Cert.Proof.Adam.mean (gradOf m c (rowOf t.val ht n) k) (argM m c (ix2 (rowOf t.val ht n) k)))
        (Cert.Proof.Adam.square (gradOf m c (rowOf t.val ht n) k) (argV m c (ix2 (rowOf t.val ht n) k))) :=
  (pay1_at _ _ _ _).trans (congr (congrArg₂ Cert.Proof.Adam.change (place_W m hO c t ht n k) (outM_at m hO c t ht n k))
    (outV_at m hO c t ht n k))

/-- The four results, entry by entry. -/
def gradient (v : BitVec 32) (own other : S128x1024.Idx → EReal) : S256x1024.Idx → EReal :=
  fun i => grad v own other ⟨(i 0).val, (i 0).isLt⟩ ⟨(i 1).val, (i 1).isLt⟩
def newMean (v : BitVec 32) (own other : S128x1024.Idx → EReal) (M : S256x1024.Idx → EReal) : S256x1024.Idx → EReal :=
  fun i => Cert.Proof.Adam.mean (gradient v own other i) (M i)
def newSquare (v : BitVec 32) (own other : S128x1024.Idx → EReal) (V : S256x1024.Idx → EReal) : S256x1024.Idx → EReal :=
  fun i => Cert.Proof.Adam.square (gradient v own other i) (V i)
def delta (v : BitVec 32) (W : S256x1024.Idx → EReal) (own other : S128x1024.Idx → EReal) (M V : S256x1024.Idx → EReal) :
    S256x1024.Idx → EReal :=
  fun i => Cert.Proof.Adam.change (W i) (newMean v own other M i) (newSquare v own other V i)

theorem covers_5 : ((cfgM m hO).win 5).Covers := by
  refine ⟨(by decide : ∀ a : Fin 2, 0 < S128x1024.size a), fun β => ?_⟩
  have b0 : (β (0 : Fin 2)).val < 2 :=
    lt_of_lt_of_eq (β (0 : Fin 2)).isLt (by show (256 + 128 - 1) / 128 = 2; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_5 (adm m hO) _, fun a => ⟨?_, .inl rfl⟩⟩
  show cc0_transform_5 (grid0.coords ⟨_, hN⟩) a = _
  rw [idx_5]
  match a with
  | ⟨0, _⟩ => rfl
  | ⟨1, _⟩ =>
    show 0 = (β (1 : Fin 2)).val
    omega

theorem emb_5 : ((((cfgM m hO).win 5).blk t).view.emb (ix2 n k) : S256x1024.Idx) = ix2 (rowOf t.val ht n) k := by
  refine funext fun a => Fin.ext (match a with | ⟨0, _⟩ => ?_ | ⟨1, _⟩ => ?_)
  · show cc0_transform_5 (grid0.coords t) 0 * 128 + 1 * n.val = t.val * 128 + n.val
    rw [idx_5 t]
    show t.val * 128 + 1 * n.val = _
    omega
  · show cc0_transform_5 (grid0.coords t) 1 * 1024 + 1 * k.val = k.val
    rw [idx_5 t]
    show 0 * 1024 + 1 * k.val = _
    omega

theorem covers_6 : ((cfgM m hO).win 6).Covers := by
  refine ⟨(by decide : ∀ a : Fin 2, 0 < S128x1024.size a), fun β => ?_⟩
  have b0 : (β (0 : Fin 2)).val < 2 :=
    lt_of_lt_of_eq (β (0 : Fin 2)).isLt (by show (256 + 128 - 1) / 128 = 2; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_6 (adm m hO) _, fun a => ⟨?_, .inl rfl⟩⟩
  show cc0_transform_6 (grid0.coords ⟨_, hN⟩) a = _
  rw [idx_6]
  match a with
  | ⟨0, _⟩ => rfl
  | ⟨1, _⟩ =>
    show 0 = (β (1 : Fin 2)).val
    omega

theorem emb_6 : ((((cfgM m hO).win 6).blk t).view.emb (ix2 n k) : S256x1024.Idx) = ix2 (rowOf t.val ht n) k := by
  refine funext fun a => Fin.ext (match a with | ⟨0, _⟩ => ?_ | ⟨1, _⟩ => ?_)
  · show cc0_transform_6 (grid0.coords t) 0 * 128 + 1 * n.val = t.val * 128 + n.val
    rw [idx_6 t]
    show t.val * 128 + 1 * n.val = _
    omega
  · show cc0_transform_6 (grid0.coords t) 1 * 1024 + 1 * k.val = k.val
    rw [idx_6 t]
    show 0 * 1024 + 1 * k.val = _
    omega

theorem covers_7 : ((cfgM m hO).win 7).Covers := by
  refine ⟨(by decide : ∀ a : Fin 2, 0 < S128x1024.size a), fun β => ?_⟩
  have b0 : (β (0 : Fin 2)).val < 2 :=
    lt_of_lt_of_eq (β (0 : Fin 2)).isLt (by show (256 + 128 - 1) / 128 = 2; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_7 (adm m hO) _, fun a => ⟨?_, .inl rfl⟩⟩
  show cc0_transform_7 (grid0.coords ⟨_, hN⟩) a = _
  rw [idx_7]
  match a with
  | ⟨0, _⟩ => rfl
  | ⟨1, _⟩ =>
    show 0 = (β (1 : Fin 2)).val
    omega

theorem emb_7 : ((((cfgM m hO).win 7).blk t).view.emb (ix2 n k) : S256x1024.Idx) = ix2 (rowOf t.val ht n) k := by
  refine funext fun a => Fin.ext (match a with | ⟨0, _⟩ => ?_ | ⟨1, _⟩ => ?_)
  · show cc0_transform_7 (grid0.coords t) 0 * 128 + 1 * n.val = t.val * 128 + n.val
    rw [idx_7 t]
    show t.val * 128 + 1 * n.val = _
    omega
  · show cc0_transform_7 (grid0.coords t) 1 * 1024 + 1 * k.val = k.val
    rw [idx_7 t]
    show 0 * 1024 + 1 * k.val = _
    omega

theorem covers_8 : ((cfgM m hO).win 8).Covers := by
  refine ⟨(by decide : ∀ a : Fin 2, 0 < S128x1024.size a), fun β => ?_⟩
  have b0 : (β (0 : Fin 2)).val < 2 :=
    lt_of_lt_of_eq (β (0 : Fin 2)).isLt (by show (256 + 128 - 1) / 128 = 2; decide)
  have b1 : (β (1 : Fin 2)).val < 1 :=
    lt_of_lt_of_eq (β (1 : Fin 2)).isLt (by show (1024 + 1024 - 1) / 1024 = 1; decide)
  have hN : (β (0 : Fin 2)).val < grid0.N := lt_of_lt_of_eq b0 N_0.symm
  refine ⟨⟨(β (0 : Fin 2)).val, hN⟩, flush0_8 (adm m hO) _, fun a => ⟨?_, .inl rfl⟩⟩
  show cc0_transform_8 (grid0.coords ⟨_, hN⟩) a = _
  rw [idx_8]
  match a with
  | ⟨0, _⟩ => rfl
  | ⟨1, _⟩ =>
    show 0 = (β (1 : Fin 2)).val
    omega

theorem emb_8 : ((((cfgM m hO).win 8).blk t).view.emb (ix2 n k) : S256x1024.Idx) = ix2 (rowOf t.val ht n) k := by
  refine funext fun a => Fin.ext (match a with | ⟨0, _⟩ => ?_ | ⟨1, _⟩ => ?_)
  · show cc0_transform_8 (grid0.coords t) 0 * 128 + 1 * n.val = t.val * 128 + n.val
    rw [idx_8 t]
    show t.val * 128 + 1 * n.val = _
    omega
  · show cc0_transform_8 (grid0.coords t) 1 * 1024 + 1 * k.val = k.val
    rw [idx_8 t]
    show 0 * 1024 + 1 * k.val = _
    omega

theorem final_g : (dats m hO 0 c).arrAt 5 (cfgM m hO).N = gradient (word (tbl m)) (argOwn m c) (argOther m c) := by
  refine (dats m hO 0 c).arrAt_eq_of_covers 5 _ (covers_5 m hO) fun t hf y => ?_
  have ht : t.val < 2 := lt_of_lt_of_eq t.isLt N_0
  blk_simp
  rw [after0_5]
  obtain ⟨n, k, rfl⟩ : ∃ (n : Fin 128) (k : Fin 1024), (show S128x1024.Idx from y) = ix2 n k :=
    ⟨_, _, eq_ix2 (show S128x1024.Idx from y)⟩
  refine (congrFun (out_g m hO c t) (ix2 n k)).trans ((outG_at m hO c t ht n k).trans ?_)
  exact (congrArg (gradient (word (tbl m)) (argOwn m c) (argOther m c)) (emb_5 m hO t ht n k)).symm

theorem final_d : (dats m hO 0 c).arrAt 6 (cfgM m hO).N = delta (word (tbl m)) (argW m c) (argOwn m c) (argOther m c) (argM m c) (argV m c) := by
  refine (dats m hO 0 c).arrAt_eq_of_covers 6 _ (covers_6 m hO) fun t hf y => ?_
  have ht : t.val < 2 := lt_of_lt_of_eq t.isLt N_0
  blk_simp
  rw [after0_6]
  obtain ⟨n, k, rfl⟩ : ∃ (n : Fin 128) (k : Fin 1024), (show S128x1024.Idx from y) = ix2 n k :=
    ⟨_, _, eq_ix2 (show S128x1024.Idx from y)⟩
  refine (congrFun (out_d m hO c t) (ix2 n k)).trans ((outD_at m hO c t ht n k).trans ?_)
  exact (congrArg (delta (word (tbl m)) (argW m c) (argOwn m c) (argOther m c) (argM m c) (argV m c)) (emb_6 m hO t ht n k)).symm

theorem final_m : (dats m hO 0 c).arrAt 7 (cfgM m hO).N = newMean (word (tbl m)) (argOwn m c) (argOther m c) (argM m c) := by
  refine (dats m hO 0 c).arrAt_eq_of_covers 7 _ (covers_7 m hO) fun t hf y => ?_
  have ht : t.val < 2 := lt_of_lt_of_eq t.isLt N_0
  blk_simp
  rw [after0_7]
  obtain ⟨n, k, rfl⟩ : ∃ (n : Fin 128) (k : Fin 1024), (show S128x1024.Idx from y) = ix2 n k :=
    ⟨_, _, eq_ix2 (show S128x1024.Idx from y)⟩
  refine (congrFun (out_m m hO c t) (ix2 n k)).trans ((outM_at m hO c t ht n k).trans ?_)
  exact (congrArg (newMean (word (tbl m)) (argOwn m c) (argOther m c) (argM m c)) (emb_7 m hO t ht n k)).symm

theorem final_v : (dats m hO 0 c).arrAt 8 (cfgM m hO).N = newSquare (word (tbl m)) (argOwn m c) (argOther m c) (argV m c) := by
  refine (dats m hO 0 c).arrAt_eq_of_covers 8 _ (covers_8 m hO) fun t hf y => ?_
  have ht : t.val < 2 := lt_of_lt_of_eq t.isLt N_0
  blk_simp
  rw [after0_8]
  obtain ⟨n, k, rfl⟩ : ∃ (n : Fin 128) (k : Fin 1024), (show S128x1024.Idx from y) = ix2 n k :=
    ⟨_, _, eq_ix2 (show S128x1024.Idx from y)⟩
  refine (congrFun (out_v m hO c t) (ix2 n k)).trans ((outV_at m hO c t ht n k).trans ?_)
  exact (congrArg (newSquare (word (tbl m)) (argOwn m c) (argOther m c) (argV m c)) (emb_8 m hO t ht n k)).symm

end Cert.Proof.AdamOut

end
-- ==== Proof.AdamOut.Reference.lean ====
/-
  The reference's step of the output projection, entry by entry.
-/
module

public import proofs.«01_k».proof.Proof.AdamOut.Step
public import proofs.«01_k».proof.Proof.Gen.AdamOutRefIdeal.Read

@[expose] public section

set_option maxRecDepth 16384

noncomputable section

namespace Cert.Proof.AdamOut

open Idealize.ShloMosaic hiding ix1 ix2 ix3 eq_ix1 eq_ix2 eq_ix3
open Idealize.ShloMosaic.TcCoe Idealize.ShloMosaic.ValueIdx Idealize.SL.Sem Cert.Sums
open Cert.AdamOutRefIdeal Cert.AdamOutRefIdeal.Gen Cert.AdamOutRefIdeal.Read

/-- The one word of an array of one. -/
def only (x : S1.Idx → BitVec 32) : BitVec 32 := x (fun a => match a with | ⟨0, _⟩ => ⟨0, Nat.one_pos⟩)

theorem one_index (i j : S1.Idx) : i = j := funext fun a => match a with
  | ⟨0, h⟩ => Fin.ext (by
      have hi : (i ⟨0, h⟩).val < 1 := (i ⟨0, h⟩).isLt
      have hj : (j ⟨0, h⟩).val < 1 := (j ⟨0, h⟩).isLt
      omega)

theorem word_eq (x : S1.Idx → BitVec 32) (i : S_.Idx) : val_main_v1 (F := Ideal) x i = only x := congrArg x (one_index _ _)

variable (x : S1.Idx → BitVec 32) (W : S256x1024.Idx → EReal) (own other : S128x1024.Idx → EReal) (M V : S256x1024.Idx → EReal)

/-- The selected gradient. -/
theorem ref_gradient_at (i : S256x1024.Idx) : (val_main_v7 (F := Ideal) x own other i : EReal) = gradient (only x) own other i := by
  refine (val_main_v7_apply (F := Ideal) x own other i).trans ?_
  refine (val_main_v6_apply (F := Ideal) x own other _).trans ?_
  rw [val_main_v3_apply, val_main_v0_apply, val_main_v2_apply, word_eq, val_main_call0_v0_apply, val_main_v4_apply,
    val_main_call0_v1_apply, val_main_v5_apply]
  refine (Cert.Proof.Adam.select_eq _ _ _ _).trans ?_
  have h0 : (i 0).val < 256 := (i 0).isLt
  have h1 : (i 1).val < 1024 := (i 1).isLt
  unfold gradient grad
  have e : BitVec.ofNat 32 ((idx_main_v7 i) 0).val = BitVec.ofNat 32 ((i 0).val / 128) := by
    refine congrArg (BitVec.ofNat 32) ?_
    show ((i 0).val * 1024 + (i 1).val) / 131072 = (i 0).val / 128
    omega
  have r : ((i 0).val * 1024 + (i 1).val) / 1024 % 128 = (i 0).val % 128 := by omega
  have k : ((i 0).val * 1024 + (i 1).val) % 1024 = (i 1).val := by omega
  rw [e]
  split
  · exact congrArg own (funext fun a => Fin.ext (match a with | ⟨0, _⟩ => r | ⟨1, _⟩ => k))
  · exact congrArg other (funext fun a => Fin.ext (match a with | ⟨0, _⟩ => r | ⟨1, _⟩ => k))

theorem ref_gradient : val_main_v7 (F := Ideal) x own other = gradient (only x) own other := funext (ref_gradient_at x own other)

theorem ref_mean_at (i : S256x1024.Idx) : (val_main_v12 (F := Ideal) x own other M i : EReal) = newMean (only x) own other M i := by
  unfold newMean
  rw [← ref_gradient_at]
  refine (val_main_v12_apply (F := Ideal) x own other M i).trans ?_
  rw [val_main_v9_apply, val_main_v8_apply, val_main_cst_apply, val_main_v11_apply, val_main_v10_apply, val_main_cst_0_apply]
  rfl

theorem ref_mean : val_main_v12 (F := Ideal) x own other M = newMean (only x) own other M := funext (ref_mean_at x own other M)

theorem ref_square_at (i : S256x1024.Idx) : (val_main_v18 (F := Ideal) x own other V i : EReal) = newSquare (only x) own other V i := by
  unfold newSquare
  rw [← ref_gradient_at]
  refine (val_main_v18_apply (F := Ideal) x own other V i).trans ?_
  rw [val_main_v14_apply, val_main_v13_apply, val_main_cst_1_apply, val_main_v17_apply, val_main_v16_apply, val_main_cst_2_apply,
    val_main_v15_apply]
  rfl

theorem ref_square : val_main_v18 (F := Ideal) x own other V = newSquare (only x) own other V := funext (ref_square_at x own other V)

theorem ref_delta : val_main_v31 (F := Ideal) x W own other M V = delta (only x) W own other M V := by
  funext i
  unfold delta
  rw [← ref_mean_at, ← ref_square_at]
  refine (val_main_v31_apply (F := Ideal) x W own other M V i).trans ?_
  rw [val_main_v30_apply, val_main_cst_7_apply, val_main_v29_apply, val_main_v28_apply, val_main_v27_apply, val_main_cst_6_apply,
    val_main_v26_apply, val_main_v25_apply, val_main_v24_apply, val_main_cst_5_apply, val_main_v23_apply, val_main_v22_apply,
    val_main_v21_apply, val_main_cst_4_apply, val_main_v20_apply, val_main_v19_apply, val_main_cst_3_apply]
  rfl

/-- The word the kernel reads is the argument's. -/
theorem word_tbl (m : (ℓ : Loc Cert.AdamOutIdeal.nD Cert.AdamOutIdeal.τ Cert.AdamOutIdeal.sig) → Buf (Elt Ideal) ℓ) (c : Dev Cert.AdamOutIdeal.nD) :
    word (Cert.AdamOutIdeal.Gen.tbl m) = only (m ((c.tc : Thread Cert.AdamOutIdeal.nD Cert.AdamOutIdeal.τ).loc Cert.AdamOutIdeal.main_arg0)) := by
  obtain rfl : c = 0 := Subsingleton.elim _ _
  exact congrArg (m (((0 : Dev Cert.AdamOutIdeal.nD).tc : Thread Cert.AdamOutIdeal.nD Cert.AdamOutIdeal.τ).loc Cert.AdamOutIdeal.main_arg0))
    (one_index _ _)

end Cert.Proof.AdamOut

end
-- ==== Proof.AdamOut.Claims.lean ====
/-
  The claims about the optimizer's step of the output projection: the frames, at any word of the table, and that kernel and reference
  end with the same gradient, change and running means.
-/
module

public import proofs.«01_k».proof.Defs
public import proofs.«01_k».proof.Proof.Gen.AdamOutRefIdeal.Run
public import proofs.«01_k».proof.Proof.AdamOut.Reference

@[expose] public section

set_option maxRecDepth 16384

noncomputable section

namespace Cert.Proof.AdamOut

open Idealize.ShloMosaic Idealize.ShloMosaic.TcCoe Idealize.SL.Sem

theorem frame : Cert.quiescent_AdamOut := fun m ρ _ => Cert.AdamOut.Gen.frame m ρ (ok m)

theorem frame_ideal : Cert.quiescent_AdamOutIdeal := fun m ρ _ => Cert.AdamOutIdeal.Gen.frame m ρ (ok_ideal m)

/-- The reference leaves its arguments alone, and having no semaphore ends with none raised. -/
theorem ref_frame : Cert.quiescent_AdamOutRefIdeal := fun m ρ _ =>
  (θ_run _ _ _).mono (fun r h => ⟨fun c => (h c).2.2.2.2, sem_eq_zero_of_no_sems (by decide) r.2⟩)
    (Cert.AdamOutRefIdeal.Value.run m ρ)

open Cert.AdamOutIdeal Cert.AdamOutIdeal.Gen in
/-- The kernel's run: the results are the region's final arrays, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m (ok_ideal m) 0 c).arrAt 5 (cfgM m (ok_ideal m)).N
      ∧ r.2.mem ((c.tc : Thread nD τ).loc main_v0_1) = (dats m (ok_ideal m) 0 c).arrAt 6 (cfgM m (ok_ideal m)).N
      ∧ r.2.mem ((c.tc : Thread nD τ).loc main_v0_2) = (dats m (ok_ideal m) 0 c).arrAt 7 (cfgM m (ok_ideal m)).N
      ∧ r.2.mem ((c.tc : Thread nD τ).loc main_v0_3) = (dats m (ok_ideal m) 0 c).arrAt 8 (cfgM m (ok_ideal m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.1 c).1 5, (h.1 c).1 6, (h.1 c).1 7, (h.1 c).1 8, h.2 c⟩)
    (θ_run_and (run_main m ρ (ok_ideal m)) (unchanged m ρ (ok_ideal m)))

/-- The kernel's gradient, weight change and running means are the reference's. -/
theorem equal : Cert.algebraic_AdamOutIdeal_AdamOutRefIdeal := fun m ρ m' ρ' _ harg =>
  ⟨fun c => (Cert.AdamOutIdeal.Gen.dats m (ok_ideal m) 0 c).arrAt 5 (Cert.AdamOutIdeal.Gen.cfgM m (ok_ideal m)).N,
    fun c => (Cert.AdamOutIdeal.Gen.dats m (ok_ideal m) 0 c).arrAt 6 (Cert.AdamOutIdeal.Gen.cfgM m (ok_ideal m)).N,
    fun c => (Cert.AdamOutIdeal.Gen.dats m (ok_ideal m) 0 c).arrAt 7 (Cert.AdamOutIdeal.Gen.cfgM m (ok_ideal m)).N,
    fun c => (Cert.AdamOutIdeal.Gen.dats m (ok_ideal m) 0 c).arrAt 8 (Cert.AdamOutIdeal.Gen.cfgM m (ok_ideal m)).N,
    kernel_run m ρ,
    (θ_run _ _ _).mono (fun r h c => by
      obtain ⟨a0, a1, a2, a3, a4, a5⟩ := harg c
      obtain ⟨r7, r31, r12, r18, args⟩ := h c
      refine ⟨r7.trans ?_, r31.trans ?_, r12.trans ?_, r18.trans ?_, args⟩
      · refine (Cert.AdamOutRefIdeal.Read.val_main_v7_eq _ _ _).trans ?_
        rw [a0, a2, a3]
        refine (ref_gradient _ _ _).trans ((final_g m (ok_ideal m) c).trans ?_).symm
        rw [word_tbl m c]
      · refine (Cert.AdamOutRefIdeal.Read.val_main_v31_eq _ _ _ _ _ _).trans ?_
        rw [a0, a1, a2, a3, a4, a5]
        refine (ref_delta _ _ _ _ _ _).trans ((final_d m (ok_ideal m) c).trans ?_).symm
        rw [word_tbl m c]
      · refine (Cert.AdamOutRefIdeal.Read.val_main_v12_eq _ _ _ _).trans ?_
        rw [a0, a2, a3, a4]
        refine (ref_mean _ _ _ _).trans ((final_m m (ok_ideal m) c).trans ?_).symm
        rw [word_tbl m c]
      · refine (Cert.AdamOutRefIdeal.Read.val_main_v18_eq _ _ _ _).trans ?_
        rw [a0, a2, a3, a5]
        refine (ref_square _ _ _ _).trans ((final_v m (ok_ideal m) c).trans ?_).symm
        rw [word_tbl m c])
      (Cert.AdamOutRefIdeal.Value.run m' ρ')⟩

end Cert.Proof.AdamOut

end
-- ==== Proof.AdamBr.Table.lean ====
/-
  The optimizer's step of the branch weights: the table of one word, the chip's place in its pair; whatever the word, the blocks asked
  for lie inside the arrays.
-/
module

public import proofs.«01_k».proof.Proof.Adam.Step
public import proofs.«01_k».proof.Proof.Gen.AdamBr.Frame
public import proofs.«01_k».proof.Proof.Gen.AdamBrIdeal.Frame

@[expose] public section

set_option maxRecDepth 16384

noncomputable section

namespace Cert.Proof.AdamBr

open Idealize.ShloMosaic Idealize.ShloMosaic.TcCoe

/-- The chip's word. -/
abbrev word {F : FTy → Type} [FloatOps F] (pf : Cert.AdamBrIdeal.pre0.Contents (Elt F)) : BitVec 32 :=
  Cert.AdamBrIdeal.Gen.tbM0_0.view.readAt (Elt F) (Rect.unit (s := Cert.AdamBrIdeal.S1) ![0] Cert.AdamBrIdeal.S1.size Cert.AdamBrIdeal.Gen.inb_S1_S1_0).toLoadRect
    (pf 0) (Shape.Idx.first (Cert.AdamBrIdeal.Gen.numel1_S1.symm ▸ Nat.one_pos))

theorem ok {F : FTy → Type} [FloatOps F] (m : (ℓ : Loc Cert.AdamBr.nD Cert.AdamBr.τ Cert.AdamBr.sig) → Buf (Elt F) ℓ) : Cert.AdamBr.Gen.Ok m :=
  trivial

theorem ok_ideal {F : FTy → Type} [FloatOps F] (m : (ℓ : Loc Cert.AdamBrIdeal.nD Cert.AdamBrIdeal.τ Cert.AdamBrIdeal.sig) → Buf (Elt F) ℓ) : Cert.AdamBrIdeal.Gen.Ok m :=
  trivial

end Cert.Proof.AdamBr

end
-- ==== Proof.AdamBr.Step.lean ====
/-
  The optimizer's step of the branch weights, block by block: which half of the summed gradient a block takes, and the four blocks
  a point writes — the gradient, the weight's change and the two running means.
-/
module

public import proofs.«01_k».proof.Proof.Sums
public import proofs.«01_k».proof.Proof.AdamBr.Table
public import Idealize.ShloMosaic.Lib.Pipeline.Value
public import Idealize.ShloMosaic.Lib.Pipeline.ValueKit
public import Idealize.ShloMosaic.Lib.ValueLayout
public import Idealize.ShloMosaic.Lib.ValueIdx

@[expose] public section

set_option maxRecDepth 16384

noncomputable section

namespace Cert.Proof.AdamBr

open Idealize.ShloMosaic hiding ix1 ix2 ix3 eq_ix1 eq_ix2 eq_ix3
open Idealize.ShloMosaic.TcCoe Idealize.ShloMosaic.ValueIdx Idealize.SL.Sem Cert.Sums
open Cert.AdamBrIdeal Cert.AdamBrIdeal.Gen

/-- The summed gradient's entry: the first half of the rows is the first chip's half, the second the second's; a chip has its
    own half and the other's. -/
def grad (v : BitVec 32) (own other : S256x256.Idx → EReal) (r : Fin 512) (k : Fin 256) : EReal :=
  if BitVec.ofNat 32 (r.val / 256) = v then own (ix2 ⟨r.val % 256, Nat.mod_lt _ (by decide)⟩ k)
  else other (ix2 ⟨r.val % 256, Nat.mod_lt _ (by decide)⟩ k)

theorem pay2_at (t : Fin grid0.N) (v : BitVec 32) (x y : Vec Ideal S256x256 .f32) :
    k0_pay2 (grid0.coords t) v x y = if BitVec.ofNat 32 (t.val / 1) = v then x else y := by
  have e : Cert.Proof.Adam.halfOf (BitVec.ofNat 32 (grid0.coords t 0).val) 1#32 = BitVec.ofNat 32 (t.val / 1) := by
    revert t
    decide +kernel
  rw [← e]
  exact Cert.Proof.Adam.select_eq _ _ _ _

theorem pay3_at (i : grid0.Coords) (v : BitVec 32) (x y z : Vec Ideal S256x256 .f32) (j : S256x256.Idx) :
    k0_pay3 i v x y z j = Cert.Proof.Adam.mean (k0_pay2 i v x y j) (z j) := rfl

theorem pay4_at (i : grid0.Coords) (v : BitVec 32) (x y z : Vec Ideal S256x256 .f32) (j : S256x256.Idx) :
    k0_pay4 i v x y z j = Cert.Proof.Adam.square (k0_pay2 i v x y j) (z j) := rfl

theorem pay1_at (w a b : Vec Ideal S256x256 .f32) (j : S256x256.Idx) :
    k0_pay1 w a b (Scalar.ofBits .f32 0x3F26BD02#32) j = Cert.Proof.Adam.change (w j) (a j) (b j) := rfl

variable (m : (ℓ : Loc nD τ sig) → Buf (Elt Ideal) ℓ) (hO : Ok m) (c : Dev nD)

/-- The blocks a point reads. -/
def blkW (t : Fin (cfgM m hO).N) : Vec Ideal S256x256 .f32 := iblk m hO c 0 t
def blkOwn (t : Fin (cfgM m hO).N) : Vec Ideal S256x256 .f32 := iblk m hO c 1 t
def blkOther (t : Fin (cfgM m hO).N) : Vec Ideal S256x256 .f32 := iblk m hO c 2 t
def blkM (t : Fin (cfgM m hO).N) : Vec Ideal S256x256 .f32 := iblk m hO c 3 t
def blkV (t : Fin (cfgM m hO).N) : Vec Ideal S256x256 .f32 := iblk m hO c 4 t

/-- What a point writes. -/
def outG (t : Fin (cfgM m hO).N) : Vec Ideal S256x256 .f32 :=
  k0_pay2 (grid0.coords t) (word (tbl m)) (blkOwn m hO c t) (blkOther m hO c t)
def outM (t : Fin (cfgM m hO).N) : Vec Ideal S256x256 .f32 :=
  k0_pay3 (grid0.coords t) (word (tbl m)) (blkOwn m hO c t) (blkOther m hO c t) (blkM m hO c t)
def outV (t : Fin (cfgM m hO).N) : Vec Ideal S256x256 .f32 :=
  k0_pay4 (grid0.coords t) (word (tbl m)) (blkOwn m hO c t) (blkOther m hO c t) (blkV m hO c t)
def outD (t : Fin (cfgM m hO).N) : Vec Ideal S256x256 .f32 :=
  k0_pay1 (blkW m hO c t) (outM m hO c t) (outV m hO c t) (Scalar.ofBits .f32 0x3F26BD02#32)

theorem out_g (t : Fin (cfgM m hO).N) : (outsAt0 m hO c t).1 = outG m hO c t := by
  unfold outsAt0 outG
  dsimp only
  frame_out
  exact congr (congrArg (k0_pay2 (grid0.coords t) (word (tbl m))) (Memref.IsWhole.read_unread (hs0_1 m hO t) _))
    (Memref.IsWhole.read_unread (hs0_2 m hO t) _)

theorem out_m (t : Fin (cfgM m hO).N) : (outsAt0 m hO c t).2.2.1 = outM m hO c t := by
  unfold outsAt0 outM
  dsimp only
  frame_out
  exact congr (congr (congrArg (k0_pay3 (grid0.coords t) (word (tbl m))) (Memref.IsWhole.read_unread (hs0_1 m hO t) _))
    (Memref.IsWhole.read_unread (hs0_2 m hO t) _)) (Memref.IsWhole.read_unread (hs0_3 m hO t) _)

theorem out_v (t : Fin (cfgM m hO).N) : (outsAt0 m hO c t).2.2.2 = outV m hO c t := by
  unfold outsAt0 outV
  dsimp only
  frame_out
  exact congr (congr (congrArg (k0_pay4 (grid0.coords t) (word (tbl m))) (Memref.IsWhole.read_unread (hs0_1 m hO t) _))
    (Memref.IsWhole.read_unread (hs0_2 m hO t) _)) (Memref.IsWhole.read_unread (hs0_4 m hO t) _)

theorem out_d (t : Fin (cfgM m hO).N) : (outsAt0 m hO c t).2.1 = outD m hO c t := by
  unfold outsAt0 outD outM outV
  dsimp only
  frame_out
  exact congrFun (congr (congr (congrArg k0_pay1 (Memref.IsWhole.read_unread (hs0_0 m hO t) _))
    (congr (congr (congrArg (k0_pay3 (grid0.coords t) (word (tbl m))) (Memref.IsWhole.read_unread (hs0_1 m hO t) _))
      (Memref.IsWhole.read_unread (hs0_2 m hO t) _)) (Memref.IsWhole.read_unread (hs0_3 m hO t) _)))
    (congr (congr (congrArg (k0_pay4 (grid0.coords t) (word (tbl m))) (Memref.IsWhole.read_unread (hs0_1 m hO t) _))
      (Memref.IsWhole.read_unread (hs0_2 m hO t) _)) (Memref.IsWhole.read_unread (hs0_4 m hO t) _))) _

/-! The windows' blocks. -/

theorem coord_0 : ∀ t : Fin grid0.N, (grid0.coords t 0).val = t.val := by decide +kernel
theorem idx_0 : ∀ t : Fin grid0.N, cc0_transform_0 (grid0.coords t) = ![t.val, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![t.val, 0] := by decide +kernel
theorem idx_7 : ∀ t : Fin grid0.N, cc0_transform_7 (grid0.coords t) = ![t.val, 0] := by decide +kernel
theorem idx_8 : ∀ t : Fin grid0.N, cc0_transform_8 (grid0.coords t) = ![t.val, 0] := by decide +kernel

/-- The arguments as launched. -/
abbrev argW : S512x256.Idx → EReal := m ((c.tc : Thread nD τ).loc main_arg1)
abbrev argOwn : S256x256.Idx → EReal := m ((c.tc : Thread nD τ).loc main_arg2)
abbrev argOther : S256x256.Idx → EReal := m ((c.tc : Thread nD τ).loc main_arg3)
abbrev argM : S512x256.Idx → EReal := m ((c.tc : Thread nD τ).loc main_arg4)
abbrev argV : S512x256.Idx → EReal := m ((c.tc : Thread nD τ).loc main_arg5)

/-- The row of the weight that row `n` of point `t`'s block is. -/
abbrev rowOf (t : Nat) (ht : t < 2) (n : Fin 256) : Fin 512 := ⟨t * 256 + n.val, by omega⟩

variable (t : Fin (cfgM m hO).N) (ht : t.val < 2) (n : Fin 256) (k : Fin 256)

theorem place_W : blkW m hO c t (ix2 n k) = argW m c (ix2 (rowOf t.val ht n) k) := by
  refine congrArg (argW m c) (funext fun a => Fin.ext (match a with | ⟨0, _⟩ => ?_ | ⟨1, _⟩ => ?_))
  · show cc0_transform_0 (grid0.coords t) 0 * 256 + 1 * n.val = t.val * 256 + n.val
    rw [idx_0 t]
    show t.val * 256 + 1 * n.val = _
    omega
  · show cc0_transform_0 (grid0.coords t) 1 * 256 + 1 * k.val = k.val
    rw [idx_0 t]
    show 0 * 256 + 1 * k.val = _
    omega

theorem place_M : blkM m hO c t (ix2 n k) = argM m c (ix2 (rowOf t.val ht n) k) := by
  refine congrArg (argM m c) (funext fun a => Fin.ext (match a with | ⟨0, _⟩ => ?_ | ⟨1, _⟩ => ?_))
  · show cc0_transform_3 (grid0.coords t) 0 * 256 + 1 * n.val = t.val * 256 + n.val
    rw [idx_3 t]
    show t.val * 256 + 1 * n.val = _
    omega
  · show cc0_transform_3 (grid0.coords t) 1 * 256 + 1 * k.val = k.val
    rw [idx_3 t]
    show 0 * 256 + 1 * k.val = _
    omega

theorem place_V : blkV m hO c t (ix2 n k) = argV m c (ix2 (rowOf t.val ht n) k) := by
  refine congrArg (argV m c) (funext fun a => Fin.ext (match a with | ⟨0, _⟩ => ?_ | ⟨1, _⟩ => ?_))
  · show cc0_transform_4 (grid0.coords t) 0 * 256 + 1 * n.val = t.val * 256 + n.val
    rw [idx_4 t]
    show t.val * 256 + 1 * n.val = _
    omega
  · show cc0_transform_4 (grid0.coords t) 1 * 256 + 1 * k.val = k.val
    rw [idx_4 t]
    show 0 * 256 + 1 * k.val = _
    omega

theorem place_Own (hv : BitVec.ofNat 32 (t.val / 1) = word (tbl m)) : blkOwn m hO c t (ix2 n k)
    = argOwn m c (ix2 ⟨(rowOf t.val ht n).val % 256, Nat.mod_lt _ (by decide)⟩ k) := by
  refine congrArg (argOwn m c) (funext fun a => Fin.ext (match a with | ⟨0, _⟩ => ?_ | ⟨1, _⟩ => ?_))
  · show 0 * 256 + 1 * n.val = (t.val * 256 + n.val) % 256
    omega
  · show 0 * 256 + 1 * k.val = k.val
    omega

theorem place_Other (hv : BitVec.ofNat 32 (t.val / 1) ≠ word (tbl m)) : blkOther m hO c t (ix2 n k)
    = argOther m c (ix2 ⟨(rowOf t.val ht n).val % 256, Nat.mod_lt _ (by decide)⟩ k) := by
  refine congrArg (argOther m c) (funext fun a => Fin.ext (match a with | ⟨0, _⟩ => ?_ | ⟨1, _⟩ => ?_))
  · show 0 * 256 + 1 * n.val = (t.val * 256 + n.val) % 256
    omega
  · show 0 * 256 + 1 * k.val = k.val
    omega

/-- The entry of the summed gradient. -/
abbrev gradOf (r : Fin 512) (k : Fin 256) : EReal := grad (word (tbl m)) (argOwn m c) (argOther m c) r k

theorem outG_at : outG m hO c t (ix2 n k) = gradOf m c (rowOf t.val ht n) k := by
  have e : (rowOf t.val ht n).val / 256 = t.val / 1 := by
    show (t.val * 256 + n.val) / 256 = _
    omega
  unfold outG gradOf grad
  rw [pay2_at, e]
  split
  · rename_i h
    exact place_Own m hO c t ht n k h
  · rename_i h
    exact place_Other m hO c t ht n k h

theorem outM_at : outM m hO c t (ix2 n k)
    = Cert.Proof.Adam.mean (gradOf m c (rowOf t.val ht n) k) (argM m c (ix2 (rowOf t.val ht n) k)) :=
  (pay3_at _ _ _ _ _ _).trans (congrArg₂ Cert.Proof.Adam.mean (outG_at m hO c t ht n k) (place_M m hO c t ht n k))

theorem outV_at : outV m hO c t (ix2 n k)
    = Cert.Proof.Adam.square (gradOf m c (rowOf t.val ht n) k) (argV m c (ix2 (rowOf t.val ht n) k)) :=
  (pay4_at _ _ _ _ _ _).trans (congrArg₂ Cert.Proof.Adam.square (outG_at m hO c t ht n k) (place_V m hO c t ht n k))

theorem outD_at : outD m hO c t (ix2 n k)
    = Cert.Proof.Adam.change (argW m c (ix2 (rowOf t.val ht n) k))
        (Cert.Proof.Adam.mean (gradOf m c (rowOf t.val ht n) k) (argM m c (ix2 (rowOf t.val ht n) k)))
        (Cert.Proof.Adam.square (gradOf m c (rowOf t.val ht n) k) (argV m c (ix2 (rowOf t.val ht n) k))) :=
  (pay1_at _ _ _ _).trans (congr (congrArg₂ Cert.Proof.Adam.change (place_W m hO c t ht n k) (outM_at m hO c t ht n k))
    (outV_at m hO c t ht n k))

/-- The four results, entry by entry. -/
def gradient (v : BitVec 32) (own other : S256x256.Idx → EReal) : S512x256.Idx → EReal :=
  fun i => grad v own other ⟨(i 0).val, (i 0).isLt⟩ ⟨(i 1).val, (i 1).isLt⟩
def newMean (v : BitVec 32) (own other : S256x256.Idx → EReal) (M : S512x256.Idx → EReal) : S512x256.Idx → EReal :=
  fun i => Cert.Proof.Adam.mean (gradient v own other i) (M i)
def newSquare (v : BitVec 32) (own other : S256x256.Idx → EReal) (V : S512x256.Idx → EReal) : S512x256.Idx → EReal :=
  fun i => Cert.Proof.Adam.square (gradient v own other i) (V i)
def delta (v : BitVec 32) (W : S512x256.Idx → EReal) (own other : S256x256.Idx → EReal) (M V : S512x256.Idx → EReal) :
    S512x256.Idx → EReal :=
  fun i => Cert.Proof.Adam.change (W i) (newMean v own other M i) (newSquare v own other V i)

theorem covers_5 : ((cfgM m hO).win 5).Covers := by
  refine ⟨(by decide : ∀ a : Fin 2, 0 < S256x256.size a), fun β => ?_⟩
  have b0 : (β (0 : Fin 2)).val < 2 :=
    lt_of_lt_of_eq (β (0 : Fin 2)).isLt (by show (512 + 256 - 1) / 256 = 2; decide)
  have b1 : (β (1 : Fin 2)).val < 1 :=
    lt_of_lt_of_eq (β (1 : Fin 2)).isLt (by show (256 + 256 - 1) / 256 = 1; decide)
  have hN : (β (0 : Fin 2)).val < grid0.N := lt_of_lt_of_eq b0 N_0.symm
  refine ⟨⟨(β (0 : Fin 2)).val, hN⟩, flush0_5 (adm m hO) _, fun a => ⟨?_, .inl rfl⟩⟩
  show cc0_transform_5 (grid0.coords ⟨_, hN⟩) a = _
  rw [idx_5]
  match a with
  | ⟨0, _⟩ => rfl
  | ⟨1, _⟩ =>
    show 0 = (β (1 : Fin 2)).val
    omega

theorem emb_5 : ((((cfgM m hO).win 5).blk t).view.emb (ix2 n k) : S512x256.Idx) = ix2 (rowOf t.val ht n) k := by
  refine funext fun a => Fin.ext (match a with | ⟨0, _⟩ => ?_ | ⟨1, _⟩ => ?_)
  · show cc0_transform_5 (grid0.coords t) 0 * 256 + 1 * n.val = t.val * 256 + n.val
    rw [idx_5 t]
    show t.val * 256 + 1 * n.val = _
    omega
  · show cc0_transform_5 (grid0.coords t) 1 * 256 + 1 * k.val = k.val
    rw [idx_5 t]
    show 0 * 256 + 1 * k.val = _
    omega

theorem covers_6 : ((cfgM m hO).win 6).Covers := by
  refine ⟨(by decide : ∀ a : Fin 2, 0 < S256x256.size a), fun β => ?_⟩
  have b0 : (β (0 : Fin 2)).val < 2 :=
    lt_of_lt_of_eq (β (0 : Fin 2)).isLt (by show (512 + 256 - 1) / 256 = 2; decide)
  have b1 : (β (1 : Fin 2)).val < 1 :=
    lt_of_lt_of_eq (β (1 : Fin 2)).isLt (by show (256 + 256 - 1) / 256 = 1; decide)
  have hN : (β (0 : Fin 2)).val < grid0.N := lt_of_lt_of_eq b0 N_0.symm
  refine ⟨⟨(β (0 : Fin 2)).val, hN⟩, flush0_6 (adm m hO) _, fun a => ⟨?_, .inl rfl⟩⟩
  show cc0_transform_6 (grid0.coords ⟨_, hN⟩) a = _
  rw [idx_6]
  match a with
  | ⟨0, _⟩ => rfl
  | ⟨1, _⟩ =>
    show 0 = (β (1 : Fin 2)).val
    omega

theorem emb_6 : ((((cfgM m hO).win 6).blk t).view.emb (ix2 n k) : S512x256.Idx) = ix2 (rowOf t.val ht n) k := by
  refine funext fun a => Fin.ext (match a with | ⟨0, _⟩ => ?_ | ⟨1, _⟩ => ?_)
  · show cc0_transform_6 (grid0.coords t) 0 * 256 + 1 * n.val = t.val * 256 + n.val
    rw [idx_6 t]
    show t.val * 256 + 1 * n.val = _
    omega
  · show cc0_transform_6 (grid0.coords t) 1 * 256 + 1 * k.val = k.val
    rw [idx_6 t]
    show 0 * 256 + 1 * k.val = _
    omega

theorem covers_7 : ((cfgM m hO).win 7).Covers := by
  refine ⟨(by decide : ∀ a : Fin 2, 0 < S256x256.size a), fun β => ?_⟩
  have b0 : (β (0 : Fin 2)).val < 2 :=
    lt_of_lt_of_eq (β (0 : Fin 2)).isLt (by show (512 + 256 - 1) / 256 = 2; decide)
  have b1 : (β (1 : Fin 2)).val < 1 :=
    lt_of_lt_of_eq (β (1 : Fin 2)).isLt (by show (256 + 256 - 1) / 256 = 1; decide)
  have hN : (β (0 : Fin 2)).val < grid0.N := lt_of_lt_of_eq b0 N_0.symm
  refine ⟨⟨(β (0 : Fin 2)).val, hN⟩, flush0_7 (adm m hO) _, fun a => ⟨?_, .inl rfl⟩⟩
  show cc0_transform_7 (grid0.coords ⟨_, hN⟩) a = _
  rw [idx_7]
  match a with
  | ⟨0, _⟩ => rfl
  | ⟨1, _⟩ =>
    show 0 = (β (1 : Fin 2)).val
    omega

theorem emb_7 : ((((cfgM m hO).win 7).blk t).view.emb (ix2 n k) : S512x256.Idx) = ix2 (rowOf t.val ht n) k := by
  refine funext fun a => Fin.ext (match a with | ⟨0, _⟩ => ?_ | ⟨1, _⟩ => ?_)
  · show cc0_transform_7 (grid0.coords t) 0 * 256 + 1 * n.val = t.val * 256 + n.val
    rw [idx_7 t]
    show t.val * 256 + 1 * n.val = _
    omega
  · show cc0_transform_7 (grid0.coords t) 1 * 256 + 1 * k.val = k.val
    rw [idx_7 t]
    show 0 * 256 + 1 * k.val = _
    omega

theorem covers_8 : ((cfgM m hO).win 8).Covers := by
  refine ⟨(by decide : ∀ a : Fin 2, 0 < S256x256.size a), fun β => ?_⟩
  have b0 : (β (0 : Fin 2)).val < 2 :=
    lt_of_lt_of_eq (β (0 : Fin 2)).isLt (by show (512 + 256 - 1) / 256 = 2; decide)
  have b1 : (β (1 : Fin 2)).val < 1 :=
    lt_of_lt_of_eq (β (1 : Fin 2)).isLt (by show (256 + 256 - 1) / 256 = 1; decide)
  have hN : (β (0 : Fin 2)).val < grid0.N := lt_of_lt_of_eq b0 N_0.symm
  refine ⟨⟨(β (0 : Fin 2)).val, hN⟩, flush0_8 (adm m hO) _, fun a => ⟨?_, .inl rfl⟩⟩
  show cc0_transform_8 (grid0.coords ⟨_, hN⟩) a = _
  rw [idx_8]
  match a with
  | ⟨0, _⟩ => rfl
  | ⟨1, _⟩ =>
    show 0 = (β (1 : Fin 2)).val
    omega

theorem emb_8 : ((((cfgM m hO).win 8).blk t).view.emb (ix2 n k) : S512x256.Idx) = ix2 (rowOf t.val ht n) k := by
  refine funext fun a => Fin.ext (match a with | ⟨0, _⟩ => ?_ | ⟨1, _⟩ => ?_)
  · show cc0_transform_8 (grid0.coords t) 0 * 256 + 1 * n.val = t.val * 256 + n.val
    rw [idx_8 t]
    show t.val * 256 + 1 * n.val = _
    omega
  · show cc0_transform_8 (grid0.coords t) 1 * 256 + 1 * k.val = k.val
    rw [idx_8 t]
    show 0 * 256 + 1 * k.val = _
    omega

theorem final_g : (dats m hO 0 c).arrAt 5 (cfgM m hO).N = gradient (word (tbl m)) (argOwn m c) (argOther m c) := by
  refine (dats m hO 0 c).arrAt_eq_of_covers 5 _ (covers_5 m hO) fun t hf y => ?_
  have ht : t.val < 2 := lt_of_lt_of_eq t.isLt N_0
  blk_simp
  rw [after0_5]
  obtain ⟨n, k, rfl⟩ : ∃ (n : Fin 256) (k : Fin 256), (show S256x256.Idx from y) = ix2 n k :=
    ⟨_, _, eq_ix2 (show S256x256.Idx from y)⟩
  refine (congrFun (out_g m hO c t) (ix2 n k)).trans ((outG_at m hO c t ht n k).trans ?_)
  exact (congrArg (gradient (word (tbl m)) (argOwn m c) (argOther m c)) (emb_5 m hO t ht n k)).symm

theorem final_d : (dats m hO 0 c).arrAt 6 (cfgM m hO).N = delta (word (tbl m)) (argW m c) (argOwn m c) (argOther m c) (argM m c) (argV m c) := by
  refine (dats m hO 0 c).arrAt_eq_of_covers 6 _ (covers_6 m hO) fun t hf y => ?_
  have ht : t.val < 2 := lt_of_lt_of_eq t.isLt N_0
  blk_simp
  rw [after0_6]
  obtain ⟨n, k, rfl⟩ : ∃ (n : Fin 256) (k : Fin 256), (show S256x256.Idx from y) = ix2 n k :=
    ⟨_, _, eq_ix2 (show S256x256.Idx from y)⟩
  refine (congrFun (out_d m hO c t) (ix2 n k)).trans ((outD_at m hO c t ht n k).trans ?_)
  exact (congrArg (delta (word (tbl m)) (argW m c) (argOwn m c) (argOther m c) (argM m c) (argV m c)) (emb_6 m hO t ht n k)).symm

theorem final_m : (dats m hO 0 c).arrAt 7 (cfgM m hO).N = newMean (word (tbl m)) (argOwn m c) (argOther m c) (argM m c) := by
  refine (dats m hO 0 c).arrAt_eq_of_covers 7 _ (covers_7 m hO) fun t hf y => ?_
  have ht : t.val < 2 := lt_of_lt_of_eq t.isLt N_0
  blk_simp
  rw [after0_7]
  obtain ⟨n, k, rfl⟩ : ∃ (n : Fin 256) (k : Fin 256), (show S256x256.Idx from y) = ix2 n k :=
    ⟨_, _, eq_ix2 (show S256x256.Idx from y)⟩
  refine (congrFun (out_m m hO c t) (ix2 n k)).trans ((outM_at m hO c t ht n k).trans ?_)
  exact (congrArg (newMean (word (tbl m)) (argOwn m c) (argOther m c) (argM m c)) (emb_7 m hO t ht n k)).symm

theorem final_v : (dats m hO 0 c).arrAt 8 (cfgM m hO).N = newSquare (word (tbl m)) (argOwn m c) (argOther m c) (argV m c) := by
  refine (dats m hO 0 c).arrAt_eq_of_covers 8 _ (covers_8 m hO) fun t hf y => ?_
  have ht : t.val < 2 := lt_of_lt_of_eq t.isLt N_0
  blk_simp
  rw [after0_8]
  obtain ⟨n, k, rfl⟩ : ∃ (n : Fin 256) (k : Fin 256), (show S256x256.Idx from y) = ix2 n k :=
    ⟨_, _, eq_ix2 (show S256x256.Idx from y)⟩
  refine (congrFun (out_v m hO c t) (ix2 n k)).trans ((outV_at m hO c t ht n k).trans ?_)
  exact (congrArg (newSquare (word (tbl m)) (argOwn m c) (argOther m c) (argV m c)) (emb_8 m hO t ht n k)).symm

end Cert.Proof.AdamBr

end
-- ==== Proof.AdamBr.Reference.lean ====
/-
  The reference's step of the branch weights, entry by entry.
-/
module

public import proofs.«01_k».proof.Proof.AdamBr.Step
public import proofs.«01_k».proof.Proof.Gen.AdamBrRefIdeal.Read

@[expose] public section

set_option maxRecDepth 16384

noncomputable section

namespace Cert.Proof.AdamBr

open Idealize.ShloMosaic hiding ix1 ix2 ix3 eq_ix1 eq_ix2 eq_ix3
open Idealize.ShloMosaic.TcCoe Idealize.ShloMosaic.ValueIdx Idealize.SL.Sem Cert.Sums
open Cert.AdamBrRefIdeal Cert.AdamBrRefIdeal.Gen Cert.AdamBrRefIdeal.Read

/-- The one word of an array of one. -/
def only (x : S1.Idx → BitVec 32) : BitVec 32 := x (fun a => match a with | ⟨0, _⟩ => ⟨0, Nat.one_pos⟩)

theorem one_index (i j : S1.Idx) : i = j := funext fun a => match a with
  | ⟨0, h⟩ => Fin.ext (by
      have hi : (i ⟨0, h⟩).val < 1 := (i ⟨0, h⟩).isLt
      have hj : (j ⟨0, h⟩).val < 1 := (j ⟨0, h⟩).isLt
      omega)

theorem word_eq (x : S1.Idx → BitVec 32) (i : S_.Idx) : val_main_v1 (F := Ideal) x i = only x := congrArg x (one_index _ _)

variable (x : S1.Idx → BitVec 32) (W : S512x256.Idx → EReal) (own other : S256x256.Idx → EReal) (M V : S512x256.Idx → EReal)

/-- The selected gradient. -/
theorem ref_gradient_at (i : S512x256.Idx) : (val_main_v7 (F := Ideal) x own other i : EReal) = gradient (only x) own other i := by
  refine (val_main_v7_apply (F := Ideal) x own other i).trans ?_
  refine (val_main_v6_apply (F := Ideal) x own other _).trans ?_
  rw [val_main_v3_apply, val_main_v0_apply, val_main_v2_apply, word_eq, val_main_call0_v0_apply, val_main_v4_apply,
    val_main_call0_v1_apply, val_main_v5_apply]
  refine (Cert.Proof.Adam.select_eq _ _ _ _).trans ?_
  have h0 : (i 0).val < 512 := (i 0).isLt
  have h1 : (i 1).val < 256 := (i 1).isLt
  unfold gradient grad
  have e : BitVec.ofNat 32 ((idx_main_v7 i) 0).val = BitVec.ofNat 32 ((i 0).val / 256) := by
    refine congrArg (BitVec.ofNat 32) ?_
    show ((i 0).val * 256 + (i 1).val) / 65536 = (i 0).val / 256
    omega
  have r : ((i 0).val * 256 + (i 1).val) / 256 % 256 = (i 0).val % 256 := by omega
  have k : ((i 0).val * 256 + (i 1).val) % 256 = (i 1).val := by omega
  rw [e]
  split
  · exact congrArg own (funext fun a => Fin.ext (match a with | ⟨0, _⟩ => r | ⟨1, _⟩ => k))
  · exact congrArg other (funext fun a => Fin.ext (match a with | ⟨0, _⟩ => r | ⟨1, _⟩ => k))

theorem ref_gradient : val_main_v7 (F := Ideal) x own other = gradient (only x) own other := funext (ref_gradient_at x own other)

theorem ref_mean_at (i : S512x256.Idx) : (val_main_v12 (F := Ideal) x own other M i : EReal) = newMean (only x) own other M i := by
  unfold newMean
  rw [← ref_gradient_at]
  refine (val_main_v12_apply (F := Ideal) x own other M i).trans ?_
  rw [val_main_v9_apply, val_main_v8_apply, val_main_cst_apply, val_main_v11_apply, val_main_v10_apply, val_main_cst_0_apply]
  rfl

theorem ref_mean : val_main_v12 (F := Ideal) x own other M = newMean (only x) own other M := funext (ref_mean_at x own other M)

theorem ref_square_at (i : S512x256.Idx) : (val_main_v18 (F := Ideal) x own other V i : EReal) = newSquare (only x) own other V i := by
  unfold newSquare
  rw [← ref_gradient_at]
  refine (val_main_v18_apply (F := Ideal) x own other V i).trans ?_
  rw [val_main_v14_apply, val_main_v13_apply, val_main_cst_1_apply, val_main_v17_apply, val_main_v16_apply, val_main_cst_2_apply,
    val_main_v15_apply]
  rfl

theorem ref_square : val_main_v18 (F := Ideal) x own other V = newSquare (only x) own other V := funext (ref_square_at x own other V)

theorem ref_delta : val_main_v31 (F := Ideal) x W own other M V = delta (only x) W own other M V := by
  funext i
  unfold delta
  rw [← ref_mean_at, ← ref_square_at]
  refine (val_main_v31_apply (F := Ideal) x W own other M V i).trans ?_
  rw [val_main_v30_apply, val_main_cst_7_apply, val_main_v29_apply, val_main_v28_apply, val_main_v27_apply, val_main_cst_6_apply,
    val_main_v26_apply, val_main_v25_apply, val_main_v24_apply, val_main_cst_5_apply, val_main_v23_apply, val_main_v22_apply,
    val_main_v21_apply, val_main_cst_4_apply, val_main_v20_apply, val_main_v19_apply, val_main_cst_3_apply]
  rfl

/-- The word the kernel reads is the argument's. -/
theorem word_tbl (m : (ℓ : Loc Cert.AdamBrIdeal.nD Cert.AdamBrIdeal.τ Cert.AdamBrIdeal.sig) → Buf (Elt Ideal) ℓ) (c : Dev Cert.AdamBrIdeal.nD) :
    word (Cert.AdamBrIdeal.Gen.tbl m) = only (m ((c.tc : Thread Cert.AdamBrIdeal.nD Cert.AdamBrIdeal.τ).loc Cert.AdamBrIdeal.main_arg0)) := by
  obtain rfl : c = 0 := Subsingleton.elim _ _
  exact congrArg (m (((0 : Dev Cert.AdamBrIdeal.nD).tc : Thread Cert.AdamBrIdeal.nD Cert.AdamBrIdeal.τ).loc Cert.AdamBrIdeal.main_arg0))
    (one_index _ _)

end Cert.Proof.AdamBr

end
-- ==== Proof.AdamBr.Claims.lean ====
/-
  The claims about the optimizer's step of the branch weights: the frames, at any word of the table, and that kernel and reference
  end with the same gradient, change and running means.
-/
module

public import proofs.«01_k».proof.Defs
public import proofs.«01_k».proof.Proof.Gen.AdamBrRefIdeal.Run
public import proofs.«01_k».proof.Proof.AdamBr.Reference

@[expose] public section

set_option maxRecDepth 16384

noncomputable section

namespace Cert.Proof.AdamBr

open Idealize.ShloMosaic Idealize.ShloMosaic.TcCoe Idealize.SL.Sem

theorem frame : Cert.quiescent_AdamBr := fun m ρ _ => Cert.AdamBr.Gen.frame m ρ (ok m)

theorem frame_ideal : Cert.quiescent_AdamBrIdeal := fun m ρ _ => Cert.AdamBrIdeal.Gen.frame m ρ (ok_ideal m)

/-- The reference leaves its arguments alone, and having no semaphore ends with none raised. -/
theorem ref_frame : Cert.quiescent_AdamBrRefIdeal := fun m ρ _ =>
  (θ_run _ _ _).mono (fun r h => ⟨fun c => (h c).2.2.2.2, sem_eq_zero_of_no_sems (by decide) r.2⟩)
    (Cert.AdamBrRefIdeal.Value.run m ρ)

open Cert.AdamBrIdeal Cert.AdamBrIdeal.Gen in
/-- The kernel's run: the results are the region's final arrays, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m (ok_ideal m) 0 c).arrAt 5 (cfgM m (ok_ideal m)).N
      ∧ r.2.mem ((c.tc : Thread nD τ).loc main_v0_1) = (dats m (ok_ideal m) 0 c).arrAt 6 (cfgM m (ok_ideal m)).N
      ∧ r.2.mem ((c.tc : Thread nD τ).loc main_v0_2) = (dats m (ok_ideal m) 0 c).arrAt 7 (cfgM m (ok_ideal m)).N
      ∧ r.2.mem ((c.tc : Thread nD τ).loc main_v0_3) = (dats m (ok_ideal m) 0 c).arrAt 8 (cfgM m (ok_ideal m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.1 c).1 5, (h.1 c).1 6, (h.1 c).1 7, (h.1 c).1 8, h.2 c⟩)
    (θ_run_and (run_main m ρ (ok_ideal m)) (unchanged m ρ (ok_ideal m)))

/-- The kernel's gradient, weight change and running means are the reference's. -/
theorem equal : Cert.algebraic_AdamBrIdeal_AdamBrRefIdeal := fun m ρ m' ρ' _ harg =>
  ⟨fun c => (Cert.AdamBrIdeal.Gen.dats m (ok_ideal m) 0 c).arrAt 5 (Cert.AdamBrIdeal.Gen.cfgM m (ok_ideal m)).N,
    fun c => (Cert.AdamBrIdeal.Gen.dats m (ok_ideal m) 0 c).arrAt 6 (Cert.AdamBrIdeal.Gen.cfgM m (ok_ideal m)).N,
    fun c => (Cert.AdamBrIdeal.Gen.dats m (ok_ideal m) 0 c).arrAt 7 (Cert.AdamBrIdeal.Gen.cfgM m (ok_ideal m)).N,
    fun c => (Cert.AdamBrIdeal.Gen.dats m (ok_ideal m) 0 c).arrAt 8 (Cert.AdamBrIdeal.Gen.cfgM m (ok_ideal m)).N,
    kernel_run m ρ,
    (θ_run _ _ _).mono (fun r h c => by
      obtain ⟨a0, a1, a2, a3, a4, a5⟩ := harg c
      obtain ⟨r7, r31, r12, r18, args⟩ := h c
      refine ⟨r7.trans ?_, r31.trans ?_, r12.trans ?_, r18.trans ?_, args⟩
      · refine (Cert.AdamBrRefIdeal.Read.val_main_v7_eq _ _ _).trans ?_
        rw [a0, a2, a3]
        refine (ref_gradient _ _ _).trans ((final_g m (ok_ideal m) c).trans ?_).symm
        rw [word_tbl m c]
      · refine (Cert.AdamBrRefIdeal.Read.val_main_v31_eq _ _ _ _ _ _).trans ?_
        rw [a0, a1, a2, a3, a4, a5]
        refine (ref_delta _ _ _ _ _ _).trans ((final_d m (ok_ideal m) c).trans ?_).symm
        rw [word_tbl m c]
      · refine (Cert.AdamBrRefIdeal.Read.val_main_v12_eq _ _ _ _).trans ?_
        rw [a0, a2, a3, a4]
        refine (ref_mean _ _ _ _).trans ((final_m m (ok_ideal m) c).trans ?_).symm
        rw [word_tbl m c]
      · refine (Cert.AdamBrRefIdeal.Read.val_main_v18_eq _ _ _ _).trans ?_
        rw [a0, a2, a3, a5]
        refine (ref_square _ _ _ _).trans ((final_v m (ok_ideal m) c).trans ?_).symm
        rw [word_tbl m c])
      (Cert.AdamBrRefIdeal.Value.run m' ρ')⟩

end Cert.Proof.AdamBr

end
-- ==== Proof.lean ====
/-
  The certificate: the frames, that idealizing changes no program, and the value claims, each proved in a module of its own.
-/
module

public import proofs.«01_k».proof.Defs
public import proofs.«01_k».proof.Proof.Gen.FfnGrad
public import proofs.«01_k».proof.Proof.Gen.FfnGrad.Skeleton
public import proofs.«01_k».proof.Proof.Gen.FfnGrad.Launch
public import proofs.«01_k».proof.Proof.Gen.FfnGrad.Points
public import proofs.«01_k».proof.Proof.Gen.FfnGrad.Frame
public import proofs.«01_k».proof.Proof.Gen.FfnGradIdeal
public import proofs.«01_k».proof.Proof.Gen.FfnGradIdeal.Skeleton
public import proofs.«01_k».proof.Proof.Gen.FfnGradIdeal.Launch
public import proofs.«01_k».proof.Proof.Gen.FfnGradIdeal.Points
public import proofs.«01_k».proof.Proof.Gen.FfnGradIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Ffn.Claims
public import proofs.«01_k».proof.Proof.Dh.Claims
public import proofs.«01_k».proof.Proof.Mix.Claims
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.MixRefIdeal.Run
public import proofs.«01_k».proof.Proof.Gen.MixRefIdeal.Read
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.MixGrad
public import proofs.«01_k».proof.Proof.Gen.MixGrad.Skeleton
public import proofs.«01_k».proof.Proof.Gen.MixGrad.Launch
public import proofs.«01_k».proof.Proof.Gen.MixGrad.Points
public import proofs.«01_k».proof.Proof.Gen.MixGrad.Frame
public import proofs.«01_k».proof.Proof.Gen.MixGradIdeal
public import proofs.«01_k».proof.Proof.Gen.MixGradIdeal.Skeleton
public import proofs.«01_k».proof.Proof.Gen.MixGradIdeal.Launch
public import proofs.«01_k».proof.Proof.Gen.MixGradIdeal.Points
public import proofs.«01_k».proof.Proof.Gen.MixGradIdeal.Frame
public import proofs.«01_k».proof.Proof.Gen.FfnDhRefIdeal
public import proofs.«01_k».proof.Proof.Gen.MixRefIdeal
public import proofs.«01_k».proof.Proof.Dx.Claims
public import proofs.«01_k».proof.Proof.Merge.Claims
public import proofs.«01_k».proof.Proof.Unmerge.Claims
public import proofs.«01_k».proof.Proof.Loss.Claims
public import proofs.«01_k».proof.Proof.AdamIn.Claims
public import proofs.«01_k».proof.Proof.AdamFf.Claims
public import proofs.«01_k».proof.Proof.AdamOut.Claims
public import proofs.«01_k».proof.Proof.AdamBr.Claims
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Run
public import proofs.«01_k».proof.Proof.Gen.DxRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MergeIdeal.Value
public import proofs.«01_k».proof.Proof.Gen.Unmerge
public import proofs.«01_k».proof.Proof.Gen.Unmerge.Skeleton
public import proofs.«01_k».proof.Proof.Gen.Unmerge.Launch
public import proofs.«01_k».proof.Proof.Gen.Unmerge.Points
public import proofs.«01_k».proof.Proof.Gen.Unmerge.Frame
public import proofs.«01_k».proof.Proof.Gen.UnmergeIdeal
public import proofs.«01_k».proof.Proof.Gen.UnmergeIdeal.Skeleton
public import proofs.«01_k».proof.Proof.Gen.UnmergeIdeal.Launch
public import proofs.«01_k».proof.Proof.Gen.UnmergeIdeal.Points
public import proofs.«01_k».proof.Proof.Gen.UnmergeIdeal.Frame
public import proofs.«01_k».proof.Proof.Gen.UnmergeRefIdeal
public import proofs.«01_k».proof.Proof.Gen.UnmergeRefIdeal.Run
public import proofs.«01_k».proof.Proof.Gen.UnmergeRefIdeal.Read
public import proofs.«01_k».proof.Proof.Gen.UnmergeIdeal.Value
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.LossIdeal.Value
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamFf
public import proofs.«01_k».proof.Proof.Gen.AdamFf.Skeleton
public import proofs.«01_k».proof.Proof.Gen.AdamFf.Launch
public import proofs.«01_k».proof.Proof.Gen.AdamFf.Points
public import proofs.«01_k».proof.Proof.Gen.AdamFf.Frame
public import proofs.«01_k».proof.Proof.Gen.AdamFfIdeal
public import proofs.«01_k».proof.Proof.Gen.AdamFfIdeal.Skeleton
public import proofs.«01_k».proof.Proof.Gen.AdamFfIdeal.Launch
public import proofs.«01_k».proof.Proof.Gen.AdamFfIdeal.Points
public import proofs.«01_k».proof.Proof.Gen.AdamFfIdeal.Frame
public import proofs.«01_k».proof.Proof.Gen.AdamFfRefIdeal
public import proofs.«01_k».proof.Proof.Gen.AdamFfRefIdeal.Run
public import proofs.«01_k».proof.Proof.Gen.AdamFfRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamBr
public import proofs.«01_k».proof.Proof.Gen.AdamBr.Skeleton
public import proofs.«01_k».proof.Proof.Gen.AdamBr.Launch
public import proofs.«01_k».proof.Proof.Gen.AdamBr.Points
public import proofs.«01_k».proof.Proof.Gen.AdamBr.Frame
public import proofs.«01_k».proof.Proof.Gen.AdamBrIdeal
public import proofs.«01_k».proof.Proof.Gen.AdamBrIdeal.Skeleton
public import proofs.«01_k».proof.Proof.Gen.AdamBrIdeal.Launch
public import proofs.«01_k».proof.Proof.Gen.AdamBrIdeal.Points
public import proofs.«01_k».proof.Proof.Gen.AdamBrIdeal.Frame
public import proofs.«01_k».proof.Proof.Gen.AdamBrRefIdeal
public import proofs.«01_k».proof.Proof.Gen.AdamBrRefIdeal.Run
public import proofs.«01_k».proof.Proof.Gen.AdamBrRefIdeal.Read
public import proofs.«01_k».proof.Proof.Gen.Pre_unmerge_finite
public import proofs.«01_k».proof.Proof.Gen.Pre_loss_finite
public import Idealize.ShloMosaic.Adequacy
public import Idealize.ShloMosaic.Init

@[expose] public section

noncomputable section

namespace Cert.Proof

open Idealize.ShloMosaic Idealize.SL.Sem Cert.FfnGrad

theorem claim : Cert.Claim :=
  ⟨Cert.FfnGrad.Gen.facts, Cert.FfnGradIdeal.Gen.facts, Cert.FfnRefIdeal.Gen.facts,
  Cert.FfnDh.Gen.facts, Cert.FfnDhIdeal.Gen.facts, Cert.FfnDhRefIdeal.Gen.facts,
  Cert.MixGrad.Gen.facts, Cert.MixGradIdeal.Gen.facts, Cert.MixRefIdeal.Gen.facts,
  Cert.Dx.Gen.facts, Cert.DxIdeal.Gen.facts, Cert.DxRefIdeal.Gen.facts,
  Cert.Merge.Gen.facts, Cert.MergeIdeal.Gen.facts, Cert.MergeRefIdeal.Gen.facts,
  Cert.Unmerge.Gen.facts, Cert.UnmergeIdeal.Gen.facts, Cert.UnmergeRefIdeal.Gen.facts,
  Cert.Loss.Gen.facts, Cert.LossIdeal.Gen.facts, Cert.LossRefIdeal.Gen.facts,
  Cert.AdamIn.Gen.facts, Cert.AdamInIdeal.Gen.facts, Cert.AdamInRefIdeal.Gen.facts,
  Cert.AdamFf.Gen.facts, Cert.AdamFfIdeal.Gen.facts, Cert.AdamFfRefIdeal.Gen.facts,
  Cert.AdamOut.Gen.facts, Cert.AdamOutIdeal.Gen.facts, Cert.AdamOutRefIdeal.Gen.facts,
  Cert.AdamBr.Gen.facts, Cert.AdamBrIdeal.Gen.facts, Cert.AdamBrRefIdeal.Gen.facts,
  Cert.Pre_ffn_finite.Gen.facts, Cert.Pre_unmerge_finite.Gen.facts, Cert.Pre_loss_finite.Gen.facts,
  -- the frames
  fun m ρ _ => Cert.FfnGrad.Gen.frame m ρ, fun m ρ _ => Cert.FfnGradIdeal.Gen.frame m ρ, fun m ρ _ => Cert.FfnGradIdeal.Gen.frame m ρ,
  Cert.Proof.Ffn.ref_frame, fun m ρ _ => Cert.Proof.Ffn.ref_frame m ρ trivial,
  fun m ρ _ => Cert.FfnDh.Gen.frame m ρ, fun m ρ _ => Cert.FfnDhIdeal.Gen.frame m ρ, Cert.Proof.Dh.ref_frame,
  fun m ρ _ => Cert.MixGrad.Gen.frame m ρ, fun m ρ _ => Cert.MixGradIdeal.Gen.frame m ρ, Cert.Proof.Mix.ref_frame,
  Cert.Proof.Dx.frame, Cert.Proof.Dx.frame_ideal, Cert.Proof.Dx.ref_frame,
  fun m ρ _ => Cert.Merge.Gen.frame m ρ, fun m ρ _ => Cert.MergeIdeal.Gen.frame m ρ, Cert.Proof.Merge.ref_frame,
  fun m ρ _ => Cert.Unmerge.Gen.frame m ρ, fun m ρ _ => Cert.UnmergeIdeal.Gen.frame m ρ, fun m ρ _ => Cert.UnmergeIdeal.Gen.frame m ρ,
  Cert.Proof.Unmerge.ref_frame, fun m ρ _ => Cert.Proof.Unmerge.ref_frame m ρ trivial,
  fun m ρ _ => Cert.Loss.Gen.frame m ρ, fun m ρ _ => Cert.LossIdeal.Gen.frame m ρ, fun m ρ _ => Cert.LossIdeal.Gen.frame m ρ,
  Cert.Proof.Loss.ref_frame, fun m ρ _ => Cert.Proof.Loss.ref_frame m ρ trivial,
  Cert.Proof.AdamIn.frame, Cert.Proof.AdamIn.frame_ideal, Cert.Proof.AdamIn.ref_frame,
  Cert.Proof.AdamFf.frame, Cert.Proof.AdamFf.frame_ideal, Cert.Proof.AdamFf.ref_frame,
  Cert.Proof.AdamOut.frame, Cert.Proof.AdamOut.frame_ideal, Cert.Proof.AdamOut.ref_frame,
  Cert.Proof.AdamBr.frame, Cert.Proof.AdamBr.frame_ideal, Cert.Proof.AdamBr.ref_frame,
  -- idealizing changes nothing; the value claims
  trivial, Cert.Proof.Ffn.equal,
  trivial, Cert.Proof.Dh.equal,
  trivial, Cert.Proof.Mix.equal,
  trivial, Cert.Proof.Dx.equal,
  trivial, Cert.Proof.Merge.equal,
  trivial, Cert.Proof.Unmerge.equal,
  trivial, Cert.Proof.Loss.equal,
  trivial, Cert.Proof.AdamIn.equal,
  trivial, Cert.Proof.AdamFf.equal,
  trivial, Cert.Proof.AdamOut.equal,
  trivial, Cert.Proof.AdamBr.equal⟩

end Cert.Proof

end
